-- ==== Defs.lean ====
def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_NormOut (m : (ℓ : Loc Cert.NormOut.nD Cert.NormOut.τ Cert.NormOut.sig) → Buf (Elt Bits) ℓ) : Prop :=
  True

def Pre_NormOutIdeal (m : (ℓ : Loc Cert.NormOutIdeal.nD Cert.NormOutIdeal.τ Cert.NormOutIdeal.sig) → Buf (Elt Ideal) ℓ) : Prop :=
  True

def Pre_NormOutRefIdeal (m : (ℓ : Loc Cert.NormOutRefIdeal.nD Cert.NormOutRefIdeal.τ Cert.NormOutRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdIdeal_glu_bwd_finite [hPre_glu_bwd_finite : Cert.Pre_glu_bwd_finite.Facts] (m : (ℓ : Loc Cert.GluBwdIdeal.nD Cert.GluBwdIdeal.τ Cert.GluBwdIdeal.sig) → Buf (Elt Ideal) ℓ) : Prop :=
  ∀ c : Dev Cert.GluBwdIdeal.nD,
    (Cert.Pre_glu_bwd_finite.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4))).1 = (fun _ => 1#1)
    ∧ (Cert.Pre_glu_bwd_finite.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4))).2 = (fun _ => 1#1)

def Pre_GluBwdRefIdeal (m : (ℓ : Loc Cert.GluBwdRefIdeal.nD Cert.GluBwdRefIdeal.τ Cert.GluBwdRefIdeal.sig) → Buf (Elt Ideal) ℓ) : Prop :=
  True

def Pre_GluBwdRefIdeal_glu_bwd_finite [hPre_glu_bwd_finite : Cert.Pre_glu_bwd_finite.Facts] (m : (ℓ : Loc Cert.GluBwdRefIdeal.nD Cert.GluBwdRefIdeal.τ Cert.GluBwdRefIdeal.sig) → Buf (Elt Ideal) ℓ) : Prop :=
  ∀ c : Dev Cert.GluBwdRefIdeal.nD,
    (Cert.Pre_glu_bwd_finite.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4))).1 = (fun _ => 1#1)
    ∧ (Cert.Pre_glu_bwd_finite.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4))).2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_bwd_finite [hPre_sgu_bwd_finite : Cert.Pre_sgu_bwd_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7))).1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7))).2.1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7))).2.2.1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7))).2.2.2.1 = (fun _ => 1#1)
    ∧ (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7))).2.2.2.2 = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_sgu_bwd_finite [hPre_sgu_bwd_finite : Cert.Pre_sgu_bwd_finite.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7))).1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7))).2.1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7))).2.2.1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7))).2.2.2.1 = (fun _ => 1#1)
    ∧ (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7))).2.2.2.2 = (fun _ => 1#1)

def Pre_InProjA (m : (ℓ : Loc Cert.InProjA.nD Cert.InProjA.τ Cert.InProjA.sig) → Buf (Elt Bits) ℓ) : Prop :=
  True

def Pre_InProjAIdeal (m : (ℓ : Loc Cert.InProjAIdeal.nD Cert.InProjAIdeal.τ Cert.InProjAIdeal.sig) → Buf (Elt Ideal) ℓ) : Prop :=
  True

def Pre_InProjARefIdeal (m : (ℓ : Loc Cert.InProjARefIdeal.nD Cert.InProjARefIdeal.τ Cert.InProjARefIdeal.sig) → Buf (Elt Ideal) ℓ) : Prop :=
  True

def Pre_InProjB (m : (ℓ : Loc Cert.InProjB.nD Cert.InProjB.τ Cert.InProjB.sig) → Buf (Elt Bits) ℓ) : Prop :=
  True

def Pre_InProjBIdeal (m : (ℓ : Loc Cert.InProjBIdeal.nD Cert.InProjBIdeal.τ Cert.InProjBIdeal.sig) → Buf (Elt Ideal) ℓ) : Prop :=
  True

def Pre_InProjBRefIdeal (m : (ℓ : Loc Cert.InProjBRefIdeal.nD Cert.InProjBRefIdeal.τ Cert.InProjBRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SsmState (m : (ℓ : Loc Cert.SsmState.nD Cert.SsmState.τ Cert.SsmState.sig) → Buf (Elt Bits) ℓ) : Prop :=
  True

def Pre_SsmStateIdeal (m : (ℓ : Loc Cert.SsmStateIdeal.nD Cert.SsmStateIdeal.τ Cert.SsmStateIdeal.sig) → Buf (Elt Ideal) ℓ) : Prop :=
  True

def Pre_SsmFwd (m : (ℓ : Loc Cert.SsmFwd.nD Cert.SsmFwd.τ Cert.SsmFwd.sig) → Buf (Elt Bits) ℓ) : Prop :=
  True

def Pre_SsmFwdIdeal (m : (ℓ : Loc Cert.SsmFwdIdeal.nD Cert.SsmFwdIdeal.τ Cert.SsmFwdIdeal.sig) → Buf (Elt Ideal) ℓ) : Prop :=
  True

def Pre_SsmMain (m : (ℓ : Loc Cert.SsmMain.nD Cert.SsmMain.τ Cert.SsmMain.sig) → Buf (Elt Bits) ℓ) : Prop :=
  True

def Pre_SsmMainIdeal (m : (ℓ : Loc Cert.SsmMainIdeal.nD Cert.SsmMainIdeal.τ Cert.SsmMainIdeal.sig) → Buf (Elt Ideal) ℓ) : Prop :=
  True

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3))
      ∧ r.2.sem = fun _ => 0)

def quiescent_NormOut [hNormOut : Cert.NormOut.Facts] : Prop :=
  ∀ (m : (ℓ : Loc Cert.NormOut.nD Cert.NormOut.τ Cert.NormOut.sig) → Buf (Elt Bits) ℓ) (g : Dev Cert.NormOut.nD → PrngReg), Pre_NormOut m →
    θ_run (Cert.NormOut.defs (F := Bits)) (onTc (τ := Cert.NormOut.τ) (Cert.NormOut.main (F := Bits))) ⟨m, fun _ => 0, g⟩ (fun r => (∀ c : Dev Cert.NormOut.nD,
      r.2.mem ((c.tc : Thread Cert.NormOut.nD Cert.NormOut.τ).loc Cert.NormOut.main_arg0) = m ((c.tc : Thread Cert.NormOut.nD Cert.NormOut.τ).loc Cert.NormOut.main_arg0)
      ∧ r.2.mem ((c.tc : Thread Cert.NormOut.nD Cert.NormOut.τ).loc Cert.NormOut.main_arg1) = m ((c.tc : Thread Cert.NormOut.nD Cert.NormOut.τ).loc Cert.NormOut.main_arg1)
      ∧ r.2.mem ((c.tc : Thread Cert.NormOut.nD Cert.NormOut.τ).loc Cert.NormOut.main_arg2) = m ((c.tc : Thread Cert.NormOut.nD Cert.NormOut.τ).loc Cert.NormOut.main_arg2)
      ∧ r.2.mem ((c.tc : Thread Cert.NormOut.nD Cert.NormOut.τ).loc Cert.NormOut.main_arg3) = m ((c.tc : Thread Cert.NormOut.nD Cert.NormOut.τ).loc Cert.NormOut.main_arg3)
      ∧ r.2.mem ((c.tc : Thread Cert.NormOut.nD Cert.NormOut.τ).loc Cert.NormOut.main_arg4) = m ((c.tc : Thread Cert.NormOut.nD Cert.NormOut.τ).loc Cert.NormOut.main_arg4)
      ∧ r.2.mem ((c.tc : Thread Cert.NormOut.nD Cert.NormOut.τ).loc Cert.NormOut.main_arg5) = m ((c.tc : Thread Cert.NormOut.nD Cert.NormOut.τ).loc Cert.NormOut.main_arg5))
      ∧ r.2.sem = fun _ => 0)

def quiescent_NormOutIdeal [hNormOutIdeal : Cert.NormOutIdeal.Facts] : Prop :=
  ∀ (m : (ℓ : Loc Cert.NormOutIdeal.nD Cert.NormOutIdeal.τ Cert.NormOutIdeal.sig) → Buf (Elt Ideal) ℓ) (g : Dev Cert.NormOutIdeal.nD → PrngReg), Pre_NormOutIdeal m →
    θ_run (Cert.NormOutIdeal.defs (F := Ideal)) (onTc (τ := Cert.NormOutIdeal.τ) (Cert.NormOutIdeal.main (F := Ideal))) ⟨m, fun _ => 0, g⟩ (fun r => (∀ c : Dev Cert.NormOutIdeal.nD,
      r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
      ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
      ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2)
      ∧ r.2.mem ((c.tc : Thread Cert.NormOutIdeal.nD Cert.NormOutIdeal.τ).loc Cert.NormOutIdeal.main_arg3) = m ((c.tc : Thread Cert.NormOutIdeal.nD Cert.NormOutIdeal.τ).loc Cert.NormOutIdeal.main_arg3)
      ∧ r.2.mem ((c.tc : Thread Cert.NormOutIdeal.nD Cert.NormOutIdeal.τ).loc Cert.NormOutIdeal.main_arg4) = m ((c.tc : Thread Cert.NormOutIdeal.nD Cert.NormOutIdeal.τ).loc Cert.NormOutIdeal.main_arg4)
      ∧ r.2.mem ((c.tc : Thread Cert.NormOutIdeal.nD Cert.NormOutIdeal.τ).loc Cert.NormOutIdeal.main_arg5) = m ((c.tc : Thread Cert.NormOutIdeal.nD Cert.NormOutIdeal.τ).loc Cert.NormOutIdeal.main_arg5))
      ∧ r.2.sem = fun _ => 0)

def quiescent_NormOutRefIdeal [hNormOutRefIdeal : Cert.NormOutRefIdeal.Facts] : Prop :=
  ∀ (m : (ℓ : Loc Cert.NormOutRefIdeal.nD Cert.NormOutRefIdeal.τ Cert.NormOutRefIdeal.sig) → Buf (Elt Ideal) ℓ) (g : Dev Cert.NormOutRefIdeal.nD → PrngReg), Pre_NormOutRefIdeal m →
    θ_run (Cert.NormOutRefIdeal.defs (F := Ideal)) (onTc (τ := Cert.NormOutRefIdeal.τ) (Cert.NormOutRefIdeal.main (F := Ideal))) ⟨m, fun _ => 0, g⟩ (fun r => (∀ c : Dev Cert.NormOutRefIdeal.nD,
      r.2.mem ((c.tc : Thread Cert.NormOutRefIdeal.nD Cert.NormOutRefIdeal.τ).loc Cert.NormOutRefIdeal.main_arg0) = m ((c.tc : Thread Cert.NormOutRefIdeal.nD Cert.NormOutRefIdeal.τ).loc Cert.NormOutRefIdeal.main_arg0)
      ∧ r.2.mem ((c.tc : Thread Cert.NormOutRefIdeal.nD Cert.NormOutRefIdeal.τ).loc Cert.NormOutRefIdeal.main_arg1) = m ((c.tc : Thread Cert.NormOutRefIdeal.nD Cert.NormOutRefIdeal.τ).loc Cert.NormOutRefIdeal.main_arg1)
      ∧ r.2.mem ((c.tc : Thread Cert.NormOutRefIdeal.nD Cert.NormOutRefIdeal.τ).loc Cert.NormOutRefIdeal.main_arg2) = m ((c.tc : Thread Cert.NormOutRefIdeal.nD Cert.NormOutRefIdeal.τ).loc Cert.NormOutRefIdeal.main_arg2)
      ∧ r.2.mem ((c.tc : Thread Cert.NormOutRefIdeal.nD Cert.NormOutRefIdeal.τ).loc Cert.NormOutRefIdeal.main_arg3) = m ((c.tc : Thread Cert.NormOutRefIdeal.nD Cert.NormOutRefIdeal.τ).loc Cert.NormOutRefIdeal.main_arg3)
      ∧ r.2.mem ((c.tc : Thread Cert.NormOutRefIdeal.nD Cert.NormOutRefIdeal.τ).loc Cert.NormOutRefIdeal.main_arg4) = m ((c.tc : Thread Cert.NormOutRefIdeal.nD Cert.NormOutRefIdeal.τ).loc Cert.NormOutRefIdeal.main_arg4)
      ∧ r.2.mem ((c.tc : Thread Cert.NormOutRefIdeal.nD Cert.NormOutRefIdeal.τ).loc Cert.NormOutRefIdeal.main_arg5) = m ((c.tc : Thread Cert.NormOutRefIdeal.nD Cert.NormOutRefIdeal.τ).loc Cert.NormOutRefIdeal.main_arg5))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdIdeal_pre_glu_bwd_finite [hGluBwdIdeal : Cert.GluBwdIdeal.Facts] [hPre_glu_bwd_finite : Cert.Pre_glu_bwd_finite.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal_glu_bwd_finite m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_GluBwdRefIdeal_pre_glu_bwd_finite [hGluBwdRefIdeal : Cert.GluBwdRefIdeal.Facts] [hPre_glu_bwd_finite : Cert.Pre_glu_bwd_finite.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal_glu_bwd_finite m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6)
      ∧ r.2.mem ((c.tc : Thread Cert.SguBwd.nD Cert.SguBwd.τ).loc Cert.SguBwd.main_arg7) = m ((c.tc : Thread Cert.SguBwd.nD Cert.SguBwd.τ).loc Cert.SguBwd.main_arg7))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
      ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7))
      ∧ r.2.sem = fun _ => 0)

def quiescent_SguBwdIdeal_pre_sgu_bwd_finite [hSguBwdIdeal : Cert.SguBwdIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_bwd_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
      ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6)
      ∧ r.2.mem ((c.tc : Thread Cert.SguBwdRefIdeal.nD Cert.SguBwdRefIdeal.τ).loc Cert.SguBwdRefIdeal.main_arg7) = m ((c.tc : Thread Cert.SguBwdRefIdeal.nD Cert.SguBwdRefIdeal.τ).loc Cert.SguBwdRefIdeal.main_arg7))
      ∧ r.2.sem = fun _ => 0)

def quiescent_SguBwdRefIdeal_pre_sgu_bwd_finite [hSguBwdRefIdeal : Cert.SguBwdRefIdeal.Facts] [hPre_sgu_bwd_finite : Cert.Pre_sgu_bwd_finite.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_sgu_bwd_finite m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6)
      ∧ r.2.mem ((c.tc : Thread Cert.SguBwdRefIdeal.nD Cert.SguBwdRefIdeal.τ).loc Cert.SguBwdRefIdeal.main_arg7) = m ((c.tc : Thread Cert.SguBwdRefIdeal.nD Cert.SguBwdRefIdeal.τ).loc Cert.SguBwdRefIdeal.main_arg7))
      ∧ r.2.sem = fun _ => 0)

def quiescent_InProjA [hInProjA : Cert.InProjA.Facts] : Prop :=
  ∀ (m : (ℓ : Loc Cert.InProjA.nD Cert.InProjA.τ Cert.InProjA.sig) → Buf (Elt Bits) ℓ) (g : Dev Cert.InProjA.nD → PrngReg), Pre_InProjA m →
    θ_run (Cert.InProjA.defs (F := Bits)) (onTc (τ := Cert.InProjA.τ) (Cert.InProjA.main (F := Bits))) ⟨m, fun _ => 0, g⟩ (fun r => (∀ c : Dev Cert.InProjA.nD,
      r.2.mem ((c.tc : Thread Cert.InProjA.nD Cert.InProjA.τ).loc Cert.InProjA.main_arg0) = m ((c.tc : Thread Cert.InProjA.nD Cert.InProjA.τ).loc Cert.InProjA.main_arg0)
      ∧ r.2.mem ((c.tc : Thread Cert.InProjA.nD Cert.InProjA.τ).loc Cert.InProjA.main_arg1) = m ((c.tc : Thread Cert.InProjA.nD Cert.InProjA.τ).loc Cert.InProjA.main_arg1)
      ∧ r.2.mem ((c.tc : Thread Cert.InProjA.nD Cert.InProjA.τ).loc Cert.InProjA.main_arg2) = m ((c.tc : Thread Cert.InProjA.nD Cert.InProjA.τ).loc Cert.InProjA.main_arg2)
      ∧ r.2.mem ((c.tc : Thread Cert.InProjA.nD Cert.InProjA.τ).loc Cert.InProjA.main_arg3) = m ((c.tc : Thread Cert.InProjA.nD Cert.InProjA.τ).loc Cert.InProjA.main_arg3)
      ∧ r.2.mem ((c.tc : Thread Cert.InProjA.nD Cert.InProjA.τ).loc Cert.InProjA.main_arg4) = m ((c.tc : Thread Cert.InProjA.nD Cert.InProjA.τ).loc Cert.InProjA.main_arg4))
      ∧ r.2.sem = fun _ => 0)

def quiescent_InProjAIdeal [hInProjAIdeal : Cert.InProjAIdeal.Facts] : Prop :=
  ∀ (m : (ℓ : Loc Cert.InProjAIdeal.nD Cert.InProjAIdeal.τ Cert.InProjAIdeal.sig) → Buf (Elt Ideal) ℓ) (g : Dev Cert.InProjAIdeal.nD → PrngReg), Pre_InProjAIdeal m →
    θ_run (Cert.InProjAIdeal.defs (F := Ideal)) (onTc (τ := Cert.InProjAIdeal.τ) (Cert.InProjAIdeal.main (F := Ideal))) ⟨m, fun _ => 0, g⟩ (fun r => (∀ c : Dev Cert.InProjAIdeal.nD,
      r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
      ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
      ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2)
      ∧ r.2.mem ((c.tc : Thread Cert.InProjAIdeal.nD Cert.InProjAIdeal.τ).loc Cert.InProjAIdeal.main_arg3) = m ((c.tc : Thread Cert.InProjAIdeal.nD Cert.InProjAIdeal.τ).loc Cert.InProjAIdeal.main_arg3)
      ∧ r.2.mem ((c.tc : Thread Cert.InProjAIdeal.nD Cert.InProjAIdeal.τ).loc Cert.InProjAIdeal.main_arg4) = m ((c.tc : Thread Cert.InProjAIdeal.nD Cert.InProjAIdeal.τ).loc Cert.InProjAIdeal.main_arg4))
      ∧ r.2.sem = fun _ => 0)

def quiescent_InProjARefIdeal [hInProjARefIdeal : Cert.InProjARefIdeal.Facts] : Prop :=
  ∀ (m : (ℓ : Loc Cert.InProjARefIdeal.nD Cert.InProjARefIdeal.τ Cert.InProjARefIdeal.sig) → Buf (Elt Ideal) ℓ) (g : Dev Cert.InProjARefIdeal.nD → PrngReg), Pre_InProjARefIdeal m →
    θ_run (Cert.InProjARefIdeal.defs (F := Ideal)) (onTc (τ := Cert.InProjARefIdeal.τ) (Cert.InProjARefIdeal.main (F := Ideal))) ⟨m, fun _ => 0, g⟩ (fun r => (∀ c : Dev Cert.InProjARefIdeal.nD,
      r.2.mem ((c.tc : Thread Cert.InProjARefIdeal.nD Cert.InProjARefIdeal.τ).loc Cert.InProjARefIdeal.main_arg0) = m ((c.tc : Thread Cert.InProjARefIdeal.nD Cert.InProjARefIdeal.τ).loc Cert.InProjARefIdeal.main_arg0)
      ∧ r.2.mem ((c.tc : Thread Cert.InProjARefIdeal.nD Cert.InProjARefIdeal.τ).loc Cert.InProjARefIdeal.main_arg1) = m ((c.tc : Thread Cert.InProjARefIdeal.nD Cert.InProjARefIdeal.τ).loc Cert.InProjARefIdeal.main_arg1)
      ∧ r.2.mem ((c.tc : Thread Cert.InProjARefIdeal.nD Cert.InProjARefIdeal.τ).loc Cert.InProjARefIdeal.main_arg2) = m ((c.tc : Thread Cert.InProjARefIdeal.nD Cert.InProjARefIdeal.τ).loc Cert.InProjARefIdeal.main_arg2)
      ∧ r.2.mem ((c.tc : Thread Cert.InProjARefIdeal.nD Cert.InProjARefIdeal.τ).loc Cert.InProjARefIdeal.main_arg3) = m ((c.tc : Thread Cert.InProjARefIdeal.nD Cert.InProjARefIdeal.τ).loc Cert.InProjARefIdeal.main_arg3)
      ∧ r.2.mem ((c.tc : Thread Cert.InProjARefIdeal.nD Cert.InProjARefIdeal.τ).loc Cert.InProjARefIdeal.main_arg4) = m ((c.tc : Thread Cert.InProjARefIdeal.nD Cert.InProjARefIdeal.τ).loc Cert.InProjARefIdeal.main_arg4))
      ∧ r.2.sem = fun _ => 0)

def quiescent_InProjB [hInProjB : Cert.InProjB.Facts] : Prop :=
  ∀ (m : (ℓ : Loc Cert.InProjB.nD Cert.InProjB.τ Cert.InProjB.sig) → Buf (Elt Bits) ℓ) (g : Dev Cert.InProjB.nD → PrngReg), Pre_InProjB m →
    θ_run (Cert.InProjB.defs (F := Bits)) (onTc (τ := Cert.InProjB.τ) (Cert.InProjB.main (F := Bits))) ⟨m, fun _ => 0, g⟩ (fun r => (∀ c : Dev Cert.InProjB.nD,
      r.2.mem ((c.tc : Thread Cert.InProjB.nD Cert.InProjB.τ).loc Cert.InProjB.main_arg0) = m ((c.tc : Thread Cert.InProjB.nD Cert.InProjB.τ).loc Cert.InProjB.main_arg0)
      ∧ r.2.mem ((c.tc : Thread Cert.InProjB.nD Cert.InProjB.τ).loc Cert.InProjB.main_arg1) = m ((c.tc : Thread Cert.InProjB.nD Cert.InProjB.τ).loc Cert.InProjB.main_arg1)
      ∧ r.2.mem ((c.tc : Thread Cert.InProjB.nD Cert.InProjB.τ).loc Cert.InProjB.main_arg2) = m ((c.tc : Thread Cert.InProjB.nD Cert.InProjB.τ).loc Cert.InProjB.main_arg2)
      ∧ r.2.mem ((c.tc : Thread Cert.InProjB.nD Cert.InProjB.τ).loc Cert.InProjB.main_arg3) = m ((c.tc : Thread Cert.InProjB.nD Cert.InProjB.τ).loc Cert.InProjB.main_arg3)
      ∧ r.2.mem ((c.tc : Thread Cert.InProjB.nD Cert.InProjB.τ).loc Cert.InProjB.main_arg4) = m ((c.tc : Thread Cert.InProjB.nD Cert.InProjB.τ).loc Cert.InProjB.main_arg4)
      ∧ r.2.mem ((c.tc : Thread Cert.InProjB.nD Cert.InProjB.τ).loc Cert.InProjB.main_arg5) = m ((c.tc : Thread Cert.InProjB.nD Cert.InProjB.τ).loc Cert.InProjB.main_arg5))
      ∧ r.2.sem = fun _ => 0)

def quiescent_InProjBIdeal [hInProjBIdeal : Cert.InProjBIdeal.Facts] : Prop :=
  ∀ (m : (ℓ : Loc Cert.InProjBIdeal.nD Cert.InProjBIdeal.τ Cert.InProjBIdeal.sig) → Buf (Elt Ideal) ℓ) (g : Dev Cert.InProjBIdeal.nD → PrngReg), Pre_InProjBIdeal m →
    θ_run (Cert.InProjBIdeal.defs (F := Ideal)) (onTc (τ := Cert.InProjBIdeal.τ) (Cert.InProjBIdeal.main (F := Ideal))) ⟨m, fun _ => 0, g⟩ (fun r => (∀ c : Dev Cert.InProjBIdeal.nD,
      r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
      ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1)
      ∧ r.2.mem ((c.tc : Thread Cert.InProjBIdeal.nD Cert.InProjBIdeal.τ).loc Cert.InProjBIdeal.main_arg2) = m ((c.tc : Thread Cert.InProjBIdeal.nD Cert.InProjBIdeal.τ).loc Cert.InProjBIdeal.main_arg2)
      ∧ r.2.mem ((c.tc : Thread Cert.InProjBIdeal.nD Cert.InProjBIdeal.τ).loc Cert.InProjBIdeal.main_arg3) = m ((c.tc : Thread Cert.InProjBIdeal.nD Cert.InProjBIdeal.τ).loc Cert.InProjBIdeal.main_arg3)
      ∧ r.2.mem ((c.tc : Thread Cert.InProjBIdeal.nD Cert.InProjBIdeal.τ).loc Cert.InProjBIdeal.main_arg4) = m ((c.tc : Thread Cert.InProjBIdeal.nD Cert.InProjBIdeal.τ).loc Cert.InProjBIdeal.main_arg4)
      ∧ r.2.mem ((c.tc : Thread Cert.InProjBIdeal.nD Cert.InProjBIdeal.τ).loc Cert.InProjBIdeal.main_arg5) = m ((c.tc : Thread Cert.InProjBIdeal.nD Cert.InProjBIdeal.τ).loc Cert.InProjBIdeal.main_arg5))
      ∧ r.2.sem = fun _ => 0)

def quiescent_InProjBRefIdeal [hInProjBRefIdeal : Cert.InProjBRefIdeal.Facts] : Prop :=
  ∀ (m : (ℓ : Loc Cert.InProjBRefIdeal.nD Cert.InProjBRefIdeal.τ Cert.InProjBRefIdeal.sig) → Buf (Elt Ideal) ℓ) (g : Dev Cert.InProjBRefIdeal.nD → PrngReg), Pre_InProjBRefIdeal m →
    θ_run (Cert.InProjBRefIdeal.defs (F := Ideal)) (onTc (τ := Cert.InProjBRefIdeal.τ) (Cert.InProjBRefIdeal.main (F := Ideal))) ⟨m, fun _ => 0, g⟩ (fun r => (∀ c : Dev Cert.InProjBRefIdeal.nD,
      r.2.mem ((c.tc : Thread Cert.InProjBRefIdeal.nD Cert.InProjBRefIdeal.τ).loc Cert.InProjBRefIdeal.main_arg0) = m ((c.tc : Thread Cert.InProjBRefIdeal.nD Cert.InProjBRefIdeal.τ).loc Cert.InProjBRefIdeal.main_arg0)
      ∧ r.2.mem ((c.tc : Thread Cert.InProjBRefIdeal.nD Cert.InProjBRefIdeal.τ).loc Cert.InProjBRefIdeal.main_arg1) = m ((c.tc : Thread Cert.InProjBRefIdeal.nD Cert.InProjBRefIdeal.τ).loc Cert.InProjBRefIdeal.main_arg1)
      ∧ r.2.mem ((c.tc : Thread Cert.InProjBRefIdeal.nD Cert.InProjBRefIdeal.τ).loc Cert.InProjBRefIdeal.main_arg2) = m ((c.tc : Thread Cert.InProjBRefIdeal.nD Cert.InProjBRefIdeal.τ).loc Cert.InProjBRefIdeal.main_arg2)
      ∧ r.2.mem ((c.tc : Thread Cert.InProjBRefIdeal.nD Cert.InProjBRefIdeal.τ).loc Cert.InProjBRefIdeal.main_arg3) = m ((c.tc : Thread Cert.InProjBRefIdeal.nD Cert.InProjBRefIdeal.τ).loc Cert.InProjBRefIdeal.main_arg3)
      ∧ r.2.mem ((c.tc : Thread Cert.InProjBRefIdeal.nD Cert.InProjBRefIdeal.τ).loc Cert.InProjBRefIdeal.main_arg4) = m ((c.tc : Thread Cert.InProjBRefIdeal.nD Cert.InProjBRefIdeal.τ).loc Cert.InProjBRefIdeal.main_arg4)
      ∧ r.2.mem ((c.tc : Thread Cert.InProjBRefIdeal.nD Cert.InProjBRefIdeal.τ).loc Cert.InProjBRefIdeal.main_arg5) = m ((c.tc : Thread Cert.InProjBRefIdeal.nD Cert.InProjBRefIdeal.τ).loc Cert.InProjBRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5)
      ∧ r.2.mem ((c.tc : Thread Cert.SguFwd.nD Cert.SguFwd.τ).loc Cert.SguFwd.main_arg6) = m ((c.tc : Thread Cert.SguFwd.nD Cert.SguFwd.τ).loc Cert.SguFwd.main_arg6))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
      ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5)
      ∧ r.2.mem ((c.tc : Thread Cert.SguFwdRefIdeal.nD Cert.SguFwdRefIdeal.τ).loc Cert.SguFwdRefIdeal.main_arg6) = m ((c.tc : Thread Cert.SguFwdRefIdeal.nD Cert.SguFwdRefIdeal.τ).loc Cert.SguFwdRefIdeal.main_arg6))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SsmState [hSsmState : Cert.SsmState.Facts] : Prop :=
  ∀ (m : (ℓ : Loc Cert.SsmState.nD Cert.SsmState.τ Cert.SsmState.sig) → Buf (Elt Bits) ℓ) (g : Dev Cert.SsmState.nD → PrngReg), Pre_SsmState m →
    θ_run (Cert.SsmState.defs (F := Bits)) (onTc (τ := Cert.SsmState.τ) (Cert.SsmState.main (F := Bits))) ⟨m, fun _ => 0, g⟩ (fun r => (∀ c : Dev Cert.SsmState.nD,
      r.2.mem ((c.tc : Thread Cert.SsmState.nD Cert.SsmState.τ).loc Cert.SsmState.main_arg0) = m ((c.tc : Thread Cert.SsmState.nD Cert.SsmState.τ).loc Cert.SsmState.main_arg0)
      ∧ r.2.mem ((c.tc : Thread Cert.SsmState.nD Cert.SsmState.τ).loc Cert.SsmState.main_arg1) = m ((c.tc : Thread Cert.SsmState.nD Cert.SsmState.τ).loc Cert.SsmState.main_arg1)
      ∧ r.2.mem ((c.tc : Thread Cert.SsmState.nD Cert.SsmState.τ).loc Cert.SsmState.main_arg2) = m ((c.tc : Thread Cert.SsmState.nD Cert.SsmState.τ).loc Cert.SsmState.main_arg2)
      ∧ r.2.mem ((c.tc : Thread Cert.SsmState.nD Cert.SsmState.τ).loc Cert.SsmState.main_arg3) = m ((c.tc : Thread Cert.SsmState.nD Cert.SsmState.τ).loc Cert.SsmState.main_arg3))
      ∧ r.2.sem = fun _ => 0)

def quiescent_SsmStateIdeal [hSsmStateIdeal : Cert.SsmStateIdeal.Facts] : Prop :=
  ∀ (m : (ℓ : Loc Cert.SsmStateIdeal.nD Cert.SsmStateIdeal.τ Cert.SsmStateIdeal.sig) → Buf (Elt Ideal) ℓ) (g : Dev Cert.SsmStateIdeal.nD → PrngReg), Pre_SsmStateIdeal m →
    θ_run (Cert.SsmStateIdeal.defs (F := Ideal)) (onTc (τ := Cert.SsmStateIdeal.τ) (Cert.SsmStateIdeal.main (F := Ideal))) ⟨m, fun _ => 0, g⟩ (fun r => (∀ c : Dev Cert.SsmStateIdeal.nD,
      r.2.mem ((c.tc : Thread Cert.SsmStateIdeal.nD Cert.SsmStateIdeal.τ).loc Cert.SsmStateIdeal.main_arg0) = m ((c.tc : Thread Cert.SsmStateIdeal.nD Cert.SsmStateIdeal.τ).loc Cert.SsmStateIdeal.main_arg0)
      ∧ r.2.mem ((c.tc : Thread Cert.SsmStateIdeal.nD Cert.SsmStateIdeal.τ).loc Cert.SsmStateIdeal.main_arg1) = m ((c.tc : Thread Cert.SsmStateIdeal.nD Cert.SsmStateIdeal.τ).loc Cert.SsmStateIdeal.main_arg1)
      ∧ r.2.mem ((c.tc : Thread Cert.SsmStateIdeal.nD Cert.SsmStateIdeal.τ).loc Cert.SsmStateIdeal.main_arg2) = m ((c.tc : Thread Cert.SsmStateIdeal.nD Cert.SsmStateIdeal.τ).loc Cert.SsmStateIdeal.main_arg2)
      ∧ r.2.mem ((c.tc : Thread Cert.SsmStateIdeal.nD Cert.SsmStateIdeal.τ).loc Cert.SsmStateIdeal.main_arg3) = m ((c.tc : Thread Cert.SsmStateIdeal.nD Cert.SsmStateIdeal.τ).loc Cert.SsmStateIdeal.main_arg3))
      ∧ r.2.sem = fun _ => 0)

def quiescent_SsmFwd [hSsmFwd : Cert.SsmFwd.Facts] : Prop :=
  ∀ (m : (ℓ : Loc Cert.SsmFwd.nD Cert.SsmFwd.τ Cert.SsmFwd.sig) → Buf (Elt Bits) ℓ) (g : Dev Cert.SsmFwd.nD → PrngReg), Pre_SsmFwd m →
    θ_run (Cert.SsmFwd.defs (F := Bits)) (onTc (τ := Cert.SsmFwd.τ) (Cert.SsmFwd.main (F := Bits))) ⟨m, fun _ => 0, g⟩ (fun r => (∀ c : Dev Cert.SsmFwd.nD,
      r.2.mem ((c.tc : Thread Cert.SsmFwd.nD Cert.SsmFwd.τ).loc Cert.SsmFwd.main_arg0) = m ((c.tc : Thread Cert.SsmFwd.nD Cert.SsmFwd.τ).loc Cert.SsmFwd.main_arg0)
      ∧ r.2.mem ((c.tc : Thread Cert.SsmFwd.nD Cert.SsmFwd.τ).loc Cert.SsmFwd.main_arg1) = m ((c.tc : Thread Cert.SsmFwd.nD Cert.SsmFwd.τ).loc Cert.SsmFwd.main_arg1)
      ∧ r.2.mem ((c.tc : Thread Cert.SsmFwd.nD Cert.SsmFwd.τ).loc Cert.SsmFwd.main_arg2) = m ((c.tc : Thread Cert.SsmFwd.nD Cert.SsmFwd.τ).loc Cert.SsmFwd.main_arg2)
      ∧ r.2.mem ((c.tc : Thread Cert.SsmFwd.nD Cert.SsmFwd.τ).loc Cert.SsmFwd.main_arg3) = m ((c.tc : Thread Cert.SsmFwd.nD Cert.SsmFwd.τ).loc Cert.SsmFwd.main_arg3)
      ∧ r.2.mem ((c.tc : Thread Cert.SsmFwd.nD Cert.SsmFwd.τ).loc Cert.SsmFwd.main_arg4) = m ((c.tc : Thread Cert.SsmFwd.nD Cert.SsmFwd.τ).loc Cert.SsmFwd.main_arg4))
      ∧ r.2.sem = fun _ => 0)

def quiescent_SsmFwdIdeal [hSsmFwdIdeal : Cert.SsmFwdIdeal.Facts] : Prop :=
  ∀ (m : (ℓ : Loc Cert.SsmFwdIdeal.nD Cert.SsmFwdIdeal.τ Cert.SsmFwdIdeal.sig) → Buf (Elt Ideal) ℓ) (g : Dev Cert.SsmFwdIdeal.nD → PrngReg), Pre_SsmFwdIdeal m →
    θ_run (Cert.SsmFwdIdeal.defs (F := Ideal)) (onTc (τ := Cert.SsmFwdIdeal.τ) (Cert.SsmFwdIdeal.main (F := Ideal))) ⟨m, fun _ => 0, g⟩ (fun r => (∀ c : Dev Cert.SsmFwdIdeal.nD,
      r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
      ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1)
      ∧ r.2.mem ((c.tc : Thread Cert.SsmFwdIdeal.nD Cert.SsmFwdIdeal.τ).loc Cert.SsmFwdIdeal.main_arg2) = m ((c.tc : Thread Cert.SsmFwdIdeal.nD Cert.SsmFwdIdeal.τ).loc Cert.SsmFwdIdeal.main_arg2)
      ∧ r.2.mem ((c.tc : Thread Cert.SsmFwdIdeal.nD Cert.SsmFwdIdeal.τ).loc Cert.SsmFwdIdeal.main_arg3) = m ((c.tc : Thread Cert.SsmFwdIdeal.nD Cert.SsmFwdIdeal.τ).loc Cert.SsmFwdIdeal.main_arg3)
      ∧ r.2.mem ((c.tc : Thread Cert.SsmFwdIdeal.nD Cert.SsmFwdIdeal.τ).loc Cert.SsmFwdIdeal.main_arg4) = m ((c.tc : Thread Cert.SsmFwdIdeal.nD Cert.SsmFwdIdeal.τ).loc Cert.SsmFwdIdeal.main_arg4))
      ∧ r.2.sem = fun _ => 0)

def quiescent_SsmMain [hSsmMain : Cert.SsmMain.Facts] : Prop :=
  ∀ (m : (ℓ : Loc Cert.SsmMain.nD Cert.SsmMain.τ Cert.SsmMain.sig) → Buf (Elt Bits) ℓ) (g : Dev Cert.SsmMain.nD → PrngReg), Pre_SsmMain m →
    θ_run (Cert.SsmMain.defs (F := Bits)) (onTc (τ := Cert.SsmMain.τ) (Cert.SsmMain.main (F := Bits))) ⟨m, fun _ => 0, g⟩ (fun r => (∀ c : Dev Cert.SsmMain.nD,
      r.2.mem ((c.tc : Thread Cert.SsmMain.nD Cert.SsmMain.τ).loc Cert.SsmMain.main_arg0) = m ((c.tc : Thread Cert.SsmMain.nD Cert.SsmMain.τ).loc Cert.SsmMain.main_arg0)
      ∧ r.2.mem ((c.tc : Thread Cert.SsmMain.nD Cert.SsmMain.τ).loc Cert.SsmMain.main_arg1) = m ((c.tc : Thread Cert.SsmMain.nD Cert.SsmMain.τ).loc Cert.SsmMain.main_arg1)
      ∧ r.2.mem ((c.tc : Thread Cert.SsmMain.nD Cert.SsmMain.τ).loc Cert.SsmMain.main_arg2) = m ((c.tc : Thread Cert.SsmMain.nD Cert.SsmMain.τ).loc Cert.SsmMain.main_arg2)
      ∧ r.2.mem ((c.tc : Thread Cert.SsmMain.nD Cert.SsmMain.τ).loc Cert.SsmMain.main_arg3) = m ((c.tc : Thread Cert.SsmMain.nD Cert.SsmMain.τ).loc Cert.SsmMain.main_arg3)
      ∧ r.2.mem ((c.tc : Thread Cert.SsmMain.nD Cert.SsmMain.τ).loc Cert.SsmMain.main_arg4) = m ((c.tc : Thread Cert.SsmMain.nD Cert.SsmMain.τ).loc Cert.SsmMain.main_arg4)
      ∧ r.2.mem ((c.tc : Thread Cert.SsmMain.nD Cert.SsmMain.τ).loc Cert.SsmMain.main_arg5) = m ((c.tc : Thread Cert.SsmMain.nD Cert.SsmMain.τ).loc Cert.SsmMain.main_arg5)
      ∧ r.2.mem ((c.tc : Thread Cert.SsmMain.nD Cert.SsmMain.τ).loc Cert.SsmMain.main_arg6) = m ((c.tc : Thread Cert.SsmMain.nD Cert.SsmMain.τ).loc Cert.SsmMain.main_arg6)
      ∧ r.2.mem ((c.tc : Thread Cert.SsmMain.nD Cert.SsmMain.τ).loc Cert.SsmMain.main_arg7) = m ((c.tc : Thread Cert.SsmMain.nD Cert.SsmMain.τ).loc Cert.SsmMain.main_arg7)
      ∧ r.2.mem ((c.tc : Thread Cert.SsmMain.nD Cert.SsmMain.τ).loc Cert.SsmMain.main_arg8) = m ((c.tc : Thread Cert.SsmMain.nD Cert.SsmMain.τ).loc Cert.SsmMain.main_arg8)
      ∧ r.2.mem ((c.tc : Thread Cert.SsmMain.nD Cert.SsmMain.τ).loc Cert.SsmMain.main_arg9) = m ((c.tc : Thread Cert.SsmMain.nD Cert.SsmMain.τ).loc Cert.SsmMain.main_arg9))
      ∧ r.2.sem = fun _ => 0)

def quiescent_SsmMainIdeal [hSsmMainIdeal : Cert.SsmMainIdeal.Facts] : Prop :=
  ∀ (m : (ℓ : Loc Cert.SsmMainIdeal.nD Cert.SsmMainIdeal.τ Cert.SsmMainIdeal.sig) → Buf (Elt Ideal) ℓ) (g : Dev Cert.SsmMainIdeal.nD → PrngReg), Pre_SsmMainIdeal m →
    θ_run (Cert.SsmMainIdeal.defs (F := Ideal)) (onTc (τ := Cert.SsmMainIdeal.τ) (Cert.SsmMainIdeal.main (F := Ideal))) ⟨m, fun _ => 0, g⟩ (fun r => (∀ c : Dev Cert.SsmMainIdeal.nD,
      r.2.mem ((c.tc : Thread Cert.SsmMainIdeal.nD Cert.SsmMainIdeal.τ).loc Cert.SsmMainIdeal.main_arg0) = m ((c.tc : Thread Cert.SsmMainIdeal.nD Cert.SsmMainIdeal.τ).loc Cert.SsmMainIdeal.main_arg0)
      ∧ r.2.mem ((c.tc : Thread Cert.SsmMainIdeal.nD Cert.SsmMainIdeal.τ).loc Cert.SsmMainIdeal.main_arg1) = m ((c.tc : Thread Cert.SsmMainIdeal.nD Cert.SsmMainIdeal.τ).loc Cert.SsmMainIdeal.main_arg1)
      ∧ r.2.mem ((c.tc : Thread Cert.SsmMainIdeal.nD Cert.SsmMainIdeal.τ).loc Cert.SsmMainIdeal.main_arg2) = m ((c.tc : Thread Cert.SsmMainIdeal.nD Cert.SsmMainIdeal.τ).loc Cert.SsmMainIdeal.main_arg2)
      ∧ r.2.mem ((c.tc : Thread Cert.SsmMainIdeal.nD Cert.SsmMainIdeal.τ).loc Cert.SsmMainIdeal.main_arg3) = m ((c.tc : Thread Cert.SsmMainIdeal.nD Cert.SsmMainIdeal.τ).loc Cert.SsmMainIdeal.main_arg3)
      ∧ r.2.mem ((c.tc : Thread Cert.SsmMainIdeal.nD Cert.SsmMainIdeal.τ).loc Cert.SsmMainIdeal.main_arg4) = m ((c.tc : Thread Cert.SsmMainIdeal.nD Cert.SsmMainIdeal.τ).loc Cert.SsmMainIdeal.main_arg4)
      ∧ r.2.mem ((c.tc : Thread Cert.SsmMainIdeal.nD Cert.SsmMainIdeal.τ).loc Cert.SsmMainIdeal.main_arg5) = m ((c.tc : Thread Cert.SsmMainIdeal.nD Cert.SsmMainIdeal.τ).loc Cert.SsmMainIdeal.main_arg5)
      ∧ r.2.mem ((c.tc : Thread Cert.SsmMainIdeal.nD Cert.SsmMainIdeal.τ).loc Cert.SsmMainIdeal.main_arg6) = m ((c.tc : Thread Cert.SsmMainIdeal.nD Cert.SsmMainIdeal.τ).loc Cert.SsmMainIdeal.main_arg6)
      ∧ r.2.mem ((c.tc : Thread Cert.SsmMainIdeal.nD Cert.SsmMainIdeal.τ).loc Cert.SsmMainIdeal.main_arg7) = m ((c.tc : Thread Cert.SsmMainIdeal.nD Cert.SsmMainIdeal.τ).loc Cert.SsmMainIdeal.main_arg7)
      ∧ r.2.mem ((c.tc : Thread Cert.SsmMainIdeal.nD Cert.SsmMainIdeal.τ).loc Cert.SsmMainIdeal.main_arg8) = m ((c.tc : Thread Cert.SsmMainIdeal.nD Cert.SsmMainIdeal.τ).loc Cert.SsmMainIdeal.main_arg8)
      ∧ r.2.mem ((c.tc : Thread Cert.SsmMainIdeal.nD Cert.SsmMainIdeal.τ).loc Cert.SsmMainIdeal.main_arg9) = m ((c.tc : Thread Cert.SsmMainIdeal.nD Cert.SsmMainIdeal.τ).loc Cert.SsmMainIdeal.main_arg9))
      ∧ r.2.sem = fun _ => 0)

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)) →
    ∃ (v0 : (c : Dev Cert.MlpBwdIdeal.nD) → Buf (Elt Ideal) ((c.tc : Thread Cert.MlpBwdIdeal.nD Cert.MlpBwdIdeal.τ).loc Cert.MlpBwdIdeal.main_v12_0)) (v1 : (c : Dev Cert.MlpBwdIdeal.nD) → Buf (Elt Ideal) ((c.tc : Thread Cert.MlpBwdIdeal.nD Cert.MlpBwdIdeal.τ).loc Cert.MlpBwdIdeal.main_v12_1)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v12_0) = v0 c
          ∧ r.2.mem ((c.tc : Thread Cert.MlpBwdIdeal.nD Cert.MlpBwdIdeal.τ).loc Cert.MlpBwdIdeal.main_v12_1) = v1 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v16) = v0 c
          ∧ r.2.mem ((c.tc : Thread Cert.MlpBwdRefIdeal.nD Cert.MlpBwdRefIdeal.τ).loc Cert.MlpBwdRefIdeal.main_v18) = v1 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3))

def preserves_NormOut_NormOutIdeal : Prop :=
  True

def algebraic_NormOutIdeal_NormOutRefIdeal [hNormOutIdeal : Cert.NormOutIdeal.Facts] [hNormOutRefIdeal : Cert.NormOutRefIdeal.Facts] : Prop :=
  ∀ (m : (ℓ : Loc Cert.NormOutIdeal.nD Cert.NormOutIdeal.τ Cert.NormOutIdeal.sig) → Buf (Elt Ideal) ℓ) (g : Dev Cert.NormOutIdeal.nD → PrngReg)
    (m' : (ℓ : Loc Cert.NormOutRefIdeal.nD Cert.NormOutRefIdeal.τ Cert.NormOutRefIdeal.sig) → Buf (Elt Ideal) ℓ) (g' : Dev Cert.NormOutRefIdeal.nD → PrngReg), Pre_NormOutIdeal m →
    (∀ c : Dev Cert.NormOutIdeal.nD,
      m' ((c.tc : Thread Cert.NormOutRefIdeal.nD Cert.NormOutRefIdeal.τ).loc Cert.NormOutRefIdeal.main_arg0) = m ((c.tc : Thread Cert.NormOutIdeal.nD Cert.NormOutIdeal.τ).loc Cert.NormOutIdeal.main_arg0)
      ∧ m' ((c.tc : Thread Cert.NormOutRefIdeal.nD Cert.NormOutRefIdeal.τ).loc Cert.NormOutRefIdeal.main_arg1) = m ((c.tc : Thread Cert.NormOutIdeal.nD Cert.NormOutIdeal.τ).loc Cert.NormOutIdeal.main_arg1)
      ∧ m' ((c.tc : Thread Cert.NormOutRefIdeal.nD Cert.NormOutRefIdeal.τ).loc Cert.NormOutRefIdeal.main_arg2) = m ((c.tc : Thread Cert.NormOutIdeal.nD Cert.NormOutIdeal.τ).loc Cert.NormOutIdeal.main_arg2)
      ∧ m' ((c.tc : Thread Cert.NormOutRefIdeal.nD Cert.NormOutRefIdeal.τ).loc Cert.NormOutRefIdeal.main_arg3) = m ((c.tc : Thread Cert.NormOutIdeal.nD Cert.NormOutIdeal.τ).loc Cert.NormOutIdeal.main_arg3)
      ∧ m' ((c.tc : Thread Cert.NormOutRefIdeal.nD Cert.NormOutRefIdeal.τ).loc Cert.NormOutRefIdeal.main_arg4) = m ((c.tc : Thread Cert.NormOutIdeal.nD Cert.NormOutIdeal.τ).loc Cert.NormOutIdeal.main_arg4)
      ∧ m' ((c.tc : Thread Cert.NormOutRefIdeal.nD Cert.NormOutRefIdeal.τ).loc Cert.NormOutRefIdeal.main_arg5) = m ((c.tc : Thread Cert.NormOutIdeal.nD Cert.NormOutIdeal.τ).loc Cert.NormOutIdeal.main_arg5)) →
    ∃ (v0 : (c : Dev Cert.NormOutIdeal.nD) → Buf (Elt Ideal) ((c.tc : Thread Cert.NormOutIdeal.nD Cert.NormOutIdeal.τ).loc Cert.NormOutIdeal.main_v8_0)) (v1 : (c : Dev Cert.NormOutIdeal.nD) → Buf (Elt Ideal) ((c.tc : Thread Cert.NormOutIdeal.nD Cert.NormOutIdeal.τ).loc Cert.NormOutIdeal.main_v8_1)) (v2 : (c : Dev Cert.NormOutIdeal.nD) → Buf (Elt Ideal) ((c.tc : Thread Cert.NormOutIdeal.nD Cert.NormOutIdeal.τ).loc Cert.NormOutIdeal.main_v8_2)) (v3 : (c : Dev Cert.NormOutIdeal.nD) → Buf (Elt Ideal) ((c.tc : Thread Cert.NormOutIdeal.nD Cert.NormOutIdeal.τ).loc Cert.NormOutIdeal.main_v8_3)),
      θ_run (Cert.NormOutIdeal.defs (F := Ideal)) (onTc (τ := Cert.NormOutIdeal.τ) (Cert.NormOutIdeal.main (F := Ideal))) ⟨m, fun _ => 0, g⟩ (fun r => ∀ c : Dev Cert.NormOutIdeal.nD,
          r.2.mem ((c.tc : Thread Cert.NormOutIdeal.nD Cert.NormOutIdeal.τ).loc Cert.NormOutIdeal.main_v8_0) = v0 c
          ∧ r.2.mem ((c.tc : Thread Cert.NormOutIdeal.nD Cert.NormOutIdeal.τ).loc Cert.NormOutIdeal.main_v8_1) = v1 c
          ∧ r.2.mem ((c.tc : Thread Cert.NormOutIdeal.nD Cert.NormOutIdeal.τ).loc Cert.NormOutIdeal.main_v8_2) = v2 c
          ∧ r.2.mem ((c.tc : Thread Cert.NormOutIdeal.nD Cert.NormOutIdeal.τ).loc Cert.NormOutIdeal.main_v8_3) = v3 c
          ∧ r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
          ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
          ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2)
          ∧ r.2.mem ((c.tc : Thread Cert.NormOutIdeal.nD Cert.NormOutIdeal.τ).loc Cert.NormOutIdeal.main_arg3) = m ((c.tc : Thread Cert.NormOutIdeal.nD Cert.NormOutIdeal.τ).loc Cert.NormOutIdeal.main_arg3)
          ∧ r.2.mem ((c.tc : Thread Cert.NormOutIdeal.nD Cert.NormOutIdeal.τ).loc Cert.NormOutIdeal.main_arg4) = m ((c.tc : Thread Cert.NormOutIdeal.nD Cert.NormOutIdeal.τ).loc Cert.NormOutIdeal.main_arg4)
          ∧ r.2.mem ((c.tc : Thread Cert.NormOutIdeal.nD Cert.NormOutIdeal.τ).loc Cert.NormOutIdeal.main_arg5) = m ((c.tc : Thread Cert.NormOutIdeal.nD Cert.NormOutIdeal.τ).loc Cert.NormOutIdeal.main_arg5))
      ∧ θ_run (Cert.NormOutRefIdeal.defs (F := Ideal)) (onTc (τ := Cert.NormOutRefIdeal.τ) (Cert.NormOutRefIdeal.main (F := Ideal))) ⟨m', fun _ => 0, g'⟩ (fun r => ∀ c : Dev Cert.NormOutRefIdeal.nD,
          r.2.mem ((c.tc : Thread Cert.NormOutRefIdeal.nD Cert.NormOutRefIdeal.τ).loc Cert.NormOutRefIdeal.main_v45) = v0 c
          ∧ r.2.mem ((c.tc : Thread Cert.NormOutRefIdeal.nD Cert.NormOutRefIdeal.τ).loc Cert.NormOutRefIdeal.main_v47) = v1 c
          ∧ r.2.mem ((c.tc : Thread Cert.NormOutRefIdeal.nD Cert.NormOutRefIdeal.τ).loc Cert.NormOutRefIdeal.main_v42) = v2 c
          ∧ r.2.mem ((c.tc : Thread Cert.NormOutRefIdeal.nD Cert.NormOutRefIdeal.τ).loc Cert.NormOutRefIdeal.main_v48) = v3 c
          ∧ r.2.mem ((c.tc : Thread Cert.NormOutRefIdeal.nD Cert.NormOutRefIdeal.τ).loc Cert.NormOutRefIdeal.main_arg0) = m' ((c.tc : Thread Cert.NormOutRefIdeal.nD Cert.NormOutRefIdeal.τ).loc Cert.NormOutRefIdeal.main_arg0)
          ∧ r.2.mem ((c.tc : Thread Cert.NormOutRefIdeal.nD Cert.NormOutRefIdeal.τ).loc Cert.NormOutRefIdeal.main_arg1) = m' ((c.tc : Thread Cert.NormOutRefIdeal.nD Cert.NormOutRefIdeal.τ).loc Cert.NormOutRefIdeal.main_arg1)
          ∧ r.2.mem ((c.tc : Thread Cert.NormOutRefIdeal.nD Cert.NormOutRefIdeal.τ).loc Cert.NormOutRefIdeal.main_arg2) = m' ((c.tc : Thread Cert.NormOutRefIdeal.nD Cert.NormOutRefIdeal.τ).loc Cert.NormOutRefIdeal.main_arg2)
          ∧ r.2.mem ((c.tc : Thread Cert.NormOutRefIdeal.nD Cert.NormOutRefIdeal.τ).loc Cert.NormOutRefIdeal.main_arg3) = m' ((c.tc : Thread Cert.NormOutRefIdeal.nD Cert.NormOutRefIdeal.τ).loc Cert.NormOutRefIdeal.main_arg3)
          ∧ r.2.mem ((c.tc : Thread Cert.NormOutRefIdeal.nD Cert.NormOutRefIdeal.τ).loc Cert.NormOutRefIdeal.main_arg4) = m' ((c.tc : Thread Cert.NormOutRefIdeal.nD Cert.NormOutRefIdeal.τ).loc Cert.NormOutRefIdeal.main_arg4)
          ∧ r.2.mem ((c.tc : Thread Cert.NormOutRefIdeal.nD Cert.NormOutRefIdeal.τ).loc Cert.NormOutRefIdeal.main_arg5) = m' ((c.tc : Thread Cert.NormOutRefIdeal.nD Cert.NormOutRefIdeal.τ).loc Cert.NormOutRefIdeal.main_arg5))

def preserves_GluBwd_GluBwdIdeal : Prop :=
  IdealRules.named_const.Statement Cert.GluBwdIdeal.κ "gelu_kc" .f32 0x3D122279#32 ((80338380498831 / 2251799813685248 : ℝ) : EReal)
  ∧ IdealRules.named_const.Statement Cert.GluBwdIdeal.κ "gelu_3kc" .f32 0x3DDB33B6#32 ((241015141496493 / 2251799813685248 : ℝ) : EReal)

def algebraic_GluBwdIdeal_GluBwdRefIdeal_pre_glu_bwd_finite [hGluBwdIdeal : Cert.GluBwdIdeal.Facts] [hGluBwdRefIdeal : Cert.GluBwdRefIdeal.Facts] [hPre_glu_bwd_finite : Cert.Pre_glu_bwd_finite.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal_glu_bwd_finite m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)
      ∧ m' ((c.tc : Thread Cert.GluBwdRefIdeal.nD Cert.GluBwdRefIdeal.τ).loc Cert.GluBwdRefIdeal.main_arg4) = m ((c.tc : Thread Cert.GluBwdIdeal.nD Cert.GluBwdIdeal.τ).loc Cert.GluBwdIdeal.main_arg4)) →
    ∃ (v0 : (c : Dev Cert.GluBwdIdeal.nD) → Buf (Elt Ideal) ((c.tc : Thread Cert.GluBwdIdeal.nD Cert.GluBwdIdeal.τ).loc Cert.GluBwdIdeal.main_v4_0)) (v1 : (c : Dev Cert.GluBwdIdeal.nD) → Buf (Elt Ideal) ((c.tc : Thread Cert.GluBwdIdeal.nD Cert.GluBwdIdeal.τ).loc Cert.GluBwdIdeal.main_v4_1)) (v2 : (c : Dev Cert.GluBwdIdeal.nD) → Buf (Elt Ideal) ((c.tc : Thread Cert.GluBwdIdeal.nD Cert.GluBwdIdeal.τ).loc Cert.GluBwdIdeal.main_v4_2)) (v3 : (c : Dev Cert.GluBwdIdeal.nD) → Buf (Elt Ideal) ((c.tc : Thread Cert.GluBwdIdeal.nD Cert.GluBwdIdeal.τ).loc Cert.GluBwdIdeal.main_v4_3)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v4_0) = v0 c
          ∧ r.2.mem ((c.tc : Thread Cert.GluBwdIdeal.nD Cert.GluBwdIdeal.τ).loc Cert.GluBwdIdeal.main_v4_1) = v1 c
          ∧ r.2.mem ((c.tc : Thread Cert.GluBwdIdeal.nD Cert.GluBwdIdeal.τ).loc Cert.GluBwdIdeal.main_v4_2) = v2 c
          ∧ r.2.mem ((c.tc : Thread Cert.GluBwdIdeal.nD Cert.GluBwdIdeal.τ).loc Cert.GluBwdIdeal.main_v4_3) = v3 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v101) = v0 c
          ∧ r.2.mem ((c.tc : Thread Cert.GluBwdRefIdeal.nD Cert.GluBwdRefIdeal.τ).loc Cert.GluBwdRefIdeal.main_v103) = v1 c
          ∧ r.2.mem ((c.tc : Thread Cert.GluBwdRefIdeal.nD Cert.GluBwdRefIdeal.τ).loc Cert.GluBwdRefIdeal.main_v83) = v2 c
          ∧ r.2.mem ((c.tc : Thread Cert.GluBwdRefIdeal.nD Cert.GluBwdRefIdeal.τ).loc Cert.GluBwdRefIdeal.main_v76) = v3 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3)
          ∧ r.2.mem ((c.tc : Thread Cert.GluBwdRefIdeal.nD Cert.GluBwdRefIdeal.τ).loc Cert.GluBwdRefIdeal.main_arg4) = m' ((c.tc : Thread Cert.GluBwdRefIdeal.nD Cert.GluBwdRefIdeal.τ).loc Cert.GluBwdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v7_0)) (v1 : (c : Dev Cert.LossIdeal.nD) → Buf (Elt Ideal) ((c.tc : Thread Cert.LossIdeal.nD Cert.LossIdeal.τ).loc Cert.LossIdeal.main_v7_1)) (v2 : (c : Dev Cert.LossIdeal.nD) → Buf (Elt Ideal) ((c.tc : Thread Cert.LossIdeal.nD Cert.LossIdeal.τ).loc Cert.LossIdeal.main_v7_2)) (v3 : (c : Dev Cert.LossIdeal.nD) → Buf (Elt Ideal) ((c.tc : Thread Cert.LossIdeal.nD Cert.LossIdeal.τ).loc Cert.LossIdeal.main_v7_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v7_0) = v0 c
          ∧ r.2.mem ((c.tc : Thread Cert.LossIdeal.nD Cert.LossIdeal.τ).loc Cert.LossIdeal.main_v7_1) = v1 c
          ∧ r.2.mem ((c.tc : Thread Cert.LossIdeal.nD Cert.LossIdeal.τ).loc Cert.LossIdeal.main_v7_2) = v2 c
          ∧ r.2.mem ((c.tc : Thread Cert.LossIdeal.nD Cert.LossIdeal.τ).loc Cert.LossIdeal.main_v7_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v57) = v0 c
          ∧ r.2.mem ((c.tc : Thread Cert.LossRefIdeal.nD Cert.LossRefIdeal.τ).loc Cert.LossRefIdeal.main_v58) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v61) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_SguBwd_SguBwdIdeal : Prop :=
  IdealRules.named_const.Statement Cert.SguBwdIdeal.κ "gelu_kc" .f32 0x3D122279#32 ((80338380498831 / 2251799813685248 : ℝ) : EReal)
  ∧ IdealRules.named_const.Statement Cert.SguBwdIdeal.κ "gelu_3kc" .f32 0x3DDB33B6#32 ((241015141496493 / 2251799813685248 : ℝ) : EReal)

def algebraic_SguBwdIdeal_SguBwdRefIdeal_pre_sgu_bwd_finite [hSguBwdIdeal : Cert.SguBwdIdeal.Facts] [hSguBwdRefIdeal : Cert.SguBwdRefIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_sgu_bwd_finite m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)
      ∧ m' ((c.tc : Thread Cert.SguBwdRefIdeal.nD Cert.SguBwdRefIdeal.τ).loc Cert.SguBwdRefIdeal.main_arg6) = m ((c.tc : Thread Cert.SguBwdIdeal.nD Cert.SguBwdIdeal.τ).loc Cert.SguBwdIdeal.main_arg6)
      ∧ m' ((c.tc : Thread Cert.SguBwdRefIdeal.nD Cert.SguBwdRefIdeal.τ).loc Cert.SguBwdRefIdeal.main_arg7) = m ((c.tc : Thread Cert.SguBwdIdeal.nD Cert.SguBwdIdeal.τ).loc Cert.SguBwdIdeal.main_arg7)) →
    ∃ (v0 : (c : Dev Cert.SguBwdIdeal.nD) → Buf (Elt Ideal) ((c.tc : Thread Cert.SguBwdIdeal.nD Cert.SguBwdIdeal.τ).loc Cert.SguBwdIdeal.main_v17_0)) (v1 : (c : Dev Cert.SguBwdIdeal.nD) → Buf (Elt Ideal) ((c.tc : Thread Cert.SguBwdIdeal.nD Cert.SguBwdIdeal.τ).loc Cert.SguBwdIdeal.main_v17_1)) (v2 : (c : Dev Cert.SguBwdIdeal.nD) → Buf (Elt Ideal) ((c.tc : Thread Cert.SguBwdIdeal.nD Cert.SguBwdIdeal.τ).loc Cert.SguBwdIdeal.main_v17_2)) (v3 : (c : Dev Cert.SguBwdIdeal.nD) → Buf (Elt Ideal) ((c.tc : Thread Cert.SguBwdIdeal.nD Cert.SguBwdIdeal.τ).loc Cert.SguBwdIdeal.main_v17_3)) (v4 : (c : Dev Cert.SguBwdIdeal.nD) → Buf (Elt Ideal) ((c.tc : Thread Cert.SguBwdIdeal.nD Cert.SguBwdIdeal.τ).loc Cert.SguBwdIdeal.main_v17_4)) (v5 : (c : Dev Cert.SguBwdIdeal.nD) → Buf (Elt Ideal) ((c.tc : Thread Cert.SguBwdIdeal.nD Cert.SguBwdIdeal.τ).loc Cert.SguBwdIdeal.main_v17_5)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v17_0) = v0 c
          ∧ r.2.mem ((c.tc : Thread Cert.SguBwdIdeal.nD Cert.SguBwdIdeal.τ).loc Cert.SguBwdIdeal.main_v17_1) = v1 c
          ∧ r.2.mem ((c.tc : Thread Cert.SguBwdIdeal.nD Cert.SguBwdIdeal.τ).loc Cert.SguBwdIdeal.main_v17_2) = v2 c
          ∧ r.2.mem ((c.tc : Thread Cert.SguBwdIdeal.nD Cert.SguBwdIdeal.τ).loc Cert.SguBwdIdeal.main_v17_3) = v3 c
          ∧ r.2.mem ((c.tc : Thread Cert.SguBwdIdeal.nD Cert.SguBwdIdeal.τ).loc Cert.SguBwdIdeal.main_v17_4) = v4 c
          ∧ r.2.mem ((c.tc : Thread Cert.SguBwdIdeal.nD Cert.SguBwdIdeal.τ).loc Cert.SguBwdIdeal.main_v17_5) = v5 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
          ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v182) = v0 c
          ∧ r.2.mem ((c.tc : Thread Cert.SguBwdRefIdeal.nD Cert.SguBwdRefIdeal.τ).loc Cert.SguBwdRefIdeal.main_v122) = v1 c
          ∧ r.2.mem ((c.tc : Thread Cert.SguBwdRefIdeal.nD Cert.SguBwdRefIdeal.τ).loc Cert.SguBwdRefIdeal.main_v179) = v2 c
          ∧ r.2.mem ((c.tc : Thread Cert.SguBwdRefIdeal.nD Cert.SguBwdRefIdeal.τ).loc Cert.SguBwdRefIdeal.main_v176) = v3 c
          ∧ r.2.mem ((c.tc : Thread Cert.SguBwdRefIdeal.nD Cert.SguBwdRefIdeal.τ).loc Cert.SguBwdRefIdeal.main_v175) = v4 c
          ∧ r.2.mem ((c.tc : Thread Cert.SguBwdRefIdeal.nD Cert.SguBwdRefIdeal.τ).loc Cert.SguBwdRefIdeal.main_v111) = v5 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5)
          ∧ r.2.mem ((c.tc : Thread Cert.SguBwdRefIdeal.nD Cert.SguBwdRefIdeal.τ).loc Cert.SguBwdRefIdeal.main_arg6) = m' ((c.tc : Thread Cert.SguBwdRefIdeal.nD Cert.SguBwdRefIdeal.τ).loc Cert.SguBwdRefIdeal.main_arg6)
          ∧ r.2.mem ((c.tc : Thread Cert.SguBwdRefIdeal.nD Cert.SguBwdRefIdeal.τ).loc Cert.SguBwdRefIdeal.main_arg7) = m' ((c.tc : Thread Cert.SguBwdRefIdeal.nD Cert.SguBwdRefIdeal.τ).loc Cert.SguBwdRefIdeal.main_arg7))

def preserves_InProjA_InProjAIdeal : Prop :=
  True

def algebraic_InProjAIdeal_InProjARefIdeal_on_first_half [hInProjAIdeal : Cert.InProjAIdeal.Facts] [hInProjARefIdeal : Cert.InProjARefIdeal.Facts] [hOn_first_half : Cert.On_first_half.Facts] : Prop :=
  ∀ (m : (ℓ : Loc Cert.InProjAIdeal.nD Cert.InProjAIdeal.τ Cert.InProjAIdeal.sig) → Buf (Elt Ideal) ℓ) (g : Dev Cert.InProjAIdeal.nD → PrngReg)
    (m' : (ℓ : Loc Cert.InProjARefIdeal.nD Cert.InProjARefIdeal.τ Cert.InProjARefIdeal.sig) → Buf (Elt Ideal) ℓ) (g' : Dev Cert.InProjARefIdeal.nD → PrngReg), Pre_InProjAIdeal m →
    (∀ c : Dev Cert.InProjAIdeal.nD,
      m' ((c.tc : Thread Cert.InProjARefIdeal.nD Cert.InProjARefIdeal.τ).loc Cert.InProjARefIdeal.main_arg0) = m ((c.tc : Thread Cert.InProjAIdeal.nD Cert.InProjAIdeal.τ).loc Cert.InProjAIdeal.main_arg0)
      ∧ m' ((c.tc : Thread Cert.InProjARefIdeal.nD Cert.InProjARefIdeal.τ).loc Cert.InProjARefIdeal.main_arg1) = m ((c.tc : Thread Cert.InProjAIdeal.nD Cert.InProjAIdeal.τ).loc Cert.InProjAIdeal.main_arg1)
      ∧ m' ((c.tc : Thread Cert.InProjARefIdeal.nD Cert.InProjARefIdeal.τ).loc Cert.InProjARefIdeal.main_arg2) = m ((c.tc : Thread Cert.InProjAIdeal.nD Cert.InProjAIdeal.τ).loc Cert.InProjAIdeal.main_arg2)
      ∧ m' ((c.tc : Thread Cert.InProjARefIdeal.nD Cert.InProjARefIdeal.τ).loc Cert.InProjARefIdeal.main_arg3) = m ((c.tc : Thread Cert.InProjAIdeal.nD Cert.InProjAIdeal.τ).loc Cert.InProjAIdeal.main_arg3)
      ∧ m' ((c.tc : Thread Cert.InProjARefIdeal.nD Cert.InProjARefIdeal.τ).loc Cert.InProjARefIdeal.main_arg4) = m ((c.tc : Thread Cert.InProjAIdeal.nD Cert.InProjAIdeal.τ).loc Cert.InProjAIdeal.main_arg4)) →
    ∃ (v0 : (c : Dev Cert.InProjAIdeal.nD) → Buf (Elt Ideal) ((c.tc : Thread Cert.InProjAIdeal.nD Cert.InProjAIdeal.τ).loc Cert.InProjAIdeal.main_v8_0)) (v1 : (c : Dev Cert.InProjAIdeal.nD) → Buf (Elt Ideal) ((c.tc : Thread Cert.InProjAIdeal.nD Cert.InProjAIdeal.τ).loc Cert.InProjAIdeal.main_v8_1)),
      θ_run (Cert.InProjAIdeal.defs (F := Ideal)) (onTc (τ := Cert.InProjAIdeal.τ) (Cert.InProjAIdeal.main (F := Ideal))) ⟨m, fun _ => 0, g⟩ (fun r => ∀ c : Dev Cert.InProjAIdeal.nD,
          (∀ i : (⟨2, ![8192, 2048]⟩ : Shape).Idx, (Cert.On_first_half.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2)) (m ((c.tc : Thread Cert.InProjAIdeal.nD Cert.InProjAIdeal.τ).loc Cert.InProjAIdeal.main_arg3)) (m ((c.tc : Thread Cert.InProjAIdeal.nD Cert.InProjAIdeal.τ).loc Cert.InProjAIdeal.main_arg4))).1 i = 1#1 → r.2.mem ((c.tc : Thread Cert.InProjAIdeal.nD Cert.InProjAIdeal.τ).loc Cert.InProjAIdeal.main_v8_0) i = v0 c i)
          ∧ (∀ i : (⟨2, ![1, 2048]⟩ : Shape).Idx, (Cert.On_first_half.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2)) (m ((c.tc : Thread Cert.InProjAIdeal.nD Cert.InProjAIdeal.τ).loc Cert.InProjAIdeal.main_arg3)) (m ((c.tc : Thread Cert.InProjAIdeal.nD Cert.InProjAIdeal.τ).loc Cert.InProjAIdeal.main_arg4))).2 i = 1#1 → r.2.mem ((c.tc : Thread Cert.InProjAIdeal.nD Cert.InProjAIdeal.τ).loc Cert.InProjAIdeal.main_v8_1) i = v1 c i)
          ∧ r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
          ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
          ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2)
          ∧ r.2.mem ((c.tc : Thread Cert.InProjAIdeal.nD Cert.InProjAIdeal.τ).loc Cert.InProjAIdeal.main_arg3) = m ((c.tc : Thread Cert.InProjAIdeal.nD Cert.InProjAIdeal.τ).loc Cert.InProjAIdeal.main_arg3)
          ∧ r.2.mem ((c.tc : Thread Cert.InProjAIdeal.nD Cert.InProjAIdeal.τ).loc Cert.InProjAIdeal.main_arg4) = m ((c.tc : Thread Cert.InProjAIdeal.nD Cert.InProjAIdeal.τ).loc Cert.InProjAIdeal.main_arg4))
      ∧ θ_run (Cert.InProjARefIdeal.defs (F := Ideal)) (onTc (τ := Cert.InProjARefIdeal.τ) (Cert.InProjARefIdeal.main (F := Ideal))) ⟨m', fun _ => 0, g'⟩ (fun r => ∀ c : Dev Cert.InProjARefIdeal.nD,
          (∀ i : (⟨2, ![8192, 2048]⟩ : Shape).Idx, (Cert.On_first_half.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2)) (m ((c.tc : Thread Cert.InProjAIdeal.nD Cert.InProjAIdeal.τ).loc Cert.InProjAIdeal.main_arg3)) (m ((c.tc : Thread Cert.InProjAIdeal.nD Cert.InProjAIdeal.τ).loc Cert.InProjAIdeal.main_arg4))).1 i = 1#1 → r.2.mem ((c.tc : Thread Cert.InProjARefIdeal.nD Cert.InProjARefIdeal.τ).loc Cert.InProjARefIdeal.main_v49) i = v0 c i)
          ∧ (∀ i : (⟨2, ![1, 2048]⟩ : Shape).Idx, (Cert.On_first_half.fn (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2)) (m ((c.tc : Thread Cert.InProjAIdeal.nD Cert.InProjAIdeal.τ).loc Cert.InProjAIdeal.main_arg3)) (m ((c.tc : Thread Cert.InProjAIdeal.nD Cert.InProjAIdeal.τ).loc Cert.InProjAIdeal.main_arg4))).2 i = 1#1 → r.2.mem ((c.tc : Thread Cert.InProjARefIdeal.nD Cert.InProjARefIdeal.τ).loc Cert.InProjARefIdeal.main_v45) i = v1 c i)
          ∧ r.2.mem ((c.tc : Thread Cert.InProjARefIdeal.nD Cert.InProjARefIdeal.τ).loc Cert.InProjARefIdeal.main_arg0) = m' ((c.tc : Thread Cert.InProjARefIdeal.nD Cert.InProjARefIdeal.τ).loc Cert.InProjARefIdeal.main_arg0)
          ∧ r.2.mem ((c.tc : Thread Cert.InProjARefIdeal.nD Cert.InProjARefIdeal.τ).loc Cert.InProjARefIdeal.main_arg1) = m' ((c.tc : Thread Cert.InProjARefIdeal.nD Cert.InProjARefIdeal.τ).loc Cert.InProjARefIdeal.main_arg1)
          ∧ r.2.mem ((c.tc : Thread Cert.InProjARefIdeal.nD Cert.InProjARefIdeal.τ).loc Cert.InProjARefIdeal.main_arg2) = m' ((c.tc : Thread Cert.InProjARefIdeal.nD Cert.InProjARefIdeal.τ).loc Cert.InProjARefIdeal.main_arg2)
          ∧ r.2.mem ((c.tc : Thread Cert.InProjARefIdeal.nD Cert.InProjARefIdeal.τ).loc Cert.InProjARefIdeal.main_arg3) = m' ((c.tc : Thread Cert.InProjARefIdeal.nD Cert.InProjARefIdeal.τ).loc Cert.InProjARefIdeal.main_arg3)
          ∧ r.2.mem ((c.tc : Thread Cert.InProjARefIdeal.nD Cert.InProjARefIdeal.τ).loc Cert.InProjARefIdeal.main_arg4) = m' ((c.tc : Thread Cert.InProjARefIdeal.nD Cert.InProjARefIdeal.τ).loc Cert.InProjARefIdeal.main_arg4))

def preserves_InProjB_InProjBIdeal : Prop :=
  True

def algebraic_InProjBIdeal_InProjBRefIdeal [hInProjBIdeal : Cert.InProjBIdeal.Facts] [hInProjBRefIdeal : Cert.InProjBRefIdeal.Facts] : Prop :=
  ∀ (m : (ℓ : Loc Cert.InProjBIdeal.nD Cert.InProjBIdeal.τ Cert.InProjBIdeal.sig) → Buf (Elt Ideal) ℓ) (g : Dev Cert.InProjBIdeal.nD → PrngReg)
    (m' : (ℓ : Loc Cert.InProjBRefIdeal.nD Cert.InProjBRefIdeal.τ Cert.InProjBRefIdeal.sig) → Buf (Elt Ideal) ℓ) (g' : Dev Cert.InProjBRefIdeal.nD → PrngReg), Pre_InProjBIdeal m →
    (∀ c : Dev Cert.InProjBIdeal.nD,
      m' ((c.tc : Thread Cert.InProjBRefIdeal.nD Cert.InProjBRefIdeal.τ).loc Cert.InProjBRefIdeal.main_arg0) = m ((c.tc : Thread Cert.InProjBIdeal.nD Cert.InProjBIdeal.τ).loc Cert.InProjBIdeal.main_arg0)
      ∧ m' ((c.tc : Thread Cert.InProjBRefIdeal.nD Cert.InProjBRefIdeal.τ).loc Cert.InProjBRefIdeal.main_arg1) = m ((c.tc : Thread Cert.InProjBIdeal.nD Cert.InProjBIdeal.τ).loc Cert.InProjBIdeal.main_arg1)
      ∧ m' ((c.tc : Thread Cert.InProjBRefIdeal.nD Cert.InProjBRefIdeal.τ).loc Cert.InProjBRefIdeal.main_arg2) = m ((c.tc : Thread Cert.InProjBIdeal.nD Cert.InProjBIdeal.τ).loc Cert.InProjBIdeal.main_arg2)
      ∧ m' ((c.tc : Thread Cert.InProjBRefIdeal.nD Cert.InProjBRefIdeal.τ).loc Cert.InProjBRefIdeal.main_arg3) = m ((c.tc : Thread Cert.InProjBIdeal.nD Cert.InProjBIdeal.τ).loc Cert.InProjBIdeal.main_arg3)
      ∧ m' ((c.tc : Thread Cert.InProjBRefIdeal.nD Cert.InProjBRefIdeal.τ).loc Cert.InProjBRefIdeal.main_arg4) = m ((c.tc : Thread Cert.InProjBIdeal.nD Cert.InProjBIdeal.τ).loc Cert.InProjBIdeal.main_arg4)
      ∧ m' ((c.tc : Thread Cert.InProjBRefIdeal.nD Cert.InProjBRefIdeal.τ).loc Cert.InProjBRefIdeal.main_arg5) = m ((c.tc : Thread Cert.InProjBIdeal.nD Cert.InProjBIdeal.τ).loc Cert.InProjBIdeal.main_arg5)) →
    ∃ (v0 : (c : Dev Cert.InProjBIdeal.nD) → Buf (Elt Ideal) ((c.tc : Thread Cert.InProjBIdeal.nD Cert.InProjBIdeal.τ).loc Cert.InProjBIdeal.main_v9_0)) (v1 : (c : Dev Cert.InProjBIdeal.nD) → Buf (Elt Ideal) ((c.tc : Thread Cert.InProjBIdeal.nD Cert.InProjBIdeal.τ).loc Cert.InProjBIdeal.main_v9_1)),
      θ_run (Cert.InProjBIdeal.defs (F := Ideal)) (onTc (τ := Cert.InProjBIdeal.τ) (Cert.InProjBIdeal.main (F := Ideal))) ⟨m, fun _ => 0, g⟩ (fun r => ∀ c : Dev Cert.InProjBIdeal.nD,
          r.2.mem ((c.tc : Thread Cert.InProjBIdeal.nD Cert.InProjBIdeal.τ).loc Cert.InProjBIdeal.main_v9_0) = v0 c
          ∧ r.2.mem ((c.tc : Thread Cert.InProjBIdeal.nD Cert.InProjBIdeal.τ).loc Cert.InProjBIdeal.main_v9_1) = v1 c
          ∧ r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
          ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1)
          ∧ r.2.mem ((c.tc : Thread Cert.InProjBIdeal.nD Cert.InProjBIdeal.τ).loc Cert.InProjBIdeal.main_arg2) = m ((c.tc : Thread Cert.InProjBIdeal.nD Cert.InProjBIdeal.τ).loc Cert.InProjBIdeal.main_arg2)
          ∧ r.2.mem ((c.tc : Thread Cert.InProjBIdeal.nD Cert.InProjBIdeal.τ).loc Cert.InProjBIdeal.main_arg3) = m ((c.tc : Thread Cert.InProjBIdeal.nD Cert.InProjBIdeal.τ).loc Cert.InProjBIdeal.main_arg3)
          ∧ r.2.mem ((c.tc : Thread Cert.InProjBIdeal.nD Cert.InProjBIdeal.τ).loc Cert.InProjBIdeal.main_arg4) = m ((c.tc : Thread Cert.InProjBIdeal.nD Cert.InProjBIdeal.τ).loc Cert.InProjBIdeal.main_arg4)
          ∧ r.2.mem ((c.tc : Thread Cert.InProjBIdeal.nD Cert.InProjBIdeal.τ).loc Cert.InProjBIdeal.main_arg5) = m ((c.tc : Thread Cert.InProjBIdeal.nD Cert.InProjBIdeal.τ).loc Cert.InProjBIdeal.main_arg5))
      ∧ θ_run (Cert.InProjBRefIdeal.defs (F := Ideal)) (onTc (τ := Cert.InProjBRefIdeal.τ) (Cert.InProjBRefIdeal.main (F := Ideal))) ⟨m', fun _ => 0, g'⟩ (fun r => ∀ c : Dev Cert.InProjBRefIdeal.nD,
          r.2.mem ((c.tc : Thread Cert.InProjBRefIdeal.nD Cert.InProjBRefIdeal.τ).loc Cert.InProjBRefIdeal.main_v49) = v0 c
          ∧ r.2.mem ((c.tc : Thread Cert.InProjBRefIdeal.nD Cert.InProjBRefIdeal.τ).loc Cert.InProjBRefIdeal.main_v45) = v1 c
          ∧ r.2.mem ((c.tc : Thread Cert.InProjBRefIdeal.nD Cert.InProjBRefIdeal.τ).loc Cert.InProjBRefIdeal.main_arg0) = m' ((c.tc : Thread Cert.InProjBRefIdeal.nD Cert.InProjBRefIdeal.τ).loc Cert.InProjBRefIdeal.main_arg0)
          ∧ r.2.mem ((c.tc : Thread Cert.InProjBRefIdeal.nD Cert.InProjBRefIdeal.τ).loc Cert.InProjBRefIdeal.main_arg1) = m' ((c.tc : Thread Cert.InProjBRefIdeal.nD Cert.InProjBRefIdeal.τ).loc Cert.InProjBRefIdeal.main_arg1)
          ∧ r.2.mem ((c.tc : Thread Cert.InProjBRefIdeal.nD Cert.InProjBRefIdeal.τ).loc Cert.InProjBRefIdeal.main_arg2) = m' ((c.tc : Thread Cert.InProjBRefIdeal.nD Cert.InProjBRefIdeal.τ).loc Cert.InProjBRefIdeal.main_arg2)
          ∧ r.2.mem ((c.tc : Thread Cert.InProjBRefIdeal.nD Cert.InProjBRefIdeal.τ).loc Cert.InProjBRefIdeal.main_arg3) = m' ((c.tc : Thread Cert.InProjBRefIdeal.nD Cert.InProjBRefIdeal.τ).loc Cert.InProjBRefIdeal.main_arg3)
          ∧ r.2.mem ((c.tc : Thread Cert.InProjBRefIdeal.nD Cert.InProjBRefIdeal.τ).loc Cert.InProjBRefIdeal.main_arg4) = m' ((c.tc : Thread Cert.InProjBRefIdeal.nD Cert.InProjBRefIdeal.τ).loc Cert.InProjBRefIdeal.main_arg4)
          ∧ r.2.mem ((c.tc : Thread Cert.InProjBRefIdeal.nD Cert.InProjBRefIdeal.τ).loc Cert.InProjBRefIdeal.main_arg5) = m' ((c.tc : Thread Cert.InProjBRefIdeal.nD Cert.InProjBRefIdeal.τ).loc Cert.InProjBRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v19) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_v18) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_SguFwd_SguFwdIdeal : Prop :=
  IdealRules.named_const.Statement Cert.SguFwdIdeal.κ "gelu_kc" .f32 0x3D122279#32 ((80338380498831 / 2251799813685248 : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)
      ∧ m' ((c.tc : Thread Cert.SguFwdRefIdeal.nD Cert.SguFwdRefIdeal.τ).loc Cert.SguFwdRefIdeal.main_arg6) = m ((c.tc : Thread Cert.SguFwdIdeal.nD Cert.SguFwdIdeal.τ).loc Cert.SguFwdIdeal.main_arg6)) →
    ∃ (v0 : (c : Dev Cert.SguFwdIdeal.nD) → Buf (Elt Ideal) ((c.tc : Thread Cert.SguFwdIdeal.nD Cert.SguFwdIdeal.τ).loc Cert.SguFwdIdeal.main_v12)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v12) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
          ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v76) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5)
          ∧ r.2.mem ((c.tc : Thread Cert.SguFwdRefIdeal.nD Cert.SguFwdRefIdeal.τ).loc Cert.SguFwdRefIdeal.main_arg6) = m' ((c.tc : Thread Cert.SguFwdRefIdeal.nD Cert.SguFwdRefIdeal.τ).loc Cert.SguFwdRefIdeal.main_arg6))

def preserves_GluFwd_GluFwdIdeal : Prop :=
  IdealRules.named_const.Statement Cert.GluFwdIdeal.κ "gelu_kc" .f32 0x3D122279#32 ((80338380498831 / 2251799813685248 : ℝ) : EReal)

def algebraic_GluFwdIdeal_GluFwdRefIdeal_on_first_columns [hGluFwdIdeal : Cert.GluFwdIdeal.Facts] [hGluFwdRefIdeal : Cert.GluFwdRefIdeal.Facts] [hOn_first_columns : Cert.On_first_columns.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)) →
    ∃ (v0 : (c : Dev Cert.GluFwdIdeal.nD) → Buf (Elt Ideal) ((c.tc : Thread Cert.GluFwdIdeal.nD Cert.GluFwdIdeal.τ).loc Cert.GluFwdIdeal.main_v3)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          (∀ i : (⟨2, ![8192, 2048]⟩ : Shape).Idx, (Cert.On_first_columns.fn (F := Ideal) (m ((c.tc : Thread Cert.GluFwdIdeal.nD Cert.GluFwdIdeal.τ).loc Cert.GluFwdIdeal.main_arg0)) (m ((c.tc : Thread Cert.GluFwdIdeal.nD Cert.GluFwdIdeal.τ).loc Cert.GluFwdIdeal.main_arg1)) (m ((c.tc : Thread Cert.GluFwdIdeal.nD Cert.GluFwdIdeal.τ).loc Cert.GluFwdIdeal.main_arg2)) (m ((c.tc : Thread Cert.GluFwdIdeal.nD Cert.GluFwdIdeal.τ).loc Cert.GluFwdIdeal.main_arg3))) i = 1#1 → r.2.mem ((c.tc : Thread Cert.GluFwdIdeal.nD Cert.GluFwdIdeal.τ).loc Cert.GluFwdIdeal.main_v3) i = v0 c i)
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          (∀ i : (⟨2, ![8192, 2048]⟩ : Shape).Idx, (Cert.On_first_columns.fn (F := Ideal) (m ((c.tc : Thread Cert.GluFwdIdeal.nD Cert.GluFwdIdeal.τ).loc Cert.GluFwdIdeal.main_arg0)) (m ((c.tc : Thread Cert.GluFwdIdeal.nD Cert.GluFwdIdeal.τ).loc Cert.GluFwdIdeal.main_arg1)) (m ((c.tc : Thread Cert.GluFwdIdeal.nD Cert.GluFwdIdeal.τ).loc Cert.GluFwdIdeal.main_arg2)) (m ((c.tc : Thread Cert.GluFwdIdeal.nD Cert.GluFwdIdeal.τ).loc Cert.GluFwdIdeal.main_arg3))) i = 1#1 → r.2.mem ((c.tc : Thread Cert.GluFwdRefIdeal.nD Cert.GluFwdRefIdeal.τ).loc Cert.GluFwdRefIdeal.main_v43) i = v0 c i)
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v6)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v6) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v3) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v4)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v4) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v7) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)) (v3 : (c : Dev Cert.AdamwIdeal.nD) → Buf (Elt Ideal) ((c.tc : Thread Cert.AdamwIdeal.nD Cert.AdamwIdeal.τ).loc Cert.AdamwIdeal.main_v4_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_v4_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v24) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v26) = v2 c
          ∧ r.2.mem ((c.tc : Thread Cert.AdamwRefIdeal.nD Cert.AdamwRefIdeal.τ).loc Cert.AdamwRefIdeal.main_v27) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SsmState_SsmStateIdeal : Prop :=
  True

def preserves_SsmFwd_SsmFwdIdeal : Prop :=
  True

def preserves_SsmMain_SsmMainIdeal : Prop :=
  True

def Claim : Prop :=
  ∃ (hMlpBwd : Cert.MlpBwd.Facts) (hMlpBwdIdeal : Cert.MlpBwdIdeal.Facts) (hMlpBwdRefIdeal : Cert.MlpBwdRefIdeal.Facts) (hNormOut : Cert.NormOut.Facts) (hNormOutIdeal : Cert.NormOutIdeal.Facts) (hNormOutRefIdeal : Cert.NormOutRefIdeal.Facts) (hGluBwd : Cert.GluBwd.Facts) (hGluBwdIdeal : Cert.GluBwdIdeal.Facts) (hGluBwdRefIdeal : Cert.GluBwdRefIdeal.Facts) (hLoss : Cert.Loss.Facts) (hLossIdeal : Cert.LossIdeal.Facts) (hLossRefIdeal : Cert.LossRefIdeal.Facts) (hSguBwd : Cert.SguBwd.Facts) (hSguBwdIdeal : Cert.SguBwdIdeal.Facts) (hSguBwdRefIdeal : Cert.SguBwdRefIdeal.Facts) (hInProjA : Cert.InProjA.Facts) (hInProjAIdeal : Cert.InProjAIdeal.Facts) (hInProjARefIdeal : Cert.InProjARefIdeal.Facts) (hInProjB : Cert.InProjB.Facts) (hInProjBIdeal : Cert.InProjBIdeal.Facts) (hInProjBRefIdeal : Cert.InProjBRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hSguFwd : Cert.SguFwd.Facts) (hSguFwdIdeal : Cert.SguFwdIdeal.Facts) (hSguFwdRefIdeal : Cert.SguFwdRefIdeal.Facts) (hGluFwd : Cert.GluFwd.Facts) (hGluFwdIdeal : Cert.GluFwdIdeal.Facts) (hGluFwdRefIdeal : Cert.GluFwdRefIdeal.Facts) (hMlpUp : Cert.MlpUp.Facts) (hMlpUpIdeal : Cert.MlpUpIdeal.Facts) (hMlpUpRefIdeal : Cert.MlpUpRefIdeal.Facts) (hGradW : Cert.GradW.Facts) (hGradWIdeal : Cert.GradWIdeal.Facts) (hGradWRefIdeal : Cert.GradWRefIdeal.Facts) (hAdamw : Cert.Adamw.Facts) (hAdamwIdeal : Cert.AdamwIdeal.Facts) (hAdamwRefIdeal : Cert.AdamwRefIdeal.Facts) (hSsmState : Cert.SsmState.Facts) (hSsmStateIdeal : Cert.SsmStateIdeal.Facts) (hSsmFwd : Cert.SsmFwd.Facts) (hSsmFwdIdeal : Cert.SsmFwdIdeal.Facts) (hSsmMain : Cert.SsmMain.Facts) (hSsmMainIdeal : Cert.SsmMainIdeal.Facts) (hPre_glu_bwd_finite : Cert.Pre_glu_bwd_finite.Facts) (hPre_sgu_bwd_finite : Cert.Pre_sgu_bwd_finite.Facts) (hOn_first_half : Cert.On_first_half.Facts) (hOn_first_columns : Cert.On_first_columns.Facts),
    quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_NormOut (hNormOut := hNormOut)
    ∧ quiescent_NormOutIdeal (hNormOutIdeal := hNormOutIdeal)
    ∧ quiescent_NormOutRefIdeal (hNormOutRefIdeal := hNormOutRefIdeal)
    ∧ quiescent_GluBwd (hGluBwd := hGluBwd)
    ∧ quiescent_GluBwdIdeal (hGluBwdIdeal := hGluBwdIdeal)
    ∧ quiescent_GluBwdIdeal_pre_glu_bwd_finite (hGluBwdIdeal := hGluBwdIdeal) (hPre_glu_bwd_finite := hPre_glu_bwd_finite)
    ∧ quiescent_GluBwdRefIdeal (hGluBwdRefIdeal := hGluBwdRefIdeal)
    ∧ quiescent_GluBwdRefIdeal_pre_glu_bwd_finite (hGluBwdRefIdeal := hGluBwdRefIdeal) (hPre_glu_bwd_finite := hPre_glu_bwd_finite)
    ∧ quiescent_Loss (hLoss := hLoss)
    ∧ quiescent_LossIdeal (hLossIdeal := hLossIdeal)
    ∧ quiescent_LossRefIdeal (hLossRefIdeal := hLossRefIdeal)
    ∧ quiescent_SguBwd (hSguBwd := hSguBwd)
    ∧ quiescent_SguBwdIdeal (hSguBwdIdeal := hSguBwdIdeal)
    ∧ quiescent_SguBwdIdeal_pre_sgu_bwd_finite (hSguBwdIdeal := hSguBwdIdeal) (hPre_sgu_bwd_finite := hPre_sgu_bwd_finite)
    ∧ quiescent_SguBwdRefIdeal (hSguBwdRefIdeal := hSguBwdRefIdeal)
    ∧ quiescent_SguBwdRefIdeal_pre_sgu_bwd_finite (hSguBwdRefIdeal := hSguBwdRefIdeal) (hPre_sgu_bwd_finite := hPre_sgu_bwd_finite)
    ∧ quiescent_InProjA (hInProjA := hInProjA)
    ∧ quiescent_InProjAIdeal (hInProjAIdeal := hInProjAIdeal)
    ∧ quiescent_InProjARefIdeal (hInProjARefIdeal := hInProjARefIdeal)
    ∧ quiescent_InProjB (hInProjB := hInProjB)
    ∧ quiescent_InProjBIdeal (hInProjBIdeal := hInProjBIdeal)
    ∧ quiescent_InProjBRefIdeal (hInProjBRefIdeal := hInProjBRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_GradW (hGradW := hGradW)
    ∧ quiescent_GradWIdeal (hGradWIdeal := hGradWIdeal)
    ∧ quiescent_GradWRefIdeal (hGradWRefIdeal := hGradWRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SsmState (hSsmState := hSsmState)
    ∧ quiescent_SsmStateIdeal (hSsmStateIdeal := hSsmStateIdeal)
    ∧ quiescent_SsmFwd (hSsmFwd := hSsmFwd)
    ∧ quiescent_SsmFwdIdeal (hSsmFwdIdeal := hSsmFwdIdeal)
    ∧ quiescent_SsmMain (hSsmMain := hSsmMain)
    ∧ quiescent_SsmMainIdeal (hSsmMainIdeal := hSsmMainIdeal)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_NormOut_NormOutIdeal
    ∧ algebraic_NormOutIdeal_NormOutRefIdeal (hNormOutIdeal := hNormOutIdeal) (hNormOutRefIdeal := hNormOutRefIdeal)
    ∧ preserves_GluBwd_GluBwdIdeal
    ∧ algebraic_GluBwdIdeal_GluBwdRefIdeal_pre_glu_bwd_finite (hGluBwdIdeal := hGluBwdIdeal) (hGluBwdRefIdeal := hGluBwdRefIdeal) (hPre_glu_bwd_finite := hPre_glu_bwd_finite)
    ∧ preserves_Loss_LossIdeal
    ∧ algebraic_LossIdeal_LossRefIdeal (hLossIdeal := hLossIdeal) (hLossRefIdeal := hLossRefIdeal)
    ∧ preserves_SguBwd_SguBwdIdeal
    ∧ algebraic_SguBwdIdeal_SguBwdRefIdeal_pre_sgu_bwd_finite (hSguBwdIdeal := hSguBwdIdeal) (hSguBwdRefIdeal := hSguBwdRefIdeal) (hPre_sgu_bwd_finite := hPre_sgu_bwd_finite)
    ∧ preserves_InProjA_InProjAIdeal
    ∧ algebraic_InProjAIdeal_InProjARefIdeal_on_first_half (hInProjAIdeal := hInProjAIdeal) (hInProjARefIdeal := hInProjARefIdeal) (hOn_first_half := hOn_first_half)
    ∧ preserves_InProjB_InProjBIdeal
    ∧ algebraic_InProjBIdeal_InProjBRefIdeal (hInProjBIdeal := hInProjBIdeal) (hInProjBRefIdeal := hInProjBRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_SguFwd_SguFwdIdeal
    ∧ algebraic_SguFwdIdeal_SguFwdRefIdeal (hSguFwdIdeal := hSguFwdIdeal) (hSguFwdRefIdeal := hSguFwdRefIdeal)
    ∧ preserves_GluFwd_GluFwdIdeal
    ∧ algebraic_GluFwdIdeal_GluFwdRefIdeal_on_first_columns (hGluFwdIdeal := hGluFwdIdeal) (hGluFwdRefIdeal := hGluFwdRefIdeal) (hOn_first_columns := hOn_first_columns)
    ∧ preserves_MlpUp_MlpUpIdeal
    ∧ algebraic_MlpUpIdeal_MlpUpRefIdeal (hMlpUpIdeal := hMlpUpIdeal) (hMlpUpRefIdeal := hMlpUpRefIdeal)
    ∧ preserves_GradW_GradWIdeal
    ∧ algebraic_GradWIdeal_GradWRefIdeal (hGradWIdeal := hGradWIdeal) (hGradWRefIdeal := hGradWRefIdeal)
    ∧ preserves_Adamw_AdamwIdeal
    ∧ algebraic_AdamwIdeal_AdamwRefIdeal (hAdamwIdeal := hAdamwIdeal) (hAdamwRefIdeal := hAdamwRefIdeal)
    ∧ preserves_SsmState_SsmStateIdeal
    ∧ preserves_SsmFwd_SsmFwdIdeal
    ∧ preserves_SsmMain_SsmMainIdeal
-- ==== On_first_columns.lean ====
abbrev S1x8192x1024 : Shape := ⟨3, ![1, 8192, 1024]⟩
abbrev S1x1024x1024 : Shape := ⟨3, ![1, 1024, 1024]⟩
abbrev S1x1024 : Shape := ⟨2, ![1, 1024]⟩
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S1x8192x1024 .f32) (main_arg1 : FVec F S1x1024x1024 .f32) (main_arg2 : FVec F S1x1024 .f32) (main_arg3 : FVec F S1x1024 .f32) : IVec S8192x2048 1 :=
  let main_v0 : IVec S8192x2048 32 := iotaInDim S8192x2048 32 1
  let main_c : IVec S_ 32 := constantI S_ 32 1024#32
  let main_v1 : IVec S8192x2048 32 := broadcastInDim S8192x2048 ![] bcast_S_S8192x2048 main_c
  let main_v2 : IVec S8192x2048 1 := cmpi .slt main_v0 main_v1
  main_v2
-- ==== On_first_half.lean ====
abbrev S1x8192x3072 : Shape := ⟨3, ![1, 8192, 3072]⟩
abbrev S1x2048x3072 : Shape := ⟨3, ![1, 2048, 3072]⟩
abbrev S1x8192x2048 : Shape := ⟨3, ![1, 8192, 2048]⟩
abbrev S1x2048 : Shape := ⟨2, ![1, 2048]⟩
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S1x8192x3072 .f32) (main_arg1 : FVec F S1x2048x3072 .f32) (main_arg2 : FVec F S1x8192x2048 .f32) (main_arg3 : FVec F S1x8192x2048 .f32) (main_arg4 : FVec F S1x2048 .f32) : IVec S8192x2048 1 × IVec S1x2048 1 :=
  let main_v0 : IVec S8192x2048 32 := iotaInDim S8192x2048 32 0
  let main_c : IVec S_ 32 := constantI S_ 32 4096#32
  let main_v1 : IVec S8192x2048 32 := broadcastInDim S8192x2048 ![] bcast_S_S8192x2048 main_c
  let main_v2 : IVec S8192x2048 1 := cmpi .slt main_v0 main_v1
  let main_c_0 : IVec S_ 1 := constantI S_ 1 1#1
  let main_v3 : IVec S1x2048 1 := broadcastInDim S1x2048 ![] bcast_S_S1x2048 main_c_0
  (main_v2, main_v3)
-- ==== Pre_glu_bwd_finite.lean ====
abbrev S1x8192x1024 : Shape := ⟨3, ![1, 8192, 1024]⟩
abbrev S1x8192x2048 : Shape := ⟨3, ![1, 8192, 2048]⟩
abbrev S1x1024x1024 : Shape := ⟨3, ![1, 1024, 1024]⟩
abbrev S1x1024 : Shape := ⟨2, ![1, 1024]⟩
abbrev S_ : Shape := ⟨0, ![]⟩

class Facts : Prop where
  slices_S1x8192x2048_S1x8192x1024_0_0_0 : S1x8192x2048.Slices ![0, 0, 0] S1x8192x1024
  bcast_S_S1x8192x1024 : S_.BroadcastsInDim S1x8192x1024 (![] : Fin 0 → Fin S1x8192x1024.rank)
  bcast_S_S1x1024 : S_.BroadcastsInDim S1x1024 (![] : Fin 0 → Fin S1x1024.rank)

variable [Facts]

def fn {F : FTy → Type} [FloatOps F] (main_arg0 : FVec F S1x8192x1024 .f32) (main_arg1 : FVec F S1x8192x2048 .f32) (main_arg2 : FVec F S1x1024x1024 .f32) (main_arg3 : FVec F S1x1024 .f32) (main_arg4 : FVec F S1x1024 .f32) : IVec S1x8192x1024 1 × IVec S1x1024 1 :=
  let main_v0 : FVec F S1x8192x1024 .f32 := (extractStridedSlice S1x8192x1024 ![0, 0, 0] · slices_S1x8192x2048_S1x8192x1024_0_0_0) main_arg1
  let main_v1 : FVec F S1x8192x1024 .f32 := Host.absf main_v0
  let main_cst : FVec F S_ .f32 := constant S_ .f32 0x7F800000#32
  let main_v2 : FVec F S1x8192x1024 .f32 := broadcastInDim S1x8192x1024 ![] bcast_S_S1x8192x1024 main_cst
  let main_v3 : IVec S1x8192x1024 1 := cmpf .olt main_v1 main_v2
  let main_v4 : FVec F S1x1024 .f32 := Host.absf main_arg4
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  (main_v3, main_v6)
-- ==== Pre_sgu_bwd_finite.lean ====
abbrev S1x8192x3072 : Shape := ⟨3, ![1, 8192, 3072]⟩
abbrev S1x8192x1024 : Shape := ⟨3, ![1, 8192, 1024]⟩
abbrev S1x8192x2048 : Shape := ⟨3, ![1, 8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  slices_S1x8192x3072_S1x8192x2048_0_0_1024 : S1x8192x3072.Slices ![0, 0, 1024] S1x8192x2048
  slices_S1x8192x2048_S1x8192x1024_0_0_1024 : S1x8192x2048.Slices ![0, 0, 1024] S1x8192x1024
  bcast_S_S1x8192x2048 : S_.BroadcastsInDim S1x8192x2048 (![] : Fin 0 → Fin S1x8192x2048.rank)
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)

variable [Facts]

def fn {F : FTy → Type} [FloatOps F] (main_arg0 : FVec F S1x8192x3072 .f32) (main_arg1 : FVec F S1x8192x1024 .f32) (main_arg2 : FVec F S1x8192x2048 .f32) (main_arg3 : FVec F S1x1024 .f32) (main_arg4 : FVec F S1x1024 .f32) (main_arg5 : FVec F S1x8x128x128 .f32) (main_arg6 : FVec F S1x8x128 .f32) (main_arg7 : FVec F S1x1024 .f32) : IVec S1x8192x2048 1 × IVec S1x8192x1024 1 × IVec S1x1024 1 × IVec S1x8x128x128 1 × IVec S1x1024 1 :=
  let main_v0 : FVec F S1x8192x2048 .f32 := (extractStridedSlice S1x8192x2048 ![0, 0, 1024] · slices_S1x8192x3072_S1x8192x2048_0_0_1024) main_arg0
  let main_v1 : FVec F S1x8192x1024 .f32 := (extractStridedSlice S1x8192x1024 ![0, 0, 1024] · slices_S1x8192x2048_S1x8192x1024_0_0_1024) main_arg2
  let main_v2 : FVec F S1x8192x2048 .f32 := Host.absf main_v0
  let main_cst : FVec F S_ .f32 := constant S_ .f32 0x7F800000#32
  let main_v3 : FVec F S1x8192x2048 .f32 := broadcastInDim S1x8192x2048 ![] bcast_S_S1x8192x2048 main_cst
  let main_v4 : IVec S1x8192x2048 1 := cmpf .olt main_v2 main_v3
  let main_v5 : FVec F S1x8192x1024 .f32 := Host.absf main_v1
  let main_cst_0 : FVec F S_ .f32 := constant S_ .f32 0x7F800000#32
  let main_v6 : FVec F S1x8192x1024 .f32 := broadcastInDim S1x8192x1024 ![] bcast_S_S1x8192x1024 main_cst_0
  let main_v7 : IVec S1x8192x1024 1 := cmpf .olt main_v5 main_v6
  let main_v8 : FVec F S1x1024 .f32 := Host.absf main_arg3
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x8x128x128 .f32 := Host.absf main_arg5
  let main_cst_2 : FVec F S_ .f32 := constant S_ .f32 0x7F800000#32
  let main_v12 : FVec F S1x8x128x128 .f32 := broadcastInDim S1x8x128x128 ![] bcast_S_S1x8x128x128 main_cst_2
  let main_v13 : IVec S1x8x128x128 1 := cmpf .olt main_v11 main_v12
  let main_v14 : FVec F S1x1024 .f32 := Host.absf main_arg7
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v4, main_v7, main_v10, main_v13, main_v16)
-- ==== MlpBwd.lean ====
abbrev S1x8192x2048 : Shape := ⟨3, ![1, 8192, 2048]⟩
abbrev S1x2048x8192 : Shape := ⟨3, ![1, 2048, 8192]⟩
abbrev S2048x8192 : Shape := ⟨2, ![2048, 8192]⟩
abbrev S1x8192x8192 : Shape := ⟨3, ![1, 8192, 8192]⟩
abbrev S8192x8192 : Shape := ⟨2, ![8192, 8192]⟩
abbrev S2048x4x2048 : Shape := ⟨3, ![2048, 4, 2048]⟩
abbrev S4x2048x2048 : Shape := ⟨3, ![4, 2048, 2048]⟩
abbrev S8192x2048 : Shape := ⟨2, ![8192, 2048]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 18
  | .vmem => 12
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x8192, .f32⟩
  | .hbm, ⟨3, _⟩ => ⟨S1x8192x2048, .f32⟩
  | .hbm, ⟨4, _⟩ => ⟨S2048x8192, .f32⟩
  | .hbm, ⟨5, _⟩ => ⟨S1x8192x8192, .f32⟩
  | .hbm, ⟨6, _⟩ => ⟨S8192x8192, .f32⟩
  | .hbm, ⟨7, _⟩ => ⟨S8192x8192, .bf16⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S8192x8192, .bf16⟩
  | .hbm, ⟨17, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2048, .f32⟩
  | .local _ .vmem, ⟨11, _⟩ => ⟨S1024x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpBwdRefIdeal.lean ====
abbrev S1x8192x2048 : Shape := ⟨3, ![1, 8192, 2048]⟩
abbrev S1x2048x8192 : Shape := ⟨3, ![1, 2048, 8192]⟩
abbrev S2048x8192 : Shape := ⟨2, ![2048, 8192]⟩
abbrev S1x8192x8192 : Shape := ⟨3, ![1, 8192, 8192]⟩
abbrev S_ : Shape := ⟨0, ![]⟩
abbrev S8192x2048 : Shape := ⟨2, ![8192, 2048]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x8192, .f32⟩
  | .hbm, ⟨3, _⟩ => ⟨S1x8192x2048, .f32⟩
  | .hbm, ⟨4, _⟩ => ⟨S2048x8192, .f32⟩
  | .hbm, ⟨5, _⟩ => ⟨S1x8192x8192, .f32⟩
  | .hbm, ⟨6, _⟩ => ⟨S_, .f32⟩
  | .hbm, ⟨7, _⟩ => ⟨S1x8192x8192, .f32⟩
  | .hbm, ⟨8, _⟩ => ⟨S1x8192x8192, .f32⟩
  | .hbm, ⟨9, _⟩ => ⟨S_, .f32⟩
  | .hbm, ⟨10, _⟩ => ⟨S1x8192x8192, .f32⟩
  | .hbm, ⟨11, _⟩ => ⟨S1x8192x8192, .i1⟩
  | .hbm, ⟨12, _⟩ => ⟨S_, .f32⟩
  | .hbm, ⟨13, _⟩ => ⟨S1x8192x8192, .f32⟩
  | .hbm, ⟨14, _⟩ => ⟨S1x8192x8192, .f32⟩
  | .hbm, ⟨15, _⟩ => ⟨S_, .f32⟩
  | .hbm, ⟨16, _⟩ => ⟨S1x8192x8192, .f32⟩
  | .hbm, ⟨17, _⟩ => ⟨S1x8192x8192, .f32⟩
  | .hbm, ⟨18, _⟩ => ⟨S8192x2048, .f32⟩
  | .hbm, ⟨19, _⟩ => ⟨S1x8192x2048, .f32⟩
  | .hbm, ⟨20, _⟩ => ⟨S1x8192x8192, .f32⟩
  | .hbm, ⟨21, _⟩ => ⟨S1x8192x8192, .f32⟩
  | .hbm, ⟨22, _⟩ => ⟨S_, .f32⟩
  | .hbm, ⟨23, _⟩ => ⟨S1x8192x8192, .f32⟩
  | .hbm, ⟨24, _⟩ => ⟨S1x8192x8192, .f32⟩
  | .hbm, ⟨25, _⟩ => ⟨S8192x8192, .f32⟩
  | .hbm, ⟨26, _⟩ => ⟨S8192x8192, .bf16⟩
  | .hbm, ⟨27, _⟩ => ⟨S1x8192x2048, .f32⟩
  | .hbm, ⟨28, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== NormOut.lean ====
abbrev S1x8192x2048 : Shape := ⟨3, ![1, 8192, 2048]⟩
abbrev S1x2048 : Shape := ⟨2, ![1, 2048]⟩
abbrev S1x2048x2048 : Shape := ⟨3, ![1, 2048, 2048]⟩
abbrev S2048x2048 : Shape := ⟨2, ![2048, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 18
  | .vmem => 15
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S1x2048x2048, .f32⟩
  | .hbm, ⟨6, _⟩ => ⟨S2048x2048, .f32⟩
  | .hbm, ⟨7, _⟩ => ⟨S1x8192x2048, .f32⟩
  | .hbm, ⟨8, _⟩ => ⟨S1x8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048x2048, .f32⟩
  | .hbm, ⟨13, _⟩ => ⟨S2048x2048, .bf16⟩
  | .hbm, ⟨14, _⟩ => ⟨S8192x2048, .f32⟩
  | .hbm, ⟨15, _⟩ => ⟨S8192x2048, .bf16⟩
  | .hbm, ⟨16, _⟩ => ⟨S1x2048, .f32⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormOutRefIdeal.lean ====
abbrev S1x8192x2048 : Shape := ⟨3, ![1, 8192, 2048]⟩
abbrev S1x2048 : Shape := ⟨2, ![1, 2048]⟩
abbrev S1x2048x2048 : Shape := ⟨3, ![1, 2048, 2048]⟩
abbrev S2048x2048 : Shape := ⟨2, ![2048, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192 : Shape := ⟨1, ![8192]⟩
abbrev S8192x2048 : Shape := ⟨2, ![8192, 2048]⟩

abbrev nBuf : Space → Nat
  | .hbm => 64
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S1x2048x2048, .f32⟩
  | .hbm, ⟨6, _⟩ => ⟨S2048x2048, .f32⟩
  | .hbm, ⟨7, _⟩ => ⟨S1x8192x2048, .f32⟩
  | .hbm, ⟨8, _⟩ => ⟨S1x8192x2048, .f32⟩
  | .hbm, ⟨9, _⟩ => ⟨S2048, .f32⟩
  | .hbm, ⟨10, _⟩ => ⟨S1x8192x2048, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x2048, .f32⟩
  | .hbm, ⟨26, _⟩ => ⟨S1x8192x2048, .f32⟩
  | .hbm, ⟨27, _⟩ => ⟨S1x1x2048, .f32⟩
  | .hbm, ⟨28, _⟩ => ⟨S1x8192x2048, .f32⟩
  | .hbm, ⟨29, _⟩ => ⟨S1x8192x2048, .f32⟩
  | .hbm, ⟨30, _⟩ => ⟨S1x8192x2048, .f32⟩
  | .hbm, ⟨31, _⟩ => ⟨S_, .f32⟩
  | .hbm, ⟨32, _⟩ => ⟨S1x2048, .f32⟩
  | .hbm, ⟨33, _⟩ => ⟨S1x1x2048, .f32⟩
  | .hbm, ⟨34, _⟩ => ⟨S1x8192x2048, .f32⟩
  | .hbm, ⟨35, _⟩ => ⟨S1x8192x2048, .f32⟩
  | .hbm, ⟨36, _⟩ => ⟨S_, .f32⟩
  | .hbm, ⟨37, _⟩ => ⟨S2048, .f32⟩
  | .hbm, ⟨38, _⟩ => ⟨S1x8192x2048, .f32⟩
  | .hbm, ⟨39, _⟩ => ⟨S_, .f32⟩
  | .hbm, ⟨40, _⟩ => ⟨S1x8192, .f32⟩
  | .hbm, ⟨41, _⟩ => ⟨S1x8192x1, .f32⟩
  | .hbm, ⟨42, _⟩ => ⟨S1x8192x2048, .f32⟩
  | .hbm, ⟨43, _⟩ => ⟨S1x8192x2048, .f32⟩
  | .hbm, ⟨44, _⟩ => ⟨S1x8192x2048, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S_, .f32⟩
  | .hbm, ⟨50, _⟩ => ⟨S8192, .f32⟩
  | .hbm, ⟨51, _⟩ => ⟨S1x8192, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S1x8192x2048, .f32⟩
  | .hbm, ⟨56, _⟩ => ⟨S1x8192x2048, .f32⟩
  | .hbm, ⟨57, _⟩ => ⟨S1x2048, .f32⟩
  | .hbm, ⟨58, _⟩ => ⟨S1x8192x2048, .f32⟩
  | .hbm, ⟨59, _⟩ => ⟨S1x8192x2048, .f32⟩
  | .hbm, ⟨60, _⟩ => ⟨S8192x2048, .f32⟩
  | .hbm, ⟨61, _⟩ => ⟨S8192x2048, .f32⟩
  | .hbm, ⟨62, _⟩ => ⟨S8192x2048, .bf16⟩
  | .hbm, ⟨63, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== GluBwd.lean ====
abbrev S1x8192x1024 : Shape := ⟨3, ![1, 8192, 1024]⟩
abbrev S1x8192x2048 : Shape := ⟨3, ![1, 8192, 2048]⟩
abbrev S1x1024x1024 : Shape := ⟨3, ![1, 1024, 1024]⟩
abbrev S1x1024 : Shape := ⟨2, ![1, 1024]⟩
abbrev S8192x1024 : Shape := ⟨2, ![8192, 1024]⟩
abbrev S8192x2048 : Shape := ⟨2, ![8192, 2048]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x8192x2048, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x2048, .f32⟩
  | .hbm, ⟨7, _⟩ => ⟨S1024x1024, .f32⟩
  | .hbm, ⟨8, _⟩ => ⟨S1024x1024, .bf16⟩
  | .hbm, ⟨9, _⟩ => ⟨S8192x1024, .f32⟩
  | .hbm, ⟨10, _⟩ => ⟨S1024x1024, .bf16⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v105 : BitVec 1 := Scalar.cmpi .eq arg0 c15_i32
  let v106 : BitVec 32 := Scalar.extui v105
  let c0_i32_47 : BitVec 32 := 0#32
  let v107 : BitVec 1 := Scalar.cmpi .ne v106 c0_i32_47
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GluBwdIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== GluBwdRefIdeal.lean ====
abbrev S1x8192x1024 : Shape := ⟨3, ![1, 8192, 1024]⟩
abbrev S1x8192x2048 : Shape := ⟨3, ![1, 8192, 2048]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S1x8192 : Shape := ⟨2, ![1, 8192]⟩
abbrev S1x8192x1 : Shape := ⟨3, ![1, 8192, 1]⟩
abbrev S8192 : Shape := ⟨1, ![8192]⟩
abbrev S8192x1024 : Shape := ⟨2, ![8192, 1024]⟩

abbrev nBuf : Space → Nat
  | .hbm => 133
  | .vmem => 0
  | .smem => 0
  | _ => 0

abbrev hbmTy0_0 (i : Nat) : BufTy := match i % 128 with
  | 0 => ⟨S1x8192x1024, .f32⟩
  | 1 => ⟨S1x8192x2048, .f32⟩
  | 2 => ⟨S1x1024x1024, .f32⟩
  | 3 => ⟨S1x1024, .f32⟩
  | 4 => ⟨S1x1024, .f32⟩
  | 5 => ⟨S1x8192x1024, .f32⟩
  | 6 => ⟨S1x8192x1024, .f32⟩
  | 7 => ⟨S1x8192x1024, .f32⟩
  | 8 => ⟨S_, .f32⟩
  | 9 => ⟨S1x8192x1024, .f32⟩
  | 10 => ⟨S1x8192x1024, .f32⟩
  | 11 => ⟨S_, .f32⟩
  | 12 => ⟨S1x8192x1024, .f32⟩
  | 13 => ⟨S1x8192x1024, .f32⟩
  | 14 => ⟨S1x8192x1024, .f32⟩
  | 15 => ⟨S_, .f32⟩
  | 16 => ⟨S1x8192x1024, .f32⟩
  | 17 => ⟨S1x8192x1024, .f32⟩
  | 18 => ⟨S1x8192x1024, .f32⟩
  | 19 => ⟨S_, .f32⟩
  | 20 => ⟨S1x8192x1024, .f32⟩
  | 21 => ⟨S1x8192x1024, .f32⟩
  | 22 => ⟨S_, .f32⟩
  | 23 => ⟨S1x8192x1024, .f32⟩
  | 24 => ⟨S1x8192x1024, .f32⟩
  | 25 => ⟨S1x8192x1024, .f32⟩
  | 26 => ⟨S_, .f32⟩
  | 27 => ⟨S1x8192x1024, .f32⟩
  | 28 => ⟨S1x8192x1024, .f32⟩
  | 29 => ⟨S_, .f32⟩
  | 30 => ⟨S1x8192x1024, .f32⟩
  | 31 => ⟨S1x8192x1024, .f32⟩
  | 32 => ⟨S1x8192x1024, .f32⟩
  | 33 => ⟨S1024x1024, .f32⟩
  | 34 => ⟨S1x8192x1024, .f32⟩
  | 35 => ⟨S1024, .f32⟩
  | 36 => ⟨S1x1x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S_, .f32⟩
  | 42 => ⟨S1x8192x1024, .f32⟩
  | 43 => ⟨S1x8192x1024, .f32⟩
  | 44 => ⟨S_, .f32⟩
  | 45 => ⟨S1x8192x1024, .f32⟩
  | 46 => ⟨S1x8192x1024, .f32⟩
  | 47 => ⟨S_, .f32⟩
  | 48 => ⟨S1x8192x1024, .f32⟩
  | 49 => ⟨S1x8192x1024, .f32⟩
  | 50 => ⟨S1x8192x1024, .f32⟩
  | 51 => ⟨S1x8192x1024, .f32⟩
  | 52 => ⟨S1024, .f32⟩
  | 53 => ⟨S1x8192x1024, .f32⟩
  | 54 => ⟨S_, .f32⟩
  | 55 => ⟨S1x8192, .f32⟩
  | 56 => ⟨S1x8192x1, .f32⟩
  | 57 => ⟨S_, .f32⟩
  | 58 => ⟨S1x8192x1, .f32⟩
  | 59 => ⟨S1x8192x1, .f32⟩
  | 60 => ⟨S_, .f32⟩
  | 61 => ⟨S1x8192x1, .f32⟩
  | 62 => ⟨S1x8192x1, .f32⟩
  | 63 => ⟨S1x8192x1, .f32⟩
  | 64 => ⟨S1x8192x1, .f32⟩
  | 65 => ⟨S_, .f32⟩
  | 66 => ⟨S1x8192x1, .f32⟩
  | 67 => ⟨S1x8192x1, .f32⟩
  | 68 => ⟨S1x8192x1024, .f32⟩
  | 69 => ⟨S1x8192x1024, .f32⟩
  | 70 => ⟨S1x1x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S_, .f32⟩
  | 76 => ⟨S1x1024, .f32⟩
  | 77 => ⟨S1x1x1024, .f32⟩
  | 78 => ⟨S1x8192x1024, .f32⟩
  | 79 => ⟨S1x8192x1024, .f32⟩
  | 80 => ⟨S_, .f32⟩
  | 81 => ⟨S1024, .f32⟩
  | 82 => ⟨S1x8192x1024, .f32⟩
  | 83 => ⟨S_, .f32⟩
  | 84 => ⟨S1x8192, .f32⟩
  | 85 => ⟨S1x8192x1, .f32⟩
  | 86 => ⟨S1x8192x1024, .f32⟩
  | 87 => ⟨S1x8192x1024, .f32⟩
  | 88 => ⟨S1x8192x1, .f32⟩
  | 89 => ⟨S_, .f32⟩
  | 90 => ⟨S1x8192x1, .f32⟩
  | 91 => ⟨S1x8192x1, .f32⟩
  | 92 => ⟨S_, .f32⟩
  | 93 => ⟨S8192, .f32⟩
  | 94 => ⟨S1x8192, .f32⟩
  | 95 => ⟨S1x8192x1024, .f32⟩
  | 96 => ⟨S1x8192x1024, .f32⟩
  | 97 => ⟨S1x8192x1024, .f32⟩
  | 98 => ⟨S1x8192x1024, .f32⟩
  | 99 => ⟨S1x8192x1024, .f32⟩
  | 100 => ⟨S1x1024, .f32⟩
  | 101 => ⟨S1x8192x1024, .f32⟩
  | 102 => ⟨S1x8192x1024, .f32⟩
  | 103 => ⟨S1x8192x1024, .f32⟩
  | 104 => ⟨S_, .f32⟩
  | 105 => ⟨S1x1024, .f32⟩
  | 106 => ⟨S1x1x1024, .f32⟩
  | 107 => ⟨S_, .f32⟩
  | 108 => ⟨S1024, .f32⟩
  | 109 => ⟨S1x1024, .f32⟩
  | 110 => ⟨S1024x1024, .f32⟩
  | 111 => ⟨S1024x1024, .f32⟩
  | 112 => ⟨S1x8192x1024, .f32⟩
  | 113 => ⟨S1x8192x1024, .f32⟩
  | 114 => ⟨S1x1024x1024, .f32⟩
  | 115 => ⟨S1x8192x1024, .f32⟩
  | 116 => ⟨S1x8192x1024, .f32⟩
  | 117 => ⟨S_, .f32⟩
  | 118 => ⟨S1x8192x1024, .f32⟩
  | 119 => ⟨S1x8192x1024, .f32⟩
  | 120 => ⟨S1x8192x1024, .f32⟩
  | 121 => ⟨S_, .f32⟩
  | 122 => ⟨S1x8192x1024, .f32⟩
  | 123 => ⟨S1x8192x1024, .f32⟩
  | 124 => ⟨S1x8192x1024, .f32⟩
  | 125 => ⟨S_, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S8192x1024, .f32⟩
  | 3 => ⟨S1024x1024, .f32⟩
  | 4 => ⟨S1024x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_v68 : Ref sig .tc := ⟨.hbm, 91, rfl⟩
abbrev main_cst_17 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_cst_19 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_20 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_21 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_22 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Loss.lean ====
abbrev S1x8192x2048 : Shape := ⟨3, ![1, 8192, 2048]⟩
abbrev S1x8192x8192 : Shape := ⟨3, ![1, 8192, 8192]⟩
abbrev S2048 : Shape := ⟨1, ![2048]⟩
abbrev S8192x2048 : Shape := ⟨2, ![8192, 2048]⟩
abbrev S8192x8192 : Shape := ⟨2, ![8192, 8192]⟩
abbrev S1x2048 : Shape := ⟨2, ![1, 2048]⟩
abbrev S1x1 : Shape := ⟨2, ![1, 1]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S1 : Shape := ⟨1, ![1]⟩

abbrev nBuf : Space → Nat
  | .hbm => 16
  | .vmem => 16
  | .smem => 0
  | _ => 0

abbrev bufTy : (tb : Table) → Fin (tcTables nBuf tb) → BufTy
  | .hbm, ⟨0, _⟩ => ⟨S1x8192x2048, .f32⟩
  | .hbm, ⟨1, _⟩ => ⟨S1x8192x8192, .f32⟩
  | .hbm, ⟨2, _⟩ => ⟨S1x8192x2048, .f32⟩
  | .hbm, ⟨3, _⟩ => ⟨S1x8192x2048, .f32⟩
  | .hbm, ⟨4, _⟩ => ⟨S2048, .f32⟩
  | .hbm, ⟨5, _⟩ => ⟨S8192x2048, .f32⟩
  | .hbm, ⟨6, _⟩ => ⟨S8192x8192, .f32⟩
  | .hbm, ⟨7, _⟩ => ⟨S8192x8192, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S1x2048, .f32⟩
  | .hbm, ⟨12, _⟩ => ⟨S1x1, .f32⟩
  | .hbm, ⟨13, _⟩ => ⟨S8192x2048, .f32⟩
  | .hbm, ⟨14, _⟩ => ⟨S8192x2048, .bf16⟩
  | .hbm, ⟨15, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x1, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S1x8192x2048 : Shape := ⟨3, ![1, 8192, 2048]⟩
abbrev S1x8192x8192 : Shape := ⟨3, ![1, 8192, 8192]⟩
abbrev S2048 : Shape := ⟨1, ![2048]⟩
abbrev S_ : Shape := ⟨0, ![]⟩
abbrev S8192x2048 : Shape := ⟨2, ![8192, 2048]⟩
abbrev S1x8192 : Shape := ⟨2, ![1, 8192]⟩
abbrev S1x8192x1 : Shape := ⟨3, ![1, 8192, 1]⟩
abbrev S1x1x2048 : Shape := ⟨3, ![1, 1, 2048]⟩
abbrev S1x2048 : Shape := ⟨2, ![1, 2048]⟩
abbrev S8192 : Shape := ⟨1, ![8192]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x8192, .f32⟩
  | .hbm, ⟨2, _⟩ => ⟨S1x8192x2048, .f32⟩
  | .hbm, ⟨3, _⟩ => ⟨S1x8192x2048, .f32⟩
  | .hbm, ⟨4, _⟩ => ⟨S2048, .f32⟩
  | .hbm, ⟨5, _⟩ => ⟨S_, .f32⟩
  | .hbm, ⟨6, _⟩ => ⟨S1x8192x8192, .f32⟩
  | .hbm, ⟨7, _⟩ => ⟨S1x8192x8192, .f32⟩
  | .hbm, ⟨8, _⟩ => ⟨S1x8192x8192, .f32⟩
  | .hbm, ⟨9, _⟩ => ⟨S8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S_, .f32⟩
  | .hbm, ⟨14, _⟩ => ⟨S1x8192, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S1x8192x2048, .f32⟩
  | .hbm, ⟨28, _⟩ => ⟨S1x8192x2048, .f32⟩
  | .hbm, ⟨29, _⟩ => ⟨S1x1x2048, .f32⟩
  | .hbm, ⟨30, _⟩ => ⟨S1x8192x2048, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S1x8192x2048, .f32⟩
  | .hbm, ⟨36, _⟩ => ⟨S1x8192x2048, .f32⟩
  | .hbm, ⟨37, _⟩ => ⟨S_, .f32⟩
  | .hbm, ⟨38, _⟩ => ⟨S1x8192, .f32⟩
  | .hbm, ⟨39, _⟩ => ⟨S_, .f32⟩
  | .hbm, ⟨40, _⟩ => ⟨S1x8192, .f32⟩
  | .hbm, ⟨41, _⟩ => ⟨S1x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x8192, .f32⟩
  | .hbm, ⟨50, _⟩ => ⟨S_, .f32⟩
  | .hbm, ⟨51, _⟩ => ⟨S1x8192, .f32⟩
  | .hbm, ⟨52, _⟩ => ⟨S1x8192, .f32⟩
  | .hbm, ⟨53, _⟩ => ⟨S1x8192x2048, .f32⟩
  | .hbm, ⟨54, _⟩ => ⟨S1x8192x2048, .f32⟩
  | .hbm, ⟨55, _⟩ => ⟨S1x8192x2048, .f32⟩
  | .hbm, ⟨56, _⟩ => ⟨S_, .f32⟩
  | .hbm, ⟨57, _⟩ => ⟨S1x2048, .f32⟩
  | .hbm, ⟨58, _⟩ => ⟨S1x1x2048, .f32⟩
  | .hbm, ⟨59, _⟩ => ⟨S1x8192x2048, .f32⟩
  | .hbm, ⟨60, _⟩ => ⟨S1x8192x2048, .f32⟩
  | .hbm, ⟨61, _⟩ => ⟨S_, .f32⟩
  | .hbm, ⟨62, _⟩ => ⟨S2048, .f32⟩
  | .hbm, ⟨63, _⟩ => ⟨S1x8192x2048, .f32⟩
  | .hbm, ⟨64, _⟩ => ⟨S_, .f32⟩
  | .hbm, ⟨65, _⟩ => ⟨S1x8192, .f32⟩
  | .hbm, ⟨66, _⟩ => ⟨S1x8192x1, .f32⟩
  | .hbm, ⟨67, _⟩ => ⟨S1x8192x2048, .f32⟩
  | .hbm, ⟨68, _⟩ => ⟨S1x8192x2048, .f32⟩
  | .hbm, ⟨69, _⟩ => ⟨S1x8192x1, .f32⟩
  | .hbm, ⟨70, _⟩ => ⟨S_, .f32⟩
  | .hbm, ⟨71, _⟩ => ⟨S1x8192x1, .f32⟩
  | .hbm, ⟨72, _⟩ => ⟨S1x8192x1, .f32⟩
  | .hbm, ⟨73, _⟩ => ⟨S_, .f32⟩
  | .hbm, ⟨74, _⟩ => ⟨S8192, .f32⟩
  | .hbm, ⟨75, _⟩ => ⟨S1x8192, .f32⟩
  | .hbm, ⟨76, _⟩ => ⟨S1x8192x2048, .f32⟩
  | .hbm, ⟨77, _⟩ => ⟨S1x8192x2048, .f32⟩
  | .hbm, ⟨78, _⟩ => ⟨S1x8192x2048, .f32⟩
  | .hbm, ⟨79, _⟩ => ⟨S1x8192x2048, .f32⟩
  | .hbm, ⟨80, _⟩ => ⟨S1x8192x2048, .f32⟩
  | .hbm, ⟨81, _⟩ => ⟨S1x1, .f32⟩
  | .hbm, ⟨82, _⟩ => ⟨S8192x2048, .f32⟩
  | .hbm, ⟨83, _⟩ => ⟨S8192x2048, .f32⟩
  | .hbm, ⟨84, _⟩ => ⟨S8192x2048, .bf16⟩
  | .hbm, ⟨85, _⟩ => ⟨S1x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== SguBwd.lean ====
abbrev S1x8192x3072 : Shape := ⟨3, ![1, 8192, 3072]⟩
abbrev S1x8192x1024 : Shape := ⟨3, ![1, 8192, 1024]⟩
abbrev S1x8192x2048 : Shape := ⟨3, ![1, 8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S8192x3072 : Shape := ⟨2, ![8192, 3072]⟩
abbrev S8192x2048 : Shape := ⟨2, ![8192, 2048]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 45
  | .vmem => 20
  | .smem => 0
  | _ => 0

abbrev bufTy : (tb : Table) → Fin (tcTables nBuf tb) → BufTy
  | .hbm, ⟨0, _⟩ => ⟨S1x8192x3072, .f32⟩
  | .hbm, ⟨1, _⟩ => ⟨S1x8192x1024, .f32⟩
  | .hbm, ⟨2, _⟩ => ⟨S1x8192x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S1x128x128, .i1⟩
  | .hbm, ⟨20, _⟩ => ⟨S8x128x128, .f32⟩
  | .hbm, ⟨21, _⟩ => ⟨S_, .f32⟩
  | .hbm, ⟨22, _⟩ => ⟨S_, .f32⟩
  | .hbm, ⟨23, _⟩ => ⟨S8x128x128, .i1⟩
  | .hbm, ⟨24, _⟩ => ⟨S8x128x128, .f32⟩
  | .hbm, ⟨25, _⟩ => ⟨S8x128x128, .f32⟩
  | .hbm, ⟨26, _⟩ => ⟨S8x128, .f32⟩
  | .hbm, ⟨27, _⟩ => ⟨S8x128x1, .f32⟩
  | .hbm, ⟨28, _⟩ => ⟨S8x128x128, .f32⟩
  | .hbm, ⟨29, _⟩ => ⟨S_, .f32⟩
  | .hbm, ⟨30, _⟩ => ⟨S1x8192x2048, .f32⟩
  | .hbm, ⟨31, _⟩ => ⟨S1x8192x3072, .f32⟩
  | .hbm, ⟨32, _⟩ => ⟨S8192x3072, .f32⟩
  | .hbm, ⟨33, _⟩ => ⟨S8192x2048, .f32⟩
  | .hbm, ⟨34, _⟩ => ⟨S8192x3072, .f32⟩
  | .hbm, ⟨35, _⟩ => ⟨S8192x3072, .bf16⟩
  | .hbm, ⟨36, _⟩ => ⟨S8x128x128, .bf16⟩
  | .hbm, ⟨37, _⟩ => ⟨S8x128x128, .f32⟩
  | .hbm, ⟨38, _⟩ => ⟨S8x128x128, .bf16⟩
  | .hbm, ⟨39, _⟩ => ⟨S8192x3072, .bf16⟩
  | .hbm, ⟨40, _⟩ => ⟨S8x128x128, .f32⟩
  | .hbm, ⟨41, _⟩ => ⟨S8x128x128, .f32⟩
  | .hbm, ⟨42, _⟩ => ⟨S1x1024, .f32⟩
  | .hbm, ⟨43, _⟩ => ⟨S1x1024, .f32⟩
  | .hbm, ⟨44, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S8x128x128, .bf16⟩
  | .local _ .vmem, ⟨10, _⟩ => ⟨S8x128x128, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S8x128x128, .f32⟩
  | .local _ .vmem, ⟨15, _⟩ => ⟨S8x128x128, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .bf16⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17_0 : Ref sig .tc := ⟨.hbm, 39, rfl⟩
abbrev main_v17_1 : Ref sig .tc := ⟨.hbm, 40, rfl⟩
abbrev main_v17_2 : Ref sig .tc := ⟨.hbm, 41, rfl⟩
abbrev main_v17_3 : Ref sig .tc := ⟨.hbm, 42, rfl⟩
abbrev main_v17_4 : Ref sig .tc := ⟨.hbm, 43, rfl⟩
abbrev main_v17_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== SguBwdIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== SguBwdRefIdeal.lean ====
abbrev S1x8192x3072 : Shape := ⟨3, ![1, 8192, 3072]⟩
abbrev S1x8192x1024 : Shape := ⟨3, ![1, 8192, 1024]⟩
abbrev S1x8192x2048 : Shape := ⟨3, ![1, 8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S_ : Shape := ⟨0, ![]⟩
abbrev S128x128 : Shape := ⟨2, ![128, 128]⟩
abbrev S1x128x128 : Shape := ⟨3, ![1, 128, 128]⟩
abbrev S1024 : Shape := ⟨1, ![1024]⟩
abbrev S8x128 : Shape := ⟨2, ![8, 128]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S8x1x64x128x128 : Shape := ⟨5, ![8, 1, 64, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8192 : Shape := ⟨1, ![8192]⟩
abbrev S1x128x8 : Shape := ⟨3, ![1, 128, 8]⟩
abbrev S8x128x1 : Shape := ⟨3, ![8, 128, 1]⟩
abbrev S8192x3072 : Shape := ⟨2, ![8192, 3072]⟩

abbrev nBuf : Space → Nat
  | .hbm => 242
  | .vmem => 0
  | .smem => 0
  | _ => 0

abbrev hbmTy0_0 (i : Nat) : BufTy := match i % 128 with
  | 0 => ⟨S1x8192x3072, .f32⟩
  | 1 => ⟨S1x8192x1024, .f32⟩
  | 2 => ⟨S1x8192x2048, .f32⟩
  | 3 => ⟨S1x1024, .f32⟩
  | 4 => ⟨S1x1024, .f32⟩
  | 5 => ⟨S1x8x128x128, .f32⟩
  | 6 => ⟨S1x8x128, .f32⟩
  | 7 => ⟨S1x1024, .f32⟩
  | 8 => ⟨S8x128x128, .f32⟩
  | 9 => ⟨S_, .i1⟩
  | 10 => ⟨S128x128, .i1⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .i1⟩
  | 18 => ⟨S128x128, .i1⟩
  | 19 => ⟨S128x128, .i1⟩
  | 20 => ⟨S1x128x128, .i1⟩
  | 21 => ⟨S_, .f32⟩
  | 22 => ⟨S8x128x128, .f32⟩
  | 23 => ⟨S8x128x128, .i1⟩
  | 24 => ⟨S8x128x128, .f32⟩
  | 25 => ⟨S1x8192x2048, .f32⟩
  | 26 => ⟨S1024, .f32⟩
  | 27 => ⟨S1024, .f32⟩
  | 28 => ⟨S8x128, .f32⟩
  | 29 => ⟨S1x8192x2048, .f32⟩
  | 30 => ⟨S1x8192x2048, .f32⟩
  | 31 => ⟨S1x8192x2048, .f32⟩
  | 32 => ⟨S_, .f32⟩
  | 33 => ⟨S1x8192x2048, .f32⟩
  | 34 => ⟨S1x8192x2048, .f32⟩
  | 35 => ⟨S_, .f32⟩
  | 36 => ⟨S1x8192x2048, .f32⟩
  | 37 => ⟨S1x8192x2048, .f32⟩
  | 38 => ⟨S1x8192x2048, .f32⟩
  | 39 => ⟨S_, .f32⟩
  | 40 => ⟨S1x8192x2048, .f32⟩
  | 41 => ⟨S1x8192x2048, .f32⟩
  | 42 => ⟨S1x8192x2048, .f32⟩
  | 43 => ⟨S_, .f32⟩
  | 44 => ⟨S1x8192x2048, .f32⟩
  | 45 => ⟨S1x8192x2048, .f32⟩
  | 46 => ⟨S_, .f32⟩
  | 47 => ⟨S1x8192x2048, .f32⟩
  | 48 => ⟨S1x8192x2048, .f32⟩
  | 49 => ⟨S1x8192x2048, .f32⟩
  | 50 => ⟨S_, .f32⟩
  | 51 => ⟨S1x8192x2048, .f32⟩
  | 52 => ⟨S1x8192x2048, .f32⟩
  | 53 => ⟨S_, .f32⟩
  | 54 => ⟨S1x8192x2048, .f32⟩
  | 55 => ⟨S1x8192x2048, .f32⟩
  | 56 => ⟨S1x8192x2048, .f32⟩
  | 57 => ⟨S1x8192x1024, .f32⟩
  | 58 => ⟨S1x8192x1024, .f32⟩
  | 59 => ⟨S_, .f32⟩
  | 60 => ⟨S1x8192, .f32⟩
  | 61 => ⟨S1x8192x1, .f32⟩
  | 62 => ⟨S_, .f32⟩
  | 63 => ⟨S1x8192x1, .f32⟩
  | 64 => ⟨S1x8192x1, .f32⟩
  | 65 => ⟨S1x8192x1024, .f32⟩
  | 66 => ⟨S1x8192x1024, .f32⟩
  | 67 => ⟨S1x8192x1024, .f32⟩
  | 68 => ⟨S_, .f32⟩
  | 69 => ⟨S1x8192x1024, .f32⟩
  | 70 => ⟨S1x8192x1024, .f32⟩
  | 71 => ⟨S_, .f32⟩
  | 72 => ⟨S1x8192, .f32⟩
  | 73 => ⟨S1x8192x1, .f32⟩
  | 74 => ⟨S_, .f32⟩
  | 75 => ⟨S1x8192x1, .f32⟩
  | 76 => ⟨S1x8192x1, .f32⟩
  | 77 => ⟨S1x8192x1024, .f32⟩
  | 78 => ⟨S1x8192x1024, .f32⟩
  | 79 => ⟨S_, .f32⟩
  | 80 => ⟨S1x8192x1, .f32⟩
  | 81 => ⟨S1x8192x1, .f32⟩
  | 82 => ⟨S1x8192x1, .f32⟩
  | 83 => ⟨S1x8192x1, .f32⟩
  | 84 => ⟨S_, .f32⟩
  | 85 => ⟨S1x8192x1, .f32⟩
  | 86 => ⟨S1x8192x1, .f32⟩
  | 87 => ⟨S1x8192x1024, .f32⟩
  | 88 => ⟨S1x8192x1024, .f32⟩
  | 89 => ⟨S1x1x1024, .f32⟩
  | 90 => ⟨S1x8192x1024, .f32⟩
  | 91 => ⟨S1x8192x1024, .f32⟩
  | 92 => ⟨S1x1x1024, .f32⟩
  | 93 => ⟨S1x8192x1024, .f32⟩
  | 94 => ⟨S1x8192x1024, .f32⟩
  | 95 => ⟨S1x64x128x8x128, .f32⟩
  | 96 => ⟨S8x1x64x128x128, .f32⟩
  | 97 => ⟨S1x64x128x8x128, .f32⟩
  | 98 => ⟨S128x8, .f32⟩
  | 99 => ⟨S128x8x1, .f32⟩
  | 100 => ⟨S1x1x128x8x1, .f32⟩
  | 101 => ⟨S1x64x128x8x128, .f32⟩
  | 102 => ⟨S1x64x128x8x128, .f32⟩
  | 103 => ⟨S1x8192x1024, .f32⟩
  | 104 => ⟨S1x8192x1024, .f32⟩
  | 105 => ⟨S1024, .f32⟩
  | 106 => ⟨S1x8192x1024, .f32⟩
  | 107 => ⟨S_, .f32⟩
  | 108 => ⟨S1x8192, .f32⟩
  | 109 => ⟨S1x8192x1, .f32⟩
  | 110 => ⟨S_, .f32⟩
  | 111 => ⟨S1x8192x1, .f32⟩
  | 112 => ⟨S1x8192x1, .f32⟩
  | 113 => ⟨S_, .f32⟩
  | 114 => ⟨S1x8192x1, .f32⟩
  | 115 => ⟨S1x8192x1, .f32⟩
  | 116 => ⟨S1x8192x1, .f32⟩
  | 117 => ⟨S1x8192x1, .f32⟩
  | 118 => ⟨S_, .f32⟩
  | 119 => ⟨S1x8192x1, .f32⟩
  | 120 => ⟨S1x8192x1, .f32⟩
  | 121 => ⟨S1x8192x1024, .f32⟩
  | 122 => ⟨S1x8192x1024, .f32⟩
  | 123 => ⟨S1x1x1024, .f32⟩
  | 124 => ⟨S1x8192x1024, .f32⟩
  | 125 => ⟨S1x8192x1024, .f32⟩
  | 126 => ⟨S1x8192x1024, .f32⟩
  | 127 => ⟨S1x8192x1024, .f32⟩
  | _ => ⟨S1x8192x3072, .f32⟩

abbrev hbmTy0_1 (i : Nat) : BufTy := match i % 128 with
  | 0 => ⟨S_, .f32⟩
  | 1 => ⟨S1x1024, .f32⟩
  | 2 => ⟨S1x1x1024, .f32⟩
  | 3 => ⟨S1x8192x1024, .f32⟩
  | 4 => ⟨S1x8192x1024, .f32⟩
  | 5 => ⟨S_, .f32⟩
  | 6 => ⟨S1024, .f32⟩
  | 7 => ⟨S1x8192x1024, .f32⟩
  | 8 => ⟨S_, .f32⟩
  | 9 => ⟨S1x8192, .f32⟩
  | 10 => ⟨S1x8192x1, .f32⟩
  | 11 => ⟨S1x8192x1024, .f32⟩
  | 12 => ⟨S1x8192x1024, .f32⟩
  | 13 => ⟨S1x8192x1, .f32⟩
  | 14 => ⟨S_, .f32⟩
  | 15 => ⟨S1x8192x1, .f32⟩
  | 16 => ⟨S1x8192x1, .f32⟩
  | 17 => ⟨S_, .f32⟩
  | 18 => ⟨S8192, .f32⟩
  | 19 => ⟨S1x8192, .f32⟩
  | 20 => ⟨S1x8192x1024, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x1024, .f32⟩
  | 26 => ⟨S1x8192x1024, .f32⟩
  | 27 => ⟨S1x8192x1024, .f32⟩
  | 28 => ⟨S1x64x128x8x128, .f32⟩
  | 29 => ⟨S_, .f32⟩
  | 30 => ⟨S1x128x8, .f32⟩
  | 31 => ⟨S1x1x128x8x1, .f32⟩
  | 32 => ⟨S_, .f32⟩
  | 33 => ⟨S128x8, .f32⟩
  | 34 => ⟨S128x8x1, .f32⟩
  | 35 => ⟨S_, .f32⟩
  | 36 => ⟨S128x8, .f32⟩
  | 37 => ⟨S8x128, .f32⟩
  | 38 => ⟨S8x1x64x128x128, .f32⟩
  | 39 => ⟨S8x128x128, .f32⟩
  | 40 => ⟨S8x1x64x128x128, .f32⟩
  | 41 => ⟨S1x64x128x8x128, .f32⟩
  | 42 => ⟨S1x8192x1024, .f32⟩
  | 43 => ⟨S_, .f32⟩
  | 44 => ⟨S1x1024, .f32⟩
  | 45 => ⟨S1x1x1024, .f32⟩
  | 46 => ⟨S_, .f32⟩
  | 47 => ⟨S1024, .f32⟩
  | 48 => ⟨S1x8192x1024, .f32⟩
  | 49 => ⟨S_, .f32⟩
  | 50 => ⟨S1x1024, .f32⟩
  | 51 => ⟨S1x1x1024, .f32⟩
  | 52 => ⟨S1x8192x1024, .f32⟩
  | 53 => ⟨S1x8192x1024, .f32⟩
  | 54 => ⟨S_, .f32⟩
  | 55 => ⟨S1024, .f32⟩
  | 56 => ⟨S1x8192x1024, .f32⟩
  | 57 => ⟨S_, .f32⟩
  | 58 => ⟨S1x8192, .f32⟩
  | 59 => ⟨S1x8192x1, .f32⟩
  | 60 => ⟨S1x8192x1024, .f32⟩
  | 61 => ⟨S1x8192x1024, .f32⟩
  | 62 => ⟨S1x8192x1, .f32⟩
  | 63 => ⟨S1x8192x1024, .f32⟩
  | 64 => ⟨S_, .f32⟩
  | 65 => ⟨S1x8192, .f32⟩
  | 66 => ⟨S1x8192x1, .f32⟩
  | 67 => ⟨S_, .f32⟩
  | 68 => ⟨S1x8192x1, .f32⟩
  | 69 => ⟨S1x8192x1, .f32⟩
  | 70 => ⟨S_, .f32⟩
  | 71 => ⟨S8192, .f32⟩
  | 72 => ⟨S1x8192, .f32⟩
  | 73 => ⟨S1x8192x1024, .f32⟩
  | 74 => ⟨S1x8192x1024, .f32⟩
  | 75 => ⟨S1x8192x1024, .f32⟩
  | 76 => ⟨S_, .f32⟩
  | 77 => ⟨S1x8192, .f32⟩
  | 78 => ⟨S1x8192x1, .f32⟩
  | 79 => ⟨S1x8192x1024, .f32⟩
  | 80 => ⟨S1x8192x1, .f32⟩
  | 81 => ⟨S_, .f32⟩
  | 82 => ⟨S1x8192x1, .f32⟩
  | 83 => ⟨S1x8192x1, .f32⟩
  | 84 => ⟨S_, .f32⟩
  | 85 => ⟨S8192, .f32⟩
  | 86 => ⟨S1x8192, .f32⟩
  | 87 => ⟨S1x8192x1024, .f32⟩
  | 88 => ⟨S1x8192x1024, .f32⟩
  | 89 => ⟨S1x8192x2048, .f32⟩
  | 90 => ⟨S1x8192x2048, .f32⟩
  | 91 => ⟨S1x8192x2048, .f32⟩
  | 92 => ⟨S_, .f32⟩
  | 93 => ⟨S1x8192x2048, .f32⟩
  | 94 => ⟨S1x8192x2048, .f32⟩
  | 95 => ⟨S1x8192x2048, .f32⟩
  | 96 => ⟨S_, .f32⟩
  | 97 => ⟨S1x8192x2048, .f32⟩
  | 98 => ⟨S1x8192x2048, .f32⟩
  | 99 => ⟨S1x8192x2048, .f32⟩
  | 100 => ⟨S_, .f32⟩
  | 101 => ⟨S1x8192x2048, .f32⟩
  | 102 => ⟨S1x8192x2048, .f32⟩
  | 103 => ⟨S1x8192x2048, .f32⟩
  | 104 => ⟨S1x8192x2048, .f32⟩
  | 105 => ⟨S1x8x128, .f32⟩
  | 106 => ⟨S1x1024, .f32⟩
  | 107 => ⟨S1x1024, .f32⟩
  | 108 => ⟨S8x128, .f32⟩
  | 109 => ⟨S8x128x1, .f32⟩
  | 110 => ⟨S8x128x128, .f32⟩
  | 111 => ⟨S1x8192x3072, .f32⟩
  | 112 => ⟨S8192x3072, .f32⟩
  | 113 => ⟨S8192x3072, .bf16⟩
  | _ => ⟨S1x8192x3072, .f32⟩

abbrev hbmTy (i : Nat) : BufTy := match i / 128 with
  | 0 => hbmTy0_0 i
  | 1 => hbmTy0_1 i
  | _ => ⟨S1x8192x3072, .f32⟩

abbrev bufTy : (tb : Table) → Fin (tcTables nBuf tb) → BufTy
  | .hbm, ⟨i, _⟩ => hbmTy i
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_18 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_19 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_v103 : Ref sig .tc := ⟨.hbm, 144, rfl⟩
abbrev main_cst_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_23 : Ref sig .tc := ⟨.hbm, 157, rfl⟩
abbrev main_v115 : Ref sig .tc := ⟨.hbm, 158, rfl⟩
abbrev main_v116 : Ref sig .tc := ⟨.hbm, 159, rfl⟩
abbrev main_cst_24 : Ref sig .tc := ⟨.hbm, 160, rfl⟩
abbrev main_v117 : Ref sig .tc := ⟨.hbm, 161, rfl⟩
abbrev main_v118 : Ref sig .tc := ⟨.hbm, 162, rfl⟩
abbrev main_cst_25 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_26 : Ref sig .tc := ⟨.hbm, 171, rfl⟩
abbrev main_v126 : Ref sig .tc := ⟨.hbm, 172, rfl⟩
abbrev main_v127 : Ref sig .tc := ⟨.hbm, 173, rfl⟩
abbrev main_cst_27 : Ref sig .tc := ⟨.hbm, 174, rfl⟩
abbrev main_v128 : Ref sig .tc := ⟨.hbm, 175, rfl⟩
abbrev main_v129 : Ref sig .tc := ⟨.hbm, 176, rfl⟩
abbrev main_cst_28 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_29 : Ref sig .tc := ⟨.hbm, 182, rfl⟩
abbrev main_v134 : Ref sig .tc := ⟨.hbm, 183, rfl⟩
abbrev main_v135 : Ref sig .tc := ⟨.hbm, 184, rfl⟩
abbrev main_cst_30 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_31 : Ref sig .tc := ⟨.hbm, 192, rfl⟩
abbrev main_v142 : Ref sig .tc := ⟨.hbm, 193, rfl⟩
abbrev main_v143 : Ref sig .tc := ⟨.hbm, 194, rfl⟩
abbrev main_cst_32 : Ref sig .tc := ⟨.hbm, 195, rfl⟩
abbrev main_v144 : Ref sig .tc := ⟨.hbm, 196, rfl⟩
abbrev main_v145 : Ref sig .tc := ⟨.hbm, 197, rfl⟩
abbrev main_cst_33 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_34 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_35 : Ref sig .tc := ⟨.hbm, 209, rfl⟩
abbrev main_v155 : Ref sig .tc := ⟨.hbm, 210, rfl⟩
abbrev main_v156 : Ref sig .tc := ⟨.hbm, 211, rfl⟩
abbrev main_cst_36 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_37 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_38 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_39 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩

abbrev nD : Nat := 1
abbrev τ : Topo := Topo.v7x

variable {F : FTy → Type} [FloatOps F]
-- ==== InProjA.lean ====
abbrev S1x8192x3072 : Shape := ⟨3, ![1, 8192, 3072]⟩
abbrev S1x2048x3072 : Shape := ⟨3, ![1, 2048, 3072]⟩
abbrev S1x8192x2048 : Shape := ⟨3, ![1, 8192, 2048]⟩
abbrev S1x2048 : Shape := ⟨2, ![1, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S8192x3072 : Shape := ⟨2, ![8192, 3072]⟩
abbrev S8192x2048 : Shape := ⟨2, ![8192, 2048]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩
abbrev S512 : Shape := ⟨1, ![512]⟩
abbrev S512x1 : Shape := ⟨2, ![512, 1]⟩
abbrev S2048 : Shape := ⟨1, ![2048]⟩

abbrev nBuf : Space → Nat
  | .hbm => 15
  | .vmem => 13
  | .smem => 0
  | _ => 0

abbrev bufTy : (tb : Table) → Fin (tcTables nBuf tb) → BufTy
  | .hbm, ⟨0, _⟩ => ⟨S1x8192x3072, .f32⟩
  | .hbm, ⟨1, _⟩ => ⟨S1x2048x3072, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S2048x3072, .f32⟩
  | .hbm, ⟨6, _⟩ => ⟨S2048x3072, .bf16⟩
  | .hbm, ⟨7, _⟩ => ⟨S2048x4x768, .bf16⟩
  | .hbm, ⟨8, _⟩ => ⟨S4x2048x768, .bf16⟩
  | .hbm, ⟨9, _⟩ => ⟨S8192x3072, .f32⟩
  | .hbm, ⟨10, _⟩ => ⟨S8192x3072, .bf16⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InProjARefIdeal.lean ====
abbrev S1x8192x3072 : Shape := ⟨3, ![1, 8192, 3072]⟩
abbrev S1x2048x3072 : Shape := ⟨3, ![1, 2048, 3072]⟩
abbrev S1x8192x2048 : Shape := ⟨3, ![1, 8192, 2048]⟩
abbrev S1x2048 : Shape := ⟨2, ![1, 2048]⟩
abbrev S1x4096x2048 : Shape := ⟨3, ![1, 4096, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x3072 : Shape := ⟨2, ![2048, 3072]⟩
abbrev S1x4096x3072 : Shape := ⟨3, ![1, 4096, 3072]⟩
abbrev S4096 : Shape := ⟨1, ![4096]⟩
abbrev S4096x2048 : Shape := ⟨2, ![4096, 2048]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S1x8192x3072, .f32⟩
  | .hbm, ⟨1, _⟩ => ⟨S1x2048x3072, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S1x4096x2048, .f32⟩
  | .hbm, ⟨6, _⟩ => ⟨S2048, .f32⟩
  | .hbm, ⟨7, _⟩ => ⟨S1x4096x2048, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x2048, .f32⟩
  | .hbm, ⟨23, _⟩ => ⟨S1x4096x2048, .f32⟩
  | .hbm, ⟨24, _⟩ => ⟨S1x1x2048, .f32⟩
  | .hbm, ⟨25, _⟩ => ⟨S1x4096x2048, .f32⟩
  | .hbm, ⟨26, _⟩ => ⟨S1x4096x2048, .f32⟩
  | .hbm, ⟨27, _⟩ => ⟨S2048x3072, .f32⟩
  | .hbm, ⟨28, _⟩ => ⟨S1x4096x3072, .f32⟩
  | .hbm, ⟨29, _⟩ => ⟨S1x4096x2048, .f32⟩
  | .hbm, ⟨30, _⟩ => ⟨S1x4096x3072, .f32⟩
  | .hbm, ⟨31, _⟩ => ⟨S1x4096x2048, .f32⟩
  | .hbm, ⟨32, _⟩ => ⟨S1x4096x2048, .f32⟩
  | .hbm, ⟨33, _⟩ => ⟨S_, .f32⟩
  | .hbm, ⟨34, _⟩ => ⟨S1x2048, .f32⟩
  | .hbm, ⟨35, _⟩ => ⟨S1x1x2048, .f32⟩
  | .hbm, ⟨36, _⟩ => ⟨S1x4096x2048, .f32⟩
  | .hbm, ⟨37, _⟩ => ⟨S1x4096x2048, .f32⟩
  | .hbm, ⟨38, _⟩ => ⟨S_, .f32⟩
  | .hbm, ⟨39, _⟩ => ⟨S2048, .f32⟩
  | .hbm, ⟨40, _⟩ => ⟨S1x4096x2048, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S1x4096x2048, .f32⟩
  | .hbm, ⟨45, _⟩ => ⟨S1x4096x2048, .f32⟩
  | .hbm, ⟨46, _⟩ => ⟨S1x4096x2048, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x2048, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S8192x2048, .f32⟩
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== InProjB.lean ====
abbrev S1x8192x3072 : Shape := ⟨3, ![1, 8192, 3072]⟩
abbrev S1x2048x3072 : Shape := ⟨3, ![1, 2048, 3072]⟩
abbrev S1x8192x2048 : Shape := ⟨3, ![1, 8192, 2048]⟩
abbrev S1x2048 : Shape := ⟨2, ![1, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S8192x3072 : Shape := ⟨2, ![8192, 3072]⟩
abbrev S8192x2048 : Shape := ⟨2, ![8192, 2048]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩
abbrev S512 : Shape := ⟨1, ![512]⟩
abbrev S512x1 : Shape := ⟨2, ![512, 1]⟩
abbrev S2048 : Shape := ⟨1, ![2048]⟩

abbrev nBuf : Space → Nat
  | .hbm => 17
  | .vmem => 13
  | .smem => 0
  | _ => 0

abbrev bufTy : (tb : Table) → Fin (tcTables nBuf tb) → BufTy
  | .hbm, ⟨0, _⟩ => ⟨S1x8192x3072, .f32⟩
  | .hbm, ⟨1, _⟩ => ⟨S1x2048x3072, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S1x8192x2048, .f32⟩
  | .hbm, ⟨6, _⟩ => ⟨S2048x3072, .f32⟩
  | .hbm, ⟨7, _⟩ => ⟨S2048x3072, .bf16⟩
  | .hbm, ⟨8, _⟩ => ⟨S2048x4x768, .bf16⟩
  | .hbm, ⟨9, _⟩ => ⟨S4x2048x768, .bf16⟩
  | .hbm, ⟨10, _⟩ => ⟨S8192x3072, .f32⟩
  | .hbm, ⟨11, _⟩ => ⟨S8192x3072, .bf16⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InProjBRefIdeal.lean ====
abbrev S1x8192x3072 : Shape := ⟨3, ![1, 8192, 3072]⟩
abbrev S1x2048x3072 : Shape := ⟨3, ![1, 2048, 3072]⟩
abbrev S1x8192x2048 : Shape := ⟨3, ![1, 8192, 2048]⟩
abbrev S1x2048 : Shape := ⟨2, ![1, 2048]⟩
abbrev S1x4096x2048 : Shape := ⟨3, ![1, 4096, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x3072 : Shape := ⟨2, ![2048, 3072]⟩
abbrev S1x4096x3072 : Shape := ⟨3, ![1, 4096, 3072]⟩
abbrev S4096 : Shape := ⟨1, ![4096]⟩
abbrev S4096x2048 : Shape := ⟨2, ![4096, 2048]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S1x8192x3072, .f32⟩
  | .hbm, ⟨1, _⟩ => ⟨S1x2048x3072, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S1x8192x2048, .f32⟩
  | .hbm, ⟨6, _⟩ => ⟨S1x4096x2048, .f32⟩
  | .hbm, ⟨7, _⟩ => ⟨S2048, .f32⟩
  | .hbm, ⟨8, _⟩ => ⟨S1x4096x2048, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x2048, .f32⟩
  | .hbm, ⟨24, _⟩ => ⟨S1x4096x2048, .f32⟩
  | .hbm, ⟨25, _⟩ => ⟨S1x1x2048, .f32⟩
  | .hbm, ⟨26, _⟩ => ⟨S1x4096x2048, .f32⟩
  | .hbm, ⟨27, _⟩ => ⟨S1x4096x2048, .f32⟩
  | .hbm, ⟨28, _⟩ => ⟨S2048x3072, .f32⟩
  | .hbm, ⟨29, _⟩ => ⟨S1x4096x3072, .f32⟩
  | .hbm, ⟨30, _⟩ => ⟨S1x4096x2048, .f32⟩
  | .hbm, ⟨31, _⟩ => ⟨S1x4096x3072, .f32⟩
  | .hbm, ⟨32, _⟩ => ⟨S1x4096x2048, .f32⟩
  | .hbm, ⟨33, _⟩ => ⟨S1x4096x2048, .f32⟩
  | .hbm, ⟨34, _⟩ => ⟨S_, .f32⟩
  | .hbm, ⟨35, _⟩ => ⟨S1x2048, .f32⟩
  | .hbm, ⟨36, _⟩ => ⟨S1x1x2048, .f32⟩
  | .hbm, ⟨37, _⟩ => ⟨S1x4096x2048, .f32⟩
  | .hbm, ⟨38, _⟩ => ⟨S1x4096x2048, .f32⟩
  | .hbm, ⟨39, _⟩ => ⟨S_, .f32⟩
  | .hbm, ⟨40, _⟩ => ⟨S2048, .f32⟩
  | .hbm, ⟨41, _⟩ => ⟨S1x4096x2048, .f32⟩
  | .hbm, ⟨42, _⟩ => ⟨S_, .f32⟩
  | .hbm, ⟨43, _⟩ => ⟨S1x4096, .f32⟩
  | .hbm, ⟨44, _⟩ => ⟨S1x4096x1, .f32⟩
  | .hbm, ⟨45, _⟩ => ⟨S1x4096x2048, .f32⟩
  | .hbm, ⟨46, _⟩ => ⟨S1x4096x2048, .f32⟩
  | .hbm, ⟨47, _⟩ => ⟨S1x4096x2048, .f32⟩
  | .hbm, ⟨48, _⟩ => ⟨S1x4096x1, .f32⟩
  | .hbm, ⟨49, _⟩ => ⟨S_, .f32⟩
  | .hbm, ⟨50, _⟩ => ⟨S1x4096x1, .f32⟩
  | .hbm, ⟨51, _⟩ => ⟨S1x4096x1, .f32⟩
  | .hbm, ⟨52, _⟩ => ⟨S_, .f32⟩
  | .hbm, ⟨53, _⟩ => ⟨S4096, .f32⟩
  | .hbm, ⟨54, _⟩ => ⟨S1x4096, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x4096x2048, .f32⟩
  | .hbm, ⟨60, _⟩ => ⟨S1x2048, .f32⟩
  | .hbm, ⟨61, _⟩ => ⟨S1x4096x2048, .f32⟩
  | .hbm, ⟨62, _⟩ => ⟨S4096x2048, .f32⟩
  | .hbm, ⟨63, _⟩ => ⟨S4096x2048, .f32⟩
  | .hbm, ⟨64, _⟩ => ⟨S8192x2048, .f32⟩
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== OutProj.lean ====
abbrev S1x8192x2048 : Shape := ⟨3, ![1, 8192, 2048]⟩
abbrev S1x2048x2048 : Shape := ⟨3, ![1, 2048, 2048]⟩
abbrev S1x2048 : Shape := ⟨2, ![1, 2048]⟩
abbrev S8192x2048 : Shape := ⟨2, ![8192, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S2048x2048, .f32⟩
  | .hbm, ⟨8, _⟩ => ⟨S2048x2048, .bf16⟩
  | .hbm, ⟨9, _⟩ => ⟨S8192x2048, .f32⟩
  | .hbm, ⟨10, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S1x8192x2048 : Shape := ⟨3, ![1, 8192, 2048]⟩
abbrev S1x2048x2048 : Shape := ⟨3, ![1, 2048, 2048]⟩
abbrev S1x2048 : Shape := ⟨2, ![1, 2048]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S1x8192x2048, .f32⟩
  | .hbm, ⟨6, _⟩ => ⟨S1x8192x2048, .f32⟩
  | .hbm, ⟨7, _⟩ => ⟨S8192x2048, .f32⟩
  | .hbm, ⟨8, _⟩ => ⟨S2048, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S8192x2048, .f32⟩
  | .hbm, ⟨26, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InProj.lean ====
abbrev S1x8192x2048 : Shape := ⟨3, ![1, 8192, 2048]⟩
abbrev S1x2048 : Shape := ⟨2, ![1, 2048]⟩
abbrev S1x2048x3072 : Shape := ⟨3, ![1, 2048, 3072]⟩
abbrev S2048x3072 : Shape := ⟨2, ![2048, 3072]⟩
abbrev S2048x4x768 : Shape := ⟨3, ![2048, 4, 768]⟩
abbrev S4x2048x768 : Shape := ⟨3, ![4, 2048, 768]⟩
abbrev S8192x2048 : Shape := ⟨2, ![8192, 2048]⟩
abbrev S8192x3072 : Shape := ⟨2, ![8192, 3072]⟩
abbrev S1024x2048 : Shape := ⟨2, ![1024, 2048]⟩
abbrev S1x2048x768 : Shape := ⟨3, ![1, 2048, 768]⟩
abbrev S1024x768 : Shape := ⟨2, ![1024, 768]⟩
abbrev S1024 : Shape := ⟨1, ![1024]⟩
abbrev S1024x1 : Shape := ⟨2, ![1024, 1]⟩
abbrev S2048x768 : Shape := ⟨2, ![2048, 768]⟩

abbrev nBuf : Space → Nat
  | .hbm => 10
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x3072, .f32⟩
  | .hbm, ⟨3, _⟩ => ⟨S2048x3072, .f32⟩
  | .hbm, ⟨4, _⟩ => ⟨S2048x3072, .bf16⟩
  | .hbm, ⟨5, _⟩ => ⟨S2048x4x768, .bf16⟩
  | .hbm, ⟨6, _⟩ => ⟨S4x2048x768, .bf16⟩
  | .hbm, ⟨7, _⟩ => ⟨S8192x2048, .f32⟩
  | .hbm, ⟨8, _⟩ => ⟨S8192x3072, .f32⟩
  | .hbm, ⟨9, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x768, .bf16⟩
  | .local _ .vmem, ⟨4, _⟩ => ⟨S1x2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | .local _ .vmem, ⟨8, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S1x8192x2048 : Shape := ⟨3, ![1, 8192, 2048]⟩
abbrev S1x2048 : Shape := ⟨2, ![1, 2048]⟩
abbrev S1x2048x3072 : Shape := ⟨3, ![1, 2048, 3072]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x3072 : Shape := ⟨2, ![2048, 3072]⟩
abbrev S1x8192x3072 : Shape := ⟨3, ![1, 8192, 3072]⟩
abbrev S8192x3072 : Shape := ⟨2, ![8192, 3072]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x3072, .f32⟩
  | .hbm, ⟨3, _⟩ => ⟨S2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S2048x3072, .f32⟩
  | .hbm, ⟨21, _⟩ => ⟨S1x8192x3072, .f32⟩
  | .hbm, ⟨22, _⟩ => ⟨S8192x3072, .f32⟩
  | .hbm, ⟨23, _⟩ => ⟨S8192x2048, .f32⟩
  | .hbm, ⟨24, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== SguFwd.lean ====
abbrev S1x8192x3072 : Shape := ⟨3, ![1, 8192, 3072]⟩
abbrev S1x8192x2048 : Shape := ⟨3, ![1, 8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S8192x3072 : Shape := ⟨2, ![8192, 3072]⟩
abbrev S8192x2048 : Shape := ⟨2, ![8192, 2048]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 33
  | .vmem => 11
  | .smem => 0
  | _ => 0

abbrev bufTy : (tb : Table) → Fin (tcTables nBuf tb) → BufTy
  | .hbm, ⟨0, _⟩ => ⟨S1x8192x3072, .f32⟩
  | .hbm, ⟨1, _⟩ => ⟨S1x8192x2048, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S8x128x128, .f32⟩
  | .hbm, ⟨20, _⟩ => ⟨S_, .f32⟩
  | .hbm, ⟨21, _⟩ => ⟨S_, .f32⟩
  | .hbm, ⟨22, _⟩ => ⟨S8x128x128, .i1⟩
  | .hbm, ⟨23, _⟩ => ⟨S8x128x128, .f32⟩
  | .hbm, ⟨24, _⟩ => ⟨S8x128x128, .f32⟩
  | .hbm, ⟨25, _⟩ => ⟨S8x128, .f32⟩
  | .hbm, ⟨26, _⟩ => ⟨S8x128x1, .f32⟩
  | .hbm, ⟨27, _⟩ => ⟨S8x128x128, .f32⟩
  | .hbm, ⟨28, _⟩ => ⟨S8192x3072, .f32⟩
  | .hbm, ⟨29, _⟩ => ⟨S8192x2048, .f32⟩
  | .hbm, ⟨30, _⟩ => ⟨S8192x2048, .bf16⟩
  | .hbm, ⟨31, _⟩ => ⟨S8x128x128, .bf16⟩
  | .hbm, ⟨32, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S8x128x128, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguFwdIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== SguFwdRefIdeal.lean ====
abbrev S1x8192x3072 : Shape := ⟨3, ![1, 8192, 3072]⟩
abbrev S1x8192x2048 : Shape := ⟨3, ![1, 8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1024 : Shape := ⟨1, ![1024]⟩
abbrev S8x128x128 : Shape := ⟨3, ![8, 128, 128]⟩
abbrev S_ : Shape := ⟨0, ![]⟩
abbrev S128x128 : Shape := ⟨2, ![128, 128]⟩
abbrev S1x128x128 : Shape := ⟨3, ![1, 128, 128]⟩
abbrev S8x128 : Shape := ⟨2, ![8, 128]⟩
abbrev S1x8192x1024 : Shape := ⟨3, ![1, 8192, 1024]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S8x1x64x128x128 : Shape := ⟨5, ![8, 1, 64, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8192x2048 : Shape := ⟨2, ![8192, 2048]⟩

abbrev nBuf : Space → Nat
  | .hbm => 107
  | .vmem => 0
  | .smem => 0
  | _ => 0

abbrev bufTy : (tb : Table) → Fin (tcTables nBuf tb) → BufTy
  | .hbm, ⟨0, _⟩ => ⟨S1x8192x3072, .f32⟩
  | .hbm, ⟨1, _⟩ => ⟨S1x8192x2048, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x1024, .f32⟩
  | .hbm, ⟨7, _⟩ => ⟨S1x8192x2048, .f32⟩
  | .hbm, ⟨8, _⟩ => ⟨S1024, .f32⟩
  | .hbm, ⟨9, _⟩ => ⟨S1024, .f32⟩
  | .hbm, ⟨10, _⟩ => ⟨S8x128x128, .f32⟩
  | .hbm, ⟨11, _⟩ => ⟨S_, .i1⟩
  | .hbm, ⟨12, _⟩ => ⟨S128x128, .i1⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .i1⟩
  | .hbm, ⟨20, _⟩ => ⟨S128x128, .i1⟩
  | .hbm, ⟨21, _⟩ => ⟨S128x128, .i1⟩
  | .hbm, ⟨22, _⟩ => ⟨S1x128x128, .i1⟩
  | .hbm, ⟨23, _⟩ => ⟨S_, .f32⟩
  | .hbm, ⟨24, _⟩ => ⟨S8x128x128, .f32⟩
  | .hbm, ⟨25, _⟩ => ⟨S8x128x128, .i1⟩
  | .hbm, ⟨26, _⟩ => ⟨S8x128x128, .f32⟩
  | .hbm, ⟨27, _⟩ => ⟨S8x128, .f32⟩
  | .hbm, ⟨28, _⟩ => ⟨S1x8192x2048, .f32⟩
  | .hbm, ⟨29, _⟩ => ⟨S1x8192x2048, .f32⟩
  | .hbm, ⟨30, _⟩ => ⟨S_, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S_, .f32⟩
  | .hbm, ⟨39, _⟩ => ⟨S1x8192x2048, .f32⟩
  | .hbm, ⟨40, _⟩ => ⟨S1x8192x2048, .f32⟩
  | .hbm, ⟨41, _⟩ => ⟨S_, .f32⟩
  | .hbm, ⟨42, _⟩ => ⟨S1x8192x2048, .f32⟩
  | .hbm, ⟨43, _⟩ => ⟨S1x8192x2048, .f32⟩
  | .hbm, ⟨44, _⟩ => ⟨S1x8192x2048, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x8192, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S_, .f32⟩
  | .hbm, ⟨57, _⟩ => ⟨S1x8192, .f32⟩
  | .hbm, ⟨58, _⟩ => ⟨S1x8192x1, .f32⟩
  | .hbm, ⟨59, _⟩ => ⟨S_, .f32⟩
  | .hbm, ⟨60, _⟩ => ⟨S1x8192x1, .f32⟩
  | .hbm, ⟨61, _⟩ => ⟨S1x8192x1, .f32⟩
  | .hbm, ⟨62, _⟩ => ⟨S1x8192x1024, .f32⟩
  | .hbm, ⟨63, _⟩ => ⟨S1x8192x1024, .f32⟩
  | .hbm, ⟨64, _⟩ => ⟨S_, .f32⟩
  | .hbm, ⟨65, _⟩ => ⟨S1x8192x1, .f32⟩
  | .hbm, ⟨66, _⟩ => ⟨S1x8192x1, .f32⟩
  | .hbm, ⟨67, _⟩ => ⟨S1x8192x1, .f32⟩
  | .hbm, ⟨68, _⟩ => ⟨S1x8192x1024, .f32⟩
  | .hbm, ⟨69, _⟩ => ⟨S1x8192x1024, .f32⟩
  | .hbm, ⟨70, _⟩ => ⟨S1x1x1024, .f32⟩
  | .hbm, ⟨71, _⟩ => ⟨S1x8192x1024, .f32⟩
  | .hbm, ⟨72, _⟩ => ⟨S1x8192x1024, .f32⟩
  | .hbm, ⟨73, _⟩ => ⟨S1x1x1024, .f32⟩
  | .hbm, ⟨74, _⟩ => ⟨S1x8192x1024, .f32⟩
  | .hbm, ⟨75, _⟩ => ⟨S1x8192x1024, .f32⟩
  | .hbm, ⟨76, _⟩ => ⟨S1x64x128x8x128, .f32⟩
  | .hbm, ⟨77, _⟩ => ⟨S8x1x64x128x128, .f32⟩
  | .hbm, ⟨78, _⟩ => ⟨S1x64x128x8x128, .f32⟩
  | .hbm, ⟨79, _⟩ => ⟨S128x8, .f32⟩
  | .hbm, ⟨80, _⟩ => ⟨S128x8x1, .f32⟩
  | .hbm, ⟨81, _⟩ => ⟨S1x1x128x8x1, .f32⟩
  | .hbm, ⟨82, _⟩ => ⟨S1x64x128x8x128, .f32⟩
  | .hbm, ⟨83, _⟩ => ⟨S1x64x128x8x128, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1024, .f32⟩
  | .hbm, ⟨88, _⟩ => ⟨S1x8192x1024, .f32⟩
  | .hbm, ⟨89, _⟩ => ⟨S_, .f32⟩
  | .hbm, ⟨90, _⟩ => ⟨S1x8192, .f32⟩
  | .hbm, ⟨91, _⟩ => ⟨S1x8192x1, .f32⟩
  | .hbm, ⟨92, _⟩ => ⟨S_, .f32⟩
  | .hbm, ⟨93, _⟩ => ⟨S1x8192x1, .f32⟩
  | .hbm, ⟨94, _⟩ => ⟨S1x8192x1, .f32⟩
  | .hbm, ⟨95, _⟩ => ⟨S_, .f32⟩
  | .hbm, ⟨96, _⟩ => ⟨S1x8192x1, .f32⟩
  | .hbm, ⟨97, _⟩ => ⟨S1x8192x1, .f32⟩
  | .hbm, ⟨98, _⟩ => ⟨S1x8192x1, .f32⟩
  | .hbm, ⟨99, _⟩ => ⟨S1x8192x1024, .f32⟩
  | .hbm, ⟨100, _⟩ => ⟨S1x8192x1024, .f32⟩
  | .hbm, ⟨101, _⟩ => ⟨S1x1x1024, .f32⟩
  | .hbm, ⟨102, _⟩ => ⟨S1x8192x1024, .f32⟩
  | .hbm, ⟨103, _⟩ => ⟨S1x8192x1024, .f32⟩
  | .hbm, ⟨104, _⟩ => ⟨S1x8192x2048, .f32⟩
  | .hbm, ⟨105, _⟩ => ⟨S8192x2048, .f32⟩
  | .hbm, ⟨106, _⟩ => ⟨S8192x2048, .bf16⟩
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== GluFwd.lean ====
abbrev S1x8192x1024 : Shape := ⟨3, ![1, 8192, 1024]⟩
abbrev S1x1024x1024 : Shape := ⟨3, ![1, 1024, 1024]⟩
abbrev S1x1024 : Shape := ⟨2, ![1, 1024]⟩
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x1024x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S1024x1024, .bf16⟩
  | .hbm, ⟨7, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFwdIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== GluFwdRefIdeal.lean ====
abbrev S1x8192x1024 : Shape := ⟨3, ![1, 8192, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S1x8192 : Shape := ⟨2, ![1, 8192]⟩
abbrev S1x8192x1 : Shape := ⟨3, ![1, 8192, 1]⟩
abbrev S8192x1024 : Shape := ⟨2, ![8192, 1024]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024x1024, .f32⟩
  | .hbm, ⟨2, _⟩ => ⟨S1x1024, .f32⟩
  | .hbm, ⟨3, _⟩ => ⟨S1x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S_, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S_, .f32⟩
  | .hbm, ⟨15, _⟩ => ⟨S1x8192x1024, .f32⟩
  | .hbm, ⟨16, _⟩ => ⟨S1x8192x1024, .f32⟩
  | .hbm, ⟨17, _⟩ => ⟨S_, .f32⟩
  | .hbm, ⟨18, _⟩ => ⟨S1x8192x1024, .f32⟩
  | .hbm, ⟨19, _⟩ => ⟨S1x8192x1024, .f32⟩
  | .hbm, ⟨20, _⟩ => ⟨S1x8192x1024, .f32⟩
  | .hbm, ⟨21, _⟩ => ⟨S1024x1024, .f32⟩
  | .hbm, ⟨22, _⟩ => ⟨S1x8192x1024, .f32⟩
  | .hbm, ⟨23, _⟩ => ⟨S1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S_, .f32⟩
  | .hbm, ⟨42, _⟩ => ⟨S1x8192x1, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S1x8192x1, .f32⟩
  | .hbm, ⟨48, _⟩ => ⟨S1x8192x1024, .f32⟩
  | .hbm, ⟨49, _⟩ => ⟨S1x8192x1024, .f32⟩
  | .hbm, ⟨50, _⟩ => ⟨S1x1x1024, .f32⟩
  | .hbm, ⟨51, _⟩ => ⟨S1x8192x1024, .f32⟩
  | .hbm, ⟨52, _⟩ => ⟨S1x8192x1024, .f32⟩
  | .hbm, ⟨53, _⟩ => ⟨S8192x1024, .f32⟩
  | .hbm, ⟨54, _⟩ => ⟨S8192x1024, .bf16⟩
  | .hbm, ⟨55, _⟩ => ⟨S_, .bf16⟩
  | .hbm, ⟨56, _⟩ => ⟨S8192x1024, .bf16⟩
  | .hbm, ⟨57, _⟩ => ⟨S8192x2048, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== MlpUp.lean ====
abbrev S1x8192x2048 : Shape := ⟨3, ![1, 8192, 2048]⟩
abbrev S1x2048x8192 : Shape := ⟨3, ![1, 2048, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x2048 : Shape := ⟨2, ![8192, 2048]⟩
abbrev S8192x8192 : Shape := ⟨2, ![8192, 8192]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 9
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S1x2048x8192, .f32⟩
  | .hbm, ⟨2, _⟩ => ⟨S2048x8192, .f32⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S8192x2048, .f32⟩
  | .hbm, ⟨7, _⟩ => ⟨S8192x2048, .bf16⟩
  | .hbm, ⟨8, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpUpRefIdeal.lean ====
abbrev S1x8192x2048 : Shape := ⟨3, ![1, 8192, 2048]⟩
abbrev S1x2048x8192 : Shape := ⟨3, ![1, 2048, 8192]⟩
abbrev S2048x8192 : Shape := ⟨2, ![2048, 8192]⟩
abbrev S1x8192x8192 : Shape := ⟨3, ![1, 8192, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x8192, .f32⟩
  | .hbm, ⟨2, _⟩ => ⟨S2048x8192, .f32⟩
  | .hbm, ⟨3, _⟩ => ⟨S1x8192x8192, .f32⟩
  | .hbm, ⟨4, _⟩ => ⟨S8192x8192, .f32⟩
  | .hbm, ⟨5, _⟩ => ⟨S8192x8192, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradW.lean ====
abbrev S1x8192x8192 : Shape := ⟨3, ![1, 8192, 8192]⟩
abbrev S1x8192x2048 : Shape := ⟨3, ![1, 8192, 2048]⟩
abbrev S8192x8192 : Shape := ⟨2, ![8192, 8192]⟩
abbrev S8192x2048 : Shape := ⟨2, ![8192, 2048]⟩
abbrev S4x2x1024x2048 : Shape := ⟨4, ![4, 2, 1024, 2048]⟩
abbrev S2048x1024 : Shape := ⟨2, ![2048, 1024]⟩
abbrev S2048x2048 : Shape := ⟨2, ![2048, 2048]⟩
abbrev S1x1x1024x2048 : Shape := ⟨4, ![1, 1, 1024, 2048]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x8192x8192, .f32⟩
  | .hbm, ⟨1, _⟩ => ⟨S1x8192x2048, .f32⟩
  | .hbm, ⟨2, _⟩ => ⟨S8192x8192, .f32⟩
  | .hbm, ⟨3, _⟩ => ⟨S8192x8192, .bf16⟩
  | .hbm, ⟨4, _⟩ => ⟨S8192x2048, .f32⟩
  | .hbm, ⟨5, _⟩ => ⟨S8192x2048, .bf16⟩
  | .hbm, ⟨6, _⟩ => ⟨S4x2x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1024x2048, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v43.toNat, v53.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWRefIdeal.lean ====
abbrev S1x8192x8192 : Shape := ⟨3, ![1, 8192, 8192]⟩
abbrev S1x8192x2048 : Shape := ⟨3, ![1, 8192, 2048]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x8192x8192, .f32⟩
  | .hbm, ⟨1, _⟩ => ⟨S1x8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S1x8192x8192, .f32⟩
  | .hbm, ⟨6, _⟩ => ⟨S1x8192x8192, .f32⟩
  | .hbm, ⟨7, _⟩ => ⟨S1x8192x8192, .f32⟩
  | .hbm, ⟨8, _⟩ => ⟨S1x8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | .hbm, ⟨12, _⟩ => ⟨S4x2x1024x2048, .bf16⟩
  | _, _ => ⟨S1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Adamw.lean ====
abbrev S1x2048x2048 : Shape := ⟨3, ![1, 2048, 2048]⟩
abbrev S2048x2048 : Shape := ⟨2, ![2048, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S_, .f32⟩
  | .hbm, ⟨5, _⟩ => ⟨S1x2048x2048, .f32⟩
  | .hbm, ⟨6, _⟩ => ⟨S1x2048x2048, .f32⟩
  | .hbm, ⟨7, _⟩ => ⟨S_, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S_, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S_, .f32⟩
  | .hbm, ⟨20, _⟩ => ⟨S1x2048x2048, .f32⟩
  | .hbm, ⟨21, _⟩ => ⟨S1x2048x2048, .f32⟩
  | .hbm, ⟨22, _⟩ => ⟨S_, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S_, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S_, .f32⟩
  | .hbm, ⟨31, _⟩ => ⟨S1x2048x2048, .f32⟩
  | .hbm, ⟨32, _⟩ => ⟨S1x2048x2048, .f32⟩
  | .hbm, ⟨33, _⟩ => ⟨S1x2048x2048, .f32⟩
  | .hbm, ⟨34, _⟩ => ⟨S_, .f32⟩
  | .hbm, ⟨35, _⟩ => ⟨S1x2048x2048, .f32⟩
  | .hbm, ⟨36, _⟩ => ⟨S1x2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== SsmState.lean ====
abbrev S8192x1024 : Shape := ⟨2, ![8192, 1024]⟩
abbrev S8x8x256x1024 : Shape := ⟨4, ![8, 8, 256, 1024]⟩
abbrev S8x2x512 : Shape := ⟨3, ![8, 2, 512]⟩
abbrev S8x512x1024 : Shape := ⟨3, ![8, 512, 1024]⟩
abbrev S8x8x512x256 : Shape := ⟨4, ![8, 8, 512, 256]⟩
abbrev S8192x128 : Shape := ⟨2, ![8192, 128]⟩
abbrev S1x8x256x1024 : Shape := ⟨4, ![1, 8, 256, 1024]⟩
abbrev S1x2x512 : Shape := ⟨3, ![1, 2, 512]⟩
abbrev S1x512x1024 : Shape := ⟨3, ![1, 512, 1024]⟩
abbrev S1x8x512x256 : Shape := ⟨4, ![1, 8, 512, 256]⟩
abbrev S512x1024 : Shape := ⟨2, ![512, 1024]⟩
abbrev S512x128 : Shape := ⟨2, ![512, 128]⟩
abbrev S1x1x512x128 : Shape := ⟨4, ![1, 1, 512, 128]⟩
abbrev S1x1x512x256 : Shape := ⟨4, ![1, 1, 512, 256]⟩
abbrev S512x256 : Shape := ⟨2, ![512, 256]⟩
abbrev S1x1x256x1024 : Shape := ⟨4, ![1, 1, 256, 1024]⟩
abbrev S256x1024 : Shape := ⟨2, ![256, 1024]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8x8x256x1024, .f32⟩
  | .hbm, ⟨2, _⟩ => ⟨S8x2x512, .f32⟩
  | .hbm, ⟨3, _⟩ => ⟨S8x512x1024, .f32⟩
  | .hbm, ⟨4, _⟩ => ⟨S8x8x256x1024, .bf16⟩
  | .hbm, ⟨5, _⟩ => ⟨S8x8x512x256, .bf16⟩
  | .hbm, ⟨6, _⟩ => ⟨S8x512x1024, .bf16⟩
  | .hbm, ⟨7, _⟩ => ⟨S8x2x512, .f32⟩
  | .local _ .vmem, ⟨0, _⟩ => ⟨S8192x128, .f32⟩
  | .local _ .vmem, ⟨1, _⟩ => ⟨S8192x128, .f32⟩
  | .local _ .vmem, ⟨2, _⟩ => ⟨S1x8x256x1024, .bf16⟩
  | .local _ .vmem, ⟨3, _⟩ => ⟨S1x8x256x1024, .bf16⟩
  | .local _ .vmem, ⟨4, _⟩ => ⟨S1x2x512, .f32⟩
  | .local _ .vmem, ⟨5, _⟩ => ⟨S1x2x512, .f32⟩
  | .local _ .vmem, ⟨6, _⟩ => ⟨S1x512x1024, .f32⟩
  | .local _ .vmem, ⟨7, _⟩ => ⟨S1x512x1024, .f32⟩
  | .local _ .vmem, ⟨8, _⟩ => ⟨S1x8x512x256, .bf16⟩
  | .local _ .vmem, ⟨9, _⟩ => ⟨S1x8x512x256, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2x512, .f32⟩
  | .local _ .vmem, ⟨13, _⟩ => ⟨S1x2x512, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c511_i32 : BitVec 32 := 511#32
  let v141 : BitVec 32 := Scalar.addi c0_i32 c511_i32
  let c1_i32 : BitVec 32 := 1#32
  ⟨c0_i32, v141, c1_i32⟩
def k0_off1 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let c1_i32_178 : BitVec 32 := 1#32
  let v171 : BitVec 32 := Scalar.addi v170 c1_i32_178
  let v172 : Index := Scalar.indexCast v171
  let c0_179 : Index := 0#32
  ![v172.toNat, 0]
def k0_off2 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let c1_i32_180 : BitVec 32 := 1#32
  let v178 : BitVec 32 := Scalar.addi v170 c1_i32_180
  let v179 : Index := Scalar.indexCast v178
  let c512_181 : Index := 512#32
  ![v179.toNat, 512]
def k0_off3 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let v185 : Index := Scalar.indexCast v170
  let c0_182 : Index := 0#32
  ![v185.toNat, 0]
def k0_off4 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let v189 : Index := Scalar.indexCast v170
  let c512_183 : Index := 512#32
  ![v189.toNat, 512]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SsmFwd.lean ====
abbrev S8192x3072 : Shape := ⟨2, ![8192, 3072]⟩
abbrev S8x8x256x256 : Shape := ⟨4, ![8, 8, 256, 256]⟩
abbrev S8x8x256x1024 : Shape := ⟨4, ![8, 8, 256, 1024]⟩
abbrev S8x2x512 : Shape := ⟨3, ![8, 2, 512]⟩
abbrev S8192x1024 : Shape := ⟨2, ![8192, 1024]⟩
abbrev S8x512x1024 : Shape := ⟨3, ![8, 512, 1024]⟩
abbrev S8x8x512x256 : Shape := ⟨4, ![8, 8, 512, 256]⟩
abbrev S8192x128 : Shape := ⟨2, ![8192, 128]⟩
abbrev S1x8x256x256 : Shape := ⟨4, ![1, 8, 256, 256]⟩
abbrev S1x8x256x1024 : Shape := ⟨4, ![1, 8, 256, 1024]⟩
abbrev S1x2x512 : Shape := ⟨3, ![1, 2, 512]⟩
abbrev S1x512x1024 : Shape := ⟨3, ![1, 512, 1024]⟩
abbrev S1x8x512x256 : Shape := ⟨4, ![1, 8, 512, 256]⟩
abbrev S512x1024 : Shape := ⟨2, ![512, 1024]⟩
abbrev S512x128 : Shape := ⟨2, ![512, 128]⟩
abbrev S1x1x512x128 : Shape := ⟨4, ![1, 1, 512, 128]⟩
abbrev S1x1x512x256 : Shape := ⟨4, ![1, 1, 512, 256]⟩
abbrev S512x256 : Shape := ⟨2, ![512, 256]⟩
abbrev S1x1x256x1024 : Shape := ⟨4, ![1, 1, 256, 1024]⟩
abbrev S256x1024 : Shape := ⟨2, ![256, 1024]⟩
abbrev S1x1x512 : Shape := ⟨3, ![1, 1, 512]⟩
abbrev S1x512 : Shape := ⟨2, ![1, 512]⟩
abbrev S1x1x256x256 : Shape := ⟨4, ![1, 1, 256, 256]⟩
abbrev S256x256 : Shape := ⟨2, ![256, 256]⟩

abbrev nBuf : Space → Nat
  | .hbm => 11
  | .vmem => 17
  | .smem => 0
  | _ => 0

abbrev bufTy : (tb : Table) → Fin (tcTables nBuf tb) → BufTy
  | .hbm, ⟨0, _⟩ => ⟨S8192x3072, .f32⟩
  | .hbm, ⟨1, _⟩ => ⟨S8x8x256x256, .f32⟩
  | .hbm, ⟨2, _⟩ => ⟨S8x8x256x1024, .f32⟩
  | .hbm, ⟨3, _⟩ => ⟨S8x8x256x1024, .f32⟩
  | .hbm, ⟨4, _⟩ => ⟨S8x2x512, .f32⟩
  | .hbm, ⟨5, _⟩ => ⟨S8x8x256x256, .bf16⟩
  | .hbm, ⟨6, _⟩ => ⟨S8x8x256x1024, .bf16⟩
  | .hbm, ⟨7, _⟩ => ⟨S8x8x256x1024, .bf16⟩
  | .hbm, ⟨8, _⟩ => ⟨S8192x1024, .f32⟩
  | .hbm, ⟨9, _⟩ => ⟨S8x512x1024, .f32⟩
  | .hbm, ⟨10, _⟩ => ⟨S8x8x512x256, .bf16⟩
  | .local _ .vmem, ⟨0, _⟩ => ⟨S8192x128, .f32⟩
  | .local _ .vmem, ⟨1, _⟩ => ⟨S8192x128, .f32⟩
  | .local _ .vmem, ⟨2, _⟩ => ⟨S1x8x256x256, .bf16⟩
  | .local _ .vmem, ⟨3, _⟩ => ⟨S1x8x256x256, .bf16⟩
  | .local _ .vmem, ⟨4, _⟩ => ⟨S1x8x256x1024, .bf16⟩
  | .local _ .vmem, ⟨5, _⟩ => ⟨S1x8x256x1024, .bf16⟩
  | .local _ .vmem, ⟨6, _⟩ => ⟨S1x8x256x1024, .bf16⟩
  | .local _ .vmem, ⟨7, _⟩ => ⟨S1x8x256x1024, .bf16⟩
  | .local _ .vmem, ⟨8, _⟩ => ⟨S1x2x512, .f32⟩
  | .local _ .vmem, ⟨9, _⟩ => ⟨S1x2x512, .f32⟩
  | .local _ .vmem, ⟨10, _⟩ => ⟨S8192x128, .f32⟩
  | .local _ .vmem, ⟨11, _⟩ => ⟨S8192x128, .f32⟩
  | .local _ .vmem, ⟨12, _⟩ => ⟨S1x512x1024, .f32⟩
  | .local _ .vmem, ⟨13, _⟩ => ⟨S1x512x1024, .f32⟩
  | .local _ .vmem, ⟨14, _⟩ => ⟨S1x8x512x256, .bf16⟩
  | .local _ .vmem, ⟨15, _⟩ => ⟨S1x8x512x256, .bf16⟩
  | .local _ .vmem, ⟨16, _⟩ => ⟨S512x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c512_i32 : BitVec 32 := 512#32
  let v135 : BitVec 32 := Scalar.addi c0_i32 c512_i32
  let c1_i32 : BitVec 32 := 1#32
  ⟨c0_i32, v135, c1_i32⟩
def k0_off1 (k0_t1 : Fin k0_t1_loop.trips) : Fin 3 → Nat :=
  let c0_559 : Index := 0#32
  let c0_i32 : BitVec 32 := 0#32
  let c1_i32 : BitVec 32 := 1#32
  let arg10 : BitVec 32 := Scf.iv c0_i32 c1_i32 k0_t1
  let v412 : Index := Scalar.indexCast arg10
  let c0_560 : Index := 0#32
  ![0, v412.toNat, 0]
def k0_off2 (k0_t1 : Fin k0_t1_loop.trips) : Fin 3 → Nat :=
  let c0_561 : Index := 0#32
  let c0_i32 : BitVec 32 := 0#32
  let c1_i32 : BitVec 32 := 1#32
  let arg10 : BitVec 32 := Scf.iv c0_i32 c1_i32 k0_t1
  let v416 : Index := Scalar.indexCast arg10
  let c512 : Index := 512#32
  ![0, v416.toNat, 512]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let v420 : Index := Scalar.indexCast arg10
  let c0_562 : Index := 0#32
  ![v420.toNat, 0]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let v422 : Index := Scalar.indexCast arg10
  let c512_563 : Index := 512#32
  ![v422.toNat, 512]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SsmMain.lean ====
abbrev S8x8x512x256 : Shape := ⟨4, ![8, 8, 512, 256]⟩
abbrev S8x8x256x256 : Shape := ⟨4, ![8, 8, 256, 256]⟩
abbrev S8x8x256x1024 : Shape := ⟨4, ![8, 8, 256, 1024]⟩
abbrev S8x512x1024 : Shape := ⟨3, ![8, 512, 1024]⟩
abbrev S128x256 : Shape := ⟨2, ![128, 256]⟩
abbrev S256x256 : Shape := ⟨2, ![256, 256]⟩
abbrev S128x1024 : Shape := ⟨2, ![128, 1024]⟩
abbrev S256x1024 : Shape := ⟨2, ![256, 1024]⟩
abbrev S8192x3072 : Shape := ⟨2, ![8192, 3072]⟩
abbrev S64x8x2x16x128 : Shape := ⟨5, ![64, 8, 2, 16, 128]⟩
abbrev S1x8x512x256 : Shape := ⟨4, ![1, 8, 512, 256]⟩
abbrev S1x8x256x256 : Shape := ⟨4, ![1, 8, 256, 256]⟩
abbrev S1x1x256x1024 : Shape := ⟨4, ![1, 1, 256, 1024]⟩
abbrev S1x512x1024 : Shape := ⟨3, ![1, 512, 1024]⟩
abbrev S8192x128 : Shape := ⟨2, ![8192, 128]⟩
abbrev S8x8x2x16x128 : Shape := ⟨5, ![8, 8, 2, 16, 128]⟩
abbrev S8x1x2x16x128 : Shape := ⟨5, ![8, 1, 2, 16, 128]⟩
abbrev S512x256 : Shape := ⟨2, ![512, 256]⟩
abbrev S8x512x256 : Shape := ⟨3, ![8, 512, 256]⟩
abbrev S8x256x256 : Shape := ⟨3, ![8, 256, 256]⟩
abbrev S1x1x512x256 : Shape := ⟨4, ![1, 1, 512, 256]⟩
abbrev S512x1024 : Shape := ⟨2, ![512, 1024]⟩
abbrev S256x128 : Shape := ⟨2, ![256, 128]⟩
abbrev S16x128 : Shape := ⟨2, ![16, 128]⟩
abbrev S1x1x1x16x128 : Shape := ⟨5, ![1, 1, 1, 16, 128]⟩
abbrev S1x1x256x256 : Shape := ⟨4, ![1, 1, 256, 256]⟩
abbrev S1x256x256 : Shape := ⟨3, ![1, 256, 256]⟩
abbrev S1x512x256 : Shape := ⟨3, ![1, 512, 256]⟩
abbrev S1x512x128 : Shape := ⟨3, ![1, 512, 128]⟩
abbrev S512x128 : Shape := ⟨2, ![512, 128]⟩

abbrev nBuf : Space → Nat
  | .hbm => 23
  | .vmem => 28
  | .smem => 0
  | _ => 0

abbrev bufTy : (tb : Table) → Fin (tcTables nBuf tb) → BufTy
  | .hbm, ⟨0, _⟩ => ⟨S8x8x512x256, .f32⟩
  | .hbm, ⟨1, _⟩ => ⟨S8x8x512x256, .f32⟩
  | .hbm, ⟨2, _⟩ => ⟨S8x8x256x256, .f32⟩
  | .hbm, ⟨3, _⟩ => ⟨S8x8x256x1024, .f32⟩
  | .hbm, ⟨4, _⟩ => ⟨S8x512x1024, .f32⟩
  | .hbm, ⟨5, _⟩ => ⟨S8x512x1024, .f32⟩
  | .hbm, ⟨6, _⟩ => ⟨S128x256, .f32⟩
  | .hbm, ⟨7, _⟩ => ⟨S256x256, .f32⟩
  | .hbm, ⟨8, _⟩ => ⟨S128x1024, .f32⟩
  | .hbm, ⟨9, _⟩ => ⟨S256x1024, .f32⟩
  | .hbm, ⟨10, _⟩ => ⟨S128x256, .bf16⟩
  | .hbm, ⟨11, _⟩ => ⟨S256x256, .bf16⟩
  | .hbm, ⟨12, _⟩ => ⟨S128x1024, .bf16⟩
  | .hbm, ⟨13, _⟩ => ⟨S256x1024, .bf16⟩
  | .hbm, ⟨14, _⟩ => ⟨S8x8x512x256, .bf16⟩
  | .hbm, ⟨15, _⟩ => ⟨S8x8x512x256, .bf16⟩
  | .hbm, ⟨16, _⟩ => ⟨S8x8x256x256, .bf16⟩
  | .hbm, ⟨17, _⟩ => ⟨S8x8x256x1024, .bf16⟩
  | .hbm, ⟨18, _⟩ => ⟨S8x512x1024, .bf16⟩
  | .hbm, ⟨19, _⟩ => ⟨S8192x3072, .bf16⟩
  | .hbm, ⟨20, _⟩ => ⟨S64x8x2x16x128, .f32⟩
  | .hbm, ⟨21, _⟩ => ⟨S64x8x2x16x128, .f32⟩
  | .hbm, ⟨22, _⟩ => ⟨S64x8x2x16x128, .f32⟩
  | .local _ .vmem, ⟨0, _⟩ => ⟨S1x8x512x256, .bf16⟩
  | .local _ .vmem, ⟨1, _⟩ => ⟨S1x8x512x256, .bf16⟩
  | .local _ .vmem, ⟨2, _⟩ => ⟨S1x8x512x256, .bf16⟩
  | .local _ .vmem, ⟨3, _⟩ => ⟨S1x8x512x256, .bf16⟩
  | .local _ .vmem, ⟨4, _⟩ => ⟨S1x8x256x256, .bf16⟩
  | .local _ .vmem, ⟨5, _⟩ => ⟨S1x8x256x256, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S128x256, .bf16⟩
  | .local _ .vmem, ⟨13, _⟩ => ⟨S256x256, .bf16⟩
  | .local _ .vmem, ⟨14, _⟩ => ⟨S128x1024, .bf16⟩
  | .local _ .vmem, ⟨15, _⟩ => ⟨S256x1024, .bf16⟩
  | .local _ .vmem, ⟨16, _⟩ => ⟨S8192x128, .bf16⟩
  | .local _ .vmem, ⟨17, _⟩ => ⟨S8192x128, .bf16⟩
  | .local _ .vmem, ⟨18, _⟩ => ⟨S8x8x2x16x128, .f32⟩
  | .local _ .vmem, ⟨19, _⟩ => ⟨S8x8x2x16x128, .f32⟩
  | .local _ .vmem, ⟨20, _⟩ => ⟨S8x1x2x16x128, .f32⟩
  | .local _ .vmem, ⟨21, _⟩ => ⟨S8x1x2x16x128, .f32⟩
  | .local _ .vmem, ⟨22, _⟩ => ⟨S8x1x2x16x128, .f32⟩
  | .local _ .vmem, ⟨23, _⟩ => ⟨S8x1x2x16x128, .f32⟩
  | .local _ .vmem, ⟨24, _⟩ => ⟨S512x256, .f32⟩
  | .local _ .vmem, ⟨25, _⟩ => ⟨S8x512x256, .f32⟩
  | .local _ .vmem, ⟨26, _⟩ => ⟨S8192x128, .f32⟩
  | .local _ .vmem, ⟨27, _⟩ => ⟨S8x256x256, .f32⟩
  | _, _ => ⟨S8x8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 8], ![false, false]⟩

def k0_off1 (i : grid0.Coords) : Fin 4 → Nat :=
  let c0 : Index := 0#32
  let arg1 : BitVec 32 := BitVec.ofNat 32 (i 1).val
  let v3 : Index := Scalar.indexCast arg1
  let c0_1 : Index := 0#32
  let c0_2 : Index := 0#32
  ![0, v3.toNat, 0, 0]
def k0_cond2 (i : grid0.Coords) : BitVec 1 :=
  let arg1 : BitVec 32 := BitVec.ofNat 32 (i 1).val
  let c0_i32_183 : BitVec 32 := 0#32
  let v166 : BitVec 32 := Scalar.addi arg1 c0_i32_183
  let c8_i32 : BitVec 32 := 8#32
  let v167 : BitVec 1 := Scalar.cmpi .slt v166 c8_i32
  let v168 : BitVec 32 := Scalar.extui v167
  let c0_i32_184 : BitVec 32 := 0#32
  let v169 : BitVec 1 := Scalar.cmpi .ne v168 c0_i32_184
  v169

def k0_off2 (i : grid0.Coords) : Fin 4 → Nat :=
  let c0_207 : Index := 0#32
  let arg1 : BitVec 32 := BitVec.ofNat 32 (i 1).val
  let c0_i32_205 : BitVec 32 := 0#32
  let v206 : BitVec 32 := Scalar.addi arg1 c0_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_cond3 (i : grid0.Coords) : BitVec 1 :=
  let arg1 : BitVec 32 := BitVec.ofNat 32 (i 1).val
  let c1_i32 : BitVec 32 := 1#32
  let v170 : BitVec 32 := Scalar.addi arg1 c1_i32
  let c8_i32_185 : BitVec 32 := 8#32
  let v171 : BitVec 1 := Scalar.cmpi .slt v170 c8_i32_185
  let v172 : BitVec 32 := Scalar.extui v171
  let c0_i32_186 : BitVec 32 := 0#32
  let v173 : BitVec 1 := Scalar.cmpi .ne v172 c0_i32_186
  v173

def k0_off3 (i : grid0.Coords) : Fin 4 → Nat :=
  let c0_207 : Index := 0#32
  let arg1 : BitVec 32 := BitVec.ofNat 32 (i 1).val
  let c1_i32_205 : BitVec 32 := 1#32
  let v206 : BitVec 32 := Scalar.addi arg1 c1_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_cond4 (i : grid0.Coords) : BitVec 1 :=
  let arg1 : BitVec 32 := BitVec.ofNat 32 (i 1).val
  let c2_i32 : BitVec 32 := 2#32
  let v174 : BitVec 32 := Scalar.addi arg1 c2_i32
  let c8_i32_187 : BitVec 32 := 8#32
  let v175 : BitVec 1 := Scalar.cmpi .slt v174 c8_i32_187
  let v176 : BitVec 32 := Scalar.extui v175
  let c0_i32_188 : BitVec 32 := 0#32
  let v177 : BitVec 1 := Scalar.cmpi .ne v176 c0_i32_188
  v177

def k0_off4 (i : grid0.Coords) : Fin 4 → Nat :=
  let c0_207 : Index := 0#32
  let arg1 : BitVec 32 := BitVec.ofNat 32 (i 1).val
  let c2_i32_205 : BitVec 32 := 2#32
  let v206 : BitVec 32 := Scalar.addi arg1 c2_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_cond5 (i : grid0.Coords) : BitVec 1 :=
  let arg1 : BitVec 32 := BitVec.ofNat 32 (i 1).val
  let c3_i32 : BitVec 32 := 3#32
  let v178 : BitVec 32 := Scalar.addi arg1 c3_i32
  let c8_i32_189 : BitVec 32 := 8#32
  let v179 : BitVec 1 := Scalar.cmpi .slt v178 c8_i32_189
  let v180 : BitVec 32 := Scalar.extui v179
  let c0_i32_190 : BitVec 32 := 0#32
  let v181 : BitVec 1 := Scalar.cmpi .ne v180 c0_i32_190
  v181

def k0_off5 (i : grid0.Coords) : Fin 4 → Nat :=
  let c0_207 : Index := 0#32
  let arg1 : BitVec 32 := BitVec.ofNat 32 (i 1).val
  let c3_i32_205 : BitVec 32 := 3#32
  let v206 : BitVec 32 := Scalar.addi arg1 c3_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_cond6 (i : grid0.Coords) : BitVec 1 :=
  let arg1 : BitVec 32 := BitVec.ofNat 32 (i 1).val
  let c4_i32 : BitVec 32 := 4#32
  let v182 : BitVec 32 := Scalar.addi arg1 c4_i32
  let c8_i32_191 : BitVec 32 := 8#32
  let v183 : BitVec 1 := Scalar.cmpi .slt v182 c8_i32_191
  let v184 : BitVec 32 := Scalar.extui v183
  let c0_i32_192 : BitVec 32 := 0#32
  let v185 : BitVec 1 := Scalar.cmpi .ne v184 c0_i32_192
  v185

def k0_off6 (i : grid0.Coords) : Fin 4 → Nat :=
  let c0_207 : Index := 0#32
  let arg1 : BitVec 32 := BitVec.ofNat 32 (i 1).val
  let c4_i32_205 : BitVec 32 := 4#32
  let v206 : BitVec 32 := Scalar.addi arg1 c4_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_cond7 (i : grid0.Coords) : BitVec 1 :=
  let arg1 : BitVec 32 := BitVec.ofNat 32 (i 1).val
  let c5_i32 : BitVec 32 := 5#32
  let v186 : BitVec 32 := Scalar.addi arg1 c5_i32
  let c8_i32_193 : BitVec 32 := 8#32
  let v187 : BitVec 1 := Scalar.cmpi .slt v186 c8_i32_193
  let v188 : BitVec 32 := Scalar.extui v187
  let c0_i32_194 : BitVec 32 := 0#32
  let v189 : BitVec 1 := Scalar.cmpi .ne v188 c0_i32_194
  v189

def k0_off7 (i : grid0.Coords) : Fin 4 → Nat :=
  let c0_207 : Index := 0#32
  let arg1 : BitVec 32 := BitVec.ofNat 32 (i 1).val
  let c5_i32_205 : BitVec 32 := 5#32
  let v206 : BitVec 32 := Scalar.addi arg1 c5_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_cond8 (i : grid0.Coords) : BitVec 1 :=
  let arg1 : BitVec 32 := BitVec.ofNat 32 (i 1).val
  let c6_i32 : BitVec 32 := 6#32
  let v190 : BitVec 32 := Scalar.addi arg1 c6_i32
  let c8_i32_195 : BitVec 32 := 8#32
  let v191 : BitVec 1 := Scalar.cmpi .slt v190 c8_i32_195
  let v192 : BitVec 32 := Scalar.extui v191
  let c0_i32_196 : BitVec 32 := 0#32
  let v193 : BitVec 1 := Scalar.cmpi .ne v192 c0_i32_196
  v193

def k0_off8 (i : grid0.Coords) : Fin 4 → Nat :=
  let c0_207 : Index := 0#32
  let arg1 : BitVec 32 := BitVec.ofNat 32 (i 1).val
  let c6_i32_205 : BitVec 32 := 6#32
  let v206 : BitVec 32 := Scalar.addi arg1 c6_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_cond9 (i : grid0.Coords) : BitVec 1 :=
  let arg1 : BitVec 32 := BitVec.ofNat 32 (i 1).val
  let c7_i32 : BitVec 32 := 7#32
  let v194 : BitVec 32 := Scalar.addi arg1 c7_i32
  let c8_i32_197 : BitVec 32 := 8#32
  let v195 : BitVec 1 := Scalar.cmpi .slt v194 c8_i32_197
  let v196 : BitVec 32 := Scalar.extui v195
  let c0_i32_198 : BitVec 32 := 0#32
  let v197 : BitVec 1 := Scalar.cmpi .ne v196 c0_i32_198
  v197

def k0_off9 (i : grid0.Coords) : Fin 4 → Nat :=
  let c0_207 : Index := 0#32
  let arg1 : BitVec 32 := BitVec.ofNat 32 (i 1).val
  let c7_i32_205 : BitVec 32 := 7#32
  let v206 : BitVec 32 := Scalar.addi arg1 c7_i32_205
  let c7_i32_206 : BitVec 32 := 7#32
  let v207 : BitVec 32 := Scalar.minsi v206 c7_i32_206
  let v208 : Index := Scalar.indexCast v207
  let c0_208 : Index := 0#32
  let c0_209 : Index := 0#32
  ![0, v208.toNat, 0, 0]
def k0_off10 (i : grid0.Coords) : Fin 3 → Nat :=
  let arg1 : BitVec 32 := BitVec.ofNat 32 (i 1).val
  let v199 : Index := Scalar.indexCast arg1
  let c0_201 : Index := 0#32
  let c0_202 : Index := 0#32
  ![v199.toNat, 0, 0]
def k0_cond10 (i : grid0.Coords) : BitVec 1 :=
  let arg1 : BitVec 32 := BitVec.ofNat 32 (i 1).val
  let c7_i32_203 : BitVec 32 := 7#32
  let v203 : BitVec 1 := Scalar.cmpi .eq arg1 c7_i32_203
  let v204 : BitVec 32 := Scalar.extui v203
  let c0_i32_204 : BitVec 32 := 0#32
  let v205 : BitVec 1 := Scalar.cmpi .ne v204 c0_i32_204
  v205

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x8x2x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x1x2x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x1x2x16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.MlpBwdValue.lean ====
module

public import proofs.«01_k».proof.Proof.Gen.MlpBwdIdeal.Value
public import proofs.«01_k».proof.Proof.Gen.MlpBwdRefIdeal.Run
public import proofs.«01_k».proof.Proof.Gen.MlpBwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MlpBwdIdeal.Value

open Cert.MlpBwdIdeal Cert.MlpBwdIdeal.Gen
open Cert.MlpBwdRefIdeal.Read

variable (m : (ℓ : Loc nD τ sig) → Buf (Elt Ideal) ℓ)

/-- The block index of every window at every grid point. -/
theorem idx : ∀ t : Fin cfg0.N, win0_0.index t = ![t.val / 8, 0]
    ∧ win0_1.index t = ![t.val / 8, t.val % 8]
    ∧ win0_2.index t = ![t.val % 8 / 2, 0, t.val % 8 % 2]
    ∧ win0_3.index t = ![t.val % 8, 0]
    ∧ win0_4.index t = ![t.val / 8, t.val % 8]
    ∧ win0_5.index t = ![t.val / 8, 0] :=
  (by decide +kernel : ∀ t : Fin grid0.N, _)

/-- The gradient of the squared ReLU: the factor `2 * max u 0` is the branch on `u > 0`. -/
theorem relu_grad (a b u : EReal) : a * (b * max u 0) = if 0 < u then a * (b * max u 0) else 0 := by
  split_ifs with h
  · rfl
  · rw [max_eq_right (not_lt.mp h), mul_zero, mul_zero]

/-- The block of the pre-activation, a product the host prepared, as a sum over the model axis. -/
theorem up_block (c : Dev nD) (t : Fin cfg0.N) (y : S1024x1024.Idx) :
    (show FVec Ideal S1024x1024 .bf16 from iblk m c 1 t) y
      = ∑ x : Fin 2048, (show FVec Ideal S1x8192x2048 .f32 from m ((c : Thread nD τ).loc main_arg1)) (ix3 0 (((cfg0.win 1).blk t).view.emb y 0) x)
        * (show FVec Ideal S1x2048x8192 .f32 from m ((c : Thread nD τ).loc main_arg2)) (ix3 0 x (((cfg0.win 1).blk t).view.emb y 1)) := by
  show (iblk m c 1 t) y = _
  blk_simp [iblk]
  entry_read
  pointwise

/-- What the body stores in the gradient's block is the reference's gradient at the array index. -/
theorem point (c : Dev nD) (t : Fin cfg0.N) (y) :
    k0_pay2 (iblk m c 0 t) (iblk m c 3 t) (iblk m c 1 t) y
      = val_main_v16 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay2,  val_main_v16,  val_main_v15, val_main_v14, val_main_v13, val_main_v12, val_main_v11, val_main_v9, val_main_v8, val_main_v7, val_main_v6, val_main_v4, val_main_v3, val_main_v2, val_main_v1, val_main_v0,  val_main_cst,  val_main_cst_1,  val_main_cst_2,  val_main_call0_v0,  val_main_call0_cst]
  refine (relu_grad _ _ _).trans ?_
  rw [show (iblk m c 1 t) y = _ from up_block m c t y]
  blk_point [iblk, V, idx t]

/-- The bf16 gradient array. -/
theorem final_4 (c : Dev nD) : (dats m 0 c).arrAt 4 (cfgs 0).N = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 8 = 0
  · rw [outsAt0_A m c t h]; dsimp only; frame_out; exact point m c t y
  · rw [outsAt0_B m c t h]; dsimp only; frame_out; exact point m c t y

/-- The zero fill. -/
theorem hzero (j : S1024x2048.Idx) : k0_pay1 (F := Ideal) j = 0 := by
  pointwise! [k0_pay1]

/-- One point adds the product of the gradient block with the weight block. -/
theorem hpay (v3 : Vec Ideal S1024x2048 .bf16) (v5 : Vec Ideal S1024x2048 .bf16) (v8 : Vec Ideal S1024x1024 .bf16) (v18 : Vec Ideal S1024x2048 .f32) (v20 : Vec Ideal S1x2048x1024 .bf16) (j : S1024x2048.Idx) :
    k0_pay3 v3 v5 v8 v18 v20 j = v18 j + ∑ k : Fin 1024, k0_pay2 v3 v5 v8 (ix2 (j 0) k) * v20 (ix3 0 (j 1) k) := by
  pointwise [k0_pay3]

/-- The gradient of the MLP's input. -/
theorem final_5 (c : Dev nD) : (dats m 0 c).arrAt 5 (cfgs 0).N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 8 (fun _ => 0) _
    (fun t h j => by rw [outsAt0_A m c t h]; frame_out; rw [hpay, hzero])
    (fun t h j => by rw [outsAt0_B m c t h]; frame_out; rw [hpay])
    t ((flush0_5 t).mp hf) _, zero_add]
  pointwise [val_main_v18, val_main_v17]
  refine Fin.sum_mul_add_congr fun s k hl => ?_
  rw [point]
  simp only [val_main_v16, val_main_v15]
  pointwise [val_main_v0]
  blk_point [iblk, V, idx t, idx ⟨_, Pipeline.run_point_lt_of_flush t ((flush0_5 t).mp hf) s⟩]

end Cert.MlpBwdIdeal.Value
-- ==== Proof.MlpBwdClaim.lean ====
module

public import proofs.«01_k».proof.Defs
public import proofs.«01_k».proof.Proof.Gen.MlpBwd.Frame
public import proofs.«01_k».proof.Proof.MlpBwdValue

@[expose] public section

set_option maxRecDepth 16384

noncomputable section

open Idealize.ShloMosaic Idealize.SL.Sem

namespace Cert.MlpBwdIdeal.Claims

/-- The printed program runs to its end, leaves its arguments alone and its counters at zero. -/
theorem frame_float : Cert.quiescent_MlpBwd (hMlpBwd := Cert.MlpBwd.Gen.facts) := fun m g _ =>
  Cert.MlpBwd.Gen.frame m g

/-- So does its idealization. -/
theorem frame_ideal : Cert.quiescent_MlpBwdIdeal (hMlpBwdIdeal := Cert.MlpBwdIdeal.Gen.facts) := fun m g _ =>
  Cert.MlpBwdIdeal.Gen.frame m g

/-- So does the reference, a straight line of host operations without a counter. -/
theorem frame_reference : Cert.quiescent_MlpBwdRefIdeal (hMlpBwdRefIdeal := Cert.MlpBwdRefIdeal.Gen.facts) := fun m g _ =>
  (θ_run Cert.MlpBwdRefIdeal.defs _ _).mono (fun r h => ⟨fun c => (h c).2.2, sem_eq_zero_of_no_sems (by decide) r.2⟩)
    (Cert.MlpBwdRefIdeal.Value.run m g)

/-- Over the reals the kernel's results are the reference's. -/
theorem algebraic : Cert.algebraic_MlpBwdIdeal_MlpBwdRefIdeal (hMlpBwdIdeal := Cert.MlpBwdIdeal.Gen.facts) (hMlpBwdRefIdeal := Cert.MlpBwdRefIdeal.Gen.facts) := by
  intro m g m' g' hpre hagree
  refine ⟨fun c => Cert.MlpBwdRefIdeal.Read.val_main_v16 (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)),
    fun c => Cert.MlpBwdRefIdeal.Read.val_main_v18 (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)), ?_, ?_⟩
  · exact (θ_run Cert.MlpBwdIdeal.defs _ _).mono
      (fun _ h c => ⟨(h c).1.trans (Cert.MlpBwdIdeal.Value.final_4 m c),
        (h c).2.1.trans (Cert.MlpBwdIdeal.Value.final_5 m c), (h c).2.2⟩)
      (Cert.MlpBwdIdeal.Value.run_blocks m g)
  · exact (θ_run Cert.MlpBwdRefIdeal.defs _ _).mono
      (fun _ h c => ⟨(h c).1.trans ((Cert.MlpBwdRefIdeal.Read.val_main_v16_eq _ _ _ _).trans (by rw [(hagree c).1, (hagree c).2.1, (hagree c).2.2.1, (hagree c).2.2.2])),
        (h c).2.1.trans ((Cert.MlpBwdRefIdeal.Read.val_main_v18_eq _ _ _ _).trans (by rw [(hagree c).1, (hagree c).2.1, (hagree c).2.2.1, (hagree c).2.2.2])), (h c).2.2⟩)
      (Cert.MlpBwdRefIdeal.Value.run m' g')

end Cert.MlpBwdIdeal.Claims

end
-- ==== Proof.RmsGrad.lean ====
/- The gradient of a root-mean-square norm over the extended reals: the kernels' closed form `x * r ^ 3 * mean` and the two
   halves that differentiating `x * rsqrt (mean (x * x) + eps)` leaves are the same value, infinities included. -/
module

public import Idealize.ShloMosaic.PureOps.Ideal.Laws
public import Mathlib.Data.EReal.Inv

@[expose] public section

noncomputable section

open Idealize.ShloMosaic
open scoped BigOperators

namespace Cert.Rms

/-- The literal 2048. -/
theorem lit_2048 : Ideal.ofBits .f32 1157627904#32 = ((2048 : ℝ) : EReal) := by
  simp [Ideal.ofBits, Ideal.ieee]
  norm_num
  rw [← EReal.coe_mul]
  norm_num

/-- The literal -1/2. -/
theorem lit_neg_half : Ideal.ofBits .f32 3204448256#32 = ((-(1 / 2) : ℝ) : EReal) := by
  simp [Ideal.ofBits, Ideal.ieee]
  norm_num
  rw [← EReal.coe_mul]
  norm_num

/-- The literal eps is a positive number. -/
theorem lit_eps_pos : (0 : EReal) < Ideal.ofBits .f32 897988541#32 := by
  simp [Ideal.ofBits, Ideal.ieee]
  rw [← EReal.coe_mul]
  exact_mod_cast (by norm_num : (0 : ℝ) < 8796093 * (2 ^ 43)⁻¹)

/-- The literal 1024. -/
theorem lit_1024 : Ideal.ofBits .f32 1149239296#32 = ((1024 : ℝ) : EReal) := by
  simp [Ideal.ofBits, Ideal.ieee]
  norm_num
  rw [← EReal.coe_mul]
  norm_num

/-- Division by a positive literal is multiplication by its inverse. -/
theorem div_lit {l : EReal} {N : ℝ} (hl : l = N) (hN : 0 < N) (x : EReal) : Ideal.div x l = x * ((N⁻¹ : ℝ) : EReal) := by
  rw [hl, Ideal.div, if_neg (by exact_mod_cast hN.ne'), ← EReal.coe_inv]

/-- Division by 2048 is multiplication by its inverse. -/
theorem div_2048 (x : EReal) : Ideal.div x (Ideal.ofBits .f32 1157627904#32) = x * (((2048 : ℝ)⁻¹ : ℝ) : EReal) :=
  div_lit lit_2048 (by norm_num) x

/-- A square is not negative. -/
theorem mul_self_nonneg (x : EReal) : 0 ≤ x * x := by
  induction x with
  | bot => simp
  | top => simp
  | coe r => exact_mod_cast _root_.mul_self_nonneg r

/-- The mean of squares plus eps is positive, whatever the width `l` that the mean divides by. -/
theorem norm_pos_of {l : EReal} {N : ℝ} (hl : l = N) (hN : 0 < N) {n : ℕ} (x : Fin n → EReal) :
    0 < Ideal.div (∑ k, x k * x k) l + Ideal.ofBits .f32 897988541#32 := by
  rw [div_lit hl hN]
  have h : (0 : EReal) ≤ (∑ k, x k * x k) * ((N⁻¹ : ℝ) : EReal) :=
    mul_nonneg (Finset.sum_nonneg fun k _ => mul_self_nonneg (x k)) (by exact_mod_cast (inv_pos.mpr hN).le)
  calc (0 : EReal) < Ideal.ofBits .f32 897988541#32 := lit_eps_pos
    _ = 0 + Ideal.ofBits .f32 897988541#32 := (zero_add _).symm
    _ ≤ _ := by gcongr

/-- The mean of squares over 2048 columns plus eps is positive. -/
theorem norm_pos {n : ℕ} (x : Fin n → EReal) :
    0 < Ideal.div (∑ k, x k * x k) (Ideal.ofBits .f32 1157627904#32) + Ideal.ofBits .f32 897988541#32 :=
  norm_pos_of lit_2048 (by norm_num) x

/-- The reciprocal root of a positive value is a number, and its cube is the quotient that differentiating it leaves. -/
theorem rsqrt_cube {v : EReal} (hv : 0 < v) :
    ∃ r c : ℝ, Ideal.rsqrt v = r ∧ Ideal.rsqrt v * Ideal.rsqrt v * Ideal.rsqrt v = c ∧ Ideal.div (Ideal.rsqrt v) v = c := by
  induction v with
  | bot => exact absurd hv (by simp)
  | top =>
    refine ⟨0, 0, rfl, ?_, ?_⟩
    · show (0 : EReal) * 0 * 0 = _; simp
    · show Ideal.div 0 ⊤ = _; simp [Ideal.div]
  | coe v =>
    have h : 0 < v := by exact_mod_cast hv
    have hr : Ideal.rsqrt (v : EReal) = ((Real.sqrt v)⁻¹ : ℝ) := by
      show (if v < 0 then (⊥ : EReal) else if v = 0 then ⊤ else (((Real.sqrt v)⁻¹ : ℝ) : EReal)) = _
      rw [if_neg (not_lt.mpr h.le), if_neg h.ne']
    refine ⟨(Real.sqrt v)⁻¹, (Real.sqrt v)⁻¹ * (Real.sqrt v)⁻¹ * (Real.sqrt v)⁻¹, hr, ?_, ?_⟩
    · rw [hr]; norm_cast
    · rw [hr, Ideal.div, if_neg (by exact_mod_cast h.ne'), ← EReal.coe_inv, ← EReal.coe_mul]
      congr 1
      have : (Real.sqrt v)⁻¹ * (Real.sqrt v)⁻¹ = v⁻¹ := by rw [← mul_inv, Real.mul_self_sqrt h.le]
      rw [mul_assoc, this]

/-- Twice a value. -/
theorem add_self (y : EReal) : y + y = y * ((2 : ℝ) : EReal) := by
  induction y with
  | bot => rw [EReal.bot_mul_coe_of_pos (by norm_num)]; rfl
  | top => rw [EReal.top_mul_coe_of_pos (by norm_num)]; rfl
  | coe r => norm_cast; ring

/-- The two halves that differentiating the norm's factor leaves are the kernels' one product, subtracted. -/
theorem halves {l : EReal} {N : ℝ} (hl : l = N) (hN : 0 < N) {v : EReal} (hv : 0 < v) (x s : EReal) :
    x * Ideal.div (s * (Ideal.ofBits .f32 3204448256#32 * Ideal.div (Ideal.rsqrt v) v)) l
      + Ideal.div (s * (Ideal.ofBits .f32 3204448256#32 * Ideal.div (Ideal.rsqrt v) v)) l * x
    = -(x * (Ideal.rsqrt v * Ideal.rsqrt v * Ideal.rsqrt v) * Ideal.div s l) := by
  obtain ⟨r, c, -, hc, hd⟩ := rsqrt_cube hv
  rw [hc, hd, div_lit hl hN, div_lit hl hN, lit_neg_half]
  rw [mul_comm _ x, add_self]
  have e1 : x * (s * (((-(1 / 2) : ℝ) : EReal) * (c : EReal)) * ((N⁻¹ : ℝ) : EReal)) * ((2 : ℝ) : EReal)
      = (x * s) * ((((-(1 / 2) : ℝ) : EReal) * (c : EReal)) * ((N⁻¹ : ℝ) : EReal) * ((2 : ℝ) : EReal)) := by ac_rfl
  have e2 : x * (c : EReal) * (s * ((N⁻¹ : ℝ) : EReal)) = (x * s) * ((c : EReal) * ((N⁻¹ : ℝ) : EReal)) := by ac_rfl
  rw [e1, e2, ← mul_neg]
  congr 1
  norm_cast
  ring

/-- The gradient of the norm's input: the scaled cotangent `a` and the mean's share. -/
theorem scaled_grad {l : EReal} {N : ℝ} (hl : l = N) (hN : 0 < N) {v : EReal} (hv : 0 < v) (a x s : EReal) :
    Ideal.rsqrt v * a - x * (Ideal.rsqrt v * Ideal.rsqrt v * Ideal.rsqrt v) * Ideal.div s l
    = a * Ideal.rsqrt v
      + x * Ideal.div (s * (Ideal.ofBits .f32 3204448256#32 * Ideal.div (Ideal.rsqrt v) v)) l
      + Ideal.div (s * (Ideal.ofBits .f32 3204448256#32 * Ideal.div (Ideal.rsqrt v) v)) l * x := by
  rw [add_assoc, halves hl hN hv, sub_eq_add_neg, mul_comm a]

/-- The same beside the residual's cotangent `d`, over 2048 columns. -/
theorem input_grad {v : EReal} (hv : 0 < v) (d a x s : EReal) :
    d + (Ideal.rsqrt v * a - x * (Ideal.rsqrt v * Ideal.rsqrt v * Ideal.rsqrt v) * Ideal.div s (Ideal.ofBits .f32 1157627904#32))
    = d + a * Ideal.rsqrt v
      + x * Ideal.div (s * (Ideal.ofBits .f32 3204448256#32 * Ideal.div (Ideal.rsqrt v) v)) (Ideal.ofBits .f32 1157627904#32)
      + Ideal.div (s * (Ideal.ofBits .f32 3204448256#32 * Ideal.div (Ideal.rsqrt v) v)) (Ideal.ofBits .f32 1157627904#32) * x := by
  rw [scaled_grad lit_2048 (by norm_num) hv, add_assoc d, add_assoc d, add_assoc]

/-- A host sum over axes of one element each keeps the element. -/
theorem hostReduceAdd_unit {s t : Shape} {axes : List (Fin s.rank)} (h : s.ReducesTo axes t) (x : s.Idx → EReal)
    (init : EReal) (j : t.Idx) (i : s.Idx) (hi : ∀ b, (h.drop i b).val = (j b).val)
    (hu : ∀ i' : s.Idx, (∀ b, (h.drop i' b).val = (j b).val) → ∀ a, (i' a).val = (i a).val) :
    Ideal.hostReduceAdd h x init j = init + x i := by
  unfold Ideal.hostReduceAdd
  rw [show (Finset.univ.filter fun i' => h.drop i' = j) = {i} from
    Finset.ext fun i' => by
      simp only [Finset.mem_filter, Finset.mem_univ, true_and, Finset.mem_singleton]
      exact ⟨fun e => funext fun a => Fin.ext (hu i' (fun b => by rw [e]) a), fun e => funext fun b => Fin.ext (by rw [e, hi])⟩,
    Finset.sum_singleton]

end Cert.Rms

end
-- ==== Proof.NormOutValue.lean ====
module

public import proofs.«01_k».proof.Proof.Gen.NormOutIdeal.Value
public import proofs.«01_k».proof.Proof.Gen.NormOutRefIdeal.Run
public import proofs.«01_k».proof.Proof.Gen.NormOutRefIdeal.Read
public import proofs.«01_k».proof.Proof.RmsGrad
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.NormOutIdeal.Value

open Cert.NormOutIdeal Cert.NormOutIdeal.Gen
open Cert.NormOutRefIdeal.Read

variable (m : (ℓ : Loc nD τ sig) → Buf (Elt Ideal) ℓ)

/-- The block index of every window at every grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![0, 0]
    ∧ win0_8.index t = ![t.val, 0] :=
  (by decide +kernel : ∀ t : Fin grid0.N, _)

section
open Cert.NormOutRefIdeal

/-- The reference sums the mean's share over an axis of one row. -/
theorem row_share (x0 x2 x3 : FVec Ideal S1x8192x2048 .f32) (x4 : FVec Ideal S1x2048 .f32) (x5 : FVec Ideal S1x2048x2048 .f32) (i : S8192.Idx) :
    val_main_v35 (F := Ideal) x0 x2 x3 x4 x5 i = val_main_v34 (F := Ideal) x0 x2 x3 x4 x5 (ix3 0 (i 0) 0) := by
  unfold val_main_v35
  generalize val_main_v34 (F := Ideal) x0 x2 x3 x4 x5 = y
  simp only [Host.reduceAdd]
  refine (Cert.Rms.hostReduceAdd_unit Cert.NormOutRefIdeal.Gen.reducesTo_S1x8192x1_S8192_d0_2 y _ i (ix3 0 (i 0) 0) ?_ ?_).trans ?_
  · intro b
    have hb : b = 0 := Fin.fin_one_eq_zero b
    subst hb
    rfl
  · intro i' h
    have h1 : (i' 1).val = (i 0).val := h 0
    have h0 : (i' 0).val < 1 := (i' 0).isLt
    have h2 : (i' 2).val < 1 := (i' 2).isLt
    intro a
    fin_cases a
    · show (i' 0).val = 0
      omega
    · exact h1
    · show (i' 2).val = 0
      omega
  · pointwise [val_main_cst_7]

/-- The reference sums the gain's gradient over an axis of one row. -/
theorem gain_share (x0 x2 x3 : FVec Ideal S1x8192x2048 .f32) (x5 : FVec Ideal S1x2048x2048 .f32) (i : S2048.Idx) :
    val_main_v25 (F := Ideal) x0 x2 x3 x5 i = val_main_v22 (F := Ideal) x0 x2 x3 x5 (ix3 0 0 (i 0)) := by
  unfold val_main_v25
  generalize val_main_v22 (F := Ideal) x0 x2 x3 x5 = y
  simp only [Host.reduceAdd]
  refine (Cert.Rms.hostReduceAdd_unit Cert.NormOutRefIdeal.Gen.reducesTo_S1x1x2048_S2048_d0_1 y _ i (ix3 0 0 (i 0)) ?_ ?_).trans ?_
  · intro b
    have hb : b = 0 := Fin.fin_one_eq_zero b
    subst hb
    rfl
  · intro i' h
    have h2 : (i' 2).val = (i 0).val := h 0
    have h0 : (i' 0).val < 1 := (i' 0).isLt
    have h1 : (i' 1).val < 1 := (i' 1).isLt
    intro a
    fin_cases a
    · show (i' 0).val = 0
      omega
    · show (i' 1).val = 0
      omega
    · exact h2
  · pointwise [val_main_cst_4]

end

/-- The block of the norm's input, which the host prepared from the residual and the mixer's product. -/
theorem x1_block (c : Dev nD) (t : Fin cfg0.N) (y : S512x2048.Idx) :
    iblk m c 1 t y = val_main_v2 (F := Ideal) (m ((c : Thread nD τ).loc main_arg2)) (m ((c : Thread nD τ).loc main_arg3)) (m ((c : Thread nD τ).loc main_arg5))
      (ix3 0 (((cfg0.win 1).blk t).view.emb y 0) (((cfg0.win 1).blk t).view.emb y 1)) := by
  blk_simp [iblk]
  entry_read
  pointwise [val_main_v2, val_main_v1, val_main_v0]

/-- What the body stores in the input gradient's block is the reference's at the array index. -/
theorem point (c : Dev nD) (t : Fin cfg0.N) (y : S512x2048.Idx) (i : S8192x2048.Idx) (h0 : (i 0).val = t.val * 512 + (y 0).val) (h1 : (i 1).val = (y 1).val) :
    k0_pay8 (iblk m c 1 t) (iblk m c 0 t) (iblk m c 3 t) (iblk m c 2 t) y
      = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  pointwise [k0_pay8, k0_pay7, k0_pay6, k0_pay5, k0_pay4, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_cst_3, val_main_v21, val_main_v22, val_main_v23, val_main_v24, val_main_cst_4, val_main_v26, val_main_cst_5, val_main_v27, val_main_v28, val_main_v29, val_main_v30, val_main_v31, val_main_v32, val_main_cst_6, val_main_v33, val_main_v34, val_main_cst_7, val_main_v36, val_main_v37, val_main_v38, val_main_v39, val_main_v40, val_main_v41, val_main_v42, val_main_v43, val_main_v44, val_main_v45, val_main_v46, val_main_v47, val_main_v48]
  simp only [row_share]
  pointwise [val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_cst_3, val_main_v21, val_main_v22, val_main_v23, val_main_v24, val_main_cst_4, val_main_v26, val_main_cst_5, val_main_v27, val_main_v28, val_main_v29, val_main_v30, val_main_v31, val_main_v32, val_main_cst_6, val_main_v33, val_main_v34, val_main_cst_7, val_main_v36, val_main_v37, val_main_v38, val_main_v39, val_main_v40, val_main_v41, val_main_v42, val_main_v43, val_main_v44, val_main_v45, val_main_v46, val_main_v47, val_main_v48]
  refine (Cert.Rms.input_grad (Cert.Rms.norm_pos _) _ _ _ _).trans ?_
  simp only [x1_block]
  blk_point [iblk, V, idx t]

/-- The f32 gradient of the residual stream. -/
theorem final_5 (c : Dev nD) : (dats m 0 c).arrAt 5 (cfgs 0).N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp; rw [after0_5]
  by_cases h : t.val % 16 = 0
  · rw [outsAt0_A m c t h]; dsimp only; frame_out; refine point m c t y _ ?_ ?_ <;> blk_simp [idx t] <;> (try omega)
  · rw [outsAt0_B m c t h]; dsimp only; frame_out; refine point m c t y _ ?_ ?_ <;> blk_simp [idx t] <;> (try omega)

/-- Its bf16 copy. -/
theorem final_6 (c : Dev nD) : (dats m 0 c).arrAt 6 (cfgs 0).N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  by_cases h : t.val % 16 = 0
  · rw [outsAt0_A m c t h]; dsimp only; frame_out; refine point m c t y _ ?_ ?_ <;> blk_simp [idx t] <;> (try omega)
  · rw [outsAt0_B m c t h]; dsimp only; frame_out; refine point m c t y _ ?_ ?_ <;> blk_simp [idx t] <;> (try omega)

/-- One block of the mixer's gradient: the product of the block of the stream's gradient with the projection. -/
theorem mix_point (c : Dev nD) (t : Fin cfg0.N) (y : S512x2048.Idx) :
    k0_pay2 (k0_pay9 (iblk m c 1 t) (iblk m c 0 t) (iblk m c 3 t) (iblk m c 2 t)) (iblk m c 4 t) y
      = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  have hp : ∀ (y : S512x2048.Idx) (i : S8192x2048.Idx), (i 0).val = t.val * 512 + (y 0).val → (i 1).val = (y 1).val →
      k0_pay9 (iblk m c 1 t) (iblk m c 0 t) (iblk m c 3 t) (iblk m c 2 t) y = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 (i 0) (i 1)) := by
    intro y i h0 h1
    refine (point m c t y i h0 h1).trans ?_
    pointwise [val_main_v45]
  generalize k0_pay9 (iblk m c 1 t) (iblk m c 0 t) (iblk m c 3 t) (iblk m c 2 t) = z at hp ⊢
  pointwise [k0_pay2, val_main_v48, val_main_v44, val_main_v43, val_main_v0]
  have hz : ∀ k : Fin 2048, z (ix2 (y 0) k) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 (((cfg0.win 8).blk t).view.emb y 0) k) := fun k =>
    hp (ix2 (y 0) k) (ix2 (((cfg0.win 8).blk t).view.emb y 0) k) (by blk_simp [idx t]) rfl
  simp only [hz]
  blk_point [iblk, V, idx t]

/-- The gradient of the mixer's output. -/
theorem final_8 (c : Dev nD) : (dats m 0 c).arrAt 8 (cfgs 0).N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]
  by_cases h : t.val % 16 = 0
  · rw [outsAt0_A m c t h]; dsimp only; frame_out; exact mix_point m c t y
  · rw [outsAt0_B m c t h]; dsimp only; frame_out; exact mix_point m c t y

/-- The zero fill. -/
theorem hzero (j : S1x2048.Idx) : k0_pay3 (F := Ideal) j = 0 := by
  pointwise! [k0_pay3]

/-- One point adds the column sums of its block. -/
theorem hpay (v34 : FVec Ideal S512x2048 .f32) (v41 : Vec Ideal S1x2048 .f32) (j : S1x2048.Idx) :
    k0_pay1 v34 v41 j = v41 j + ∑ k : Fin 512, v34 (ix2 k (j 1)) := by
  pointwise [k0_pay1]

/-- The gain's gradient. -/
theorem final_7 (c : Dev nD) : (dats m 0 c).arrAt 7 (cfgs 0).N = val_main_v42 (F := Ideal) (m ((c : Thread nD τ).loc main_arg0)) (m ((c : Thread nD τ).loc main_arg2)) (m ((c : Thread nD τ).loc main_arg3)) (m ((c : Thread nD τ).loc main_arg5)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by rw [outsAt0_A m c t h]; frame_out; rw [hpay, hzero])
    (fun t h j => by rw [outsAt0_B m c t h]; frame_out; rw [hpay])
    (le_of_eq N_0) t0_15 rfl j, zero_add]
  pointwise [val_main_v42]
  simp only [gain_share]
  pointwise [val_main_v22, val_main_v21, val_main_v20, val_main_v16, val_main_v15, val_main_v11, val_main_v10, val_main_v9, val_main_v8, val_main_v7, val_main_v6, val_main_v5, val_main_v4, val_main_cst, val_main_cst_0, val_main_cst_1, val_main_cst_3]
  refine Fin.sum_mul_add_congr fun t k hl => ?_
  pointwise [k0_pay7, k0_pay6, k0_pay5, k0_pay4]
  rw [mul_assoc, mul_comm]
  simp only [x1_block]
  blk_point [iblk, V, idx t]

end Cert.NormOutIdeal.Value
-- ==== Proof.NormOutClaim.lean ====
module

public import proofs.«01_k».proof.Defs
public import proofs.«01_k».proof.Proof.Gen.NormOut.Frame
public import proofs.«01_k».proof.Proof.NormOutValue

@[expose] public section

set_option maxRecDepth 16384

noncomputable section

open Idealize.ShloMosaic Idealize.SL.Sem

namespace Cert.NormOutIdeal.Claims

/-- The printed program runs to its end, leaves its arguments alone and its counters at zero. -/
theorem frame_float : Cert.quiescent_NormOut (hNormOut := Cert.NormOut.Gen.facts) := fun m g _ =>
  Cert.NormOut.Gen.frame m g

/-- So does its idealization. -/
theorem frame_ideal : Cert.quiescent_NormOutIdeal (hNormOutIdeal := Cert.NormOutIdeal.Gen.facts) := fun m g _ =>
  Cert.NormOutIdeal.Gen.frame m g

/-- So does the reference, a straight line of host operations without a counter. -/
theorem frame_reference : Cert.quiescent_NormOutRefIdeal (hNormOutRefIdeal := Cert.NormOutRefIdeal.Gen.facts) := fun m g _ =>
  (θ_run Cert.NormOutRefIdeal.defs _ _).mono (fun r h => ⟨fun c => (h c).2.2.2.2, sem_eq_zero_of_no_sems (by decide) r.2⟩)
    (Cert.NormOutRefIdeal.Value.run m g)

/-- Over the reals the kernel's results are the reference's. -/
theorem algebraic : Cert.algebraic_NormOutIdeal_NormOutRefIdeal (hNormOutIdeal := Cert.NormOutIdeal.Gen.facts) (hNormOutRefIdeal := Cert.NormOutRefIdeal.Gen.facts) := by
  intro m g m' g' hpre hagree
  refine ⟨fun c => Cert.NormOutRefIdeal.Read.val_main_v45 (F := Ideal) (m ((c.tc : Thread Cert.NormOutIdeal.nD Cert.NormOutIdeal.τ).loc Cert.NormOutIdeal.main_arg0)) (m ((c.tc : Thread Cert.NormOutIdeal.nD Cert.NormOutIdeal.τ).loc Cert.NormOutIdeal.main_arg1)) (m ((c.tc : Thread Cert.NormOutIdeal.nD Cert.NormOutIdeal.τ).loc Cert.NormOutIdeal.main_arg2)) (m ((c.tc : Thread Cert.NormOutIdeal.nD Cert.NormOutIdeal.τ).loc Cert.NormOutIdeal.main_arg3)) (m ((c.tc : Thread Cert.NormOutIdeal.nD Cert.NormOutIdeal.τ).loc Cert.NormOutIdeal.main_arg4)) (m ((c.tc : Thread Cert.NormOutIdeal.nD Cert.NormOutIdeal.τ).loc Cert.NormOutIdeal.main_arg5)),
    fun c => Cert.NormOutRefIdeal.Read.val_main_v47 (F := Ideal) (m ((c.tc : Thread Cert.NormOutIdeal.nD Cert.NormOutIdeal.τ).loc Cert.NormOutIdeal.main_arg0)) (m ((c.tc : Thread Cert.NormOutIdeal.nD Cert.NormOutIdeal.τ).loc Cert.NormOutIdeal.main_arg1)) (m ((c.tc : Thread Cert.NormOutIdeal.nD Cert.NormOutIdeal.τ).loc Cert.NormOutIdeal.main_arg2)) (m ((c.tc : Thread Cert.NormOutIdeal.nD Cert.NormOutIdeal.τ).loc Cert.NormOutIdeal.main_arg3)) (m ((c.tc : Thread Cert.NormOutIdeal.nD Cert.NormOutIdeal.τ).loc Cert.NormOutIdeal.main_arg4)) (m ((c.tc : Thread Cert.NormOutIdeal.nD Cert.NormOutIdeal.τ).loc Cert.NormOutIdeal.main_arg5)),
    fun c => Cert.NormOutRefIdeal.Read.val_main_v42 (F := Ideal) (m ((c.tc : Thread Cert.NormOutIdeal.nD Cert.NormOutIdeal.τ).loc Cert.NormOutIdeal.main_arg0)) (m ((c.tc : Thread Cert.NormOutIdeal.nD Cert.NormOutIdeal.τ).loc Cert.NormOutIdeal.main_arg2)) (m ((c.tc : Thread Cert.NormOutIdeal.nD Cert.NormOutIdeal.τ).loc Cert.NormOutIdeal.main_arg3)) (m ((c.tc : Thread Cert.NormOutIdeal.nD Cert.NormOutIdeal.τ).loc Cert.NormOutIdeal.main_arg5)),
    fun c => Cert.NormOutRefIdeal.Read.val_main_v48 (F := Ideal) (m ((c.tc : Thread Cert.NormOutIdeal.nD Cert.NormOutIdeal.τ).loc Cert.NormOutIdeal.main_arg0)) (m ((c.tc : Thread Cert.NormOutIdeal.nD Cert.NormOutIdeal.τ).loc Cert.NormOutIdeal.main_arg1)) (m ((c.tc : Thread Cert.NormOutIdeal.nD Cert.NormOutIdeal.τ).loc Cert.NormOutIdeal.main_arg2)) (m ((c.tc : Thread Cert.NormOutIdeal.nD Cert.NormOutIdeal.τ).loc Cert.NormOutIdeal.main_arg3)) (m ((c.tc : Thread Cert.NormOutIdeal.nD Cert.NormOutIdeal.τ).loc Cert.NormOutIdeal.main_arg4)) (m ((c.tc : Thread Cert.NormOutIdeal.nD Cert.NormOutIdeal.τ).loc Cert.NormOutIdeal.main_arg5)), ?_, ?_⟩
  · exact (θ_run Cert.NormOutIdeal.defs _ _).mono
      (fun _ h c => ⟨(h c).1.trans (Cert.NormOutIdeal.Value.final_5 m c),
        (h c).2.1.trans (Cert.NormOutIdeal.Value.final_6 m c),
        (h c).2.2.1.trans (Cert.NormOutIdeal.Value.final_7 m c),
        (h c).2.2.2.1.trans (Cert.NormOutIdeal.Value.final_8 m c), (h c).2.2.2.2⟩)
      (Cert.NormOutIdeal.Value.run_blocks m g)
  · exact (θ_run Cert.NormOutRefIdeal.defs _ _).mono
      (fun _ h c => ⟨(h c).1.trans ((Cert.NormOutRefIdeal.Read.val_main_v45_eq m' c).trans (by rw [(hagree c).1, (hagree c).2.1, (hagree c).2.2.1, (hagree c).2.2.2.1, (hagree c).2.2.2.2.1, (hagree c).2.2.2.2.2])),
        (h c).2.1.trans ((Cert.NormOutRefIdeal.Read.val_main_v47_eq m' c).trans (by rw [(hagree c).1, (hagree c).2.1, (hagree c).2.2.1, (hagree c).2.2.2.1, (hagree c).2.2.2.2.1, (hagree c).2.2.2.2.2])),
        (h c).2.2.1.trans ((Cert.NormOutRefIdeal.Read.val_main_v42_eq _ _ _ _).trans (by rw [(hagree c).1, (hagree c).2.2.1, (hagree c).2.2.2.1, (hagree c).2.2.2.2.2])),
        (h c).2.2.2.1.trans ((Cert.NormOutRefIdeal.Read.val_main_v48_eq m' c).trans (by rw [(hagree c).1, (hagree c).2.1, (hagree c).2.2.1, (hagree c).2.2.2.1, (hagree c).2.2.2.2.1, (hagree c).2.2.2.2.2])), (h c).2.2.2.2⟩)
      (Cert.NormOutRefIdeal.Value.run m' g')

end Cert.NormOutIdeal.Claims

end
-- ==== Proof.Finite.lean ====
/- Values of the extended reals that are numbers, what keeps them so, and the three functions whose gradients ask for it: a
   sigmoid, which is a number everywhere; a tanh-form GELU and its derivative; a root-mean-square norm's gradient. -/
module

public import proofs.«01_k».proof.Proof.RmsGrad

@[expose] public section

noncomputable section

open Idealize.ShloMosaic
open scoped BigOperators

namespace Cert.Fin'

/-- The value is a number: neither infinity. -/
def IsReal (x : EReal) : Prop := ∃ r : ℝ, x = r

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, by norm_cast⟩

theorem IsReal.mul {x y : EReal} (hx : IsReal x) (hy : IsReal y) : IsReal (x * y) := by
  obtain ⟨a, rfl⟩ := hx; obtain ⟨b, rfl⟩ := hy; exact ⟨a * b, by norm_cast⟩

theorem IsReal.sub {x y : EReal} (hx : IsReal x) (hy : IsReal y) : IsReal (x - y) := by
  obtain ⟨a, rfl⟩ := hx; obtain ⟨b, rfl⟩ := hy; exact ⟨a - b, by norm_cast⟩

theorem IsReal.sum {n : ℕ} {f : Fin n → EReal} (h : ∀ k, IsReal (f k)) : IsReal (∑ k, f k) :=
  Finset.sum_induction f IsReal (fun _ _ => IsReal.add) isReal_zero fun k _ => h k

/-- A value between two numbers is a number. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

/-- A sum that is a number has numbers for summands. -/
theorem isReal_of_add {x y : EReal} (h : IsReal (x + y)) : IsReal x ∧ IsReal y := by
  induction x <;> induction y <;> simp_all [isReal_iff, ← EReal.coe_add]

theorem isReal_of_sum {n : ℕ} {f : Fin n → EReal} (h : IsReal (∑ k, f k)) (k : Fin n) : IsReal (f k) := by
  rw [← Finset.add_sum_erase _ _ (Finset.mem_univ k)] at h
  exact (isReal_of_add h).1

/-- A factor of a number, the other factor not zero, is a number. -/
theorem isReal_of_mul {x y : EReal} (h : IsReal (x * y)) (hx : x ≠ 0) : IsReal y := by
  induction y with
  | coe r => exact isReal_coe r
  | bot =>
    rcases lt_or_gt_of_ne hx with h0 | h0
    · rw [EReal.mul_bot_of_neg h0] at h; exact absurd rfl (isReal_iff.mp h).2
    · rw [EReal.mul_bot_of_pos h0] at h; exact absurd rfl (isReal_iff.mp h).1
  | top =>
    rcases lt_or_gt_of_ne hx with h0 | h0
    · rw [EReal.mul_top_of_neg h0] at h; exact absurd rfl (isReal_iff.mp h).1
    · rw [EReal.mul_top_of_pos h0] at h; exact absurd rfl (isReal_iff.mp h).2

/-- What a precondition's comparison of a magnitude with infinity says. -/
theorem isReal_of_lt {x : EReal} (h : Ideal.cmp .olt (max x (-x)) (Ideal.ofBits .f32 2139095040#32) = 1#1) : IsReal x := by
  rw [show Ideal.ofBits .f32 2139095040#32 = ⊤ by simp [Ideal.ofBits, Ideal.ieee]] at h
  induction x with
  | coe r => exact isReal_coe r
  | bot => simp [Ideal.cmp] at h
  | top => simp [Ideal.cmp] at h

/-- The literals of the GELU and the norm. -/
theorem lit_half : Ideal.ofBits .f32 1056964608#32 = ((1 / 2 : ℝ) : EReal) := by
  simp [Ideal.ofBits, Ideal.ieee]; norm_num; rw [← EReal.coe_mul]; norm_num
theorem lit_one : Ideal.ofBits .f32 1065353216#32 = ((1 : ℝ) : EReal) := by
  simp [Ideal.ofBits, Ideal.ieee]; norm_num; rw [← EReal.coe_mul]; norm_num
theorem lit_three : Ideal.ofBits .f32 1077936128#32 = ((3 : ℝ) : EReal) := by
  simp [Ideal.ofBits, Ideal.ieee]; norm_num; rw [← EReal.coe_mul]; norm_num
theorem lit_k : Ideal.ofBits .f32 1061962282#32 = ((6693141 / 8388608 : ℝ) : EReal) := by
  simp [Ideal.ofBits, Ideal.ieee]; norm_num; rw [← EReal.coe_mul]; norm_num
theorem lit_c : Ideal.ofBits .f32 1027024659#32 = ((12003091 / 268435456 : ℝ) : EReal) := by
  simp [Ideal.ofBits, Ideal.ieee]; norm_num; rw [← EReal.coe_mul]; norm_num
theorem lit_eps : IsReal (Ideal.ofBits .f32 897988541#32) := by
  simp [Ideal.ofBits, Ideal.ieee]; exact ⟨_, (EReal.coe_mul _ _).symm⟩

theorem one_sub_one : (1 : EReal) - 1 = 0 := EReal.sub_self (EReal.coe_ne_top 1) (EReal.coe_ne_bot 1)
theorem one_add_neg_one : (1 : EReal) + -1 = 0 := by rw [← sub_eq_add_neg, one_sub_one]

/-- The sigmoid as both programs write it. -/
theorem sigmoid_coe (r : ℝ) : ∃ q : ℝ, Ideal.div 1 (1 + Ideal.exp (-(r : EReal))) = q := by
  have h : (0 : ℝ) < 1 + Real.exp (-r) := by positivity
  refine ⟨(1 + Real.exp (-r))⁻¹, ?_⟩
  have e : (1 : EReal) + Ideal.exp (-(r : EReal)) = ((1 + Real.exp (-r) : ℝ) : EReal) := by
    rw [← EReal.coe_neg, Ideal.exp_coe]; norm_cast
  rw [e, Ideal.div, if_neg (by exact_mod_cast h.ne'), one_mul, ← EReal.coe_inv]

/-- The sigmoid of minus infinity. -/
theorem sigmoid_bot : Ideal.div 1 (1 + Ideal.exp (-(⊥ : EReal))) = 0 := by
  rw [EReal.neg_bot, Ideal.exp_top, ← EReal.coe_one, EReal.coe_add_top]
  simp [Ideal.div]

/-- The sigmoid of infinity. -/
theorem sigmoid_top : Ideal.div 1 (1 + Ideal.exp (-(⊤ : EReal))) = 1 := by
  simp [Ideal.div]

/-- A sigmoid is a number, and the product its derivative is of vanishes at an infinity. -/
theorem sigmoid_real (x : EReal) : IsReal (Ideal.div 1 (1 + Ideal.exp (-x))) := by
  induction x with
  | bot => rw [sigmoid_bot]; exact isReal_zero
  | top => rw [sigmoid_top]; exact isReal_one
  | coe r => exact sigmoid_coe r

theorem sigmoid_slope {x : EReal} (hx : ¬ IsReal x) :
    Ideal.div 1 (1 + Ideal.exp (-x)) * (1 - Ideal.div 1 (1 + Ideal.exp (-x))) = 0 := by
  induction x with
  | bot => rw [sigmoid_bot, zero_mul]
  | top => rw [sigmoid_top, one_mul, one_sub_one]
  | coe r => exact absurd (isReal_coe r) hx

/-- The angle of the GELU's tanh: with the constants' product folded, and as the forward pass writes it. -/
theorem gelu_angle (y : EReal) :
    y * (Ideal.ofBits .f32 1061962282#32 + ((80338380498831 / 2251799813685248 : ℝ) : EReal) * (y * y))
    = Ideal.ofBits .f32 1061962282#32 * (y + Ideal.ofBits .f32 1027024659#32 * (y * y * y)) := by
  rw [lit_k, lit_c]
  induction y with
  | coe y => norm_cast; exact (by ring : y * (6693141 / 8388608 + 80338380498831 / 2251799813685248 * (y * y)) = 6693141 / 8388608 * (y + 12003091 / 268435456 * (y * y * y)))
  | bot =>
    have h : (0 : ℝ) < 80338380498831 / 2251799813685248 := by norm_num
    rw [EReal.bot_mul_bot, EReal.coe_mul_top_of_pos h, EReal.coe_add_top, EReal.bot_mul_top, EReal.top_mul_bot,
      EReal.coe_mul_bot_of_pos (by norm_num), EReal.bot_add, EReal.coe_mul_bot_of_pos (by norm_num)]
  | top =>
    have h : (0 : ℝ) < 80338380498831 / 2251799813685248 := by norm_num
    rw [EReal.top_mul_top, EReal.coe_mul_top_of_pos h, EReal.coe_add_top, EReal.top_mul_top,
      EReal.coe_mul_top_of_pos (by norm_num), EReal.top_add_top, EReal.coe_mul_top_of_pos (by norm_num)]

/-- The tanh of the GELU's angle. -/
def geluTanh (y : EReal) : EReal :=
  Ideal.tanh (Ideal.ofBits .f32 1061962282#32 * (y + Ideal.ofBits .f32 1027024659#32 * (y * y * y)))

theorem geluTanh_bot : geluTanh ⊥ = -1 := by
  rw [geluTanh, ← gelu_angle, lit_k, EReal.bot_mul_bot, EReal.coe_mul_top_of_pos (by norm_num), EReal.coe_add_top, EReal.bot_mul_top]
  rfl

theorem geluTanh_top : geluTanh ⊤ = 1 := by
  rw [geluTanh, ← gelu_angle, lit_k, EReal.top_mul_top, EReal.coe_mul_top_of_pos (by norm_num), EReal.coe_add_top, EReal.top_mul_top]
  rfl

theorem geluTanh_coe (y : ℝ) : geluTanh y = (Real.tanh (6693141 / 8388608 * (y + 12003091 / 268435456 * (y * y * y))) : ℝ) := by
  rw [geluTanh, lit_k, lit_c]; norm_cast

/-- A GELU vanishes at zero and at minus infinity alone. -/
theorem eq_of_gelu_eq_zero {y : EReal} (h : y * (Ideal.ofBits .f32 1056964608#32 * (1 + geluTanh y)) = 0) :
    y = 0 ∨ y = ⊥ := by
  rw [lit_half] at h
  induction y with
  | bot => exact .inr rfl
  | top =>
    rw [geluTanh_top] at h
    exfalso
    rw [show (((1 / 2 : ℝ) : EReal) * (1 + 1)) = ((1 : ℝ) : EReal) by rw [← EReal.coe_one]; norm_cast; norm_num, EReal.top_mul_coe_of_pos one_pos] at h
    exact absurd h (by simp)
  | coe y =>
    left
    rw [geluTanh_coe] at h
    have h' : y * (1 / 2 * (1 + Real.tanh (6693141 / 8388608 * (y + 12003091 / 268435456 * (y * y * y))))) = 0 := by exact_mod_cast h
    have := Real.neg_one_lt_tanh (6693141 / 8388608 * (y + 12003091 / 268435456 * (y * y * y)))
    rcases mul_eq_zero.mp h' with h0 | h0
    · exact_mod_cast h0
    · exfalso; linarith

/-- A cotangent through the GELU's derivative: the kernels' one product, and the three summands that differentiating its
    lines leaves. The two agree when the cotangent is a number, and whatever it is at zero and at minus infinity. -/
theorem gelu_grad {d y : EReal} (h : IsReal d ∨ y = 0 ∨ y = ⊥) :
    d * (Ideal.ofBits .f32 1056964608#32 * (1 + geluTanh y)
        + Ideal.ofBits .f32 1056964608#32 * y * (1 - geluTanh y * geluTanh y)
          * (Ideal.ofBits .f32 1061962282#32 + ((241015141496493 / 2251799813685248 : ℝ) : EReal) * (y * y)))
    = d * (Ideal.ofBits .f32 1056964608#32 * (1 + geluTanh y))
      + Ideal.ofBits .f32 1061962282#32 * (Ideal.ofBits .f32 1056964608#32 * (y * d)
          * ((1 + geluTanh y) * (1 - geluTanh y)))
      + Ideal.ofBits .f32 1027024659#32 * (Ideal.ofBits .f32 1061962282#32 * (Ideal.ofBits .f32 1056964608#32 * (y * d)
          * ((1 + geluTanh y) * (1 - geluTanh y))))
        * (Ideal.ofBits .f32 1077936128#32 * (y * y)) := by
  rw [lit_half, lit_k, lit_c, lit_three]
  induction y with
  | bot =>
    rw [geluTanh_bot]
    simp [one_sub_one, one_add_neg_one]
  | top =>
    rw [geluTanh_top]
    simp [one_sub_one]
  | coe y =>
    rcases h with ⟨d, rfl⟩ | h | h
    · rw [geluTanh_coe]; norm_cast; ring
    · rw [show y = 0 by exact_mod_cast h]
      simp
    · exact absurd h (EReal.coe_ne_bot y)

/-- A row's norm gradient, its cotangent `a` a row of numbers: numbers, where the row is one of numbers; zero, where it holds
    an infinity. -/
theorem norm_grad_real {l : EReal} {N : ℝ} (hl : l = N) (hN : 0 < N) {n : ℕ} (a x : Fin n → EReal) (ha : ∀ k, IsReal (a k))
    {v : EReal} (hv : v = Ideal.div (∑ k, x k * x k) l + Ideal.ofBits .f32 897988541#32) (s : EReal)
    (hs : (∀ k, IsReal (x k)) → IsReal s) :
    (∀ k, IsReal (x k) ∧ IsReal (Ideal.rsqrt v * a k - x k * (Ideal.rsqrt v * Ideal.rsqrt v * Ideal.rsqrt v) * Ideal.div s l))
    ∨ ∀ k, Ideal.rsqrt v * a k - x k * (Ideal.rsqrt v * Ideal.rsqrt v * Ideal.rsqrt v) * Ideal.div s l = 0 := by
  have hpos : 0 < v := hv ▸ Cert.Rms.norm_pos_of hl hN x
  obtain ⟨r, c, hr, -, -⟩ := Cert.Rms.rsqrt_cube hpos
  by_cases h : ∀ k, IsReal (x k)
  · left
    intro k
    refine ⟨h k, ?_⟩
    rw [hr, Cert.Rms.div_lit hl hN]
    exact ((isReal_coe r).mul (ha k)).sub (((h k).mul (((isReal_coe r).mul (isReal_coe r)).mul (isReal_coe r))).mul ((hs h).mul (isReal_coe _)))
  · right
    have hv' : v = ⊤ := by
      by_contra hne
      refine h fun k => ?_
      have hvr : IsReal v := isReal_iff.mpr ⟨((show (⊥ : EReal) < 0 by simp).trans hpos).ne', hne⟩
      rw [hv] at hvr
      have h1 := (isReal_of_add hvr).1
      rw [Cert.Rms.div_lit hl hN, mul_comm] at h1
      have h2 := isReal_of_sum (isReal_of_mul h1 (by exact_mod_cast (inv_pos.mpr hN).ne')) k
      by_cases h0 : x k = 0
      · rw [h0]; exact isReal_zero
      · exact isReal_of_mul h2 h0
    have h0 : Ideal.rsqrt v = 0 := by rw [hv']; rfl
    intro k
    rw [h0]
    simp

end Cert.Fin'

end
-- ==== Proof.GluBwdValue.lean ====
module

public import proofs.«01_k».proof.Proof.Gen.GluBwdIdeal.Value
public import proofs.«01_k».proof.Proof.Gen.GluBwdRefIdeal.Run
public import proofs.«01_k».proof.Proof.Gen.GluBwdRefIdeal.Read
public import proofs.«01_k».proof.Proof.Finite
public import proofs.«01_k».proof.Pre_glu_bwd_finite
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GluBwdIdeal.Value

open Cert.GluBwdIdeal Cert.GluBwdIdeal.Gen
open Cert.GluBwdRefIdeal.Read

variable (m : (ℓ : Loc nD τ sig) → Buf (Elt Ideal) ℓ)

/-- The block index of every window at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0] :=
  (by decide +kernel : ∀ t : Fin grid0.N, _)

/-- The product of the GELU's two constants, and three times it, which the idealization names. -/
theorem lit_kc : (Named.named κ "gelu_kc" 1024598649#32 : Ideal .f32) = ((80338380498831 / 2251799813685248 : ℝ) : EReal) :=
  IdealRules.named_const.ideal_named_scalar _ _ _ _ rfl
theorem lit_3kc : (Named.named κ "gelu_3kc" 1037775798#32 : Ideal .f32) = ((241015141496493 / 2251799813685248 : ℝ) : EReal) :=
  IdealRules.named_const.ideal_named_scalar _ _ _ _ rfl

section
open Cert.GluBwdRefIdeal

variable (x0 : FVec Ideal S1x8192x1024 .f32) (x1 : FVec Ideal S1x8192x2048 .f32) (x2 : FVec Ideal S1x1024x1024 .f32) (x3 x4 : FVec Ideal S1x1024 .f32)

/-- The reference sums the mean's share over an axis of one row. -/
theorem row_share (i : S8192.Idx) :
    val_main_v69 (F := Ideal) x0 x1 x2 x3 x4 i = val_main_v68 (F := Ideal) x0 x1 x2 x3 x4 (ix3 0 (i 0) 0) := by
  unfold val_main_v69
  generalize val_main_v68 (F := Ideal) x0 x1 x2 x3 x4 = y
  simp only [Host.reduceAdd]
  refine (Cert.Rms.hostReduceAdd_unit Cert.GluBwdRefIdeal.Gen.reducesTo_S1x8192x1_S8192_d0_2 y _ i (ix3 0 (i 0) 0) ?_ ?_).trans ?_
  · intro b
    have hb : b = 0 := Fin.fin_one_eq_zero b
    subst hb
    rfl
  · intro i' h
    have h1 : (i' 1).val = (i 0).val := h 0
    have h0 : (i' 0).val < 1 := (i' 0).isLt
    have h2 : (i' 2).val < 1 := (i' 2).isLt
    intro a
    fin_cases a
    · show (i' 0).val = 0
      omega
    · exact h1
    · show (i' 2).val = 0
      omega
  · pointwise [val_main_cst_17]

/-- A sum over the two axes of one row keeps the row. -/
theorem unit_rows (y : FVec Ideal S1x1x1024 .f32) (v : EReal) (hv : v = 0) (i : S1024.Idx) :
    Ideal.hostReduceAdd Cert.GluBwdRefIdeal.Gen.reducesTo_S1x1x1024_S1024_d0_1 y v i = y (ix3 0 0 (i 0)) := by
  refine (Cert.Rms.hostReduceAdd_unit Cert.GluBwdRefIdeal.Gen.reducesTo_S1x1x1024_S1024_d0_1 y _ i (ix3 0 0 (i 0)) ?_ ?_).trans (by rw [hv, zero_add])
  · intro b
    have hb : b = 0 := Fin.fin_one_eq_zero b
    subst hb
    rfl
  · intro i' h
    have h2 : (i' 2).val = (i 0).val := h 0
    have h0 : (i' 0).val < 1 := (i' 0).isLt
    have h1 : (i' 1).val < 1 := (i' 1).isLt
    intro a
    fin_cases a
    · show (i' 0).val = 0
      omega
    · show (i' 1).val = 0
      omega
    · exact h2

/-- The gain's gradient keeps its one row. -/
theorem gain_share (i : S1024.Idx) : val_main_v60 (F := Ideal) x0 x1 x2 x3 i = val_main_v57 (F := Ideal) x0 x1 x2 x3 (ix3 0 0 (i 0)) := by
  unfold val_main_v60
  simp only [Host.reduceAdd]
  exact unit_rows _ _ (by pointwise [val_main_cst_14]) i

/-- The bias's gradient keeps its one row. -/
theorem bias_share (i : S1024.Idx) : val_main_v82 (F := Ideal) x0 x1 x2 x3 x4 i = val_main_v81 (F := Ideal) x0 x1 x2 x3 x4 (ix3 0 0 (i 0)) := by
  unfold val_main_v82
  simp only [Host.reduceAdd]
  exact unit_rows _ _ (by pointwise [val_main_cst_19]) i

/-- The norm's gradient at one entry, in the kernels' closed form. -/
theorem norm_grad_eq (p : Fin 8192) (k : Fin 1024) : ∃ v s : EReal,
    v = Ideal.div (∑ k : Fin 1024, val_main_v36 (F := Ideal) x0 x2 x3 (ix3 0 p k) * val_main_v36 (F := Ideal) x0 x2 x3 (ix3 0 p k)) (Ideal.ofBits .f32 1149239296#32) + Ideal.ofBits .f32 897988541#32
    ∧ s = ∑ k : Fin 1024, val_main_v36 (F := Ideal) x0 x2 x3 (ix3 0 p k) * (val_main_v54 (F := Ideal) x1 (ix3 0 p k) * x4 (ix2 0 k))
    ∧ val_main_v75 (F := Ideal) x0 x1 x2 x3 x4 (ix3 0 p k)
      = Ideal.rsqrt v * (val_main_v54 (F := Ideal) x1 (ix3 0 p k) * x4 (ix2 0 k))
        - val_main_v36 (F := Ideal) x0 x2 x3 (ix3 0 p k) * (Ideal.rsqrt v * Ideal.rsqrt v * Ideal.rsqrt v) * Ideal.div s (Ideal.ofBits .f32 1149239296#32) := by
  refine ⟨_, _, rfl, rfl, ?_⟩
  rw [Cert.Rms.scaled_grad Cert.Rms.lit_1024 (by norm_num) (Cert.Rms.norm_pos_of Cert.Rms.lit_1024 (by norm_num) _)]
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v55, val_main_v56, val_main_v57, val_main_v58, val_main_v59, val_main_v60, val_main_v61, val_main_v62, val_main_v63, val_main_v64, val_main_v65, val_main_v66, val_main_v67, val_main_v68, val_main_v70, val_main_v71, val_main_v72, val_main_v73, val_main_v74, val_main_v75, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  simp only [row_share]
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v55, val_main_v56, val_main_v57, val_main_v58, val_main_v59, val_main_v60, val_main_v61, val_main_v62, val_main_v63, val_main_v64, val_main_v65, val_main_v66, val_main_v67, val_main_v68, val_main_v70, val_main_v71, val_main_v72, val_main_v73, val_main_v74, val_main_v75, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]

end

/-- The block of the pre-activation's rows. -/
theorem y_block (c : Dev nD) (t : Fin cfg0.N) (y : S512x1024.Idx) (i : S8192x1024.Idx) (h0 : (i 0).val = t.val * 512 + (y 0).val) (h1 : (i 1).val = (y 1).val) :
    iblk m c 0 t y = m ((c : Thread nD τ).loc main_arg0) (ix3 0 (i 0) (i 1)) := by
  blk_point [iblk, V, idx t]

/-- The block of the mixer's cotangent, its first half of columns. -/
theorem d_block (c : Dev nD) (t : Fin cfg0.N) (y : S512x1024.Idx) (i : S8192x1024.Idx) (h0 : (i 0).val = t.val * 512 + (y 0).val) (h1 : (i 1).val = (y 1).val) :
    iblk m c 1 t y = val_main_v54 (F := Ideal) (m ((c : Thread nD τ).loc main_arg1)) (ix3 0 (i 0) (i 1)) := by
  pointwise [val_main_v54]
  blk_point [iblk, V, idx t]

/-- The activation's block. -/
theorem gelu_block (c : Dev nD) (t : Fin cfg0.N) (y : S512x1024.Idx) (i : S8192x1024.Idx) (h0 : (i 0).val = t.val * 512 + (y 0).val) (h1 : (i 1).val = (y 1).val) :
    k0_pay15 (iblk m c 0 t) y = val_main_v20 (F := Ideal) (m ((c : Thread nD τ).loc main_arg0)) (ix3 0 (i 0) (i 1)) := by
  pointwise [k0_pay15, k0_pay14, k0_pay13, k0_pay12, k0_pay11, k0_pay10, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  rw [lit_kc, Cert.Fin'.gelu_angle, y_block m c t y i h0 h1]
  ac_rfl

/-- The gate's block. -/
theorem gate_block (c : Dev nD) (t : Fin cfg0.N) (y : S512x1024.Idx) (i : S8192x1024.Idx) (h0 : (i 0).val = t.val * 512 + (y 0).val) (h1 : (i 1).val = (y 1).val) :
    k0_pay19 (k0_pay18 (iblk m c 0 t) (iblk m c 2 t) (iblk m c 3 t)) (FloatOps.ofBits .f32 1065353216#32) y = val_main_v32 (F := Ideal) (m ((c : Thread nD τ).loc main_arg0)) (m ((c : Thread nD τ).loc main_arg2)) (m ((c : Thread nD τ).loc main_arg3)) (ix3 0 (i 0) (i 1)) := by
  unfold k0_pay18 k0_pay17
  have hz : ∀ k : Fin 1024, k0_pay15 (iblk m c 0 t) (ix2 (y 0) k) = val_main_v20 (F := Ideal) (m ((c : Thread nD τ).loc main_arg0)) (ix3 0 (i 0) k) := fun k =>
    gelu_block m c t (ix2 (y 0) k) (ix2 (i 0) k) h0 rfl
  generalize k0_pay15 (iblk m c 0 t) = z at hz ⊢
  pointwise [k0_pay19, val_main_v21, val_main_v22, val_main_v23, val_main_v24, val_main_v25, val_main_v26, val_main_v27, val_main_v28, val_main_v29, val_main_v30, val_main_v31, val_main_v32, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  simp only [hz]
  rw [sub_eq_add_neg, zero_add]
  blk_point [iblk, V, idx t]

/-- The gated activation's block. -/
theorem ys_block (c : Dev nD) (t : Fin cfg0.N) (y : S512x1024.Idx) (i : S8192x1024.Idx) (h0 : (i 0).val = t.val * 512 + (y 0).val) (h1 : (i 1).val = (y 1).val) :
    k0_pay20 (k0_pay15 (iblk m c 0 t)) (k0_pay18 (iblk m c 0 t) (iblk m c 2 t) (iblk m c 3 t)) (FloatOps.ofBits .f32 1065353216#32) y = val_main_v36 (F := Ideal) (m ((c : Thread nD τ).loc main_arg0)) (m ((c : Thread nD τ).loc main_arg2)) (m ((c : Thread nD τ).loc main_arg3)) (ix3 0 (i 0) (i 1)) := by
  have e1 := gate_block m c t y i h0 h1
  have e2 := gelu_block m c t y i h0 h1
  unfold k0_pay20
  generalize k0_pay19 (k0_pay18 (iblk m c 0 t) (iblk m c 2 t) (iblk m c 3 t)) (FloatOps.ofBits .f32 1065353216#32) = g at e1 ⊢
  generalize (k0_pay15 (iblk m c 0 t)) = z at e2 ⊢
  pointwise [val_main_v36]
  rw [e1, e2]

/-- The norm gradient's block. -/
theorem dys_block (c : Dev nD) (t : Fin cfg0.N) (y : S512x1024.Idx) (i : S8192x1024.Idx) (h0 : (i 0).val = t.val * 512 + (y 0).val) (h1 : (i 1).val = (y 1).val) :
    k0_pay23 (k0_pay15 (iblk m c 0 t)) (k0_pay18 (iblk m c 0 t) (iblk m c 2 t) (iblk m c 3 t)) (FloatOps.ofBits .f32 1065353216#32) (iblk m c 1 t) (iblk m c 4 t) y = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (i 0) (i 1)) := by
  obtain ⟨v, s, hv, hs, e⟩ := norm_grad_eq (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
  rw [e]
  have hz : ∀ k : Fin 1024, k0_pay20 (k0_pay15 (iblk m c 0 t)) (k0_pay18 (iblk m c 0 t) (iblk m c 2 t) (iblk m c 3 t)) (FloatOps.ofBits .f32 1065353216#32) (ix2 (y 0) k) = val_main_v36 (F := Ideal) (m ((c : Thread nD τ).loc main_arg0)) (m ((c : Thread nD τ).loc main_arg2)) (m ((c : Thread nD τ).loc main_arg3)) (ix3 0 (i 0) k) := fun k =>
    ys_block m c t (ix2 (y 0) k) (ix2 (i 0) k) h0 rfl
  have hd : ∀ k : Fin 1024, iblk m c 1 t (ix2 (y 0) k) = val_main_v54 (F := Ideal) (m ((c : Thread nD τ).loc main_arg1)) (ix3 0 (i 0) k) := fun k =>
    d_block m c t (ix2 (y 0) k) (ix2 (i 0) k) h0 rfl
  have hy := ys_block m c t y i h0 h1
  have hdy := d_block m c t y i h0 h1
  unfold k0_pay23 k0_pay22
  generalize k0_pay20 (k0_pay15 (iblk m c 0 t)) (k0_pay18 (iblk m c 0 t) (iblk m c 2 t) (iblk m c 3 t)) (FloatOps.ofBits .f32 1065353216#32) = z at hz hy ⊢
  pointwise [k0_pay21]
  simp only [hz, hd]
  have hs' := hs.trans (Finset.sum_congr rfl fun k _ => mul_comm _ _)
  rw [hy, hdy, hv, hs']
  blk_point [iblk, V, idx t]

/-- The block of the gradient before the gate's sigmoid. -/
theorem dp_block (c : Dev nD) (t : Fin cfg0.N) (y : S512x1024.Idx) (i : S8192x1024.Idx) (h0 : (i 0).val = t.val * 512 + (y 0).val) (h1 : (i 1).val = (y 1).val) :
    k0_pay1 (k0_pay19 (k0_pay18 (iblk m c 0 t) (iblk m c 2 t) (iblk m c 3 t)) (FloatOps.ofBits .f32 1065353216#32)) (k0_pay25 (k0_pay15 (iblk m c 0 t)) (k0_pay18 (iblk m c 0 t) (iblk m c 2 t) (iblk m c 3 t)) (FloatOps.ofBits .f32 1065353216#32) (iblk m c 1 t) (iblk m c 4 t)) (FloatOps.ofBits .f32 1065353216#32) y = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (i 0) (i 1)) := by
  have e1 := gate_block m c t y i h0 h1
  have e2 := gelu_block m c t y i h0 h1
  have e3 := dys_block m c t y i h0 h1
  unfold k0_pay1 k0_pay25
  generalize k0_pay23 (k0_pay15 (iblk m c 0 t)) (k0_pay18 (iblk m c 0 t) (iblk m c 2 t) (iblk m c 3 t)) (FloatOps.ofBits .f32 1065353216#32) (iblk m c 1 t) (iblk m c 4 t) = q at e3 ⊢
  generalize k0_pay19 (k0_pay18 (iblk m c 0 t) (iblk m c 2 t) (iblk m c 3 t)) (FloatOps.ofBits .f32 1065353216#32) = g at e1 ⊢
  generalize (k0_pay15 (iblk m c 0 t)) = z at e2 ⊢
  pointwise [val_main_v79, val_main_v35, val_main_v34, val_main_v33, val_main_cst_8, val_main_v77]
  rw [e1, e2, e3]
  ac_rfl

/-- The precondition, read: the mixer's cotangent over the gate's columns and the norm's gain are numbers. -/
def Finite (x1 : FVec Ideal Cert.GluBwdRefIdeal.S1x8192x2048 .f32) (x4 : FVec Ideal Cert.GluBwdRefIdeal.S1x1024 .f32) : Prop :=
  (∀ p k, Cert.Fin'.IsReal (val_main_v54 (F := Ideal) x1 (ix3 0 p k))) ∧ ∀ k, Cert.Fin'.IsReal (x4 (ix2 0 k))

section
open Cert.GluBwdRefIdeal Cert.Fin'

variable (x0 : FVec Ideal S1x8192x1024 .f32) (x1 : FVec Ideal S1x8192x2048 .f32) (x2 : FVec Ideal S1x1024x1024 .f32) (x3 x4 : FVec Ideal S1x1024 .f32)

/-- A row's gated activations and their gradients are numbers, or its gradients vanish. -/
theorem row_real (h : Finite x1 x4) (p : Fin 8192) :
    (∀ k : Fin 1024, IsReal (val_main_v36 (F := Ideal) x0 x2 x3 (ix3 0 p k)) ∧ IsReal (val_main_v75 (F := Ideal) x0 x1 x2 x3 x4 (ix3 0 p k)))
    ∨ ∀ k : Fin 1024, val_main_v75 (F := Ideal) x0 x1 x2 x3 x4 (ix3 0 p k) = 0 := by
  have ha : ∀ k : Fin 1024, IsReal (val_main_v54 (F := Ideal) x1 (ix3 0 p k) * x4 (ix2 0 k)) := fun k => (h.1 p k).mul (h.2 k)
  have key := norm_grad_real (n := 1024) Cert.Rms.lit_1024 (by norm_num) _ (fun k => val_main_v36 (F := Ideal) x0 x2 x3 (ix3 0 p k)) ha rfl
    (∑ k : Fin 1024, val_main_v36 (F := Ideal) x0 x2 x3 (ix3 0 p k) * (val_main_v54 (F := Ideal) x1 (ix3 0 p k) * x4 (ix2 0 k)))
    (fun hx => IsReal.sum fun k => (hx k).mul (ha k))
  refine key.imp (fun key k => ?_) fun key k => ?_
  · obtain ⟨v, s, rfl, rfl, e⟩ := norm_grad_eq x0 x1 x2 x3 x4 p k
    rw [e]
    exact key k
  · obtain ⟨v, s, rfl, rfl, e⟩ := norm_grad_eq x0 x1 x2 x3 x4 p k
    rw [e]
    exact key k

/-- The gate is a number. -/
theorem gate_real (p : Fin 8192) (k : Fin 1024) : IsReal (val_main_v32 (F := Ideal) x0 x2 x3 (ix3 0 p k)) := by
  pointwise [val_main_v32, val_main_v31, val_main_v30, val_main_v29, val_main_v28, val_main_v27, val_main_cst_6, val_main_cst_7]
  exact sigmoid_real _

/-- The gate's derivative vanishes where its argument is infinite. -/
theorem gate_slope (p : Fin 8192) (k : Fin 1024) (h : ¬ IsReal (val_main_v26 (F := Ideal) x0 x2 x3 (ix3 0 p k))) :
    val_main_v35 (F := Ideal) x0 x2 x3 (ix3 0 p k) = 0 := by
  pointwise [val_main_v35, val_main_v34, val_main_v33, val_main_v32, val_main_v31, val_main_v30, val_main_v29, val_main_v28, val_main_v27, val_main_cst_6, val_main_cst_7, val_main_cst_8]
  exact sigmoid_slope h

/-- The gradient before the sigmoid is a number. -/
theorem slope_real (h : Finite x1 x4) (p : Fin 8192) (k : Fin 1024) : IsReal (val_main_v79 (F := Ideal) x0 x1 x2 x3 x4 (ix3 0 p k)) := by
  have e : val_main_v79 (F := Ideal) x0 x1 x2 x3 x4 (ix3 0 p k)
      = val_main_v75 (F := Ideal) x0 x1 x2 x3 x4 (ix3 0 p k) * (val_main_v36 (F := Ideal) x0 x2 x3 (ix3 0 p k) * (1 - val_main_v32 (F := Ideal) x0 x2 x3 (ix3 0 p k))) := by
    pointwise [val_main_v79, val_main_v77, val_main_v36, val_main_v35, val_main_v34, val_main_v33, val_main_cst_8]
    ac_rfl
  rw [e]
  rcases row_real x0 x1 x2 x3 x4 h p with h' | h'
  · exact (h' k).2.mul ((h' k).1.mul (isReal_one.sub (gate_real x0 x2 x3 p k)))
  · rw [h' k, zero_mul]; exact isReal_zero

/-- The activation's cotangent is a number, or the activation vanishes. -/
theorem cotangent_real (h : Finite x1 x4) (p : Fin 8192) (k : Fin 1024) :
    IsReal (val_main_v87 (F := Ideal) x0 x1 x2 x3 x4 (ix3 0 p k)) ∨ x0 (ix3 0 p k) = 0 ∨ x0 (ix3 0 p k) = ⊥ := by
  by_cases hz : val_main_v20 (F := Ideal) x0 (ix3 0 p k) = 0
  · right
    refine eq_of_gelu_eq_zero (Eq.trans ?_ hz)
    unfold geluTanh
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
  · left
    have e : val_main_v87 (F := Ideal) x0 x1 x2 x3 x4 (ix3 0 p k)
        = val_main_v75 (F := Ideal) x0 x1 x2 x3 x4 (ix3 0 p k) * val_main_v32 (F := Ideal) x0 x2 x3 (ix3 0 p k)
          + ∑ j : Fin 1024, val_main_v79 (F := Ideal) x0 x1 x2 x3 x4 (ix3 0 p j) * x2 (ix3 0 k j) := by
      pointwise [val_main_v87, val_main_v78, val_main_v86, val_main_v21]
    rw [e]
    refine IsReal.add (IsReal.mul ?_ (gate_real x0 x2 x3 p k)) (IsReal.sum fun j => ?_)
    · rcases row_real x0 x1 x2 x3 x4 h p with h' | h'
      · exact (h' k).2
      · rw [h' k]; exact isReal_zero
    · by_cases hr : IsReal (val_main_v26 (F := Ideal) x0 x2 x3 (ix3 0 p j))
      · refine (slope_real x0 x1 x2 x3 x4 h p j).mul ?_
        have e2 : val_main_v26 (F := Ideal) x0 x2 x3 (ix3 0 p j)
            = ∑ i : Fin 1024, val_main_v20 (F := Ideal) x0 (ix3 0 p i) * x2 (ix3 0 i j) + x3 (ix2 0 j) := by
          pointwise [val_main_v26, val_main_v25, val_main_v24, val_main_v23, val_main_v22, val_main_v21]
        rw [e2] at hr
        exact isReal_of_mul (isReal_of_sum (isReal_of_add hr).1 k) hz
      · have e3 : val_main_v79 (F := Ideal) x0 x1 x2 x3 x4 (ix3 0 p j)
            = val_main_v77 (F := Ideal) x0 x1 x2 x3 x4 (ix3 0 p j) * val_main_v35 (F := Ideal) x0 x2 x3 (ix3 0 p j) := by
          pointwise [val_main_v79]
        rw [e3, gate_slope x0 x2 x3 p j hr, mul_zero, zero_mul]
        exact isReal_zero

/-- The gradient of the pre-activation at one entry: the cotangent times the GELU's derivative. -/
theorem pre_grad (h : Finite x1 x4) (i : S8192x1024.Idx) :
    val_main_v101 (F := Ideal) x0 x1 x2 x3 x4 i = val_main_v87 (F := Ideal) x0 x1 x2 x3 x4 (ix3 0 (i 0) (i 1))
      * (Ideal.ofBits .f32 1056964608#32 * (1 + geluTanh (x0 (ix3 0 (i 0) (i 1))))
        + Ideal.ofBits .f32 1056964608#32 * x0 (ix3 0 (i 0) (i 1)) * (1 - geluTanh (x0 (ix3 0 (i 0) (i 1))) * geluTanh (x0 (ix3 0 (i 0) (i 1))))
          * (Ideal.ofBits .f32 1061962282#32 + ((241015141496493 / 2251799813685248 : ℝ) : EReal) * (x0 (ix3 0 (i 0) (i 1)) * x0 (ix3 0 (i 0) (i 1))))) := by
  rw [gelu_grad (cotangent_real x0 x1 x2 x3 x4 h (i 0) (i 1))]
  unfold geluTanh
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v89, val_main_v90, val_main_v91, val_main_v92, val_main_v93, val_main_v94, val_main_v95, val_main_v96, val_main_v97, val_main_v98, val_main_v99, val_main_v100, val_main_v101, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]

end

/-- What the body stores in the pre-activation gradient's block is the reference's at the array index. -/
theorem point (c : Dev nD) (t : Fin cfg0.N) (hf : Finite (m ((c : Thread nD τ).loc main_arg1)) (m ((c : Thread nD τ).loc main_arg4))) (y : S512x1024.Idx) (i : S8192x1024.Idx) (h0 : (i 0).val = t.val * 512 + (y 0).val) (h1 : (i 1).val = (y 1).val) :
    k0_pay4 (k0_pay16 (iblk m c 0 t)) (k0_pay19 (k0_pay18 (iblk m c 0 t) (iblk m c 2 t) (iblk m c 3 t)) (FloatOps.ofBits .f32 1065353216#32)) (k0_pay23 (k0_pay15 (iblk m c 0 t)) (k0_pay18 (iblk m c 0 t) (iblk m c 2 t) (iblk m c 3 t)) (FloatOps.ofBits .f32 1065353216#32) (iblk m c 1 t) (iblk m c 4 t))
        (k0_pay25 (k0_pay15 (iblk m c 0 t)) (k0_pay18 (iblk m c 0 t) (iblk m c 2 t) (iblk m c 3 t)) (FloatOps.ofBits .f32 1065353216#32) (iblk m c 1 t) (iblk m c 4 t)) (FloatOps.ofBits .f32 1065353216#32) (iblk m c 2 t) y
      = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have e1 := gate_block m c t y i h0 h1
  have e3 := dys_block m c t y i h0 h1
  have e4 : ∀ k : Fin 1024, k0_pay1 (k0_pay19 (k0_pay18 (iblk m c 0 t) (iblk m c 2 t) (iblk m c 3 t)) (FloatOps.ofBits .f32 1065353216#32)) (k0_pay25 (k0_pay15 (iblk m c 0 t)) (k0_pay18 (iblk m c 0 t) (iblk m c 2 t) (iblk m c 3 t)) (FloatOps.ofBits .f32 1065353216#32) (iblk m c 1 t) (iblk m c 4 t)) (FloatOps.ofBits .f32 1065353216#32) (ix2 (y 0) k) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (i 0) k) :=
    fun k => dp_block m c t (ix2 (y 0) k) (ix2 (i 0) k) h0 rfl
  have e5 := y_block m c t y i h0 h1
  have hr := cotangent_real (m ((c : Thread nD τ).loc main_arg0)) (m ((c : Thread nD τ).loc main_arg1)) (m ((c : Thread nD τ).loc main_arg2)) (m ((c : Thread nD τ).loc main_arg3)) (m ((c : Thread nD τ).loc main_arg4)) hf (i 0) (i 1)
  unfold k0_pay4 k0_pay3
  generalize k0_pay1 (k0_pay19 (k0_pay18 (iblk m c 0 t) (iblk m c 2 t) (iblk m c 3 t)) (FloatOps.ofBits .f32 1065353216#32)) (k0_pay25 (k0_pay15 (iblk m c 0 t)) (k0_pay18 (iblk m c 0 t) (iblk m c 2 t) (iblk m c 3 t)) (FloatOps.ofBits .f32 1065353216#32) (iblk m c 1 t) (iblk m c 4 t)) (FloatOps.ofBits .f32 1065353216#32) = dp at e4 ⊢
  generalize k0_pay23 (k0_pay15 (iblk m c 0 t)) (k0_pay18 (iblk m c 0 t) (iblk m c 2 t) (iblk m c 3 t)) (FloatOps.ofBits .f32 1065353216#32) (iblk m c 1 t) (iblk m c 4 t) = q at e3 ⊢
  generalize k0_pay19 (k0_pay18 (iblk m c 0 t) (iblk m c 2 t) (iblk m c 3 t)) (FloatOps.ofBits .f32 1065353216#32) = g at e1 ⊢
  have e6 := pre_grad (m ((c : Thread nD τ).loc main_arg0)) (m ((c : Thread nD τ).loc main_arg1)) (m ((c : Thread nD τ).loc main_arg2)) (m ((c : Thread nD τ).loc main_arg3)) (m ((c : Thread nD τ).loc main_arg4)) hf i
  rw [e6]
  unfold Cert.Fin'.geluTanh
  pointwise [k0_pay16, k0_pay14, k0_pay13, k0_pay12, k0_pay11, k0_pay10, val_main_v87, val_main_v78, val_main_v86, val_main_v21]
  rw [e1, e3, lit_kc, lit_3kc, Cert.Fin'.gelu_angle, e5]
  simp only [e4]
  blk_point [iblk, V, idx t]

/-- The gradient of the pre-activation. -/
theorem final_5 (c : Dev nD) (hf : Finite (m ((c : Thread nD τ).loc main_arg1)) (m ((c : Thread nD τ).loc main_arg4))) : (dats m 0 c).arrAt 5 (cfgs 0).N = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t ht y => ?_
  blk_simp; rw [after0_5]
  by_cases h : t.val % 16 = 0
  · have h' : ¬ t.val % 16 = 15 := by omega
    rw [outsAt0_A m c t h h']; dsimp only; frame_out; refine point m c t hf y _ ?_ ?_ <;> blk_simp [idx t] <;> (try omega)
  · by_cases h' : t.val % 16 = 15
    · rw [outsAt0_C m c t h h']; dsimp only; frame_out; refine point m c t hf y _ ?_ ?_ <;> blk_simp [idx t] <;> (try omega)
    · rw [outsAt0_B m c t h h']; dsimp only; frame_out; refine point m c t hf y _ ?_ ?_ <;> blk_simp [idx t] <;> (try omega)

/-- The zero fills. -/
theorem hzero_bias (j : S1x1024.Idx) : k0_pay8 (F := Ideal) j = 0 := by
  pointwise! [k0_pay8]
theorem hzero_gain (j : S1x1024.Idx) : k0_pay9 (F := Ideal) j = 0 := by
  pointwise! [k0_pay9]
theorem hzero_acc (j : S1024x1024.Idx) : k0_pay7 (F := Ideal) j = 0 := by
  pointwise! [k0_pay7]

/-- One point adds the column sums of its block. -/
theorem hpay_bias (v42 v81 : FVec Ideal S512x1024 .f32) (o : Ideal .f32) (v85 : Vec Ideal S1x1024 .f32) (j : S1x1024.Idx) :
    k0_pay2 v42 v81 o v85 j = v85 j + ∑ k : Fin 512, k0_pay1 v42 v81 o (ix2 k (j 1)) := by
  unfold k0_pay2
  generalize k0_pay1 v42 v81 o = z
  pointwise []

/-- One point adds the product of its blocks. -/
theorem hpay_acc (v29 : FVec Ideal S512x1024 .bf16) (v42 v81 : FVec Ideal S512x1024 .f32) (o : Ideal .f32) (v99 : Vec Ideal S1024x1024 .f32) (j : S1024x1024.Idx) :
    k0_pay5 v29 v42 v81 o v99 j = v99 j + ∑ k : Fin 512, v29 (ix2 k (j 0)) * k0_pay1 v42 v81 o (ix2 k (j 1)) := by
  unfold k0_pay5 k0_pay3
  generalize k0_pay1 v42 v81 o = z
  pointwise []

/-- One point adds the column sums of the cotangent times the normalized rows. -/
theorem hpay_gain (z : FVec Ideal S512x1024 .f32) (e : FVec Ideal S512x1024 .f32) (o : Ideal .f32) (d : Vec Ideal S512x1024 .f32) (v : Vec Ideal S1x1024 .f32) (j : S1x1024.Idx) :
    k0_pay24 z e o d v j = v j + ∑ k : Fin 512, d (ix2 k (j 1)) * k0_pay20 z e o (ix2 k (j 1)) * k0_pay22 z e o (ix2 k 0) := by
  unfold k0_pay24
  generalize k0_pay22 z e o = r
  generalize k0_pay20 z e o = y
  pointwise [k0_pay21]

/-- The literal one, read. -/
theorem one_bits : (FloatOps.ofBits .f32 1065353216#32 : Ideal .f32) = (1 : EReal) := by
  pointwise []

/-- One entry of the gain's summand. -/
theorem gain_block (c : Dev nD) (t : Fin cfg0.N) (d : FVec Ideal S512x1024 .f32) (y : S512x1024.Idx) (i : S8192x1024.Idx) (h0 : (i 0).val = t.val * 512 + (y 0).val) (h1 : (i 1).val = (y 1).val)
    (hd : d y = val_main_v54 (F := Ideal) (m ((c : Thread nD τ).loc main_arg1)) (ix3 0 (i 0) (i 1))) :
    d y * k0_pay20 (k0_pay15 (iblk m c 0 t)) (k0_pay18 (iblk m c 0 t) (iblk m c 2 t) (iblk m c 3 t)) (FloatOps.ofBits .f32 1065353216#32) y * k0_pay22 (k0_pay15 (iblk m c 0 t)) (k0_pay18 (iblk m c 0 t) (iblk m c 2 t) (iblk m c 3 t)) (FloatOps.ofBits .f32 1065353216#32) (ix2 (y 0) 0) = val_main_v55 (F := Ideal) (m ((c : Thread nD τ).loc main_arg0)) (m ((c : Thread nD τ).loc main_arg1)) (m ((c : Thread nD τ).loc main_arg2)) (m ((c : Thread nD τ).loc main_arg3)) (ix3 0 (i 0) (i 1)) := by
  have hz : ∀ k : Fin 1024, k0_pay20 (k0_pay15 (iblk m c 0 t)) (k0_pay18 (iblk m c 0 t) (iblk m c 2 t) (iblk m c 3 t)) (FloatOps.ofBits .f32 1065353216#32) (ix2 (y 0) k) = val_main_v36 (F := Ideal) (m ((c : Thread nD τ).loc main_arg0)) (m ((c : Thread nD τ).loc main_arg2)) (m ((c : Thread nD τ).loc main_arg3)) (ix3 0 (i 0) k) := fun k =>
    ys_block m c t (ix2 (y 0) k) (ix2 (i 0) k) h0 rfl
  have hy := ys_block m c t y i h0 h1
  rw [hy, hd]
  unfold k0_pay22
  generalize k0_pay20 (k0_pay15 (iblk m c 0 t)) (k0_pay18 (iblk m c 0 t) (iblk m c 2 t) (iblk m c 3 t)) (FloatOps.ofBits .f32 1065353216#32) = z at hz ⊢
  pointwise [val_main_v55, val_main_v50, val_main_v49, val_main_v45, val_main_v44, val_main_v43, val_main_v42, val_main_v41, val_main_v40, val_main_v39, val_main_v38, val_main_cst_9, val_main_cst_10, val_main_cst_11]
  simp only [hz]
  ac_rfl

/-- The bias's gradient. -/
theorem final_7 (c : Dev nD) : (dats m 0 c).arrAt 7 (cfgs 0).N = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by
      have h' : ¬ t.val % 16 = 15 := by omega
      rw [outsAt0_A m c t h h']; frame_out; rw [hpay_bias, hzero_bias])
    (fun t h j => by
      by_cases h' : t.val % 16 = 15
      · rw [outsAt0_C m c t h h']; frame_out; rw [hpay_bias]
      · rw [outsAt0_B m c t h h']; frame_out; rw [hpay_bias])
    (le_of_eq N_0) t0_15 rfl j, zero_add]
  pointwise [val_main_v83]
  simp only [bias_share]
  pointwise [val_main_v81, val_main_v80, val_main_cst_18]
  refine Fin.sum_mul_add_congr fun t k hl => ?_
  have e := dp_block m c t (ix2 k (j 1)) (ix2 ⟨t.val * 512 + k.val, hl⟩ (j 1)) rfl rfl
  simp only [one_bits] at e
  exact e

/-- The gain's gradient. -/
theorem final_8 (c : Dev nD) : (dats m 0 c).arrAt 8 (cfgs 0).N = val_main_v76 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0) _
    (fun t h j => by
      have h' : ¬ t.val % 16 = 15 := by omega
      rw [outsAt0_A m c t h h']; frame_out; rw [hpay_gain, hzero_gain])
    (fun t h j => by
      by_cases h' : t.val % 16 = 15
      · rw [outsAt0_C m c t h h']; frame_out; rw [hpay_gain]
      · rw [outsAt0_B m c t h h']; frame_out; rw [hpay_gain])
    (le_of_eq N_0) t0_15 rfl j, zero_add]
  pointwise [val_main_v76]
  simp only [gain_share]
  pointwise [val_main_v57, val_main_v56, val_main_cst_13]
  refine Fin.sum_mul_add_congr fun t k hl => ?_
  have e := gain_block m c t (iblk m c 1 t) (ix2 k (j 1)) (ix2 ⟨t.val * 512 + k.val, hl⟩ (j 1)) rfl rfl (d_block m c t _ _ rfl rfl)
  simp only [one_bits] at e
  exact e

/-- The weight's gradient. -/
theorem final_6 (c : Dev nD) : (dats m 0 c).arrAt 6 (cfgs 0).N = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_15 (by decide +kernel) _ fun j => ?_
  blk_simp
  have hlast : (outsAt0 m c t0_15.val t0_15.isLt).2.1 j = (outsAt0 m c t0_15.val t0_15.isLt).2.2.2.2 j := by
    rw [outsAt0_C m c t0_15 (by decide) (by decide)]; dsimp only; frame_out
    pointwise [k0_pay6]
  rw [after0_6]
  refine hlast.trans ?_
  rw [Pipeline.eq_sum_fin_of_reset_step_apply_last (fun n h => (outsAt0 m c n h).2.2.2.2) 16 (fun _ => 0) _
    (fun t h j => by
      have h' : ¬ t.val % 16 = 15 := by omega
      rw [outsAt0_A m c t h h']; frame_out; rw [hpay_acc, hzero_acc])
    (fun t h j => by
      by_cases h' : t.val % 16 = 15
      · rw [outsAt0_C m c t h h']; frame_out; rw [hpay_acc]; simp only [read_unread_whole]
      · rw [outsAt0_B m c t h h']; frame_out; rw [hpay_acc]; simp only [read_unread_whole])
    (le_of_eq N_0) t0_15 rfl j, zero_add]
  pointwise [val_main_v103, val_main_v102, val_main_v88, val_main_v85, val_main_v84]
  rw [Fin.sum_univ_one]
  refine Fin.sum_mul_add_congr fun t k hl => ?_
  have e := dp_block m c t (ix2 k (j 1)) (ix2 ⟨t.val * 512 + k.val, hl⟩ (j 1)) rfl rfl
  have e' := gelu_block m c t (ix2 k (j 0)) (ix2 ⟨t.val * 512 + k.val, hl⟩ (j 0)) rfl rfl
  simp only [one_bits] at e
  rw [mul_comm]
  refine congrArg₂ (· * ·) e ?_
  refine Eq.trans ?_ e'
  pointwise [k0_pay17]

end Cert.GluBwdIdeal.Value
-- ==== Proof.GluBwdPre.lean ====
module

public import proofs.«01_k».proof.Defs
public import proofs.«01_k».proof.Proof.Gen.Pre_glu_bwd_finite
public import proofs.«01_k».proof.Proof.GluBwdValue

@[expose] public section

set_option maxRecDepth 16384

noncomputable section

open Idealize.ShloMosaic Idealize.SL.Sem

namespace Cert.GluBwdIdeal.Claims
open Cert.Fin'

/-- The printed predicate, decoded: where it is all ones, the mixer's cotangent and the norm's gain are
real numbers. -/
theorem finite_of_pre (m : (ℓ : Loc nD τ sig) → Buf (Elt Ideal) ℓ) (h : Cert.Pre_GluBwdIdeal_glu_bwd_finite (hPre_glu_bwd_finite := Cert.Pre_glu_bwd_finite.Gen.facts) m) (c : Dev nD) :
    Value.Finite (m ((c.tc : Thread nD τ).loc main_arg1)) (m ((c.tc : Thread nD τ).loc main_arg4)) := by
  obtain ⟨h1, h4⟩ := h c
  constructor
  · intro p k
    have e := congrFun h1 (ix3 0 p k)
    refine isReal_of_lt ?_
    pointwise [Cert.GluBwdRefIdeal.Read.val_main_v54]
    revert e
    unfold Cert.Pre_glu_bwd_finite.fn
    pointwise []
    exact fun e => e
  · intro k
    have e := congrFun h4 (ix2 0 k)
    refine isReal_of_lt ?_
    revert e
    unfold Cert.Pre_glu_bwd_finite.fn
    pointwise []
    exact fun e => e

end Cert.GluBwdIdeal.Claims

end
-- ==== Proof.GluBwdClaim.lean ====
module

public import proofs.«01_k».proof.Defs
public import proofs.«01_k».proof.Proof.Gen.GluBwd.Frame
public import proofs.«01_k».proof.Proof.GluBwdValue
public import proofs.«01_k».proof.Proof.GluBwdPre

@[expose] public section

set_option maxRecDepth 16384

noncomputable section

open Idealize.ShloMosaic Idealize.SL.Sem

namespace Cert.GluBwdIdeal.Claims

/-- The printed program runs to its end, leaves its arguments alone and its counters at zero. -/
theorem frame_float : Cert.quiescent_GluBwd (hGluBwd := Cert.GluBwd.Gen.facts) := fun m g _ =>
  Cert.GluBwd.Gen.frame m g

/-- So does its idealization. -/
theorem frame_ideal : Cert.quiescent_GluBwdIdeal (hGluBwdIdeal := Cert.GluBwdIdeal.Gen.facts) := fun m g _ =>
  Cert.GluBwdIdeal.Gen.frame m g

/-- So does the reference, a straight line of host operations without a counter. -/
theorem frame_reference : Cert.quiescent_GluBwdRefIdeal (hGluBwdRefIdeal := Cert.GluBwdRefIdeal.Gen.facts) := fun m g _ =>
  (θ_run Cert.GluBwdRefIdeal.defs _ _).mono (fun r h => ⟨fun c => (h c).2.2.2.2, sem_eq_zero_of_no_sems (by decide) r.2⟩)
    (Cert.GluBwdRefIdeal.Value.run m g)

/-- The idealized program's frame again, where the precondition of the equality is asked for. -/
theorem frame_ideal_pre : Cert.quiescent_GluBwdIdeal_pre_glu_bwd_finite (hGluBwdIdeal := Cert.GluBwdIdeal.Gen.facts) (hPre_glu_bwd_finite := Cert.Pre_glu_bwd_finite.Gen.facts) := fun m g _ => frame_ideal m g trivial

/-- And the reference's. -/
theorem frame_reference_pre : Cert.quiescent_GluBwdRefIdeal_pre_glu_bwd_finite (hGluBwdRefIdeal := Cert.GluBwdRefIdeal.Gen.facts) (hPre_glu_bwd_finite := Cert.Pre_glu_bwd_finite.Gen.facts) := fun m g _ => frame_reference m g trivial

/-- Over the reals the kernel's results are the reference's. -/
theorem algebraic : Cert.algebraic_GluBwdIdeal_GluBwdRefIdeal_pre_glu_bwd_finite (hGluBwdIdeal := Cert.GluBwdIdeal.Gen.facts) (hGluBwdRefIdeal := Cert.GluBwdRefIdeal.Gen.facts) (hPre_glu_bwd_finite := Cert.Pre_glu_bwd_finite.Gen.facts) := by
  intro m g m' g' hpre hagree
  refine ⟨fun c => Cert.GluBwdRefIdeal.Read.val_main_v101 (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)),
    fun c => Cert.GluBwdRefIdeal.Read.val_main_v103 (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)),
    fun c => Cert.GluBwdRefIdeal.Read.val_main_v83 (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)),
    fun c => Cert.GluBwdRefIdeal.Read.val_main_v76 (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)), ?_, ?_⟩
  · exact (θ_run Cert.GluBwdIdeal.defs _ _).mono
      (fun _ h c => ⟨(h c).1.trans (Cert.GluBwdIdeal.Value.final_5 m c (finite_of_pre m hpre c)),
        (h c).2.1.trans (Cert.GluBwdIdeal.Value.final_6 m c),
        (h c).2.2.1.trans (Cert.GluBwdIdeal.Value.final_7 m c),
        (h c).2.2.2.1.trans (Cert.GluBwdIdeal.Value.final_8 m c), (h c).2.2.2.2⟩)
      (Cert.GluBwdIdeal.Value.run_blocks m g)
  · exact (θ_run Cert.GluBwdRefIdeal.defs _ _).mono
      (fun _ h c => ⟨(h c).1.trans ((Cert.GluBwdRefIdeal.Read.val_main_v101_eq _).trans (by show Cert.GluBwdRefIdeal.Read.val_main_v101 (F := Ideal) (m' ((c.tc : Thread Cert.GluBwdRefIdeal.nD Cert.GluBwdRefIdeal.τ).loc Cert.GluBwdRefIdeal.main_arg0)) (m' ((c.tc : Thread Cert.GluBwdRefIdeal.nD Cert.GluBwdRefIdeal.τ).loc Cert.GluBwdRefIdeal.main_arg1)) (m' ((c.tc : Thread Cert.GluBwdRefIdeal.nD Cert.GluBwdRefIdeal.τ).loc Cert.GluBwdRefIdeal.main_arg2)) (m' ((c.tc : Thread Cert.GluBwdRefIdeal.nD Cert.GluBwdRefIdeal.τ).loc Cert.GluBwdRefIdeal.main_arg3)) (m' ((c.tc : Thread Cert.GluBwdRefIdeal.nD Cert.GluBwdRefIdeal.τ).loc Cert.GluBwdRefIdeal.main_arg4)) = _; rw [(hagree c).1, (hagree c).2.1, (hagree c).2.2.1, (hagree c).2.2.2.1, (hagree c).2.2.2.2])),
        (h c).2.1.trans ((Cert.GluBwdRefIdeal.Read.val_main_v103_eq _).trans (by show Cert.GluBwdRefIdeal.Read.val_main_v103 (F := Ideal) (m' ((c.tc : Thread Cert.GluBwdRefIdeal.nD Cert.GluBwdRefIdeal.τ).loc Cert.GluBwdRefIdeal.main_arg0)) (m' ((c.tc : Thread Cert.GluBwdRefIdeal.nD Cert.GluBwdRefIdeal.τ).loc Cert.GluBwdRefIdeal.main_arg1)) (m' ((c.tc : Thread Cert.GluBwdRefIdeal.nD Cert.GluBwdRefIdeal.τ).loc Cert.GluBwdRefIdeal.main_arg2)) (m' ((c.tc : Thread Cert.GluBwdRefIdeal.nD Cert.GluBwdRefIdeal.τ).loc Cert.GluBwdRefIdeal.main_arg3)) (m' ((c.tc : Thread Cert.GluBwdRefIdeal.nD Cert.GluBwdRefIdeal.τ).loc Cert.GluBwdRefIdeal.main_arg4)) = _; rw [(hagree c).1, (hagree c).2.1, (hagree c).2.2.1, (hagree c).2.2.2.1, (hagree c).2.2.2.2])),
        (h c).2.2.1.trans ((Cert.GluBwdRefIdeal.Read.val_main_v83_eq _).trans (by show Cert.GluBwdRefIdeal.Read.val_main_v83 (F := Ideal) (m' ((c.tc : Thread Cert.GluBwdRefIdeal.nD Cert.GluBwdRefIdeal.τ).loc Cert.GluBwdRefIdeal.main_arg0)) (m' ((c.tc : Thread Cert.GluBwdRefIdeal.nD Cert.GluBwdRefIdeal.τ).loc Cert.GluBwdRefIdeal.main_arg1)) (m' ((c.tc : Thread Cert.GluBwdRefIdeal.nD Cert.GluBwdRefIdeal.τ).loc Cert.GluBwdRefIdeal.main_arg2)) (m' ((c.tc : Thread Cert.GluBwdRefIdeal.nD Cert.GluBwdRefIdeal.τ).loc Cert.GluBwdRefIdeal.main_arg3)) (m' ((c.tc : Thread Cert.GluBwdRefIdeal.nD Cert.GluBwdRefIdeal.τ).loc Cert.GluBwdRefIdeal.main_arg4)) = _; rw [(hagree c).1, (hagree c).2.1, (hagree c).2.2.1, (hagree c).2.2.2.1, (hagree c).2.2.2.2])),
        (h c).2.2.2.1.trans ((Cert.GluBwdRefIdeal.Read.val_main_v76_eq _).trans (by show Cert.GluBwdRefIdeal.Read.val_main_v76 (F := Ideal) (m' ((c.tc : Thread Cert.GluBwdRefIdeal.nD Cert.GluBwdRefIdeal.τ).loc Cert.GluBwdRefIdeal.main_arg0)) (m' ((c.tc : Thread Cert.GluBwdRefIdeal.nD Cert.GluBwdRefIdeal.τ).loc Cert.GluBwdRefIdeal.main_arg1)) (m' ((c.tc : Thread Cert.GluBwdRefIdeal.nD Cert.GluBwdRefIdeal.τ).loc Cert.GluBwdRefIdeal.main_arg2)) (m' ((c.tc : Thread Cert.GluBwdRefIdeal.nD Cert.GluBwdRefIdeal.τ).loc Cert.GluBwdRefIdeal.main_arg3)) = _; rw [(hagree c).1, (hagree c).2.1, (hagree c).2.2.1, (hagree c).2.2.2.1])), (h c).2.2.2.2⟩)
      (Cert.GluBwdRefIdeal.Value.run m' g')

end Cert.GluBwdIdeal.Claims

end
-- ==== Proof.LossValue.lean ====
module

public import proofs.«01_k».proof.Proof.Gen.LossIdeal.Value
public import proofs.«01_k».proof.Proof.Gen.LossRefIdeal.Run
public import proofs.«01_k».proof.Proof.Gen.LossRefIdeal.Read
public import proofs.«01_k».proof.Proof.RmsGrad
public import proofs.«01_k».proof.Proof.Finite
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LossIdeal.Value

open Cert.LossIdeal Cert.LossIdeal.Gen
open Cert.LossRefIdeal.Read

variable (m : (ℓ : Loc nD τ sig) → Buf (Elt Ideal) ℓ)

/-- The block index of every window at every grid point. -/
theorem idx : ∀ t : Fin cfg0.N, win0_0.index t = ![t.val / 8, 0]
    ∧ win0_1.index t = ![t.val / 8, t.val % 8]
    ∧ win0_2.index t = ![t.val % 8, 0]
    ∧ win0_3.index t = ![t.val / 8, 0]
    ∧ win0_4.index t = ![0, 0]
    ∧ win0_5.index t = ![0, 0]
    ∧ win0_6.index t = ![t.val / 8, 0]
    ∧ win0_7.index t = ![t.val / 8, 0]
    ∧ win0_8.index t = ![0, 0] :=
  (by decide +kernel : ∀ t : Fin grid0.N, _)

/-- The last grid point. -/
def final : Fin cfg0.N := ⟨127, by decide +kernel⟩

/-- The two literals of the loss's scale. -/
theorem lit_two : Ideal.ofBits .f32 1073741824#32 = ((2 : ℝ) : EReal) := by
  simp [Ideal.ofBits, Ideal.ieee]; norm_num; rw [← EReal.coe_mul]; norm_num
theorem lit_inv : Ideal.ofBits .f32 973078528#32 = ((1 / 2048 : ℝ) : EReal) := by
  simp [Ideal.ofBits, Ideal.ieee]; norm_num; rw [← EReal.coe_mul]; norm_num

section
open Cert.LossRefIdeal
variable (x0 : FVec Ideal S1x8192x2048 .f32) (x1 : FVec Ideal S1x8192x8192 .f32) (x2 x3 : FVec Ideal S1x8192x2048 .f32) (x4 : FVec Ideal S2048 .f32)

/-- The reference sums the mean's share over an axis of one row. -/
theorem row_share (i : S8192.Idx) : val_main_v50 (F := Ideal) x0 x1 x2 x3 x4 i = val_main_v49 (F := Ideal) x0 x1 x2 x3 x4 (ix3 0 (i 0) 0) := by
  unfold val_main_v50
  generalize val_main_v49 (F := Ideal) x0 x1 x2 x3 x4 = y
  simp only [Host.reduceAdd]
  refine (Cert.Rms.hostReduceAdd_unit Cert.LossRefIdeal.Gen.reducesTo_S1x8192x1_S8192_d0_2 y _ i (ix3 0 (i 0) 0) ?_ ?_).trans ?_
  · intro b
    have hb : b = 0 := Fin.fin_one_eq_zero b
    subst hb
    rfl
  · intro i' h
    have h1 : (i' 1).val = (i 0).val := h 0
    have h0 : (i' 0).val < 1 := (i' 0).isLt
    have h2 : (i' 2).val < 1 := (i' 2).isLt
    intro a
    fin_cases a
    · show (i' 0).val = 0
      omega
    · exact h1
    · show (i' 2).val = 0
      omega
  · pointwise [val_main_cst_15]

/-- The reference sums the gain's gradient over an axis of one row. -/
theorem gain_share (i : S2048.Idx) : val_main_v41 (F := Ideal) x0 x1 x2 x3 x4 i = val_main_v38 (F := Ideal) x0 x1 x2 x3 x4 (ix3 0 0 (i 0)) := by
  unfold val_main_v41
  generalize val_main_v38 (F := Ideal) x0 x1 x2 x3 x4 = y
  simp only [Host.reduceAdd]
  refine (Cert.Rms.hostReduceAdd_unit Cert.LossRefIdeal.Gen.reducesTo_S1x1x2048_S2048_d0_1 y _ i (ix3 0 0 (i 0)) ?_ ?_).trans ?_
  · intro b
    have hb : b = 0 := Fin.fin_one_eq_zero b
    subst hb
    rfl
  · intro i' h
    have h2 : (i' 2).val = (i 0).val := h 0
    have h0 : (i' 0).val < 1 := (i' 0).isLt
    have h1 : (i' 1).val < 1 := (i' 1).isLt
    intro a
    fin_cases a
    · show (i' 0).val = 0
      omega
    · show (i' 1).val = 0
      omega
    · exact h2
  · pointwise [val_main_cst_12]

/-- The cotangent of the normalized output: the error over the number of columns. -/
theorem slope (p : Fin 8192) (k : Fin 2048) :
    val_main_v35 (F := Ideal) x0 x1 x2 x3 x4 (ix3 0 p k) = val_main_v21 (F := Ideal) x0 x1 x2 x3 x4 (ix3 0 p k) * Ideal.ofBits .f32 973078528#32 := by
  pointwise [val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  generalize val_main_v21 (F := Ideal) x0 x1 x2 x3 x4 (ix3 0 p k) = d
  have e : Ideal.div (Ideal.ofBits .f32 1056964608#32) (Ideal.ofBits .f32 1157627904#32) * Ideal.ofBits .f32 1073741824#32 = Ideal.ofBits .f32 973078528#32 := by
    rw [Cert.Rms.div_lit Cert.Rms.lit_2048 (by norm_num), Cert.Fin'.lit_half, lit_two, lit_inv, ← EReal.coe_mul, ← EReal.coe_mul]
    norm_num
  rw [← e]
  ac_rfl

/-- The norm's gradient at one entry, in the kernels' closed form. -/
theorem norm_grad_eq (p : Fin 8192) (k : Fin 2048) : ∃ v s : EReal,
    v = Ideal.div (∑ k : Fin 2048, val_main_v4 (F := Ideal) x0 x1 x2 (ix3 0 p k) * val_main_v4 (F := Ideal) x0 x1 x2 (ix3 0 p k)) (Ideal.ofBits .f32 1157627904#32) + Ideal.ofBits .f32 897988541#32
    ∧ s = ∑ k : Fin 2048, val_main_v4 (F := Ideal) x0 x1 x2 (ix3 0 p k) * (val_main_v35 (F := Ideal) x0 x1 x2 x3 x4 (ix3 0 p k) * x4 (ix1 k))
    ∧ val_main_v56 (F := Ideal) x0 x1 x2 x3 x4 (ix3 0 p k)
      = Ideal.rsqrt v * (val_main_v35 (F := Ideal) x0 x1 x2 x3 x4 (ix3 0 p k) * x4 (ix1 k))
        - val_main_v4 (F := Ideal) x0 x1 x2 (ix3 0 p k) * (Ideal.rsqrt v * Ideal.rsqrt v * Ideal.rsqrt v) * Ideal.div s (Ideal.ofBits .f32 1157627904#32) := by
  refine ⟨_, _, rfl, rfl, ?_⟩
  rw [Cert.Rms.scaled_grad Cert.Rms.lit_2048 (by norm_num) (Cert.Rms.norm_pos_of Cert.Rms.lit_2048 (by norm_num) _)]
  pointwise [val_main_v5, val_main_v6, val_main_v7, val_main_v8, val_main_v9, val_main_v10, val_main_v11, val_main_v12, val_main_v13, val_main_v14, val_main_v15, val_main_v16, val_main_v17, val_main_v18, val_main_v19, val_main_v20, val_main_v36, val_main_v37, val_main_v38, val_main_v39, val_main_v40, val_main_v42, val_main_v43, val_main_v44, val_main_v45, val_main_v46, val_main_v47, val_main_v48, val_main_v49, val_main_v51, val_main_v52, val_main_v53, val_main_v54, val_main_v55, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [row_share]
  pointwise [val_main_v5, val_main_v6, val_main_v7, val_main_v8, val_main_v9, val_main_v10, val_main_v11, val_main_v12, val_main_v13, val_main_v14, val_main_v15, val_main_v16, val_main_v17, val_main_v18, val_main_v19, val_main_v20, val_main_v36, val_main_v37, val_main_v38, val_main_v39, val_main_v40, val_main_v42, val_main_v43, val_main_v44, val_main_v45, val_main_v46, val_main_v47, val_main_v48, val_main_v49, val_main_v51, val_main_v52, val_main_v53, val_main_v54, val_main_v55, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]

end

/-- What one point adds to the accumulator: the product of its blocks. -/
def part (u : Vec Ideal S512x1024 .bf16) (w : Vec Ideal S1024x2048 .bf16) (y : S512x2048.Idx) : EReal :=
  ∑ k : Fin 1024, max (u (ix2 (y 0) k)) 0 * max (u (ix2 (y 0) k)) 0 * w (ix2 k (y 1))

/-- The accumulator's start: the residual's block at the first point of a run. -/
def start (c : Dev nD) (t : Fin cfg0.N) (y : S512x2048.Idx) : EReal :=
  if t.val % 8 = 0 then k0_pay1 (iblk m c 0 t) y else 0

theorem hpay_acc (u : Vec Ideal S512x1024 .bf16) (z : Vec Ideal S512x2048 .f32) (w : Vec Ideal S1024x2048 .bf16) (y : S512x2048.Idx) :
    k0_pay4 u z w y = z y + part u w y := by
  unfold part
  pointwise [k0_pay4]

/-- The accumulator at the last point of a run: the residual plus the whole product. -/
theorem acc_block (c : Dev nD) (t : Fin cfg0.N) (ht : t.val % 8 = 7) (y : S512x2048.Idx) (i : S8192x2048.Idx) (h0 : (i 0).val = t.val / 8 * 512 + (y 0).val) (h1 : (i 1).val = (y 1).val) :
    (outsAt0 m c t.val t.isLt).2.2.2.2 y = val_main_v4 (F := Ideal) (m ((c : Thread nD τ).loc main_arg0)) (m ((c : Thread nD τ).loc main_arg1)) (m ((c : Thread nD τ).loc main_arg2)) (ix3 0 (i 0) (i 1)) := by
  rw [Pipeline.eq_sum_fin_of_reset_step_apply_of_flush (fun n h => (outsAt0 m c n h).2.2.2.2) 8 (fun _ => 0)
    (fun t y => start m c t y + part (iblk m c 1 t) (iblk m c 2 t) y)
    (fun t h j => by
      have h' : ¬ t.val % 8 = 7 := by omega
      by_cases h2 : t.val % 128 = 0
      · rw [outsAt0_A m c t h h2 h']; frame_out; rw [hpay_acc]
        simp only [start, if_pos h, zero_add]
      · rw [outsAt0_D m c t h h2 h']; frame_out; rw [hpay_acc]
        simp only [start, if_pos h, zero_add])
    (fun t h j => by
      have h2 : ¬ t.val % 128 = 0 := by omega
      by_cases h' : t.val % 8 = 7
      · rw [outsAt0_C m c t h h2 h']; frame_out; rw [hpay_acc]
        simp only [read_unread_whole, start, if_neg h, zero_add]
      · rw [outsAt0_B m c t h h2 h']; frame_out; rw [hpay_acc]
        simp only [read_unread_whole, start, if_neg h, zero_add])
    t ht _, zero_add, Finset.sum_add_distrib]
  pointwise [val_main_v4]
  refine congrArg₂ (· + ·) ?_ ?_
  · rw [Finset.sum_eq_single 0]
    · have hz : (8 * (t.val / 8) + ((0 : Fin 8) : ℕ)) % 8 = 0 := by simp
      simp only [start, if_pos hz]
      pointwise [k0_pay1]
      blk_point [iblk, V, idx ⟨8 * (t.val / 8), lt_of_le_of_lt (Nat.mul_div_le t.val 8) t.isLt⟩]
    · intro s _ hs
      have hz : ¬ (8 * (t.val / 8) + s.val) % 8 = 0 := by have := Fin.val_ne_of_ne hs; have := s.isLt; simp at *; omega
      simp only [start, if_neg hz]
    · intro h; exact absurd (Finset.mem_univ _) h
  · pointwise [val_main_v3, val_main_v2, val_main_v1, val_main_v0, val_main_call0_v0, val_main_call0_cst]
    unfold part
    refine Fin.sum_mul_add_congr fun s k hl => ?_
    blk_point [iblk, V, idx ⟨_, Pipeline.run_point_lt_of_flush t ht s⟩]

/-- What the last point of a run sees of the accumulator. -/
theorem acc_now (c : Dev nD) (t : Fin cfg0.N) (h : ¬ t.val % 8 = 0) (h2 : ¬ t.val % 128 = 0) (h' : t.val % 8 = 7) :
    k0_pay4 (iblk m c 1 t) (outsAt0 m c (t.val - 1) (Nat.lt_of_le_of_lt (Nat.sub_le _ _) t.isLt)).2.2.2.2 (iblk m c 2 t) = (outsAt0 m c t.val t.isLt).2.2.2.2 := by
  rw [outsAt0_C m c t h h2 h']; dsimp only; frame_out
  simp only [read_unread_whole]

/-- The error's block. -/
theorem err_block (c : Dev nD) (t : Fin cfg0.N) (z : Vec Ideal S512x2048 .f32)
    (hz : ∀ (y : S512x2048.Idx) (i : S8192x2048.Idx), (i 0).val = t.val / 8 * 512 + (y 0).val → (i 1).val = (y 1).val → z y = val_main_v4 (F := Ideal) (m ((c : Thread nD τ).loc main_arg0)) (m ((c : Thread nD τ).loc main_arg1)) (m ((c : Thread nD τ).loc main_arg2)) (ix3 0 (i 0) (i 1)))
    (y : S512x2048.Idx) (i : S8192x2048.Idx) (h0 : (i 0).val = t.val / 8 * 512 + (y 0).val) (h1 : (i 1).val = (y 1).val) :
    k0_pay10 z (iblk m c 4 t) (iblk m c 3 t) y = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (i 0) (i 1)) := by
  have hr : ∀ k : Fin 2048, z (ix2 (y 0) k) = val_main_v4 (F := Ideal) (m ((c : Thread nD τ).loc main_arg0)) (m ((c : Thread nD τ).loc main_arg1)) (m ((c : Thread nD τ).loc main_arg2)) (ix3 0 (i 0) k) := fun k =>
    hz (ix2 (y 0) k) (ix2 (i 0) k) h0 rfl
  have hy := hz y i h0 h1
  pointwise [k0_pay10, k0_pay9, k0_pay8, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rw [hy]
  simp only [hr]
  blk_point [iblk, V, idx t]

/-- The cotangent's block. -/
theorem slope_block (c : Dev nD) (t : Fin cfg0.N) (z : Vec Ideal S512x2048 .f32)
    (hz : ∀ (y : S512x2048.Idx) (i : S8192x2048.Idx), (i 0).val = t.val / 8 * 512 + (y 0).val → (i 1).val = (y 1).val → z y = val_main_v4 (F := Ideal) (m ((c : Thread nD τ).loc main_arg0)) (m ((c : Thread nD τ).loc main_arg1)) (m ((c : Thread nD τ).loc main_arg2)) (ix3 0 (i 0) (i 1)))
    (y : S512x2048.Idx) (i : S8192x2048.Idx) (h0 : (i 0).val = t.val / 8 * 512 + (y 0).val) (h1 : (i 1).val = (y 1).val) :
    k0_pay12 z (iblk m c 4 t) (iblk m c 3 t) y = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (i 0) (i 1)) := by
  have e := err_block m c t z hz y i h0 h1
  refine Eq.trans ?_ (slope _ _ _ _ _ (i 0) (i 1)).symm
  unfold k0_pay12
  generalize k0_pay10 z (iblk m c 4 t) (iblk m c 3 t) = d at e ⊢
  pointwise []
  rw [e]

/-- The reciprocal root's block. -/
theorem root_block (c : Dev nD) (t : Fin cfg0.N) (z : Vec Ideal S512x2048 .f32)
    (hz : ∀ (y : S512x2048.Idx) (i : S8192x2048.Idx), (i 0).val = t.val / 8 * 512 + (y 0).val → (i 1).val = (y 1).val → z y = val_main_v4 (F := Ideal) (m ((c : Thread nD τ).loc main_arg0)) (m ((c : Thread nD τ).loc main_arg1)) (m ((c : Thread nD τ).loc main_arg2)) (ix3 0 (i 0) (i 1)))
    (r : Fin 512) (i : Fin 8192) (h : i.val = t.val / 8 * 512 + r.val) :
    k0_pay8 z (ix2 r 0) = val_main_v12 (F := Ideal) (m ((c : Thread nD τ).loc main_arg0)) (m ((c : Thread nD τ).loc main_arg1)) (m ((c : Thread nD τ).loc main_arg2)) (ix3 0 i 0) := by
  have hr : ∀ k : Fin 2048, z (ix2 r k) = val_main_v4 (F := Ideal) (m ((c : Thread nD τ).loc main_arg0)) (m ((c : Thread nD τ).loc main_arg1)) (m ((c : Thread nD τ).loc main_arg2)) (ix3 0 i k) := fun k =>
    hz (ix2 r k) (ix2 i k) h rfl
  pointwise [k0_pay8, val_main_v5, val_main_v6, val_main_v7, val_main_v8, val_main_v9, val_main_v10, val_main_v11, val_main_v12, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [hr]

/-- The stored gradient's block. -/
theorem point (c : Dev nD) (t : Fin cfg0.N) (z : Vec Ideal S512x2048 .f32)
    (hz : ∀ (y : S512x2048.Idx) (i : S8192x2048.Idx), (i 0).val = t.val / 8 * 512 + (y 0).val → (i 1).val = (y 1).val → z y = val_main_v4 (F := Ideal) (m ((c : Thread nD τ).loc main_arg0)) (m ((c : Thread nD τ).loc main_arg1)) (m ((c : Thread nD τ).loc main_arg2)) (ix3 0 (i 0) (i 1)))
    (y : S512x2048.Idx) (i : S8192x2048.Idx) (h0 : (i 0).val = t.val / 8 * 512 + (y 0).val) (h1 : (i 1).val = (y 1).val) :
    k0_pay5 z (k0_pay13 z (iblk m c 4 t) (iblk m c 3 t)) (k0_pay14 z (iblk m c 4 t) (iblk m c 3 t)) (k0_pay15 z) y = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (i 0) (i 1)) := by
  obtain ⟨v, s, hv, hs, e⟩ := norm_grad_eq (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
  rw [e]
  have hr : ∀ k : Fin 2048, z (ix2 (y 0) k) = val_main_v4 (F := Ideal) (m ((c : Thread nD τ).loc main_arg0)) (m ((c : Thread nD τ).loc main_arg1)) (m ((c : Thread nD τ).loc main_arg2)) (ix3 0 (i 0) k) := fun k =>
    hz (ix2 (y 0) k) (ix2 (i 0) k) h0 rfl
  have hy := hz y i h0 h1
  have hd : ∀ k : Fin 2048, k0_pay12 z (iblk m c 4 t) (iblk m c 3 t) (ix2 (y 0) k) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (i 0) k) := fun k =>
    slope_block m c t z hz (ix2 (y 0) k) (ix2 (i 0) k) h0 rfl
  have hdy := slope_block m c t z hz y i h0 h1
  unfold k0_pay14 k0_pay13
  generalize k0_pay12 z (iblk m c 4 t) (iblk m c 3 t) = q at hd hdy ⊢
  pointwise [k0_pay5, k0_pay15, k0_pay9, k0_pay8]
  simp only [hr, hd]
  have hs' := hs.trans (Finset.sum_congr rfl fun k _ => mul_comm _ _)
  rw [hy, hdy, hv, hs']
  blk_point [iblk, V, idx t]

/-- The f32 gradient of the residual stream. -/
theorem final_6 (c : Dev nD) : (dats m 0 c).arrAt 6 (cfgs 0).N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h' : t.val % 8 = 7 := (flush0_6 t).mp hf
  have h : ¬ t.val % 8 = 0 := by omega
  have h2 : ¬ t.val % 128 = 0 := by omega
  blk_simp; rw [after0_6]
  rw [outsAt0_C m c t h h2 h']; dsimp only; frame_out
  simp only [read_unread_whole]
  rw [acc_now m c t h h2 h']
  pointwise [val_main_v58]
  refine point m c t _ (acc_block m c t h') y _ ?_ ?_ <;> blk_simp [idx t] <;> (try omega)

/-- Its bf16 copy. -/
theorem final_7 (c : Dev nD) : (dats m 0 c).arrAt 7 (cfgs 0).N = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h' : t.val % 8 = 7 := (flush0_7 t).mp hf
  have h : ¬ t.val % 8 = 0 := by omega
  have h2 : ¬ t.val % 128 = 0 := by omega
  blk_simp; rw [after0_7]
  rw [outsAt0_C m c t h h2 h']; dsimp only; frame_out
  simp only [read_unread_whole]
  rw [acc_now m c t h h2 h']
  pointwise [val_main_v60, val_main_v59]
  unfold k0_pay6
  refine point m c t _ (acc_block m c t h') y _ ?_ ?_ <;> blk_simp [idx t] <;> (try omega)

/-- A sum over the grid that only the last points of the runs contribute to. -/
theorem sum_runs (g : Fin cfg0.N → EReal) :
    ∑ t : Fin cfg0.N, (if t.val % 8 = 7 then g t else 0) = ∑ i : Fin 16, g ⟨8 * i.val + 7, by have := i.isLt; have hN : cfg0.N = 128 := N_0; omega⟩ := by
  refine Eq.symm ?_
  refine Fintype.sum_of_injective (fun i : Fin 16 => (⟨8 * i.val + 7, by have := i.isLt; have hN : cfg0.N = 128 := N_0; omega⟩ : Fin cfg0.N)) ?_ _ _ ?_ ?_
  · intro a b hab
    have := Fin.val_eq_of_eq hab
    simp only at this
    exact Fin.ext (by omega)
  · intro t ht
    refine if_neg fun h => ht ⟨⟨t.val / 8, by have := t.isLt; have hN : cfg0.N = 128 := N_0; omega⟩, Fin.ext ?_⟩
    simp only
    omega
  · intro i
    have h : (8 * i.val + 7) % 8 = 7 := by omega
    simp only [if_pos h]

/-- One half times a sum is the sum of the halves: one half is finite and not negative. -/
theorem half_sum (g : Fin 16 → EReal) : Ideal.ofBits .f32 1056964608#32 * ∑ i : Fin 16, g i = ∑ i : Fin 16, Ideal.ofBits .f32 1056964608#32 * g i := by
  rw [Cert.Fin'.lit_half]
  induction (Finset.univ : Finset (Fin 16)) using Finset.cons_induction with
  | empty => simp
  | cons a s ha ih =>
    rw [Finset.sum_cons, Finset.sum_cons, EReal.left_distrib_of_nonneg_of_ne_top (by exact_mod_cast (by norm_num : (0 : ℝ) ≤ 1 / 2)) (EReal.coe_ne_top _), ih]

theorem hzero_loss (j : S1x1.Idx) : k0_pay2 (F := Ideal) j = 0 := by
  pointwise! [k0_pay2]
theorem hzero_gain (j : S1x2048.Idx) : k0_pay3 (F := Ideal) j = 0 := by
  pointwise! [k0_pay3]

/-- What the last point of a run adds to the loss. -/
def lossPart (c : Dev nD) (t : Fin cfg0.N) : EReal :=
  Ideal.ofBits .f32 1056964608#32 * ∑ r : Fin 512, Ideal.div (∑ k : Fin 2048, k0_pay10 (outsAt0 m c t.val t.isLt).2.2.2.2 (iblk m c 4 t) (iblk m c 3 t) (ix2 r k) * k0_pay10 (outsAt0 m c t.val t.isLt).2.2.2.2 (iblk m c 4 t) (iblk m c 3 t) (ix2 r k)) (Ideal.ofBits .f32 1157627904#32)

theorem hpay_loss (z : Vec Ideal S512x2048 .f32) (g : Vec Ideal S1x2048 .f32) (w : Vec Ideal S512x2048 .f32) (l : Vec Ideal S1x1 .f32) (j : S1x1.Idx) :
    k0_pay11 z g w l j = l j + Ideal.ofBits .f32 1056964608#32 * ∑ r : Fin 512, Ideal.div (∑ k : Fin 2048, k0_pay10 z g w (ix2 r k) * k0_pay10 z g w (ix2 r k)) (Ideal.ofBits .f32 1157627904#32) := by
  unfold k0_pay11
  generalize k0_pay10 z g w = d
  pointwise []

theorem hpay_gain (z : Vec Ideal S512x2048 .f32) (q : FVec Ideal S512x2048 .f32) (l : Vec Ideal S1x2048 .f32) (j : S1x2048.Idx) :
    k0_pay7 z (k0_pay8 z) q l j = l j + ∑ r : Fin 512, q (ix2 r (j 1)) * z (ix2 r (j 1)) * k0_pay8 z (ix2 r 0) := by
  generalize k0_pay8 z = r
  pointwise [k0_pay7]

/-- What the last point of a run adds to the gain's gradient. -/
def gainPart (c : Dev nD) (t : Fin cfg0.N) (j : S1x2048.Idx) : EReal :=
  ∑ r : Fin 512, k0_pay12 (outsAt0 m c t.val t.isLt).2.2.2.2 (iblk m c 4 t) (iblk m c 3 t) (ix2 r (j 1)) * (outsAt0 m c t.val t.isLt).2.2.2.2 (ix2 r (j 1)) * k0_pay8 (outsAt0 m c t.val t.isLt).2.2.2.2 (ix2 r 0)

/-- The gain's gradient. -/
theorem final_8 (c : Dev nD) : (dats m 0 c).arrAt 8 (cfgs 0).N = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 final (by decide +kernel) _ fun j => ?_
  blk_simp
  rw [after0_8, Pipeline.eq_sum_fin_of_reset_step_apply_last (fun n h => (outsAt0 m c n h).2.2.2.1) 128 (fun _ => 0)
    (fun t j => if t.val % 8 = 7 then gainPart m c t j else 0)
    (fun t h2 j => by
      have h : t.val % 8 = 0 := by omega
      have h' : ¬ t.val % 8 = 7 := by omega
      rw [outsAt0_A m c t h h2 h']; frame_out; rw [if_neg h', add_zero, hzero_gain])
    (fun t h2 j => by
      by_cases h' : t.val % 8 = 7
      · have h : ¬ t.val % 8 = 0 := by omega
        have e := acc_now m c t h h2 h'
        rw [if_pos h']
        unfold gainPart
        rw [← e]
        rw [outsAt0_C m c t h h2 h']; frame_out
        simp only [read_unread_whole]
        rw [hpay_gain]
      · by_cases h : t.val % 8 = 0
        · rw [outsAt0_D m c t h h2 h']; frame_out; rw [if_neg h', add_zero]; rfl
        · rw [outsAt0_B m c t h h2 h']; frame_out; rw [if_neg h', add_zero]; rfl)
    (le_of_eq N_0) final rfl j, zero_add]
  rw [sum_runs]
  pointwise [val_main_v61]
  simp only [gain_share]
  pointwise [val_main_v38, val_main_v37, val_main_v36, val_main_v17, val_main_v16, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  unfold gainPart
  refine Fin.sum_mul_add_congr fun s k hl => ?_
  have hs : (8 * s.val + 7) % 8 = 7 := by omega
  have hd : (8 * s.val + 7) / 8 = s.val := by omega
  have hz := acc_block m c ⟨8 * s.val + 7, by have := s.isLt; have hN : cfg0.N = 128 := N_0; omega⟩ hs
  have e := slope_block m c ⟨8 * s.val + 7, by have := s.isLt; have hN : cfg0.N = 128 := N_0; omega⟩ _ hz (ix2 k (j 1)) (ix2 ⟨s.val * 512 + k.val, hl⟩ (j 1)) (by rw [hd]; rfl) rfl
  have ez := hz (ix2 k (j 1)) (ix2 ⟨s.val * 512 + k.val, hl⟩ (j 1)) (by rw [hd]; rfl) rfl
  have er := root_block m c ⟨8 * s.val + 7, by have := s.isLt; have hN : cfg0.N = 128 := N_0; omega⟩ _ hz k ⟨s.val * 512 + k.val, hl⟩ (by rw [hd])
  refine (congrArg₂ (· * ·) (congrArg₂ (· * ·) e ez) er).trans ?_
  have r : ∀ a b d : EReal, a * b * d = b * d * a := fun a b d => by rw [mul_assoc, mul_comm]
  exact r _ _ _

/-- The loss. -/
theorem final_5 (c : Dev nD) : (dats m 0 c).arrAt 5 (cfgs 0).N = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 5 final (by decide +kernel) _ fun j => ?_
  blk_simp
  rw [after0_5, Pipeline.eq_sum_fin_of_reset_step_apply_last (fun n h => (outsAt0 m c n h).1) 128 (fun _ => 0)
    (fun t j => if t.val % 8 = 7 then lossPart m c t else 0)
    (fun t h2 j => by
      have h : t.val % 8 = 0 := by omega
      have h' : ¬ t.val % 8 = 7 := by omega
      rw [outsAt0_A m c t h h2 h']; frame_out; rw [if_neg h', add_zero, hzero_loss])
    (fun t h2 j => by
      by_cases h' : t.val % 8 = 7
      · have h : ¬ t.val % 8 = 0 := by omega
        have e := acc_now m c t h h2 h'
        rw [if_pos h']
        unfold lossPart
        rw [← e]
        rw [outsAt0_C m c t h h2 h']; frame_out
        simp only [read_unread_whole]
        rw [hpay_loss]
      · by_cases h : t.val % 8 = 0
        · rw [outsAt0_D m c t h h2 h']; frame_out; rw [if_neg h', add_zero]; rfl
        · rw [outsAt0_B m c t h h2 h']; frame_out; rw [if_neg h', add_zero]; rfl)
    (le_of_eq N_0) final rfl j, zero_add]
  rw [sum_runs]
  pointwise [val_main_v57, val_main_v29, val_main_v28, val_main_v27, val_main_v26, val_main_v25, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  unfold lossPart
  rw [← half_sum, Fin.sum_univ_one]
  refine congrArg (_ * ·) ?_
  refine Fin.sum_mul_add_congr fun s r hl => ?_
  have hs : (8 * s.val + 7) % 8 = 7 := by omega
  have hd : (8 * s.val + 7) / 8 = s.val := by omega
  refine congrArg (Ideal.div · _) (Finset.sum_congr rfl fun k _ => ?_)
  have e := err_block m c ⟨8 * s.val + 7, by have := s.isLt; have hN : cfg0.N = 128 := N_0; omega⟩ _ (acc_block m c ⟨8 * s.val + 7, by have := s.isLt; have hN : cfg0.N = 128 := N_0; omega⟩ hs) (ix2 r k) (ix2 ⟨s.val * 512 + r.val, hl⟩ k) (by rw [hd]; rfl) rfl
  exact congrArg₂ (· * ·) e e

end Cert.LossIdeal.Value

end
-- ==== Proof.LossClaim.lean ====
module

public import proofs.«01_k».proof.Defs
public import proofs.«01_k».proof.Proof.Gen.Loss.Frame
public import proofs.«01_k».proof.Proof.LossValue

@[expose] public section

set_option maxRecDepth 16384

noncomputable section

open Idealize.ShloMosaic Idealize.SL.Sem

namespace Cert.LossIdeal.Claims

/-- The printed program runs to its end, leaves its arguments alone and its counters at zero. -/
theorem frame_float : Cert.quiescent_Loss (hLoss := Cert.Loss.Gen.facts) := fun m g _ =>
  Cert.Loss.Gen.frame m g

/-- So does its idealization. -/
theorem frame_ideal : Cert.quiescent_LossIdeal (hLossIdeal := Cert.LossIdeal.Gen.facts) := fun m g _ =>
  Cert.LossIdeal.Gen.frame m g

/-- So does the reference, a straight line of host operations without a counter. -/
theorem frame_reference : Cert.quiescent_LossRefIdeal (hLossRefIdeal := Cert.LossRefIdeal.Gen.facts) := fun m g _ =>
  (θ_run Cert.LossRefIdeal.defs _ _).mono (fun r h => ⟨fun c => (h c).2.2.2.2, sem_eq_zero_of_no_sems (by decide) r.2⟩)
    (Cert.LossRefIdeal.Value.run m g)

/-- Over the reals the kernel's results are the reference's. -/
theorem algebraic : Cert.algebraic_LossIdeal_LossRefIdeal (hLossIdeal := Cert.LossIdeal.Gen.facts) (hLossRefIdeal := Cert.LossRefIdeal.Gen.facts) := by
  intro m g m' g' hpre hagree
  refine ⟨fun c => Cert.LossRefIdeal.Read.val_main_v57 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)),
    fun c => Cert.LossRefIdeal.Read.val_main_v58 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)),
    fun c => Cert.LossRefIdeal.Read.val_main_v60 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)),
    fun c => Cert.LossRefIdeal.Read.val_main_v61 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)), ?_, ?_⟩
  · exact (θ_run Cert.LossIdeal.defs _ _).mono
      (fun _ h c => ⟨(h c).1.trans (Cert.LossIdeal.Value.final_5 m c),
        (h c).2.1.trans (Cert.LossIdeal.Value.final_6 m c),
        (h c).2.2.1.trans (Cert.LossIdeal.Value.final_7 m c),
        (h c).2.2.2.1.trans (Cert.LossIdeal.Value.final_8 m c), (h c).2.2.2.2⟩)
      (Cert.LossIdeal.Value.run_blocks m g)
  · exact (θ_run Cert.LossRefIdeal.defs _ _).mono
      (fun _ h c => ⟨(h c).1.trans ((Cert.LossRefIdeal.Read.val_main_v57_eq m' c).trans (by rw [(hagree c).1, (hagree c).2.1, (hagree c).2.2.1, (hagree c).2.2.2.1, (hagree c).2.2.2.2])),
        (h c).2.1.trans ((Cert.LossRefIdeal.Read.val_main_v58_eq m' c).trans (by rw [(hagree c).1, (hagree c).2.1, (hagree c).2.2.1, (hagree c).2.2.2.1, (hagree c).2.2.2.2])),
        (h c).2.2.1.trans ((Cert.LossRefIdeal.Read.val_main_v60_eq m' c).trans (by rw [(hagree c).1, (hagree c).2.1, (hagree c).2.2.1, (hagree c).2.2.2.1, (hagree c).2.2.2.2])),
        (h c).2.2.2.1.trans ((Cert.LossRefIdeal.Read.val_main_v61_eq m' c).trans (by rw [(hagree c).1, (hagree c).2.1, (hagree c).2.2.1, (hagree c).2.2.2.1, (hagree c).2.2.2.2])), (h c).2.2.2.2⟩)
      (Cert.LossRefIdeal.Value.run m' g')

end Cert.LossIdeal.Claims

end
-- ==== Proof.SguChunk.lean ====
module

public import proofs.«01_k».proof.Proof.Gen.SguBwdIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open scoped BigOperators

/-! # One chunk of the spatial gate's backward call

The kernel's body works through four chunks of 128 rows, one after the other, in the same way. This module writes down once what a
chunk computes from the rows it loads, and what a grid point leaves in each output from its four chunks. -/

namespace Cert.SguBwdIdeal.Chunk

open Cert.SguBwdIdeal Cert.SguBwdIdeal.Gen

/-- A chunk's rows, all columns. -/
abbrev Rows := FVec Ideal S128x1024 .f32
/-- One number per row of a chunk. -/
abbrev Col := FVec Ideal S128x1 .f32
/-- One number per column. -/
abbrev Row := FVec Ideal S1x1024 .f32
/-- A head's square. -/
abbrev Sq := FVec Ideal S128x128 .f32

/-- The columns of one head. -/
def cols {φ : FTy} (v : FVec Ideal S128x1024 φ) (h : Fin 8) : FVec Ideal S128x128 φ :=
  extractStridedSlice S128x128 ![0, 128 * h.val] v (by revert h; decide)

/-- The place of one head in an array of heads. -/
def hd (h : Fin 8) : Rect S8x128x128 := Rect.unit (s := S8x128x128) ![h.val, 0, 0] S1x128x128.size (by revert h; decide)

/-- One head's square of an array of heads. -/
def head {φ : FTy} (w : FVec Ideal S8x128x128 φ) (h : Fin 8) : FVec Ideal S128x128 φ :=
  shapeCast S128x128 (fun x => w ((hd h).idx x) : FVec Ideal S1x128x128 φ) shapeCasts_S1x128x128_S128x128

/-- Eight squares, side by side. -/
def cat8 (a b c d e f g h : Sq) : Rows :=
  concatenate S128x1024 1 [⟨S128x128, a⟩, ⟨S128x128, b⟩, ⟨S128x128, c⟩, ⟨S128x128, d⟩, ⟨S128x128, e⟩, ⟨S128x128, f⟩, ⟨S128x128, g⟩, ⟨S128x128, h⟩]
    concatenates_S128x128_S128x128_S128x128_S128x128_S128x128_S128x128_S128x128_S128x128_S128x1024_d1

theorem cat8_eq (a b c d e f g h : Sq) (w) :
    concatenate S128x1024 1 [⟨S128x128, a⟩, ⟨S128x128, b⟩, ⟨S128x128, c⟩, ⟨S128x128, d⟩, ⟨S128x128, e⟩, ⟨S128x128, f⟩, ⟨S128x128, g⟩, ⟨S128x128, h⟩] w =
      cat8 a b c d e f g h := rfl

/-- The heads' squares, side by side. -/
def cat (f : Fin 8 → Sq) : Rows := cat8 (f 0) (f 1) (f 2) (f 3) (f 4) (f 5) (f 6) (f 7)

def lit (b : BitVec 32) : Rows := broadcast S128x1024 (Scalar.ofBits .f32 b)
def litc (b : BitVec 32) : Col := broadcast S128x1 (Scalar.ofBits .f32 b)
/-- Sum over a row's columns, one number per row. -/
def rsum (v : Rows) : Col := shapeCast S128x1 (multiReduction .add [1] S128 v 0x00000000#32 reduces_S128x1024_S128 (.inl rfl) rfl) shapeCasts_S128_S128x1
/-- A row's mean. -/
def mean (v : Rows) : Col := divf (rsum v) (litc 0x44800000#32)
/-- The inverse root of a row's mean square. -/
def inv (v : Rows) : Col := rsqrt (addf (mean (mulf v v)) (litc 0x358637BD#32))
def across (v : Col) : Rows := broadcastTo S128x1024 v broadcasts_S128x1_S128x1024
def down (v : Row) : Rows := broadcastTo S128x1024 v broadcasts_S1x1024_S128x1024
def same (v : Rows) : Rows := shapeCast S128x1024 v shapeCasts_S128x1024_S128x1024

/-! ## The two gelus -/

def th (z : Rows) : Rows :=
  tanh (mulf (same z) (addf (lit 0x3F4C422A#32) (mulf (broadcast S128x1024 (Named.named κ "gelu_kc" 0x3D122279#32)) (mulf (same z) (same z)))))
def gelu (z : Rows) : Rows := mulf (mulf (lit 0x3F000000#32) (same z)) (addf (lit 0x3F800000#32) (th z))
def slope (z : Rows) : Rows :=
  addf (mulf (lit 0x3F000000#32) (addf (lit 0x3F800000#32) (th z)))
    (mulf (mulf (mulf (lit 0x3F000000#32) (same z)) (subf (lit 0x3F800000#32) (mulf (th z) (th z))))
      (addf (lit 0x3F4C422A#32) (mulf (broadcast S128x1024 (Named.named κ "gelu_3kc" 0x3DDB33B6#32)) (mulf (same z) (same z)))))

/-! ## The layer norm, the mix of a chunk's rows, the gate and its norm -/

section
variable (zu zv dm : Rows) (lng lnb go : Row) (wt wtt : FVec Ideal S8x128x128 .bf16) (bias : FVec Ideal S8x128x128 .f32)

def vc : Rows := subf (gelu zv) (across (mean (gelu zv)))
def vhat : Rows := mulf (vc zv) (across (inv (vc zv)))
def vb : FVec Ideal S128x1024 .bf16 := truncf .bf16 (addf (mulf (vhat zv) (down lng)) (down lnb)) bitsLt_bf16_f32
def mixh (h : Fin 8) : Sq :=
  addf (matmul dot_S128x128_S128x128_S128x128_1_0_0_1_n_n none (head wt h) (cols (vb zv lng lnb) h) (constant S128x128 .f32 0x00000000#32)) (head bias h)
def mix : Rows := cat (mixh zv lng lnb wt bias)
def y : Rows := mulf (gelu zu) (mix zv lng lnb wt bias)
def dyg : Rows := mulf (same dm) (down go)

/-- The gradient of a row's norm, at rows `y` and cotangent `a`. -/
def normGrad (a y : Rows) : Rows :=
  subf (mulf (across (inv y)) a) (mulf (mulf y (across (mulf (mulf (inv y) (inv y)) (inv y)))) (across (mean (mulf a y))))
def dy : Rows := normGrad (dyg dm go) (y zu zv lng lnb wt bias)
def dmx : Rows := mulf (dy zu zv dm lng lnb go wt bias) (gelu zu)
def dmb : FVec Ideal S128x1024 .bf16 := truncf .bf16 (dmx zu zv dm lng lnb go wt bias) bitsLt_bf16_f32
def dvln : Rows := cat fun h =>
  matmul dot_S128x128_S128x128_S128x128_1_0_0_1_n_n none (head wtt h) (cols (dmb zu zv dm lng lnb go wt bias) h) (constant S128x128 .f32 0x00000000#32)
/-- The gradient of a row's layer norm, at its normalised row and cotangent `a`. -/
def layerGrad (a : Rows) : Rows :=
  mulf (across (inv (vc zv))) (subf (subf a (across (mean a))) (mulf (vhat zv) (across (mean (mulf a (vhat zv))))))

/-! ## What a chunk gives to each output -/

def du : FVec Ideal S128x1024 .bf16 :=
  truncf .bf16 (mulf (mulf (dy zu zv dm lng lnb go wt bias) (mix zv lng lnb wt bias)) (slope zu)) bitsLt_bf16_f32
def dv : FVec Ideal S128x1024 .bf16 :=
  shapeCast S128x1024 (truncf .bf16 (mulf (layerGrad zv (mulf (dvln zu zv dm lng lnb go wt wtt bias) (down lng))) (slope zv)) bitsLt_bf16_f32 : FVec Ideal S128x1024 .bf16) shapeCasts_S128x1024_S128x1024
def dw (h : Fin 8) : Sq :=
  matmul dot_S128x128_S128x128_S128x128_1_1_0_0_n_n none (cols (dmb zu zv dm lng lnb go wt bias) h) (cols (vb zv lng lnb) h) (constant S128x128 .f32 0x00000000#32)
def db (h : Fin 8) : Sq :=
  broadcastTo S128x128 (shapeCast S128x1 (shapeCast S128x1 (multiReduction .add [1] S128 (cols (dmx zu zv dm lng lnb go wt bias) h) 0x00000000#32 reduces_S128x128_S128 (.inl rfl) rfl)
    shapeCasts_S128_S128x1) shapeCasts_S128x1_S128x1) broadcasts_S128x1_S128x128
def dlg : Rows := mulf (dvln zu zv dm lng lnb go wt wtt bias) (vhat zv)
def dgo : Rows := mulf (mulf (same dm) (y zu zv lng lnb wt bias)) (across (inv (y zu zv lng lnb wt bias)))
end

/-! ## The accumulations -/

/-- A row of sums, after a chunk's rows are added. -/
def addRows (old : Row) (v : Rows) : Row :=
  addf (shapeCast S1x1024 old shapeCasts_S1x1024_S1x1024)
    (shapeCast S1x1024 (multiReduction .add [0] S1024 v 0x00000000#32 reduces_S128x1024_S1024 (.inl rfl) rfl) shapeCasts_S1024_S1x1024)

/-- A head's square of sums, after a chunk's is added. -/
def cell (old : FVec Ideal S1x128x128 .f32) (d : Sq) : FVec Ideal S1x128x128 .f32 :=
  shapeCast S1x128x128 (addf (shapeCast S128x128 old shapeCasts_S1x128x128_S128x128) d) shapeCasts_S128x128_S1x128x128

/-- The writes of the first chunk, over contents `old`. -/
def fill (old : FVec Ideal S8x128x128 .f32) (d : Fin 8 → Sq) : ℕ → List (View.Piece (Elt Ideal) S8x128x128 .f32)
  | 0 => []
  | n + 1 => ⟨hd (Fin.ofNat 8 n), cell (fun x => old ((hd (Fin.ofNat 8 n)).idx x)) (d (Fin.ofNat 8 n))⟩ :: fill old d n

/-- The writes of a later chunk, over the earlier ones. -/
def more {sig : RefSig} {κ : Kind} {sp : Space} (v : View sig κ sp S8x128x128 .f32) (L : List (View.Piece (Elt Ideal) S8x128x128 .f32)) (d : Fin 8 → Sq) :
    ℕ → List (View.Piece (Elt Ideal) S8x128x128 .f32)
  | 0 => L
  | n + 1 => ⟨hd (Fin.ofNat 8 n), cell (v.readCov (more v L d n) (hd (Fin.ofNat 8 n)).toLoadRect) (d (Fin.ofNat 8 n))⟩ :: more v L d n

/-- All heads at once. -/
def allHeads : Rect S8x128x128 := Rect.unit (s := S8x128x128) ![0, 0, 0] S8x128x128.size (by decide)
def zeros : FVec Ideal S8x128x128 .f32 := broadcast S8x128x128 (Scalar.ofBits .f32 0x00000000#32)
def zeroRow : Row := broadcast S1x1024 (Scalar.ofBits .f32 0x00000000#32)

/-- The rows of one chunk. -/
def rows (k : Fin 4) : Rect S512x1024 := Rect.unit (s := S512x1024) ![128 * k.val, 0] S128x1024.size (by revert k; decide)

/-- The rows of one chunk of a block. -/
def part (x : Vec Ideal S512x1024 .f32) (k : Fin 4) : Rows := View.ld x (rows k)

/-- A load of a whole row. -/
theorem ld_row (v : Row) : View.ld (Val := Elt Ideal) (e' := .f32) v (Rect.unit (s := S1x1024) ![0, 0] ![1, 1024] inb_S1x1024_S1x1024_0_0) = v :=
  View.ld_unit_lit' (Val := Elt Ideal) (S := S1x1024) (e := .f32) (off := ![0, 0]) inb_S1x1024_S1x1024_0_0 v (by decide)

end Cert.SguBwdIdeal.Chunk

end
-- ==== Proof.SguRun.lean ====
module

public import proofs.«01_k».proof.Proof.SguChunk

@[expose] public section

set_option maxRecDepth 16384

noncomputable section

open Idealize.ShloMosaic Idealize.ShloMosaic.TcCoe Idealize.SL.Sem
open scoped BigOperators

/-! # What a grid point leaves in each output, from its four chunks

At a point that works (cases A and C) the outputs hold the four chunks' terms, over what was there before (C) or over zeros (A); at the
point after it (B) the kernel only copies. -/

namespace Cert.SguBwdIdeal.Run

open Cert.SguBwdIdeal Cert.SguBwdIdeal.Gen
open Cert.SguBwdIdeal.Chunk

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg6 : Memref sig .tc .vmem S1x1024 .f32) (harg6 : arg6.IsWhole) (arg7 : Memref sig .tc .vmem S1x1024 .f32) (harg7 : arg7.IsWhole) (arg8 : Memref sig .tc .vmem S8x128x128 .bf16) (harg8 : arg8.IsWhole) (arg9 : Memref sig .tc .vmem S8x128x128 .bf16) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x128x128 .f32) (harg13 : arg13.IsWhole) (arg14 : Memref sig .tc .vmem S8x128x128 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S512x1024 .bf16) (harg18 : arg18.IsWhole)

variable (x0 : Vec Ideal S512x1024 .f32) (x1 : Vec Ideal S512x1024 .f32) (x2 : Vec Ideal S512x1024 .f32) (x3 : Vec Ideal S1x1024 .f32) (x4 : Vec Ideal S1x1024 .f32) (x5 : Vec Ideal S8x128x128 .bf16) (x6 : Vec Ideal S8x128x128 .bf16) (x7 : Vec Ideal S8x128x128 .f32) (x8 : Vec Ideal S1x1024 .f32)

section
variable (hc0 : cond0_0 i) (hc1 : cond0_1 i) (hc2 : ¬cond0_2 i)

theorem du_A (j : S512x1024.Idx) :
    out0_A_9 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 j =
      (fun g : Fin 4 → FVec Ideal S128x1024 .bf16 => View.canon (Val := Elt Ideal) (s := S512x1024) (e := .bf16) [⟨rows 3, g 3⟩, ⟨rows 2, g 2⟩, ⟨rows 1, g 1⟩, ⟨rows 0, g 0⟩] j)
      (fun k => du (part x0 k) (part x1 k) (part x2 k) x3 x4 x8 x5 x7) := by
  frame_out
  conv_lhs => simp only [cat8_eq, Memref.IsWhole.read_unread, ld_row]
  sl_kernel_rfl

theorem dv_A (j : S512x1024.Idx) :
    sout0_A_0 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 j =
      (fun g : Fin 4 → FVec Ideal S128x1024 .bf16 => View.canon (Val := Elt Ideal) (s := S512x1024) (e := .bf16) [⟨rows 3, g 3⟩, ⟨rows 2, g 2⟩, ⟨rows 1, g 1⟩, ⟨rows 0, g 0⟩] j)
      (fun k => dv (part x0 k) (part x1 k) (part x2 k) x3 x4 x8 x5 x6 x7) := by
  frame_out
  conv_lhs => simp only [cat8_eq, Memref.IsWhole.read_unread, ld_row]
  sl_kernel_rfl

theorem dw_A (j : S8x128x128.Idx) :
    out0_A_10 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 j =
      (fun g : Fin 4 → Fin 8 → Sq => View.canon (more arg13.view (more arg13.view (more arg13.view (more arg13.view [⟨allHeads, zeros⟩] (g 0) 8) (g 1) 8) (g 2) 8) (g 3) 8) j)
      (fun k => dw (part x0 k) (part x1 k) (part x2 k) x3 x4 x8 x5 x7) := by
  frame_out
  conv_lhs => simp only [cat8_eq, Memref.IsWhole.read_unread, ld_row]
  sl_kernel_rfl

theorem db_A (j : S8x128x128.Idx) :
    out0_A_11 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 j =
      (fun g : Fin 4 → Fin 8 → Sq => View.canon (more arg14.view (more arg14.view (more arg14.view (more arg14.view [⟨allHeads, zeros⟩] (g 0) 8) (g 1) 8) (g 2) 8) (g 3) 8) j)
      (fun k => db (part x0 k) (part x1 k) (part x2 k) x3 x4 x8 x5 x7) := by
  frame_out
  conv_lhs => simp only [cat8_eq, Memref.IsWhole.read_unread, ld_row]
  sl_kernel_rfl

theorem dlg_A (j : S1x1024.Idx) :
    out0_A_12 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 j =
      (fun g : Fin 4 → Rows => addRows (addRows (addRows (addRows zeroRow (g 0)) (g 1)) (g 2)) (g 3) j)
      (fun k => dlg (part x0 k) (part x1 k) (part x2 k) x3 x4 x8 x5 x6 x7) := by
  frame_out
  conv_lhs => simp only [cat8_eq, Memref.IsWhole.read_unread, ld_row]
  sl_kernel_rfl

theorem dlb_A (j : S1x1024.Idx) :
    out0_A_13 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 j =
      (fun g : Fin 4 → Rows => addRows (addRows (addRows (addRows zeroRow (g 0)) (g 1)) (g 2)) (g 3) j)
      (fun k => dvln (part x0 k) (part x1 k) (part x2 k) x3 x4 x8 x5 x6 x7) := by
  frame_out
  conv_lhs => simp only [cat8_eq, Memref.IsWhole.read_unread, ld_row]
  sl_kernel_rfl

theorem dgo_A (j : S1x1024.Idx) :
    out0_A_14 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 j =
      (fun g : Fin 4 → Rows => addRows (addRows (addRows (addRows zeroRow (g 0)) (g 1)) (g 2)) (g 3) j)
      (fun k => dgo (part x0 k) (part x1 k) (part x2 k) x3 x4 x5 x7) := by
  frame_out
  conv_lhs => simp only [cat8_eq, Memref.IsWhole.read_unread, ld_row]
  sl_kernel_rfl

end

section
variable (hc0 : ¬cond0_0 i) (hc1 : cond0_1 i) (hc2 : ¬cond0_2 i)
variable (xo10 : Vec Ideal S8x128x128 .f32) (xo11 : Vec Ideal S8x128x128 .f32) (xo12 : Vec Ideal S1x1024 .f32) (xo13 : Vec Ideal S1x1024 .f32) (xo14 : Vec Ideal S1x1024 .f32)

theorem du_C (j : S512x1024.Idx) :
    out0_C_9 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 j =
      (fun g : Fin 4 → FVec Ideal S128x1024 .bf16 => View.canon (Val := Elt Ideal) (s := S512x1024) (e := .bf16) [⟨rows 3, g 3⟩, ⟨rows 2, g 2⟩, ⟨rows 1, g 1⟩, ⟨rows 0, g 0⟩] j)
      (fun k => du (part x0 k) (part x1 k) (part x2 k) x3 x4 x8 x5 x7) := by
  frame_out
  conv_lhs => simp only [cat8_eq, Memref.IsWhole.read_unread, ld_row]
  sl_kernel_rfl

theorem dv_C (j : S512x1024.Idx) :
    sout0_C_0 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 j =
      (fun g : Fin 4 → FVec Ideal S128x1024 .bf16 => View.canon (Val := Elt Ideal) (s := S512x1024) (e := .bf16) [⟨rows 3, g 3⟩, ⟨rows 2, g 2⟩, ⟨rows 1, g 1⟩, ⟨rows 0, g 0⟩] j)
      (fun k => dv (part x0 k) (part x1 k) (part x2 k) x3 x4 x8 x5 x6 x7) := by
  frame_out
  conv_lhs => simp only [cat8_eq, Memref.IsWhole.read_unread, ld_row]
  sl_kernel_rfl

theorem dw_C (j : S8x128x128.Idx) :
    out0_C_10 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 j =
      (fun g : Fin 4 → Fin 8 → Sq => View.canon (more arg13.view (more arg13.view (more arg13.view (fill xo10 (g 0) 8) (g 1) 8) (g 2) 8) (g 3) 8) j)
      (fun k => dw (part x0 k) (part x1 k) (part x2 k) x3 x4 x8 x5 x7) := by
  frame_out
  conv_lhs => simp only [cat8_eq, Memref.IsWhole.read_unread, ld_row]
  sl_kernel_rfl

theorem db_C (j : S8x128x128.Idx) :
    out0_C_11 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 j =
      (fun g : Fin 4 → Fin 8 → Sq => View.canon (more arg14.view (more arg14.view (more arg14.view (fill xo11 (g 0) 8) (g 1) 8) (g 2) 8) (g 3) 8) j)
      (fun k => db (part x0 k) (part x1 k) (part x2 k) x3 x4 x8 x5 x7) := by
  frame_out
  conv_lhs => simp only [cat8_eq, Memref.IsWhole.read_unread, ld_row]
  sl_kernel_rfl

theorem dlg_C (j : S1x1024.Idx) :
    out0_C_12 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 j =
      (fun g : Fin 4 → Rows => addRows (addRows (addRows (addRows xo12 (g 0)) (g 1)) (g 2)) (g 3) j)
      (fun k => dlg (part x0 k) (part x1 k) (part x2 k) x3 x4 x8 x5 x6 x7) := by
  frame_out
  conv_lhs => simp only [cat8_eq, Memref.IsWhole.read_unread, ld_row]
  sl_kernel_rfl

theorem dlb_C (j : S1x1024.Idx) :
    out0_C_13 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 j =
      (fun g : Fin 4 → Rows => addRows (addRows (addRows (addRows xo13 (g 0)) (g 1)) (g 2)) (g 3) j)
      (fun k => dvln (part x0 k) (part x1 k) (part x2 k) x3 x4 x8 x5 x6 x7) := by
  frame_out
  conv_lhs => simp only [cat8_eq, Memref.IsWhole.read_unread, ld_row]
  sl_kernel_rfl

theorem dgo_C (j : S1x1024.Idx) :
    out0_C_14 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 j =
      (fun g : Fin 4 → Rows => addRows (addRows (addRows (addRows xo14 (g 0)) (g 1)) (g 2)) (g 3) j)
      (fun k => dgo (part x0 k) (part x1 k) (part x2 k) x3 x4 x5 x7) := by
  frame_out
  conv_lhs => simp only [cat8_eq, Memref.IsWhole.read_unread, ld_row]
  sl_kernel_rfl

end

section
variable (hc0 : ¬cond0_0 i) (hc1 : ¬cond0_1 i) (hc2 : cond0_2 i)
variable (xo10 : Vec Ideal S8x128x128 .f32) (xo11 : Vec Ideal S8x128x128 .f32) (xo12 : Vec Ideal S1x1024 .f32) (xo13 : Vec Ideal S1x1024 .f32) (xo14 : Vec Ideal S1x1024 .f32) (xs0 : Vec Ideal S512x1024 .bf16)

theorem out9_B : out0_B_9 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 xs0 = xs0 := by
  frame_out
  all_goals exact shapeCast_self _ _

theorem out10_B : out0_B_10 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 xs0 = xo10 := by
  frame_out
  all_goals exact shapeCast_self _ _

theorem out11_B : out0_B_11 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 xs0 = xo11 := by
  frame_out
  all_goals exact shapeCast_self _ _

theorem out12_B : out0_B_12 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 xs0 = xo12 := by
  frame_out
  all_goals exact shapeCast_self _ _

theorem out13_B : out0_B_13 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 xs0 = xo13 := by
  frame_out
  all_goals exact shapeCast_self _ _

theorem out14_B : out0_B_14 c i arg2 harg2 arg3 harg3 arg4 harg4 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo10 xo11 xo12 xo13 xo14 xs0 = xo14 := by
  frame_out
  all_goals exact shapeCast_self _ _

end

end Cert.SguBwdIdeal.Run
end
-- ==== Proof.SguAcc.lean ====
module

public import proofs.«01_k».proof.Proof.SguChunk
public import Idealize.ShloMosaic.Lib.Pipeline.FrameBody

@[expose] public section

set_option maxRecDepth 16384

noncomputable section

open Idealize.ShloMosaic Idealize.ShloMosaic.TcCoe Idealize.SL.Sem
open scoped BigOperators

/-! # What the chunks' writes leave in the arrays of heads, in the rows of sums and in a block of rows -/

namespace Cert.SguBwdIdeal.Chunk

open Cert.SguBwdIdeal Cert.SguBwdIdeal.Gen

theorem hd_emb (h : Fin 8) (p q : Fin 128) : ((hd h).emb (ix3 (0 : Fin 1) p q : S1x128x128.Idx) : S8x128x128.Idx) = ix3 h p q := by
  funext a; apply Fin.ext
  fin_cases a
  · show h.val + 1 * 0 = h.val; omega
  · show 0 + 1 * p.val = p.val; omega
  · show 0 + 1 * q.val = q.val; omega

theorem hd_not_mem {h k : Fin 8} (hk : h ≠ k) (p q : Fin 128) : (ix3 h p q : S8x128x128.Idx) ∉ (hd k).set := by
  intro hm
  obtain ⟨i, hi, he⟩ := (LoadRect.mem_set _).mp hm (0 : Fin 3)
  have hi1 : i < 1 := hi
  have he' : h.val = k.val + 1 * i := he
  exact hk (Fin.ext (by omega))

theorem cell_apply (old : FVec Ideal S1x128x128 .f32) (d : Sq) (p q : Fin 128) :
    cell old d (ix3 (0 : Fin 1) p q) = old (ix3 (0 : Fin 1) p q) + d (ix2 p q) := by
  pointwise [cell]

theorem ofNat_val {n : ℕ} (hn : n < 8) : (Fin.ofNat 8 n).val = n := Nat.mod_eq_of_lt hn

section
variable {sg : RefSig} {κ : Kind} {sp : Space} (v : View sg κ sp S8x128x128 .f32) (L : List (View.Piece (Elt Ideal) S8x128x128 .f32))

/-- The writes of a chunk add its squares to what the earlier writes left. -/
theorem canon_more (d : Fin 8 → Sq) : ∀ n, n ≤ 8 → ∀ (h : Fin 8) (p q : Fin 128),
    View.canon (more v L d n) (ix3 h p q) =
      if h.val < n then (View.canon L (ix3 h p q) : EReal) + d h (ix2 p q) else View.canon L (ix3 h p q)
  | 0, _, h, p, q => by simp [more]
  | n + 1, hn, h, p, q => by
    have hk := ofNat_val (show n < 8 by omega)
    rcases eq_or_ne h (Fin.ofNat 8 n) with rfl | hne
    · have e : View.canon (more v L d (n + 1)) (ix3 (Fin.ofNat 8 n) p q) = cell (v.readCov (more v L d n) (hd (Fin.ofNat 8 n)).toLoadRect) (d (Fin.ofNat 8 n)) (ix3 (0 : Fin 1) p q) := by
        rw [← hd_emb]; exact View.canon_cons_emb (hd (Fin.ofNat 8 n)) _ _ _
      refine (e.trans (cell_apply _ _ _ _)).trans ?_
      rw [View.readCov_eq_canon', if_pos (by omega)]
      have e2 := canon_more d n (by omega) (Fin.ofNat 8 n) p q
      rw [if_neg (by omega)] at e2
      rw [← e2]
      exact congrArg (fun z : S8x128x128.Idx => (View.canon (more v L d n) z : EReal) + d (Fin.ofNat 8 n) (ix2 p q)) (hd_emb (Fin.ofNat 8 n) p q)
    · have hv : h.val ≠ n := fun e => hne (Fin.ext (by omega))
      have e : View.canon (more v L d (n + 1)) (ix3 h p q) = View.canon (more v L d n) (ix3 h p q) :=
        View.canon_cons_of_not_mem _ _ (hd_not_mem hne p q)
      rw [e, canon_more d n (by omega) h p q]
      by_cases hlt : h.val < n
      · rw [if_pos hlt, if_pos (by omega)]
      · rw [if_neg hlt, if_neg (by omega)]
end

/-- The writes of the first chunk add its squares to the contents found. -/
theorem canon_fill (old : FVec Ideal S8x128x128 .f32) (d : Fin 8 → Sq) : ∀ n, n ≤ 8 → ∀ (h : Fin 8) (p q : Fin 128), h.val < n →
    View.canon (Val := Elt Ideal) (s := S8x128x128) (e := .f32) (fill old d n) (ix3 h p q) = (old (ix3 h p q) : EReal) + d h (ix2 p q)
  | 0, _, h, p, q, hh => absurd hh (by omega)
  | n + 1, hn, h, p, q, hh => by
    have hk := ofNat_val (show n < 8 by omega)
    rcases eq_or_ne h (Fin.ofNat 8 n) with rfl | hne
    · have e : View.canon (fill old d (n + 1)) (ix3 (Fin.ofNat 8 n) p q) = cell (fun x => old ((hd (Fin.ofNat 8 n)).idx x)) (d (Fin.ofNat 8 n)) (ix3 (0 : Fin 1) p q) := by
        rw [← hd_emb]; exact View.canon_cons_emb (hd (Fin.ofNat 8 n)) _ _ _
      refine (e.trans (cell_apply _ _ _ _)).trans ?_
      exact congrArg (fun z : S8x128x128.Idx => (old z : EReal) + d (Fin.ofNat 8 n) (ix2 p q)) (hd_emb (Fin.ofNat 8 n) p q)
    · have hv : h.val ≠ n := fun e => hne (Fin.ext (by omega))
      have e : View.canon (fill old d (n + 1)) (ix3 h p q) = View.canon (fill old d n) (ix3 h p q) :=
        View.canon_cons_of_not_mem _ _ (hd_not_mem hne p q)
      rw [e, canon_fill old d n (by omega) h p q (by omega)]

/-- Over zeros, nothing is there before. -/
theorem canon_zeros (y : S8x128x128.Idx) : View.canon (Val := Elt Ideal) (s := S8x128x128) (e := .f32) [⟨allHeads, zeros⟩] y = (0 : EReal) := by
  have e : View.canon (Val := Elt Ideal) (s := S8x128x128) (e := .f32) [⟨allHeads, zeros⟩] (allHeads.emb y) = zeros y :=
    View.canon_cons_emb allHeads _ _ _
  have hy : (allHeads.emb y : S8x128x128.Idx) = y := by
    funext a; apply Fin.ext
    fin_cases a
    · show 0 + 1 * (y 0).val = (y 0).val; omega
    · show 0 + 1 * (y 1).val = (y 1).val; omega
    · show 0 + 1 * (y 2).val = (y 2).val; omega
  rw [hy] at e
  rw [e]
  pointwise [zeros]

/-- Four chunks' squares, over contents `old`. -/
theorem heads_over {sg : RefSig} {κ : Kind} {sp : Space} (v : View sg κ sp S8x128x128 .f32) (old : FVec Ideal S8x128x128 .f32) (g : Fin 4 → Fin 8 → Sq) (h : Fin 8) (p q : Fin 128) :
    View.canon (more v (more v (more v (fill old (g 0) 8) (g 1) 8) (g 2) 8) (g 3) 8) (ix3 h p q) = (old (ix3 h p q) : EReal) + ∑ k : Fin 4, g k h (ix2 p q) := by
  have hh := h.isLt
  rw [canon_more v _ _ 8 (le_refl _), if_pos hh, canon_more v _ _ 8 (le_refl _), if_pos hh, canon_more v _ _ 8 (le_refl _), if_pos hh,
    canon_fill _ _ 8 (le_refl _) _ _ _ hh, Fin.sum_univ_four]
  simp only [add_assoc]

/-- Four chunks' squares, over zeros. -/
theorem heads_new {sg : RefSig} {κ : Kind} {sp : Space} (v : View sg κ sp S8x128x128 .f32) (g : Fin 4 → Fin 8 → Sq) (h : Fin 8) (p q : Fin 128) :
    View.canon (more v (more v (more v (more v [⟨allHeads, zeros⟩] (g 0) 8) (g 1) 8) (g 2) 8) (g 3) 8) (ix3 h p q) = (∑ k : Fin 4, g k h (ix2 p q) : EReal) := by
  have hh := h.isLt
  rw [canon_more v _ _ 8 (le_refl _), if_pos hh, canon_more v _ _ 8 (le_refl _), if_pos hh, canon_more v _ _ 8 (le_refl _), if_pos hh,
    canon_more v _ _ 8 (le_refl _), if_pos hh, canon_zeros, Fin.sum_univ_four, zero_add]

/-- A chunk's rows, added. -/
theorem addRows_apply (old : Row) (v : Rows) (a : Fin 1) (b : Fin 1024) :
    addRows old v (ix2 a b) = old (ix2 a b) + ∑ r : Fin 128, v (ix2 r b) := by
  pointwise [addRows]

theorem rows_over (old : Row) (g : Fin 4 → Rows) (a : Fin 1) (b : Fin 1024) :
    addRows (addRows (addRows (addRows old (g 0)) (g 1)) (g 2)) (g 3) (ix2 a b) = old (ix2 a b) + ∑ k : Fin 4, ∑ r : Fin 128, g k (ix2 r b) := by
  simp only [addRows_apply, Fin.sum_univ_four, add_assoc]

theorem rows_new (g : Fin 4 → Rows) (a : Fin 1) (b : Fin 1024) :
    addRows (addRows (addRows (addRows zeroRow (g 0)) (g 1)) (g 2)) (g 3) (ix2 a b) = ∑ k : Fin 4, ∑ r : Fin 128, g k (ix2 r b) := by
  rw [rows_over]
  have : zeroRow (ix2 a b) = 0 := by pointwise [zeroRow]
  rw [this, zero_add]

/-! ## A block of rows, written chunk by chunk -/

theorem rows_emb (k : Fin 4) (r : Fin 128) (c : Fin 1024) (R : Fin 512) (hR : R.val = 128 * k.val + r.val) :
    ((rows k).emb (ix2 r c : S128x1024.Idx) : S512x1024.Idx) = ix2 R c := by
  funext a; apply Fin.ext
  fin_cases a
  · show 128 * k.val + 1 * r.val = R.val; omega
  · show 0 + 1 * c.val = c.val; omega

theorem rows_not_mem (k k' : Fin 4) (hk : k ≠ k') (r : Fin 128) (c : Fin 1024) (R : Fin 512) (hR : R.val = 128 * k.val + r.val) :
    (ix2 R c : S512x1024.Idx) ∉ (rows k').set := by
  intro hm
  obtain ⟨i, hi, he⟩ := (LoadRect.mem_set _).mp hm (0 : Fin 2)
  have hi1 : i < 128 := hi
  have he' : R.val = 128 * k'.val + 1 * i := he
  exact hk (Fin.ext (by omega))

theorem block_apply (g : Fin 4 → FVec Ideal S128x1024 .bf16) (k : Fin 4) (r : Fin 128) (c : Fin 1024) (R : Fin 512) (hR : R.val = 128 * k.val + r.val) :
    View.canon (Val := Elt Ideal) (s := S512x1024) (e := .bf16) [⟨rows 3, g 3⟩, ⟨rows 2, g 2⟩, ⟨rows 1, g 1⟩, ⟨rows 0, g 0⟩] (ix2 R c) = g k (ix2 r c) := by
  have hit : ∀ L, View.canon (Val := Elt Ideal) (s := S512x1024) (e := .bf16) (⟨rows k, g k⟩ :: L) (ix2 R c) = g k (ix2 r c) := fun L => by
    rw [← rows_emb k r c R hR]; exact View.canon_cons_emb (rows k) _ _ _
  have skip : ∀ k', k ≠ k' → ∀ w L, View.canon (Val := Elt Ideal) (s := S512x1024) (e := .bf16) (⟨rows k', w⟩ :: L) (ix2 R c) =
      View.canon (Val := Elt Ideal) (s := S512x1024) (e := .bf16) L (ix2 R c) := fun k' hk w L =>
    View.canon_cons_of_not_mem _ _ (rows_not_mem k k' hk r c R hR)
  fin_cases k
  · exact (skip 3 (by decide) _ _).trans ((skip 2 (by decide) _ _).trans ((skip 1 (by decide) _ _).trans (hit _)))
  · exact (skip 3 (by decide) _ _).trans ((skip 2 (by decide) _ _).trans (hit _))
  · exact (skip 3 (by decide) _ _).trans (hit _)
  · exact hit _

/-- A chunk of a block, read at one of its entries. -/
theorem part_apply (x : Vec Ideal S512x1024 .f32) (k : Fin 4) (r : Fin 128) (c : Fin 1024) (R : Fin 512) (hR : R.val = 128 * k.val + r.val) :
    part x k (ix2 r c) = x (ix2 R c) :=
  congrArg x (rows_emb k r c R hR)

end Cert.SguBwdIdeal.Chunk
end
-- ==== Proof.SguPoint.lean ====
module

public import proofs.«01_k».proof.Proof.SguAcc
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open scoped BigOperators

/-! # A chunk's terms, at one row and one column -/

namespace Cert.SguBwdIdeal.Chunk

open Cert.SguBwdIdeal Cert.SguBwdIdeal.Gen

/-- The product of the GELU's two constants, and three times it, which the idealization names. -/
theorem lit_kc : (Named.named κ "gelu_kc" 1024598649#32 : Ideal .f32) = ((80338380498831 / 2251799813685248 : ℝ) : EReal) :=
  IdealRules.named_const.ideal_named_scalar _ _ _ _ rfl
theorem lit_3kc : (Named.named κ "gelu_3kc" 1037775798#32 : Ideal .f32) = ((241015141496493 / 2251799813685248 : ℝ) : EReal) :=
  IdealRules.named_const.ideal_named_scalar _ _ _ _ rfl

/-- A head's column. -/
def hcol (h : Fin 8) (d : Fin 128) : Fin 1024 := ⟨h.val * 128 + d.val, by have := h.isLt; have := d.isLt; omega⟩

theorem exists_hcol (b : Fin 1024) : ∃ h d, b = hcol h d := by
  have := b.isLt
  exact ⟨⟨b.val / 128, by omega⟩, ⟨b.val % 128, by omega⟩, Fin.ext (show b.val = b.val / 128 * 128 + b.val % 128 by omega)⟩

theorem cols_apply {φ : FTy} (v : FVec Ideal S128x1024 φ) (h : Fin 8) (t d : Fin 128) : cols v h (ix2 t d) = v (ix2 t (hcol h d)) := by
  refine congrArg v ?_
  funext a; apply Fin.ext
  fin_cases a
  · show 0 + t.val = t.val; omega
  · show 128 * h.val + d.val = h.val * 128 + d.val; omega

theorem head_apply {φ : FTy} (w : FVec Ideal S8x128x128 φ) (h : Fin 8) (t s : Fin 128) : head w h (ix2 t s) = w (ix3 h t s) := by
  have e : (hd h).emb (ix3 (0 : Fin 1) t s : S1x128x128.Idx) = ix3 h t s := hd_emb h t s
  rw [← e]
  unfold head
  generalize hw : (fun x => w ((hd h).idx x) : FVec Ideal S1x128x128 φ) = u
  have hu : u (ix3 (0 : Fin 1) t s) = w ((hd h).emb (ix3 (0 : Fin 1) t s : S1x128x128.Idx)) := by rw [← hw]; rfl
  rw [← hu]
  pointwise

theorem cat_apply (f : Fin 8 → Sq) (t : Fin 128) (h : Fin 8) (d : Fin 128) : cat f (ix2 t (hcol h d)) = f h (ix2 t d) := by
  have := d.isLt
  unfold cat
  fin_cases h <;> pointwise [cat8, hcol] <;> repeat (first | rw [dif_neg (by omega)] | rw [dif_pos (by omega)])
  all_goals first | rfl | exact congrArg (fun e : Fin 128 => f _ (ix2 t e)) (Fin.ext (by dsimp only; omega))

theorem same_eq (v : Rows) : same v = v := shapeCast_self v _

theorem across_apply (v : Col) (r : Fin 128) (b : Fin 1024) : across v (ix2 r b) = v (ix2 r 0) := by
  pointwise [across]
theorem down_apply (v : Row) (r : Fin 128) (b : Fin 1024) : down v (ix2 r b) = v (ix2 0 b) := by
  pointwise [down]
theorem mean_apply (v : Rows) (r : Fin 128) : mean v (ix2 r 0) = Ideal.div (∑ b : Fin 1024, v (ix2 r b)) (Ideal.ofBits .f32 1149239296#32) := by
  pointwise [mean, rsum, litc]
theorem inv_apply (v : Rows) (r : Fin 128) : inv v (ix2 r 0) =
    Ideal.rsqrt (Ideal.div (∑ b : Fin 1024, v (ix2 r b) * v (ix2 r b)) (Ideal.ofBits .f32 1149239296#32) + Ideal.ofBits .f32 897988541#32) := by
  pointwise [inv, litc]
  rw [mean_apply]
  pointwise

/-- The GELU's derivative. -/
theorem slope_eq (z : Rows) (r : Fin 128) (b : Fin 1024) : slope z (ix2 r b)
    = Ideal.ofBits .f32 1056964608#32 * (1 + Cert.Fin'.geluTanh (z (ix2 r b)))
        + Ideal.ofBits .f32 1056964608#32 * z (ix2 r b) * (1 - Cert.Fin'.geluTanh (z (ix2 r b)) * Cert.Fin'.geluTanh (z (ix2 r b)))
          * (Ideal.ofBits .f32 1061962282#32 + ((241015141496493 / 2251799813685248 : ℝ) : EReal) * (z (ix2 r b) * z (ix2 r b))) := by
  unfold Cert.Fin'.geluTanh
  pointwise [slope, th, lit, same_eq]
  rw [lit_kc, lit_3kc, Cert.Fin'.gelu_angle]

end Cert.SguBwdIdeal.Chunk
end
-- ==== Proof.LayerGrad.lean ====
module

public import proofs.«01_k».proof.Proof.Finite
public import proofs.«01_k».proof.Proof.RmsGrad

@[expose] public section

noncomputable section

open Idealize.ShloMosaic
open scoped BigOperators

/-! # The gradient of a layer norm, at rows of numbers

Differentiating the variance leaves a sum of the centred row's multiples. It vanishes, as a centred row sums to zero. -/

namespace Cert.Fin'

/-- A sum of numbers is the number that the real sum is. -/
theorem coe_sum {n : ℕ} (f : Fin n → ℝ) : (∑ k, (f k : EReal)) = ((∑ k, f k : ℝ) : EReal) := by
  refine Eq.symm (map_sum (⟨⟨Real.toEReal, EReal.coe_zero⟩, EReal.coe_add⟩ : ℝ →+ EReal) f Finset.univ)

/-- A centred row of numbers sums to zero. -/
theorem centred_sum {l : EReal} {n : ℕ} (hn : 0 < n) (hl : l = ((n : ℝ) : EReal)) (u : Fin n → EReal) (hu : ∀ k, IsReal (u k)) :
    ∑ k, (u k - Ideal.div (∑ j, u j) l) = 0 := by
  choose u' hu' using hu
  have hn' : (0 : ℝ) < n := by exact_mod_cast hn
  simp only [hu', coe_sum, Cert.Rms.div_lit hl hn', ← EReal.coe_mul, ← EReal.coe_sub]
  rw [Finset.sum_sub_distrib, Finset.sum_const, Finset.card_univ, Fintype.card_fin, nsmul_eq_mul]
  rw [show (∑ i, u' i) - (n : ℝ) * ((∑ i, u' i) * (n : ℝ)⁻¹) = 0 by field_simp; ring]
  rfl

/-- A layer norm's gradient: the kernel's closed form, and what differentiating mean, variance and root one by one leaves. -/
theorem layer_grad {l : EReal} {N : ℝ} (hl : l = N) (hN : 0 < N) {n : ℕ} (c a : Fin n → EReal) (hc : ∀ k, IsReal (c k)) (ha : ∀ k, IsReal (a k))
    (h0 : ∑ k, c k = 0) {v two : EReal} (h2 : two = ((2 : ℝ) : EReal)) (hv : 0 < v) (k : Fin n) :
    Ideal.rsqrt v * (a k - Ideal.div (∑ j, a j) l - c k * Ideal.rsqrt v * Ideal.div (∑ j, a j * (c j * Ideal.rsqrt v)) l)
    = a k * Ideal.rsqrt v + Ideal.div ((∑ j, c j * a j) * (Ideal.ofBits .f32 3204448256#32 * Ideal.div (Ideal.rsqrt v) v)) l * (two * c k)
      + Ideal.div (∑ j, -(a j * Ideal.rsqrt v)
        + ∑ j, -(Ideal.div ((∑ j, c j * a j) * (Ideal.ofBits .f32 3204448256#32 * Ideal.div (Ideal.rsqrt v) v)) l * (two * c j))) l := by
  obtain ⟨r, q, hr, hq, hd⟩ := Cert.Rms.rsqrt_cube hv
  rw [hr] at hq
  choose c' hc' using hc
  choose a' ha' using ha
  rw [hd, hr, h2, Cert.Rms.lit_neg_half]
  simp only [hc', ha', coe_sum, Cert.Rms.div_lit hl hN, ← EReal.coe_mul, ← EReal.coe_sub, ← EReal.coe_add, ← EReal.coe_neg] at h0 hq ⊢
  rw [EReal.coe_eq_coe_iff]
  have h0' : ∑ k, c' k = 0 := by exact_mod_cast h0
  have hq' : r * r * r = q := by exact_mod_cast hq
  have e1 : ∑ j, a' j * (c' j * r) = (∑ j, c' j * a' j) * r := by
    rw [Finset.sum_mul]; exact Finset.sum_congr rfl fun j _ => by ring
  have e2 : ∑ j, -(a' j * r) = -(∑ j, a' j) * r := by
    rw [← Finset.sum_neg_distrib, Finset.sum_mul]; exact Finset.sum_congr rfl fun j _ => by ring
  have e3 : ∀ w : ℝ, ∑ j, -(w * (2 * c' j)) = 0 := fun w => by
    rw [show (∑ j, -(w * (2 * c' j))) = -(w * 2) * ∑ j, c' j by rw [Finset.mul_sum]; exact Finset.sum_congr rfl fun j _ => by ring, h0', mul_zero]
  rw [e1, e2, e3, ← hq']
  ring

end Cert.Fin'

end
-- ==== Proof.SguRef.lean ====
module

public import proofs.«01_k».proof.Proof.LayerGrad
public import proofs.«01_k».proof.Proof.Gen.SguBwdRefIdeal.Run
public import proofs.«01_k».proof.Proof.Gen.SguBwdRefIdeal.Read
public import Idealize.ShloMosaic.Lib.Pipeline.ValueKit

@[expose] public section

set_option maxRecDepth 16384

noncomputable section

open Idealize.ShloMosaic Idealize.ShloMosaic.TcCoe Idealize.SL.Sem
open scoped BigOperators

/-! # The reference's gradients, in closed form -/

namespace Cert.SguBwdRefIdeal.Grad

open Cert.SguBwdRefIdeal Cert.SguBwdRefIdeal.Gen Cert.SguBwdRefIdeal.Read Cert.Fin'

variable (x0 : FVec Ideal S1x8192x3072 .f32) (x2 : FVec Ideal S1x8192x2048 .f32) (x3 x4 : FVec Ideal S1x1024 .f32) (x5 : FVec Ideal S1x8x128x128 .f32)
  (x6 : FVec Ideal S1x8x128 .f32) (x7 : FVec Ideal S1x1024 .f32)

/-- A sum over two axes of one element each keeps the row's number. -/
theorem unit_col (y : FVec Ideal S1x8192x1 .f32) (v : EReal) (hv : v = 0) (i : S8192.Idx) :
    Ideal.hostReduceAdd reducesTo_S1x8192x1_S8192_d0_2 y v i = y (ix3 0 (i 0) 0) := by
  refine (Cert.Rms.hostReduceAdd_unit reducesTo_S1x8192x1_S8192_d0_2 y _ i (ix3 0 (i 0) 0) ?_ ?_).trans (by rw [hv, zero_add])
  · intro b
    have hb : b = 0 := Fin.fin_one_eq_zero b
    subst hb
    rfl
  · intro i' h
    have h1 : (i' 1).val = (i 0).val := h 0
    have h0 : (i' 0).val < 1 := (i' 0).isLt
    have h2 : (i' 2).val < 1 := (i' 2).isLt
    intro a
    fin_cases a
    · show (i' 0).val = 0
      omega
    · exact h1
    · show (i' 2).val = 0
      omega

/-- A sum over the two axes of one row keeps the row. -/
theorem unit_rows (y : FVec Ideal S1x1x1024 .f32) (v : EReal) (hv : v = 0) (i : S1024.Idx) :
    Ideal.hostReduceAdd reducesTo_S1x1x1024_S1024_d0_1 y v i = y (ix3 0 0 (i 0)) := by
  refine (Cert.Rms.hostReduceAdd_unit reducesTo_S1x1x1024_S1024_d0_1 y _ i (ix3 0 0 (i 0)) ?_ ?_).trans (by rw [hv, zero_add])
  · intro b
    have hb : b = 0 := Fin.fin_one_eq_zero b
    subst hb
    rfl
  · intro i' h
    have h2 : (i' 2).val = (i 0).val := h 0
    have h0 : (i' 0).val < 1 := (i' 0).isLt
    have h1 : (i' 1).val < 1 := (i' 1).isLt
    intro a
    fin_cases a
    · show (i' 0).val = 0
      omega
    · show (i' 1).val = 0
      omega
    · exact h2

theorem share_104 (i : S8192.Idx) : val_main_v104 (F := Ideal) x0 x2 x3 x4 x5 x6 x7 i = val_main_v103 (F := Ideal) x0 x2 x3 x4 x5 x6 x7 (ix3 0 (i 0) 0) := by
  unfold val_main_v104
  simp only [Host.reduceAdd]
  exact unit_col _ _ (by pointwise [val_main_cst_22]) i

theorem share_146 (i : S8192.Idx) : val_main_v146 (F := Ideal) x0 x2 x3 x4 x5 x6 x7 i = val_main_v145 (F := Ideal) x0 x2 x3 x4 x5 x6 x7 (ix3 0 (i 0) 0) := by
  unfold val_main_v146
  simp only [Host.reduceAdd]
  exact unit_col _ _ (by pointwise [val_main_cst_33]) i

theorem share_157 (i : S8192.Idx) : val_main_v157 (F := Ideal) x0 x2 x3 x4 x5 x6 x7 i = val_main_v156 (F := Ideal) x0 x2 x3 x4 x5 x6 x7 (ix3 0 (i 0) 0) := by
  unfold val_main_v157
  simp only [Host.reduceAdd]
  exact unit_col _ _ (by pointwise [val_main_cst_36]) i

/-- The norm gain's gradient: a sum over all rows. -/
theorem gain_sum (k : Fin 1024) : val_main_v111 (F := Ideal) x0 x2 x3 x4 x5 x6 (ix2 0 k) = ∑ R : Fin 8192, val_main_v90 (F := Ideal) x0 x2 x3 x4 x5 x6 (ix3 0 R k) := by
  pointwise [val_main_v111]
  unfold val_main_v95
  simp only [Host.reduceAdd]
  refine (unit_rows _ _ (by pointwise [val_main_cst_19]) _).trans ?_
  pointwise [val_main_v92, val_main_v91, val_main_cst_18]

/-- The layer norm's bias gradient: a sum over all rows. -/
theorem shift_sum (k : Fin 1024) : val_main_v175 (F := Ideal) x0 x2 x3 x4 x5 x6 x7 (ix2 0 k) = ∑ R : Fin 8192, val_main_v125 (F := Ideal) x0 x2 x3 x4 x5 x6 x7 (ix3 0 R k) := by
  pointwise [val_main_v175]
  unfold val_main_v128
  simp only [Host.reduceAdd]
  refine (unit_rows _ _ (by pointwise [val_main_cst_27]) _).trans ?_
  pointwise [val_main_v127, val_main_v126, val_main_cst_26]

/-- The layer norm's gain gradient: a sum over all rows. -/
theorem scale_sum (k : Fin 1024) : val_main_v176 (F := Ideal) x0 x2 x3 x4 x5 x6 x7 (ix2 0 k) = ∑ R : Fin 8192, val_main_v129 (F := Ideal) x0 x2 x3 x4 x5 x6 x7 (ix3 0 R k) := by
  pointwise [val_main_v176]
  unfold val_main_v134
  simp only [Host.reduceAdd]
  refine (unit_rows _ _ (by pointwise [val_main_cst_29]) _).trans ?_
  pointwise [val_main_v131, val_main_v130, val_main_cst_28]

/-- The gate norm's gradient at one entry, in the kernel's closed form. -/
theorem norm_grad_eq (p : Fin 8192) (k : Fin 1024) : ∃ v s : EReal,
    v = Ideal.div (∑ k : Fin 1024, val_main_v71 (F := Ideal) x0 x3 x4 x5 x6 (ix3 0 p k) * val_main_v71 (F := Ideal) x0 x3 x4 x5 x6 (ix3 0 p k)) (Ideal.ofBits .f32 1149239296#32) + Ideal.ofBits .f32 897988541#32
    ∧ s = ∑ k : Fin 1024, val_main_v71 (F := Ideal) x0 x3 x4 x5 x6 (ix3 0 p k) * val_main_v94 (F := Ideal) x2 x7 (ix3 0 p k)
    ∧ val_main_v110 (F := Ideal) x0 x2 x3 x4 x5 x6 x7 (ix3 0 p k)
      = Ideal.rsqrt v * val_main_v94 (F := Ideal) x2 x7 (ix3 0 p k)
        - val_main_v71 (F := Ideal) x0 x3 x4 x5 x6 (ix3 0 p k) * (Ideal.rsqrt v * Ideal.rsqrt v * Ideal.rsqrt v) * Ideal.div s (Ideal.ofBits .f32 1149239296#32) := by
  refine ⟨_, _, rfl, rfl, ?_⟩
  rw [Cert.Rms.scaled_grad Cert.Rms.lit_1024 (by norm_num) (Cert.Rms.norm_pos_of Cert.Rms.lit_1024 (by norm_num) _)]
  pointwise [val_main_v110, val_main_v109, val_main_v108, val_main_v107, val_main_v106, val_main_v105, val_main_v100, val_main_v99, val_main_v80, val_main_v79, val_main_v78, val_main_v77, val_main_v76, val_main_v75, val_main_v74, val_main_v73, val_main_cst_14, val_main_cst_15, val_main_cst_16]
  simp only [share_104]
  pointwise [val_main_v103, val_main_v102, val_main_v101, val_main_v98, val_main_v97, val_main_v96, val_main_v83, val_main_v82, val_main_v81, val_main_v80, val_main_v79, val_main_v78, val_main_v77, val_main_v76, val_main_v75, val_main_v74, val_main_v73, val_main_cst_14, val_main_cst_15, val_main_cst_16, val_main_cst_17, val_main_cst_20, val_main_cst_21]

/-- The gate's product of GELUs, differentiated: the cotangent times the GELU's derivative. -/
theorem pre_grad (p : Fin 8192) (k : Fin 2048) (z d : EReal) (hz : val_main_v6 (F := Ideal) x0 (ix3 0 p k) = z)
    (hd : val_main_v161 (F := Ideal) x0 x2 x3 x4 x5 x6 x7 (ix3 0 p k) = d) (h : IsReal d ∨ z = 0 ∨ z = ⊥) :
    val_main_v173 (F := Ideal) x0 x2 x3 x4 x5 x6 x7 (ix3 0 p k) = d * (Ideal.ofBits .f32 1056964608#32 * (1 + geluTanh z)
        + Ideal.ofBits .f32 1056964608#32 * z * (1 - geluTanh z * geluTanh z)
          * (Ideal.ofBits .f32 1061962282#32 + ((241015141496493 / 2251799813685248 : ℝ) : EReal) * (z * z))) := by
  rw [gelu_grad h]
  unfold geluTanh
  pointwise [val_main_v173, val_main_v172, val_main_v171, val_main_v170, val_main_v169, val_main_v168, val_main_v167, val_main_v166, val_main_v165, val_main_v164, val_main_v163, val_main_v162, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst_0, val_main_cst_1, val_main_cst_2, val_main_cst_3, val_main_cst_4, val_main_cst_5, val_main_cst_6, val_main_cst_37, val_main_cst_38, val_main_cst_39]
  rw [hz, hd]

/-- The layer norm's gradient at one entry, where its row and cotangent are numbers, in the kernel's closed form. -/
theorem layer_grad_eq (p : Fin 8192) (hu : ∀ k, IsReal (val_main_v32 (F := Ideal) x0 (ix3 0 p k)))
    (ha : ∀ k, IsReal (val_main_v133 (F := Ideal) x0 x2 x3 x4 x5 x6 x7 (ix3 0 p k))) (k : Fin 1024) :
    val_main_v160 (F := Ideal) x0 x2 x3 x4 x5 x6 x7 (ix3 0 p k)
    = val_main_v50 (F := Ideal) x0 (ix3 0 p 0) * (val_main_v133 (F := Ideal) x0 x2 x3 x4 x5 x6 x7 (ix3 0 p k)
        - Ideal.div (∑ j : Fin 1024, val_main_v133 (F := Ideal) x0 x2 x3 x4 x5 x6 x7 (ix3 0 p j)) (Ideal.ofBits .f32 1149239296#32)
        - val_main_v55 (F := Ideal) x0 (ix3 0 p k)
          * Ideal.div (∑ j : Fin 1024, val_main_v133 (F := Ideal) x0 x2 x3 x4 x5 x6 x7 (ix3 0 p j) * val_main_v55 (F := Ideal) x0 (ix3 0 p j)) (Ideal.ofBits .f32 1149239296#32)) := by
  have hc : ∀ k : Fin 1024, val_main_v47 (F := Ideal) x0 (ix3 0 p k)
      = val_main_v32 (F := Ideal) x0 (ix3 0 p k) - Ideal.div (∑ j : Fin 1024, val_main_v32 (F := Ideal) x0 (ix3 0 p j)) (Ideal.ofBits .f32 1149239296#32) := fun k => by
    pointwise [val_main_v47, val_main_v46, val_main_v36, val_main_v35, val_main_v34, val_main_v33, val_main_cst_7, val_main_cst_8]
  have hcr : ∀ k : Fin 1024, IsReal (val_main_v47 (F := Ideal) x0 (ix3 0 p k)) := fun k => by
    rw [hc, Cert.Rms.div_lit Cert.Rms.lit_1024 (by norm_num)]
    exact (hu k).sub ((IsReal.sum hu).mul (isReal_coe _))
  have h0 : ∑ k : Fin 1024, val_main_v47 (F := Ideal) x0 (ix3 0 p k) = 0 := by
    simp only [hc]
    exact centred_sum (by norm_num) (Cert.Rms.lit_1024.trans (by norm_num)) _ hu
  have e := layer_grad Cert.Rms.lit_1024 (by norm_num) _ _ hcr ha h0 (two := Ideal.ofBits .f32 1073741824#32)
    (by simp [Ideal.ofBits, Ideal.ieee]; norm_num; rw [← EReal.coe_mul]; norm_num) (Cert.Rms.norm_pos_of Cert.Rms.lit_1024 (by norm_num) fun k : Fin 1024 => val_main_v47 (F := Ideal) x0 (ix3 0 p k)) k
  refine Eq.trans ?_ (e.symm.trans ?_)
  · pointwise [val_main_v160, val_main_v159, val_main_v158, val_main_v153, val_main_v149, val_main_v148, val_main_v147, val_main_v139, val_main_v138]
    simp only [share_146, share_157]
    pointwise [val_main_v156, val_main_v155, val_main_v154, val_main_v152, val_main_v151, val_main_v150, val_main_v149, val_main_v148, val_main_v147, val_main_v143, val_main_v142, val_main_v141, val_main_v139, val_main_v138]
    simp only [share_146]
    pointwise [val_main_v145, val_main_v144, val_main_v140, val_main_v137, val_main_v136, val_main_v135, val_main_v53, val_main_v52, val_main_v51, val_main_v50, val_main_v49, val_main_v48, val_main_v45, val_main_v44, val_main_v43, val_main_v42, val_main_v41, val_main_v40, val_main_v39, val_main_v38, val_main_v37, val_main_v46, val_main_v47, val_main_cst_9, val_main_cst_10, val_main_cst_11, val_main_cst_12, val_main_cst_13, val_main_cst_30, val_main_cst_31, val_main_cst_32, val_main_cst_34, val_main_cst_35]
  · pointwise [val_main_v55, val_main_v54, val_main_v50, val_main_v49, val_main_v48, val_main_v45, val_main_v44, val_main_v43, val_main_v42, val_main_v39, val_main_v38, val_main_v37, val_main_v46, val_main_v47, val_main_cst_10, val_main_cst_11, val_main_cst_12]

/-- A sum over chunks and a head's columns. -/
theorem chunk_cols (y : FVec Ideal S1x64x128x8x128 .f32) (v : EReal) (hv : v = 0) (t : Fin 128) (h : Fin 8) :
    Ideal.hostReduceAdd reducesTo_S1x64x128x8x128_S1x128x8_d1_4 y v (ix3 0 t h) = ∑ C : Fin 64, ∑ d : Fin 128, y (ix5 0 C t h d) := by
  unfold Ideal.hostReduceAdd
  rw [hv, zero_add, ← Fintype.sum_prod_type' (fun (C : Fin 64) (d : Fin 128) => y (ix5 0 C t h d))]
  have e2 : ∀ i : S1x64x128x8x128.Idx, reducesTo_S1x64x128x8x128_S1x128x8_d1_4.drop i = ix3 0 t h → (i 2).val = t.val ∧ (i 3).val = h.val := fun i hi =>
    ⟨congrArg Fin.val (congrFun hi 1), congrArg Fin.val (congrFun hi 2)⟩
  refine Finset.sum_bij' (fun i _ => ((i 1 : Fin 64), (i 4 : Fin 128))) (fun q _ => ix5 0 q.1 t h q.2) (fun _ _ => Finset.mem_univ _) ?_ ?_ ?_ ?_
  · intro q _
    rw [Finset.mem_filter]
    refine ⟨Finset.mem_univ _, ?_⟩
    funext a
    fin_cases a <;> rfl
  · intro i hi
    rw [Finset.mem_filter] at hi
    obtain ⟨h1, h2⟩ := e2 i hi.2
    have h0 : (i 0).val < 1 := (i 0).isLt
    funext a
    apply Fin.ext
    fin_cases a
    · show 0 = (i 0).val; omega
    · rfl
    · exact h1.symm
    · exact h2.symm
    · rfl
  · intro q _; rfl
  · intro i hi
    rw [Finset.mem_filter] at hi
    obtain ⟨h1, h2⟩ := e2 i hi.2
    have h0 : (i 0).val < 1 := (i 0).isLt
    refine congrArg y ?_
    funext a
    apply Fin.ext
    fin_cases a
    · show (i 0).val = 0; omega
    · rfl
    · exact h1
    · exact h2
    · rfl

/-- A sum over three axes of one element each. -/
theorem unit_heads (y : FVec Ideal S1x1x128x8x1 .f32) (v : EReal) (hv : v = 0) (t : Fin 128) (h : Fin 8) :
    Ideal.hostReduceAdd reducesTo_S1x1x128x8x1_S128x8_d0_1_4 y v (ix2 t h) = y (ix5 0 0 t h 0) := by
  refine (Cert.Rms.hostReduceAdd_unit reducesTo_S1x1x128x8x1_S128x8_d0_1_4 y _ (ix2 t h) (ix5 0 0 t h 0) ?_ ?_).trans (by rw [hv, zero_add])
  · intro b
    fin_cases b <;> rfl
  · intro i' e
    have h2 : (i' 2).val = t.val := e 0
    have h3 : (i' 3).val = h.val := e 1
    have h0 : (i' 0).val < 1 := (i' 0).isLt
    have h1 : (i' 1).val < 1 := (i' 1).isLt
    have h4 : (i' 4).val < 1 := (i' 4).isLt
    intro a
    fin_cases a
    · show (i' 0).val = 0; omega
    · show (i' 1).val = 0; omega
    · exact h2
    · exact h3
    · show (i' 4).val = 0; omega

/-- The bias's gradient, at each lane: a sum over chunks and a head's columns. -/
theorem bias_sum (h : Fin 8) (t q : Fin 128) : val_main_v179 (F := Ideal) x0 x2 x3 x4 x5 x6 x7 (ix3 h t q)
    = ∑ C : Fin 64, ∑ d : Fin 128, val_main_v114 (F := Ideal) x0 x2 x3 x4 x5 x6 x7 (ix5 0 C t h d) := by
  pointwise [val_main_v179, val_main_v178, val_main_v177, val_main_v174, val_main_v120, val_main_v119, val_main_v118, val_main_cst_25]
  rw [Fin.sum_univ_one]
  unfold val_main_v117
  simp only [Host.reduceAdd]
  refine (unit_heads _ _ (by pointwise [val_main_cst_24]) t h).trans ?_
  pointwise [val_main_v116]
  unfold val_main_v115
  simp only [Host.reduceAdd]
  exact chunk_cols _ _ (by pointwise [val_main_cst_23]) t h

/-- The contracted positions: a chunk and a head's column. -/
theorem pos_lt (C : Fin 64) (d : Fin 128) : ∀ a : Fin 3,
    (![0, C.val, d.val] : Fin 3 → ℕ) a < dot_S8x1x64x128x128_S1x64x128x8x128_S8x128x128_123_014_4_2_0_3.contr.size a := by
  intro a
  fin_cases a
  · exact Nat.one_pos
  · exact C.isLt
  · exact d.isLt

def pos : dot_S8x1x64x128x128_S1x64x128x8x128_S8x128x128_123_014_4_2_0_3.contr.Idx ≃ Fin 64 × Fin 128 where
  toFun q := ((q (1 : Fin 3) : Fin 64), (q (2 : Fin 3) : Fin 128))
  invFun p := fun a => ⟨(![0, p.1.val, p.2.val] : Fin 3 → ℕ) a, pos_lt p.1 p.2 a⟩
  left_inv q := by
    have h0 : (q (0 : Fin 3)).val < 1 := (q (0 : Fin 3)).isLt
    funext (a : Fin 3)
    apply Fin.ext
    fin_cases a
    · show 0 = (q (0 : Fin 3)).val; omega
    · rfl
    · rfl
  right_inv p := rfl

/-- The mix's gradient: a sum over chunks and a head's columns of products. -/
theorem mix_sum (y : FVec Ideal S8x1x64x128x128 .f32) (z : FVec Ideal S1x64x128x8x128 .f32) (h : Fin 8) (t s : Fin 128) :
    Host.dotGeneral (F := Ideal) dot_S8x1x64x128x128_S1x64x128x8x128_S8x128x128_123_014_4_2_0_3 none y z (ix3 h t s)
    = ∑ C : Fin 64, ∑ d : Fin 128, y (ix5 h 0 C d t) * z (ix5 0 C s h d) := by
  rw [← Fintype.sum_prod_type' (fun (C : Fin 64) (d : Fin 128) => y (ix5 h 0 C d t) * z (ix5 0 C s h d))]
  refine (zero_add _).trans ?_
  refine Fintype.sum_equiv pos _ _ fun q => ?_
  obtain ⟨p, rfl⟩ := pos.symm.surjective q
  rw [Equiv.apply_symm_apply]
  refine congrArg₂ (fun a b => y a * z b) ?_ ?_ <;> · funext a; fin_cases a <;> rfl

/-- The same, at the cotangent's and the layer norm's rows. -/
theorem weight_sum (h : Fin 8) (t s : Fin 128) : val_main_v122 (F := Ideal) x0 x2 x3 x4 x5 x6 x7 (ix3 h t s)
    = ∑ C : Fin 64, ∑ d : Fin 128, val_main_v114 (F := Ideal) x0 x2 x3 x4 x5 x6 x7 (ix5 0 C t h d) * val_main_v62 (F := Ideal) x0 x3 x4 (ix5 0 C s h d) := by
  unfold val_main_v122
  rw [mix_sum]
  pointwise [val_main_v121]

end Cert.SguBwdRefIdeal.Grad
end
-- ==== Proof.SguReal.lean ====
module

public import proofs.«01_k».proof.Proof.SguRef

@[expose] public section

set_option maxRecDepth 16384

noncomputable section

open Idealize.ShloMosaic Idealize.ShloMosaic.TcCoe Idealize.SL.Sem
open scoped BigOperators

/-! # Which of the reference's values are numbers -/

namespace Cert.SguBwdRefIdeal.Grad

open Cert.SguBwdRefIdeal Cert.SguBwdRefIdeal.Gen Cert.SguBwdRefIdeal.Read Cert.Fin'

/-- The precondition, read: the pre-activation's and the mixer cotangent's columns of this block, the two gains and the mix are numbers. -/
structure Finite (x0 : FVec Ideal S1x8192x3072 .f32) (x2 : FVec Ideal S1x8192x2048 .f32) (x3 : FVec Ideal S1x1024 .f32) (x5 : FVec Ideal S1x8x128x128 .f32)
    (x7 : FVec Ideal S1x1024 .f32) : Prop where
  z : ∀ p k, IsReal (val_main_v6 (F := Ideal) x0 (ix3 0 p k))
  d : ∀ p k, IsReal (val_main_v89 (F := Ideal) x2 (ix3 0 p k))
  ln : ∀ k, IsReal (x3 (ix2 0 k))
  w : ∀ h t s, IsReal (x5 (ix4 0 h t s))
  g : ∀ k, IsReal (x7 (ix2 0 k))

/-- A GELU of a number is a number. -/
theorem gelu_real {z : EReal} (hz : IsReal z) : IsReal (z * (Ideal.ofBits .f32 1056964608#32 * (1 + geluTanh z))) := by
  obtain ⟨r, rfl⟩ := hz
  rw [geluTanh_coe, lit_half]
  exact (isReal_coe r).mul ((isReal_coe _).mul (isReal_one.add (isReal_coe _)))

variable {x0 : FVec Ideal S1x8192x3072 .f32} {x2 : FVec Ideal S1x8192x2048 .f32} {x3 x4 : FVec Ideal S1x1024 .f32} {x5 : FVec Ideal S1x8x128x128 .f32}
  {x6 : FVec Ideal S1x8x128 .f32} {x7 : FVec Ideal S1x1024 .f32} (H : Finite x0 x2 x3 x5 x7)

include H

theorem gelus_real (p : Fin 8192) (k : Fin 2048) : IsReal (val_main_v30 (F := Ideal) x0 (ix3 0 p k)) := by
  have e := gelu_real (H.z p k)
  have e2 : val_main_v30 (F := Ideal) x0 (ix3 0 p k) = val_main_v6 (F := Ideal) x0 (ix3 0 p k) * (Ideal.ofBits .f32 1056964608#32 * (1 + geluTanh (val_main_v6 (F := Ideal) x0 (ix3 0 p k)))) := by
    unfold geluTanh
    pointwise [val_main_v10, val_main_v11, val_main_v15, val_main_v16, val_main_v17, val_main_v18, val_main_v19, val_main_v20, val_main_v26, val_main_v27, val_main_v28, val_main_v29, val_main_v30, val_main_cst_1, val_main_cst_2, val_main_cst_5, val_main_cst_6]
  rw [e2]; exact e

theorem u_real (p : Fin 8192) (k : Fin 1024) : IsReal (val_main_v31 (F := Ideal) x0 (ix3 0 p k)) := by
  pointwise [val_main_v31]
  exact gelus_real H p _

theorem v_real (p : Fin 8192) (k : Fin 1024) : IsReal (val_main_v32 (F := Ideal) x0 (ix3 0 p k)) := by
  pointwise [val_main_v32]
  exact gelus_real H p _

theorem dyg_real (p : Fin 8192) (k : Fin 1024) : IsReal (val_main_v94 (F := Ideal) x2 x7 (ix3 0 p k)) := by
  pointwise [val_main_v94, val_main_v93, val_main_v86, val_main_v72]
  exact (H.d p k).mul (H.g k)

/-- A row's gated mixes and their gradients are numbers, or its gradients vanish. -/
theorem row_real (p : Fin 8192) :
    (∀ k : Fin 1024, IsReal (val_main_v71 (F := Ideal) x0 x3 x4 x5 x6 (ix3 0 p k)) ∧ IsReal (val_main_v110 (F := Ideal) x0 x2 x3 x4 x5 x6 x7 (ix3 0 p k)))
    ∨ ∀ k : Fin 1024, val_main_v110 (F := Ideal) x0 x2 x3 x4 x5 x6 x7 (ix3 0 p k) = 0 := by
  have key := norm_grad_real (n := 1024) Cert.Rms.lit_1024 (by norm_num) _ (fun k => val_main_v71 (F := Ideal) x0 x3 x4 x5 x6 (ix3 0 p k)) (dyg_real H p) rfl
    (∑ k : Fin 1024, val_main_v71 (F := Ideal) x0 x3 x4 x5 x6 (ix3 0 p k) * val_main_v94 (F := Ideal) x2 x7 (ix3 0 p k))
    (fun hx => IsReal.sum fun k => (hx k).mul (dyg_real H p k))
  refine key.imp (fun key k => ?_) fun key k => ?_
  · obtain ⟨v, s, rfl, rfl, e⟩ := norm_grad_eq x0 x2 x3 x4 x5 x6 x7 p k
    rw [e]
    exact key k
  · obtain ⟨v, s, rfl, rfl, e⟩ := norm_grad_eq x0 x2 x3 x4 x5 x6 x7 p k
    rw [e]
    exact key k

theorem dy_real (p : Fin 8192) (k : Fin 1024) : IsReal (val_main_v110 (F := Ideal) x0 x2 x3 x4 x5 x6 x7 (ix3 0 p k)) := by
  rcases row_real H (x4 := x4) (x6 := x6) p with h | h
  · exact (h k).2
  · rw [h k]; exact isReal_zero

theorem dmx_real (p : Fin 8192) (k : Fin 1024) : IsReal (val_main_v112 (F := Ideal) x0 x2 x3 x4 x5 x6 x7 (ix3 0 p k)) := by
  pointwise [val_main_v112]
  exact (u_real H p k).mul (dy_real H p k)

theorem w_real (h : Fin 8) (t s : Fin 128) : IsReal (val_main_v5 (F := Ideal) x5 (ix3 h t s)) := by
  rw [val_main_v5]
  have e : ∀ (b : BitVec 1) (x y : EReal), IsReal x → IsReal y → IsReal (Scalar.select b x y) := fun b x y hx hy => by
    unfold Scalar.select; split <;> assumption
  refine e _ _ _ ?_ ?_
  · pointwise [val_main_v0]
    exact H.w h t s
  · pointwise [val_main_v4, val_main_cst]
    exact isReal_zero

theorem dvln_real (p : Fin 8192) (k : Fin 1024) : IsReal (val_main_v125 (F := Ideal) x0 x2 x3 x4 x5 x6 x7 (ix3 0 p k)) := by
  pointwise [val_main_v125, val_main_v124, val_main_v123, val_main_v121, val_main_v114]
  exact IsReal.sum fun j => (dmx_real H _ _).mul (w_real H _ _ _)

theorem dvg_real (p : Fin 8192) (k : Fin 1024) : IsReal (val_main_v133 (F := Ideal) x0 x2 x3 x4 x5 x6 x7 (ix3 0 p k)) := by
  pointwise [val_main_v133, val_main_v132, val_main_v56, val_main_v7]
  exact (dvln_real H p k).mul (H.ln k)

/-- The gate half's cotangent is a number, or its pre-activation vanishes. -/
theorem du_real (p : Fin 8192) (k : Fin 1024) (k' : Fin 2048) (hk : k'.val = k.val) :
    IsReal (val_main_v113 (F := Ideal) x0 x2 x3 x4 x5 x6 x7 (ix3 0 p k)) ∨ val_main_v6 (F := Ideal) x0 (ix3 0 p k') = 0 ∨ val_main_v6 (F := Ideal) x0 (ix3 0 p k') = ⊥ := by
  by_cases hz : val_main_v31 (F := Ideal) x0 (ix3 0 p k) = 0
  · right
    refine eq_of_gelu_eq_zero (Eq.trans ?_ hz)
    obtain rfl : k' = k.castLE (by norm_num) := Fin.ext hk
    unfold geluTanh
    pointwise [val_main_v10, val_main_v11, val_main_v15, val_main_v16, val_main_v17, val_main_v18, val_main_v19, val_main_v20, val_main_v26, val_main_v27, val_main_v28, val_main_v29, val_main_v30, val_main_v31, val_main_cst_1, val_main_cst_2, val_main_cst_5, val_main_cst_6]
    rfl
  · left
    have e : val_main_v113 (F := Ideal) x0 x2 x3 x4 x5 x6 x7 (ix3 0 p k)
        = val_main_v110 (F := Ideal) x0 x2 x3 x4 x5 x6 x7 (ix3 0 p k) * val_main_v70 (F := Ideal) x0 x3 x4 x5 x6 (ix3 0 p k) := by
      pointwise [val_main_v113]
    rw [e]
    rcases row_real H (x4 := x4) (x6 := x6) p with h | h
    · refine (h k).2.mul ?_
      have h1 := (h k).1
      have e2 : val_main_v71 (F := Ideal) x0 x3 x4 x5 x6 (ix3 0 p k)
          = val_main_v31 (F := Ideal) x0 (ix3 0 p k) * val_main_v70 (F := Ideal) x0 x3 x4 x5 x6 (ix3 0 p k) := by
        pointwise [val_main_v71]
      rw [e2] at h1
      exact isReal_of_mul h1 hz
    · rw [h k, zero_mul]; exact isReal_zero

/-- The layer norm's gradient is a number. -/
theorem dv_real (p : Fin 8192) (k : Fin 1024) : IsReal (val_main_v160 (F := Ideal) x0 x2 x3 x4 x5 x6 x7 (ix3 0 p k)) := by
  have hc : ∀ k : Fin 1024, IsReal (val_main_v47 (F := Ideal) x0 (ix3 0 p k)) := fun k => by
    have e : val_main_v47 (F := Ideal) x0 (ix3 0 p k)
        = val_main_v32 (F := Ideal) x0 (ix3 0 p k) - Ideal.div (∑ j : Fin 1024, val_main_v32 (F := Ideal) x0 (ix3 0 p j)) (Ideal.ofBits .f32 1149239296#32) := by
      pointwise [val_main_v47, val_main_v46, val_main_v36, val_main_v35, val_main_v34, val_main_v33, val_main_cst_7, val_main_cst_8]
    rw [e, Cert.Rms.div_lit Cert.Rms.lit_1024 (by norm_num)]
    exact (v_real H p k).sub ((IsReal.sum (v_real H p)).mul (isReal_coe _))
  have hr : IsReal (val_main_v50 (F := Ideal) x0 (ix3 0 p 0)) := by
    obtain ⟨r, c, h, -, -⟩ := Cert.Rms.rsqrt_cube (Cert.Rms.norm_pos_of Cert.Rms.lit_1024 (by norm_num) fun k : Fin 1024 => val_main_v47 (F := Ideal) x0 (ix3 0 p k))
    refine ⟨r, Eq.trans ?_ h⟩
    pointwise [val_main_v50, val_main_v49, val_main_v48, val_main_v45, val_main_v44, val_main_v43, val_main_v42, val_main_v39, val_main_v38, val_main_v37, val_main_v46, val_main_v47, val_main_cst_10, val_main_cst_11, val_main_cst_12]
  have hh : ∀ k : Fin 1024, IsReal (val_main_v55 (F := Ideal) x0 (ix3 0 p k)) := fun k => by
    pointwise [val_main_v55, val_main_v54]
    exact (hc k).mul hr
  rw [layer_grad_eq x0 x2 x3 x4 x5 x6 x7 p (v_real H p) (dvg_real H p), Cert.Rms.div_lit Cert.Rms.lit_1024 (by norm_num), Cert.Rms.div_lit Cert.Rms.lit_1024 (by norm_num)]
  exact hr.mul (((dvg_real H p k).sub ((IsReal.sum (dvg_real H p)).mul (isReal_coe _))).sub
    ((hh k).mul ((IsReal.sum fun j => (dvg_real H p j).mul (hh j)).mul (isReal_coe _))))

end Cert.SguBwdRefIdeal.Grad
end
-- ==== Proof.SguVal.lean ====
module

public import proofs.«01_k».proof.Proof.SguPoint
public import proofs.«01_k».proof.Proof.SguReal
public import proofs.«01_k».proof.Proof.Gen.SguBwdRefIdeal.Run
public import proofs.«01_k».proof.Proof.Gen.SguBwdRefIdeal.Read

@[expose] public section

set_option maxRecDepth 16384

noncomputable section

open Idealize.ShloMosaic Idealize.ShloMosaic.TcCoe Idealize.SL.Sem
open scoped BigOperators

/-! # A chunk's terms are the reference's values -/

namespace Cert.SguBwdIdeal.Chunk

open Cert.SguBwdIdeal Cert.SguBwdIdeal.Gen
open Cert.SguBwdRefIdeal.Read

/-- A chunk's row in the array. -/
def row (C : Fin 64) (r : Fin 128) : Fin 8192 := ⟨C.val * 128 + r.val, by have := C.isLt; have := r.isLt; omega⟩

open Cert.SguBwdRefIdeal in
/-- What a chunk's operands are, in the reference's arguments. -/
structure Ins (x0 : FVec Ideal S1x8192x3072 .f32) (x2 : FVec Ideal S1x8192x2048 .f32) (x3 x4 : FVec Ideal S1x1024 .f32) (x5 : FVec Ideal S1x8x128x128 .f32)
    (x6 : FVec Ideal S1x8x128 .f32) (x7 : FVec Ideal S1x1024 .f32) (C : Fin 64)
    (zu zv dm : Rows) (lng lnb go : Row) (wt wtt : FVec Ideal S8x128x128 .bf16) (bias : FVec Ideal S8x128x128 .f32) : Prop where
  hzu : ∀ r b, zu (ix2 r b) = x0 (ix3 0 (row C r) ⟨1024 + b.val, by have := b.isLt; show _ < 3072; omega⟩)
  hzv : ∀ r b, zv (ix2 r b) = x0 (ix3 0 (row C r) ⟨2048 + b.val, by have := b.isLt; show _ < 3072; omega⟩)
  hdm : ∀ r b, dm (ix2 r b) = x2 (ix3 0 (row C r) ⟨1024 + b.val, by have := b.isLt; show _ < 2048; omega⟩)
  hlng : ∀ b, lng (ix2 0 b) = x3 (ix2 0 b)
  hlnb : ∀ b, lnb (ix2 0 b) = x4 (ix2 0 b)
  hgo : ∀ b, go (ix2 0 b) = x7 (ix2 0 b)
  hwt : ∀ h t s, wt (ix3 h t s) = val_main_v5 (F := Ideal) x5 (ix3 h t s)
  hwtt : ∀ h t s, wtt (ix3 h s t) = val_main_v5 (F := Ideal) x5 (ix3 h t s)
  hbias : ∀ h t q, bias (ix3 h t q) = x6 (ix3 0 h t)

section
open Cert.SguBwdRefIdeal

variable {x0 : FVec Ideal S1x8192x3072 .f32} {x2 : FVec Ideal S1x8192x2048 .f32} {x3 x4 : FVec Ideal S1x1024 .f32} {x5 : FVec Ideal S1x8x128x128 .f32}
  {x6 : FVec Ideal S1x8x128 .f32} {x7 : FVec Ideal S1x1024 .f32} {C : Fin 64}
  {zu zv dm : Rows} {lng lnb go : Row} {wt wtt : FVec Ideal Cert.SguBwdIdeal.S8x128x128 .bf16} {bias : FVec Ideal Cert.SguBwdIdeal.S8x128x128 .f32}
  (I : Ins x0 x2 x3 x4 x5 x6 x7 C zu zv dm lng lnb go wt wtt bias)

include I

theorem gelu_u (r : Fin 128) (b : Fin 1024) : gelu zu (ix2 r b) = val_main_v31 (F := Ideal) x0 (ix3 0 (row C r) b) := by
  pointwise [gelu, th, lit, same_eq, val_main_v6, val_main_v10, val_main_v11, val_main_v15, val_main_v16, val_main_v17, val_main_v18, val_main_v19, val_main_v20, val_main_v26, val_main_v27, val_main_v28, val_main_v29, val_main_v30, val_main_v31, val_main_cst_1, val_main_cst_2, val_main_cst_5, val_main_cst_6]
  rw [I.hzu, lit_kc, Cert.Fin'.gelu_angle]
  ac_rfl

theorem gelu_v (r : Fin 128) (b : Fin 1024) : gelu zv (ix2 r b) = val_main_v32 (F := Ideal) x0 (ix3 0 (row C r) b) := by
  pointwise [gelu, th, lit, same_eq, val_main_v6, val_main_v10, val_main_v11, val_main_v15, val_main_v16, val_main_v17, val_main_v18, val_main_v19, val_main_v20, val_main_v26, val_main_v27, val_main_v28, val_main_v29, val_main_v30, val_main_v32, val_main_cst_1, val_main_cst_2, val_main_cst_5, val_main_cst_6]
  rw [I.hzv, lit_kc, Cert.Fin'.gelu_angle]
  ac_rfl

theorem vc_eq (r : Fin 128) (b : Fin 1024) : vc zv (ix2 r b) = val_main_v47 (F := Ideal) x0 (ix3 0 (row C r) b) := by
  pointwise [vc, val_main_v47, val_main_v46, val_main_v36, val_main_v35, val_main_v34, val_main_v33, val_main_cst_7, val_main_cst_8]
  rw [across_apply, mean_apply, gelu_v I]
  simp only [gelu_v I]

theorem inv_vc (r : Fin 128) : inv (vc zv) (ix2 r 0) = val_main_v50 (F := Ideal) x0 (ix3 0 (row C r) 0) := by
  rw [inv_apply]
  simp only [vc_eq I]
  pointwise [val_main_v50, val_main_v49, val_main_v48, val_main_v45, val_main_v44, val_main_v43, val_main_v42, val_main_v39, val_main_v38, val_main_v37, val_main_v46, val_main_v47, val_main_cst_10, val_main_cst_11, val_main_cst_12]

theorem vhat_eq (r : Fin 128) (b : Fin 1024) : vhat zv (ix2 r b) = val_main_v55 (F := Ideal) x0 (ix3 0 (row C r) b) := by
  pointwise [vhat, val_main_v55, val_main_v54]
  rw [across_apply, vc_eq I, inv_vc I]

theorem vb_eq (r : Fin 128) (b : Fin 1024) : vb zv lng lnb (ix2 r b) = val_main_v61 (F := Ideal) x0 x3 x4 (ix3 0 (row C r) b) := by
  pointwise [vb, val_main_v61, val_main_v60, val_main_v59, val_main_v58, val_main_v57, val_main_v56, val_main_v7, val_main_v8]
  rw [down_apply, down_apply, vhat_eq I, I.hlng, I.hlnb]

theorem mixh_eq (h : Fin 8) (t d : Fin 128) : mixh zv lng lnb wt bias h (ix2 t d) = val_main_v70 (F := Ideal) x0 x3 x4 x5 x6 (ix3 0 (row C t) (hcol h d)) := by
  pointwise [mixh]
  simp only [head_apply, cols_apply, vb_eq I, I.hwt, I.hbias]
  pointwise [val_main_v70, val_main_v69, val_main_v68, val_main_v67, val_main_v66, val_main_v65, val_main_v64, val_main_v63, val_main_v62, val_main_v9, row, hcol]
  simp only [mul_comm]

theorem mix_eq (r : Fin 128) (b : Fin 1024) : mix zv lng lnb wt bias (ix2 r b) = val_main_v70 (F := Ideal) x0 x3 x4 x5 x6 (ix3 0 (row C r) b) := by
  obtain ⟨h, d, rfl⟩ := exists_hcol b
  rw [mix, cat_apply, mixh_eq I]

theorem y_eq (r : Fin 128) (b : Fin 1024) : y zu zv lng lnb wt bias (ix2 r b) = val_main_v71 (F := Ideal) x0 x3 x4 x5 x6 (ix3 0 (row C r) b) := by
  pointwise [y, val_main_v71]
  rw [gelu_u I, mix_eq I]

theorem dyg_eq (r : Fin 128) (b : Fin 1024) : dyg dm go (ix2 r b) = val_main_v94 (F := Ideal) x2 x7 (ix3 0 (row C r) b) := by
  pointwise [dyg, same_eq, val_main_v94, val_main_v93, val_main_v89, val_main_v86, val_main_v72]
  rw [down_apply, I.hdm, I.hgo]

theorem inv_y (r : Fin 128) : inv (y zu zv lng lnb wt bias) (ix2 r 0) = val_main_v80 (F := Ideal) x0 x3 x4 x5 x6 (ix3 0 (row C r) 0) := by
  rw [inv_apply]
  simp only [y_eq I]
  pointwise [val_main_v80, val_main_v79, val_main_v78, val_main_v77, val_main_v76, val_main_v75, val_main_v74, val_main_v73, val_main_cst_14, val_main_cst_15, val_main_cst_16]

theorem dy_eq (r : Fin 128) (b : Fin 1024) : dy zu zv dm lng lnb go wt bias (ix2 r b) = val_main_v110 (F := Ideal) x0 x2 x3 x4 x5 x6 x7 (ix3 0 (row C r) b) := by
  obtain ⟨v, s, rfl, rfl, e⟩ := Cert.SguBwdRefIdeal.Grad.norm_grad_eq x0 x2 x3 x4 x5 x6 x7 (row C r) b
  rw [e]
  pointwise [dy, normGrad]
  rw [across_apply, across_apply, across_apply, mean_apply]
  pointwise
  rw [inv_apply]
  simp only [y_eq I, dyg_eq I, mul_comm]

theorem dmx_eq (r : Fin 128) (b : Fin 1024) : dmx zu zv dm lng lnb go wt bias (ix2 r b) = val_main_v112 (F := Ideal) x0 x2 x3 x4 x5 x6 x7 (ix3 0 (row C r) b) := by
  pointwise [dmx, val_main_v112]
  rw [dy_eq I, gelu_u I, mul_comm]

theorem dmb_eq (r : Fin 128) (b : Fin 1024) : dmb zu zv dm lng lnb go wt bias (ix2 r b) = val_main_v112 (F := Ideal) x0 x2 x3 x4 x5 x6 x7 (ix3 0 (row C r) b) := by
  pointwise [dmb]
  exact dmx_eq I r b

theorem dvln_eq (r : Fin 128) (b : Fin 1024) : dvln zu zv dm lng lnb go wt wtt bias (ix2 r b) = val_main_v125 (F := Ideal) x0 x2 x3 x4 x5 x6 x7 (ix3 0 (row C r) b) := by
  obtain ⟨h, d, rfl⟩ := exists_hcol b
  rw [dvln, cat_apply]
  pointwise
  simp only [head_apply, cols_apply, dmb_eq I, I.hwtt]
  pointwise [val_main_v125, val_main_v124, val_main_v123, val_main_v121, val_main_v114, row, hcol]
  exact Finset.sum_congr rfl fun x _ => mul_comm _ _

theorem dlg_eq (r : Fin 128) (b : Fin 1024) : dlg zu zv dm lng lnb go wt wtt bias (ix2 r b) = val_main_v129 (F := Ideal) x0 x2 x3 x4 x5 x6 x7 (ix3 0 (row C r) b) := by
  pointwise [dlg, val_main_v129]
  rw [dvln_eq I, vhat_eq I, mul_comm]

theorem dgo_eq (r : Fin 128) (b : Fin 1024) : dgo zu zv dm lng lnb wt bias (ix2 r b) = val_main_v90 (F := Ideal) x0 x2 x3 x4 x5 x6 (ix3 0 (row C r) b) := by
  pointwise [dgo, same_eq, val_main_v90, val_main_v89, val_main_v85, val_main_v84]
  rw [across_apply, y_eq I, inv_y I, I.hdm]
  ac_rfl

/-- A head's square of the mix's gradient: a chunk's share of the sum. -/
theorem dw_eq (h : Fin 8) (t s : Fin 128) : dw zu zv dm lng lnb go wt bias h (ix2 t s)
    = ∑ d : Fin 128, val_main_v114 (F := Ideal) x0 x2 x3 x4 x5 x6 x7 (ix5 0 C t h d) * val_main_v62 (F := Ideal) x0 x3 x4 (ix5 0 C s h d) := by
  pointwise [dw]
  simp only [cols_apply, dmb_eq I, vb_eq I]
  pointwise [val_main_v114, val_main_v62, row, hcol]

/-- A head's row of the bias's gradient, at each lane: a chunk's share of the sum. -/
theorem db_eq (h : Fin 8) (t q : Fin 128) : db zu zv dm lng lnb go wt bias h (ix2 t q)
    = ∑ d : Fin 128, val_main_v114 (F := Ideal) x0 x2 x3 x4 x5 x6 x7 (ix5 0 C t h d) := by
  pointwise [db]
  simp only [cols_apply, dmx_eq I]
  pointwise [val_main_v114, row, hcol]

/-- The layer norm's gradient. -/
theorem layer_eq (H : Cert.SguBwdRefIdeal.Grad.Finite x0 x2 x3 x5 x7) (r : Fin 128) (b : Fin 1024) :
    layerGrad zv (mulf (dvln zu zv dm lng lnb go wt wtt bias) (down lng)) (ix2 r b) = val_main_v160 (F := Ideal) x0 x2 x3 x4 x5 x6 x7 (ix3 0 (row C r) b) := by
  have ea : ∀ b : Fin 1024, (mulf (dvln zu zv dm lng lnb go wt wtt bias) (down lng) : Rows) (ix2 r b) = val_main_v133 (F := Ideal) x0 x2 x3 x4 x5 x6 x7 (ix3 0 (row C r) b) := fun b => by
    pointwise [val_main_v133, val_main_v132, val_main_v56, val_main_v7]
    rw [dvln_eq I, down_apply, I.hlng]
  generalize (mulf (dvln zu zv dm lng lnb go wt wtt bias) (down lng) : Rows) = a at ea ⊢
  rw [Cert.SguBwdRefIdeal.Grad.layer_grad_eq x0 x2 x3 x4 x5 x6 x7 _ (Cert.SguBwdRefIdeal.Grad.v_real H _) (Cert.SguBwdRefIdeal.Grad.dvg_real H _)]
  pointwise [layerGrad]
  rw [across_apply, across_apply, across_apply, mean_apply, mean_apply, inv_vc I, vhat_eq I]
  pointwise
  simp only [ea, vhat_eq I]

/-- The gate half's gradient. -/
theorem du_eq (H : Cert.SguBwdRefIdeal.Grad.Finite x0 x2 x3 x5 x7) (r : Fin 128) (b : Fin 1024) (k : Fin 2048) (hk : k.val = b.val) :
    du zu zv dm lng lnb go wt bias (ix2 r b) = val_main_v173 (F := Ideal) x0 x2 x3 x4 x5 x6 x7 (ix3 0 (row C r) k) := by
  obtain rfl : k = b.castLE (by norm_num) := Fin.ext hk
  have hz : val_main_v6 (F := Ideal) x0 (ix3 0 (row C r) (b.castLE (by norm_num))) = zu (ix2 r b) := by
    rw [I.hzu]; pointwise [val_main_v6]; rfl
  have hd : val_main_v161 (F := Ideal) x0 x2 x3 x4 x5 x6 x7 (ix3 0 (row C r) (b.castLE (by norm_num))) = val_main_v113 (F := Ideal) x0 x2 x3 x4 x5 x6 x7 (ix3 0 (row C r) b) := by
    pointwise [val_main_v161]
    exact dif_pos b.isLt
  have h := Cert.SguBwdRefIdeal.Grad.du_real H (x4 := x4) (x6 := x6) (row C r) b (b.castLE (by norm_num)) rfl
  rw [hz] at h
  rw [Cert.SguBwdRefIdeal.Grad.pre_grad x0 x2 x3 x4 x5 x6 x7 _ _ _ _ hz hd h, ← slope_eq]
  pointwise [du, val_main_v113]
  rw [dy_eq I, mix_eq I]

/-- The layer norm half's gradient. -/
theorem dv_eq (H : Cert.SguBwdRefIdeal.Grad.Finite x0 x2 x3 x5 x7) (r : Fin 128) (b : Fin 1024) (k : Fin 2048) (hk : k.val = 1024 + b.val) :
    dv zu zv dm lng lnb go wt wtt bias (ix2 r b) = val_main_v173 (F := Ideal) x0 x2 x3 x4 x5 x6 x7 (ix3 0 (row C r) k) := by
  have ek : k = ⟨1024 + b.val, by have := b.isLt; omega⟩ := Fin.ext hk
  rw [ek]
  have hz : val_main_v6 (F := Ideal) x0 (ix3 0 (row C r) ⟨1024 + b.val, by have := b.isLt; omega⟩) = zv (ix2 r b) := by
    rw [I.hzv]; pointwise [val_main_v6]
    exact congrArg (fun e => x0 (ix3 0 (row C r) e)) (Fin.ext (by show 1024 + (1024 + b.val) = 2048 + b.val; omega))
  have hd : val_main_v161 (F := Ideal) x0 x2 x3 x4 x5 x6 x7 (ix3 0 (row C r) ⟨1024 + b.val, by have := b.isLt; omega⟩) = val_main_v160 (F := Ideal) x0 x2 x3 x4 x5 x6 x7 (ix3 0 (row C r) b) := by
    pointwise [val_main_v161]
  rw [Cert.SguBwdRefIdeal.Grad.pre_grad x0 x2 x3 x4 x5 x6 x7 _ _ _ _ hz hd (.inl (Cert.SguBwdRefIdeal.Grad.dv_real H _ _)), ← slope_eq, ← layer_eq I H]
  pointwise [dv]

end

end Cert.SguBwdIdeal.Chunk
end
-- ==== Proof.SguBlocks.lean ====
module

public import proofs.«01_k».proof.Proof.Gen.SguBwdIdeal.Value
public import proofs.«01_k».proof.Proof.Gen.SguBwdRefIdeal.Run
public import proofs.«01_k».proof.Proof.Gen.SguBwdRefIdeal.Read
public import proofs.«01_k».proof.Proof.SguRun
public import proofs.«01_k».proof.Proof.SguAcc
public import proofs.«01_k».proof.Proof.SguVal
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.SguBwdIdeal.Value

open Cert.SguBwdIdeal Cert.SguBwdIdeal.Gen
open Cert.SguBwdRefIdeal.Read

variable (m : (ℓ : Loc nD τ sig) → Buf (Elt Ideal) ℓ)

open Cert.SguBwdIdeal.Chunk

/-! ## The operands of a grid point -/

theorem idx : ∀ t : Fin cfg0.N, win0_0.index t = ![t.val / 2, 1] ∧ win0_1.index t = ![t.val / 2, 2] ∧ win0_2.index t = ![t.val / 2, 1] ∧ win0_3.index t = ![0, 0] ∧ win0_4.index t = ![0, 0] ∧ win0_5.index t = ![0, 0, 0] ∧ win0_6.index t = ![0, 0, 0] ∧ win0_7.index t = ![0, 0, 0] ∧ win0_8.index t = ![0, 0] ∧ win0_9.index t = ![t.val / 2, 1 + t.val % 2] ∧ win0_10.index t = ![0, 0, 0] ∧ win0_11.index t = ![0, 0, 0] ∧ win0_12.index t = ![0, 0] ∧ win0_13.index t = ![0, 0] ∧ win0_14.index t = ![0, 0] :=
  (by decide +kernel : ∀ t : Fin grid0.N, _)

theorem V_eq (c : Dev nD) (b : Ref sig .tc) : V m c b = StableHlo.after (hostOps0 ++ (hostOps0_1 ++ (hostOps0_2 ++ (hostOps0_3 ++ hostOps0_4)))) (fun b => m (c, b)) (Proc.devRef .tc b) := by
  unfold V
  rw [List.flatten_cons, List.flatten_cons, List.flatten_cons, List.flatten_cons, List.flatten_cons, List.flatten_nil, List.append_nil]

theorem V_z (c : Dev nD) : V m c main_v10 = shapeCast _ (m ((c : Thread nD τ).loc main_arg0)) shapeCasts_S1x8192x3072_S8192x3072 := by
  rw [V_eq]; after_reads_simp; rfl

theorem V_d (c : Dev nD) : V m c main_v11 = shapeCast _ (m ((c : Thread nD τ).loc main_arg2)) shapeCasts_S1x8192x2048_S8192x2048 := by
  rw [V_eq]; after_reads_simp; rfl

theorem V_w (c : Dev nD) : V m c main_v14 = val_main_v5 (F := Ideal) (m ((c : Thread nD τ).loc main_arg5)) := by
  rw [V_eq]; after_reads_simp; rfl

theorem V_t (c : Dev nD) : V m c main_v16 = transpose S8x128x128 [0, 2, 1] (val_main_v5 (F := Ideal) (m ((c : Thread nD τ).loc main_arg5))) transposes_S8x128x128_S8x128x128_0_2_1 := by
  rw [V_eq]; after_reads_simp; rfl

theorem V_b (c : Dev nD) : V m c main_v7 = broadcastInDim S8x128x128 ![0, 1, 2] bcast_S8x128x1_S8x128x128_0_1_2 (broadcastInDim S8x128x1 ![0, 1] bcast_S8x128_S8x128x1_0_1 (shapeCast S8x128 (m ((c : Thread nD τ).loc main_arg6)) shapeCasts_S1x8x128_S8x128)) := by
  rw [V_eq]; after_reads_simp; rfl

theorem V_s (c : Dev nD) : V m c main_v17_0 = (truncf .bf16 (shapeCast S8192x3072 (concatenate S1x8192x3072 2 [⟨S1x8192x1024, m ((c : Thread nD τ).loc main_arg1)⟩, ⟨S1x8192x2048, broadcastInDim S1x8192x2048 ![] bcast_S_S1x8192x2048 (constant S_ .f32 0x00000000#32)⟩] concatenates_S1x8192x1024_S1x8192x2048_S1x8192x3072_d2) shapeCasts_S1x8192x3072_S8192x3072) bitsLt_bf16_f32 : FVec Ideal S8192x3072 .bf16) := by
  rw [V_eq]; after_reads_simp; rfl

theorem z_at (x : FVec Ideal S1x8192x3072 .f32) (i : Fin 8192) (j : Fin 3072) : shapeCast S8192x3072 x shapeCasts_S1x8192x3072_S8192x3072 (ix2 i j) = x (ix3 0 i j) := by
  pointwise

theorem d_at (x : FVec Ideal S1x8192x2048 .f32) (i : Fin 8192) (j : Fin 2048) : shapeCast S8192x2048 x shapeCasts_S1x8192x2048_S8192x2048 (ix2 i j) = x (ix3 0 i j) := by
  pointwise

theorem b_at (x : FVec Ideal S1x8x128 .f32) (h : Fin 8) (p q : Fin 128) :
    broadcastInDim S8x128x128 ![0, 1, 2] bcast_S8x128x1_S8x128x128_0_1_2 (broadcastInDim S8x128x1 ![0, 1] bcast_S8x128_S8x128x1_0_1 (shapeCast S8x128 x shapeCasts_S1x8x128_S8x128)) (ix3 h p q) = x (ix3 0 h p) := by
  pointwise

theorem z_block0 (c : Dev nD) (t : Fin cfg0.N) (y : S512x1024.Idx) (i : Fin 8192) (j : Fin 3072) (h0 : i.val = t.val / 2 * 512 + (y 0).val) (h1 : j.val = 1024 + (y 1).val) :
    iblk m c 0 t y = m ((c : Thread nD τ).loc main_arg0) (ix3 0 i j) := by
  have e : (((cfg0.win 0).blk t).view.emb y : S8192x3072.Idx) = ix2 i j := by
    funext a; apply Fin.ext
    fin_cases a
    · refine Eq.trans ?_ h0.symm; blk_simp [idx t]; rfl
    · refine Eq.trans ?_ h1.symm; blk_simp [idx t]; rfl
  exact (congrFun (V_z m c) _).trans ((congrArg _ e).trans (z_at _ _ _))

theorem z_block1 (c : Dev nD) (t : Fin cfg0.N) (y : S512x1024.Idx) (i : Fin 8192) (j : Fin 3072) (h0 : i.val = t.val / 2 * 512 + (y 0).val) (h1 : j.val = 2048 + (y 1).val) :
    iblk m c 1 t y = m ((c : Thread nD τ).loc main_arg0) (ix3 0 i j) := by
  have e : (((cfg0.win 1).blk t).view.emb y : S8192x3072.Idx) = ix2 i j := by
    funext a; apply Fin.ext
    fin_cases a
    · refine Eq.trans ?_ h0.symm; blk_simp [idx t]; rfl
    · refine Eq.trans ?_ h1.symm; blk_simp [idx t]; rfl
  exact (congrFun (V_z m c) _).trans ((congrArg _ e).trans (z_at _ _ _))

theorem d_block (c : Dev nD) (t : Fin cfg0.N) (y : S512x1024.Idx) (i : Fin 8192) (j : Fin 2048) (h0 : i.val = t.val / 2 * 512 + (y 0).val) (h1 : j.val = 1024 + (y 1).val) :
    iblk m c 2 t y = m ((c : Thread nD τ).loc main_arg2) (ix3 0 i j) := by
  have e : (((cfg0.win 2).blk t).view.emb y : S8192x2048.Idx) = ix2 i j := by
    funext a; apply Fin.ext
    fin_cases a
    · refine Eq.trans ?_ h0.symm; blk_simp [idx t]; rfl
    · refine Eq.trans ?_ h1.symm; blk_simp [idx t]; rfl
  exact (congrFun (V_d m c) _).trans ((congrArg _ e).trans (d_at _ _ _))

theorem w_block (c : Dev nD) (t : Fin cfg0.N) (h : Fin 8) (p q : Fin 128) :
    iblk m c 5 t (ix3 h p q) = val_main_v5 (F := Ideal) (m ((c : Thread nD τ).loc main_arg5)) (ix3 h p q) := by
  show V m c main_v14 (((cfg0.win 5).blk t).view.emb (ix3 h p q)) = _
  rw [V_w]; blk_ext! [idx t]

theorem t_block (c : Dev nD) (t : Fin cfg0.N) (h : Fin 8) (p q : Fin 128) :
    iblk m c 6 t (ix3 h q p) = val_main_v5 (F := Ideal) (m ((c : Thread nD τ).loc main_arg5)) (ix3 h p q) := by
  show V m c main_v16 (((cfg0.win 6).blk t).view.emb (ix3 h q p)) = _
  rw [V_t]; generalize val_main_v5 (F := Ideal) (m ((c : Thread nD τ).loc main_arg5)) = w; pointwise; blk_ext! [idx t]

theorem b_block (c : Dev nD) (t : Fin cfg0.N) (h : Fin 8) (p q : Fin 128) :
    iblk m c 7 t (ix3 h p q) = m ((c : Thread nD τ).loc main_arg6) (ix3 0 h p) := by
  have e : (((cfg0.win 7).blk t).view.emb (ix3 h p q) : S8x128x128.Idx) = ix3 h p q := by
    funext a; apply Fin.ext
    fin_cases a <;> blk_simp [idx t] <;> omega
  exact (congrFun (V_b m c) _).trans ((congrArg _ e).trans (b_at _ _ _ _))

/-- The chunk of 128 rows a grid point works on as its `k`-th. -/
def chunk (t : Fin cfg0.N) (k : Fin 4) : Fin 64 := ⟨4 * (t.val / 2) + k.val, by
  have h := t.isLt; have hN : cfg0.N = 32 := N_0; have := k.isLt; omega⟩

theorem ins (c : Dev nD) (t : Fin cfg0.N) (k : Fin 4) :
    Ins (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (chunk t k)
      (part (iblk m c 0 t) k) (part (iblk m c 1 t) k) (part (iblk m c 2 t) k) (iblk m c 3 t) (iblk m c 4 t) (iblk m c 8 t) (iblk m c 5 t) (iblk m c 6 t) (iblk m c 7 t) := by
  have hk := k.isLt
  have hR : ∀ r : Fin 128, (row (chunk t k) r).val = t.val / 2 * 512 + (128 * k.val + r.val) := fun r => by
    show (4 * (t.val / 2) + k.val) * 128 + r.val = _
    omega
  have hlt : ∀ r : Fin 128, 128 * k.val + r.val < 512 := fun r => by have := r.isLt; omega
  refine ⟨fun r b => ?_, fun r b => ?_, fun r b => ?_, fun b => ?_, fun b => ?_, fun b => ?_, w_block m c t, t_block m c t, b_block m c t⟩
  · rw [part_apply _ k r b ⟨_, hlt r⟩ rfl]; exact z_block0 m c t _ _ _ (hR r) rfl
  · rw [part_apply _ k r b ⟨_, hlt r⟩ rfl]; exact z_block1 m c t _ _ _ (hR r) rfl
  · rw [part_apply _ k r b ⟨_, hlt r⟩ rfl]; exact d_block m c t _ _ _ (hR r) rfl
  · show V m c main_arg3 (((cfg0.win 3).blk t).view.emb (ix2 0 b)) = _
    rw [V_main_arg3]; blk_ext! [idx t]
  · show V m c main_arg4 (((cfg0.win 4).blk t).view.emb (ix2 0 b)) = _
    rw [V_main_arg4]; blk_ext! [idx t]
  · show V m c main_arg7 (((cfg0.win 8).blk t).view.emb (ix2 0 b)) = _
    rw [V_main_arg7]; blk_ext! [idx t]

end Cert.SguBwdIdeal.Value
-- ==== Proof.SguBwdValue.lean ====
module

public import proofs.«01_k».proof.Proof.Gen.SguBwdIdeal.Value
public import proofs.«01_k».proof.Proof.Gen.SguBwdRefIdeal.Run
public import proofs.«01_k».proof.Proof.Gen.SguBwdRefIdeal.Read
public import proofs.«01_k».proof.Proof.SguBlocks
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SguBwdIdeal.Value

open Cert.SguBwdIdeal Cert.SguBwdIdeal.Gen
open Cert.SguBwdRefIdeal.Read

variable (m : (ℓ : Loc nD τ sig) → Buf (Elt Ideal) ℓ)

open Cert.SguBwdIdeal.Chunk

/-! ## Sums over the grid's points -/

theorem even_points {n : ℕ} (hn : n = 32) (f : ℕ → EReal) :
    (∑ t : Fin n, if t.val % 2 = 0 then ∑ k : Fin 4, f (4 * (t.val / 2) + k.val) else 0) = ∑ C : Fin 64, f C.val := by
  subst hn
  rw [Fin.sum_univ_eq_sum_range (fun t => if t % 2 = 0 then ∑ k : Fin 4, f (4 * (t / 2) + k.val) else 0) 32, Fin.sum_univ_eq_sum_range f 64]
  simp only [Finset.sum_range_succ, Finset.sum_range_zero, Fin.sum_univ_four]
  norm_num [add_assoc]

/-- Each point that works adds four chunks: all of them together are the 64 chunks. -/
theorem chunks_sum (g : Fin 64 → EReal) :
    (∑ t : Fin cfg0.N, if t.val % 2 = 0 then ∑ k : Fin 4, g (chunk t k) else 0) = ∑ C : Fin 64, g C := by
  have e := even_points (n := cfg0.N) N_0 (fun n => if h : n < 64 then g ⟨n, h⟩ else 0)
  have h1 : ∀ t : Fin cfg0.N, ∀ k : Fin 4, (if h : 4 * (t.val / 2) + k.val < 64 then g ⟨4 * (t.val / 2) + k.val, h⟩ else 0) = g (chunk t k) := fun t k => dif_pos (chunk t k).isLt
  have h2 : ∀ C : Fin 64, (if h : C.val < 64 then g ⟨C.val, h⟩ else 0) = g C := fun C => dif_pos C.isLt
  simp only [h1, h2] at e
  exact e

theorem rows_sum (g : Fin 8192 → EReal) : (∑ C : Fin 64, ∑ r : Fin 128, g (row C r)) = ∑ R : Fin 8192, g R :=
  Fin.sum_mul_add_congr fun C r hl => rfl

def final : Fin cfg0.N := ⟨31, by decide +kernel⟩

/-! ## The accumulated outputs -/

/-- The mixing weights' gradient. -/
theorem final_10 (c : Dev nD) : (dats m 0 c).arrAt 10 (cfgs 0).N = val_main_v122 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 10 final (by decide +kernel) _ fun j => ?_
  blk_simp
  obtain ⟨h, p, q, rfl⟩ : ∃ (h : Fin 8) (p q : Fin 128), j = ix3 h p q := ⟨j 0, j 1, j 2, by funext a; fin_cases a <;> rfl⟩
  rw [after0_10]
  refine (Pipeline.eq_sum_fin_of_reset_step_apply_last (fun n h (i : Fin 8 × Fin 128 × Fin 128) => (outsAt0 m c n h).2.1 (ix3 i.1 i.2.1 i.2.2)) 32 (fun _ => 0)
    (fun t i => if t.val % 2 = 0 then ∑ k : Fin 4, ∑ d : Fin 128, val_main_v114 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix5 0 (chunk t k) i.2.1 i.1 d) * val_main_v62 (F := Ideal) (m ((c : Thread nD τ).loc main_arg0)) (m ((c : Thread nD τ).loc main_arg3)) (m ((c : Thread nD τ).loc main_arg4)) (ix5 0 (chunk t k) i.2.2 i.1 d) else 0) (fun t h0 i => ?_) (fun t h0 i => ?_)
    (le_of_eq N_0) final rfl (h, p, q)).trans ?_
  · rw [outsAt0_A m c t h0 (by omega) (by omega)]
    dsimp only
    rw [Run.dw_A]
    refine (heads_new _ (fun k => dw (part (iblk m c 0 t) k) (part (iblk m c 1 t) k) (part (iblk m c 2 t) k) (iblk m c 3 t) (iblk m c 4 t) (iblk m c 8 t) (iblk m c 5 t) (iblk m c 7 t)) _ _ _).trans ?_
    rw [if_pos (by omega), zero_add]
    exact Finset.sum_congr rfl fun k _ => dw_eq (ins m c t k) _ _ _
  · by_cases h1 : t.val % 2 = 0
    · rw [outsAt0_C m c t h0 h1 (by omega)]
      dsimp only
      rw [Run.dw_C]
      refine (heads_over _ _ (fun k => dw (part (iblk m c 0 t) k) (part (iblk m c 1 t) k) (part (iblk m c 2 t) k) (iblk m c 3 t) (iblk m c 4 t) (iblk m c 8 t) (iblk m c 5 t) (iblk m c 7 t)) _ _ _).trans ?_
      rw [if_pos h1]
      exact congrArg _ (Finset.sum_congr rfl fun k _ => dw_eq (ins m c t k) _ _ _)
    · rw [outsAt0_B m c t h0 h1 (by omega)]
      dsimp only
      rw [Run.out10_B, if_neg h1, add_zero]
  · rw [zero_add]
    refine (chunks_sum fun C => ∑ d : Fin 128, val_main_v114 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix5 0 C p h d) * val_main_v62 (F := Ideal) (m ((c : Thread nD τ).loc main_arg0)) (m ((c : Thread nD τ).loc main_arg3)) (m ((c : Thread nD τ).loc main_arg4)) (ix5 0 C q h d)).trans ?_
    exact (Cert.SguBwdRefIdeal.Grad.weight_sum _ _ _ _ _ _ _ h p q).symm

/-- The mixing bias's gradient, over the lanes. -/
theorem final_11 (c : Dev nD) : (dats m 0 c).arrAt 11 (cfgs 0).N = val_main_v179 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 11 final (by decide +kernel) _ fun j => ?_
  blk_simp
  obtain ⟨h, p, q, rfl⟩ : ∃ (h : Fin 8) (p q : Fin 128), j = ix3 h p q := ⟨j 0, j 1, j 2, by funext a; fin_cases a <;> rfl⟩
  rw [after0_11]
  refine (Pipeline.eq_sum_fin_of_reset_step_apply_last (fun n h (i : Fin 8 × Fin 128 × Fin 128) => (outsAt0 m c n h).2.2.1 (ix3 i.1 i.2.1 i.2.2)) 32 (fun _ => 0)
    (fun t i => if t.val % 2 = 0 then ∑ k : Fin 4, ∑ d : Fin 128, val_main_v114 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix5 0 (chunk t k) i.2.1 i.1 d) else 0) (fun t h0 i => ?_) (fun t h0 i => ?_)
    (le_of_eq N_0) final rfl (h, p, q)).trans ?_
  · rw [outsAt0_A m c t h0 (by omega) (by omega)]
    dsimp only
    rw [Run.db_A]
    refine (heads_new _ (fun k => db (part (iblk m c 0 t) k) (part (iblk m c 1 t) k) (part (iblk m c 2 t) k) (iblk m c 3 t) (iblk m c 4 t) (iblk m c 8 t) (iblk m c 5 t) (iblk m c 7 t)) _ _ _).trans ?_
    rw [if_pos (by omega), zero_add]
    exact Finset.sum_congr rfl fun k _ => db_eq (ins m c t k) _ _ _
  · by_cases h1 : t.val % 2 = 0
    · rw [outsAt0_C m c t h0 h1 (by omega)]
      dsimp only
      rw [Run.db_C]
      refine (heads_over _ _ (fun k => db (part (iblk m c 0 t) k) (part (iblk m c 1 t) k) (part (iblk m c 2 t) k) (iblk m c 3 t) (iblk m c 4 t) (iblk m c 8 t) (iblk m c 5 t) (iblk m c 7 t)) _ _ _).trans ?_
      rw [if_pos h1]
      exact congrArg _ (Finset.sum_congr rfl fun k _ => db_eq (ins m c t k) _ _ _)
    · rw [outsAt0_B m c t h0 h1 (by omega)]
      dsimp only
      rw [Run.out11_B, if_neg h1, add_zero]
  · rw [zero_add]
    refine (chunks_sum fun C => ∑ d : Fin 128, val_main_v114 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix5 0 C p h d)).trans ?_
    exact (Cert.SguBwdRefIdeal.Grad.bias_sum _ _ _ _ _ _ _ h p q).symm

/-- The layer norm's scale's gradient. -/
theorem final_12 (c : Dev nD) : (dats m 0 c).arrAt 12 (cfgs 0).N = val_main_v176 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 12 final (by decide +kernel) _ fun j => ?_
  blk_simp
  obtain ⟨a, b, rfl⟩ : ∃ (a : Fin 1) (b : Fin 1024), j = ix2 a b := ⟨j 0, j 1, by funext a; fin_cases a <;> rfl⟩
  obtain rfl : a = 0 := Fin.fin_one_eq_zero a
  rw [after0_12]
  refine (Pipeline.eq_sum_fin_of_reset_step_apply_last (fun n h (i : Fin 1024) => (outsAt0 m c n h).2.2.2.1 (ix2 0 i)) 32 (fun _ => 0)
    (fun t i => if t.val % 2 = 0 then ∑ k : Fin 4, ∑ r : Fin 128, val_main_v129 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (row (chunk t k) r) i) else 0) (fun t h0 i => ?_) (fun t h0 i => ?_)
    (le_of_eq N_0) final rfl b).trans ?_
  · rw [outsAt0_A m c t h0 (by omega) (by omega)]
    dsimp only
    rw [Run.dlg_A]
    refine (rows_new (fun k => dlg (part (iblk m c 0 t) k) (part (iblk m c 1 t) k) (part (iblk m c 2 t) k) (iblk m c 3 t) (iblk m c 4 t) (iblk m c 8 t) (iblk m c 5 t) (iblk m c 6 t) (iblk m c 7 t)) _ _).trans ?_
    rw [if_pos (by omega), zero_add]
    exact Finset.sum_congr rfl fun k _ => Finset.sum_congr rfl fun r _ => dlg_eq (ins m c t k) r _
  · by_cases h1 : t.val % 2 = 0
    · rw [outsAt0_C m c t h0 h1 (by omega)]
      dsimp only
      rw [Run.dlg_C]
      refine (rows_over _ (fun k => dlg (part (iblk m c 0 t) k) (part (iblk m c 1 t) k) (part (iblk m c 2 t) k) (iblk m c 3 t) (iblk m c 4 t) (iblk m c 8 t) (iblk m c 5 t) (iblk m c 6 t) (iblk m c 7 t)) _ _).trans ?_
      rw [if_pos h1]
      exact congrArg _ (Finset.sum_congr rfl fun k _ => Finset.sum_congr rfl fun r _ => dlg_eq (ins m c t k) r _)
    · rw [outsAt0_B m c t h0 h1 (by omega)]
      dsimp only
      rw [Run.out12_B, if_neg h1, add_zero]
  · rw [zero_add]
    refine (chunks_sum fun C => ∑ r : Fin 128, val_main_v129 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (row C r) b)).trans ?_
    refine (rows_sum fun R => val_main_v129 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 R b)).trans ?_
    exact (Cert.SguBwdRefIdeal.Grad.scale_sum _ _ _ _ _ _ _ b).symm

/-- The layer norm's shift's gradient. -/
theorem final_13 (c : Dev nD) : (dats m 0 c).arrAt 13 (cfgs 0).N = val_main_v175 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 13 final (by decide +kernel) _ fun j => ?_
  blk_simp
  obtain ⟨a, b, rfl⟩ : ∃ (a : Fin 1) (b : Fin 1024), j = ix2 a b := ⟨j 0, j 1, by funext a; fin_cases a <;> rfl⟩
  obtain rfl : a = 0 := Fin.fin_one_eq_zero a
  rw [after0_13]
  refine (Pipeline.eq_sum_fin_of_reset_step_apply_last (fun n h (i : Fin 1024) => (outsAt0 m c n h).2.2.2.2.1 (ix2 0 i)) 32 (fun _ => 0)
    (fun t i => if t.val % 2 = 0 then ∑ k : Fin 4, ∑ r : Fin 128, val_main_v125 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (row (chunk t k) r) i) else 0) (fun t h0 i => ?_) (fun t h0 i => ?_)
    (le_of_eq N_0) final rfl b).trans ?_
  · rw [outsAt0_A m c t h0 (by omega) (by omega)]
    dsimp only
    rw [Run.dlb_A]
    refine (rows_new (fun k => dvln (part (iblk m c 0 t) k) (part (iblk m c 1 t) k) (part (iblk m c 2 t) k) (iblk m c 3 t) (iblk m c 4 t) (iblk m c 8 t) (iblk m c 5 t) (iblk m c 6 t) (iblk m c 7 t)) _ _).trans ?_
    rw [if_pos (by omega), zero_add]
    exact Finset.sum_congr rfl fun k _ => Finset.sum_congr rfl fun r _ => dvln_eq (ins m c t k) r _
  · by_cases h1 : t.val % 2 = 0
    · rw [outsAt0_C m c t h0 h1 (by omega)]
      dsimp only
      rw [Run.dlb_C]
      refine (rows_over _ (fun k => dvln (part (iblk m c 0 t) k) (part (iblk m c 1 t) k) (part (iblk m c 2 t) k) (iblk m c 3 t) (iblk m c 4 t) (iblk m c 8 t) (iblk m c 5 t) (iblk m c 6 t) (iblk m c 7 t)) _ _).trans ?_
      rw [if_pos h1]
      exact congrArg _ (Finset.sum_congr rfl fun k _ => Finset.sum_congr rfl fun r _ => dvln_eq (ins m c t k) r _)
    · rw [outsAt0_B m c t h0 h1 (by omega)]
      dsimp only
      rw [Run.out13_B, if_neg h1, add_zero]
  · rw [zero_add]
    refine (chunks_sum fun C => ∑ r : Fin 128, val_main_v125 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (row C r) b)).trans ?_
    refine (rows_sum fun R => val_main_v125 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 R b)).trans ?_
    exact (Cert.SguBwdRefIdeal.Grad.shift_sum _ _ _ _ _ _ _ b).symm

/-- The output norm's gain's gradient. -/
theorem final_14 (c : Dev nD) : (dats m 0 c).arrAt 14 (cfgs 0).N = val_main_v111 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 14 final (by decide +kernel) _ fun j => ?_
  blk_simp
  obtain ⟨a, b, rfl⟩ : ∃ (a : Fin 1) (b : Fin 1024), j = ix2 a b := ⟨j 0, j 1, by funext a; fin_cases a <;> rfl⟩
  obtain rfl : a = 0 := Fin.fin_one_eq_zero a
  rw [after0_14]
  refine (Pipeline.eq_sum_fin_of_reset_step_apply_last (fun n h (i : Fin 1024) => (outsAt0 m c n h).2.2.2.2.2.1 (ix2 0 i)) 32 (fun _ => 0)
    (fun t i => if t.val % 2 = 0 then ∑ k : Fin 4, ∑ r : Fin 128, val_main_v90 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix3 0 (row (chunk t k) r) i) else 0) (fun t h0 i => ?_) (fun t h0 i => ?_)
    (le_of_eq N_0) final rfl b).trans ?_
  · rw [outsAt0_A m c t h0 (by omega) (by omega)]
    dsimp only
    rw [Run.dgo_A]
    refine (rows_new (fun k => dgo (part (iblk m c 0 t) k) (part (iblk m c 1 t) k) (part (iblk m c 2 t) k) (iblk m c 3 t) (iblk m c 4 t) (iblk m c 5 t) (iblk m c 7 t)) _ _).trans ?_
    rw [if_pos (by omega), zero_add]
    exact Finset.sum_congr rfl fun k _ => Finset.sum_congr rfl fun r _ => dgo_eq (ins m c t k) r _
  · by_cases h1 : t.val % 2 = 0
    · rw [outsAt0_C m c t h0 h1 (by omega)]
      dsimp only
      rw [Run.dgo_C]
      refine (rows_over _ (fun k => dgo (part (iblk m c 0 t) k) (part (iblk m c 1 t) k) (part (iblk m c 2 t) k) (iblk m c 3 t) (iblk m c 4 t) (iblk m c 5 t) (iblk m c 7 t)) _ _).trans ?_
      rw [if_pos h1]
      exact congrArg _ (Finset.sum_congr rfl fun k _ => Finset.sum_congr rfl fun r _ => dgo_eq (ins m c t k) r _)
    · rw [outsAt0_B m c t h0 h1 (by omega)]
      dsimp only
      rw [Run.out14_B, if_neg h1, add_zero]
  · rw [zero_add]
    refine (chunks_sum fun C => ∑ r : Fin 128, val_main_v90 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix3 0 (row C r) b)).trans ?_
    refine (rows_sum fun R => val_main_v90 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix3 0 R b)).trans ?_
    exact (Cert.SguBwdRefIdeal.Grad.gain_sum _ _ _ _ _ _ b).symm

/-! ## The gradient of the projection's output -/

theorem du_block (c : Dev nD) (H : Cert.SguBwdRefIdeal.Grad.Finite (m ((c : Thread nD τ).loc main_arg0)) (m ((c : Thread nD τ).loc main_arg2)) (m ((c : Thread nD τ).loc main_arg3)) (m ((c : Thread nD τ).loc main_arg5)) (m ((c : Thread nD τ).loc main_arg7))) (t : Fin cfg0.N) (h1 : t.val % 2 = 0) (k : Fin 4) (r : Fin 128) (b : Fin 1024) (R : Fin 512) (hR : R.val = 128 * k.val + r.val) (j : Fin 2048) (hj : j.val = b.val) :
    (outsAt0 m c t.val t.isLt).1 (ix2 R b) = val_main_v173 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (row (chunk t k) r) j) := by
  by_cases h0 : t.val % 32 = 0
  · rw [outsAt0_A m c t h0 h1 (by omega)]
    dsimp only
    rw [Run.du_A]
    exact (block_apply (fun k => du (part (iblk m c 0 t) k) (part (iblk m c 1 t) k) (part (iblk m c 2 t) k) (iblk m c 3 t) (iblk m c 4 t) (iblk m c 8 t) (iblk m c 5 t) (iblk m c 7 t)) k r b R hR).trans (du_eq (ins m c t k) H r b j hj)
  · rw [outsAt0_C m c t h0 h1 (by omega)]
    dsimp only
    rw [Run.du_C]
    exact (block_apply (fun k => du (part (iblk m c 0 t) k) (part (iblk m c 1 t) k) (part (iblk m c 2 t) k) (iblk m c 3 t) (iblk m c 4 t) (iblk m c 8 t) (iblk m c 5 t) (iblk m c 7 t)) k r b R hR).trans (du_eq (ins m c t k) H r b j hj)

theorem dv_block (c : Dev nD) (H : Cert.SguBwdRefIdeal.Grad.Finite (m ((c : Thread nD τ).loc main_arg0)) (m ((c : Thread nD τ).loc main_arg2)) (m ((c : Thread nD τ).loc main_arg3)) (m ((c : Thread nD τ).loc main_arg5)) (m ((c : Thread nD τ).loc main_arg7))) (t : Fin cfg0.N) (h1 : t.val % 2 = 0) (k : Fin 4) (r : Fin 128) (b : Fin 1024) (R : Fin 512) (hR : R.val = 128 * k.val + r.val) (j : Fin 2048) (hj : j.val = 1024 + b.val) :
    (outsAt0 m c t.val t.isLt).2.2.2.2.2.2 (ix2 R b) = val_main_v173 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 (row (chunk t k) r) j) := by
  by_cases h0 : t.val % 32 = 0
  · rw [outsAt0_A m c t h0 h1 (by omega)]
    dsimp only
    rw [Run.dv_A]
    exact (block_apply (fun k => dv (part (iblk m c 0 t) k) (part (iblk m c 1 t) k) (part (iblk m c 2 t) k) (iblk m c 3 t) (iblk m c 4 t) (iblk m c 8 t) (iblk m c 5 t) (iblk m c 6 t) (iblk m c 7 t)) k r b R hR).trans (dv_eq (ins m c t k) H r b j hj)
  · rw [outsAt0_C m c t h0 h1 (by omega)]
    dsimp only
    rw [Run.dv_C]
    exact (block_apply (fun k => dv (part (iblk m c 0 t) k) (part (iblk m c 1 t) k) (part (iblk m c 2 t) k) (iblk m c 3 t) (iblk m c 4 t) (iblk m c 8 t) (iblk m c 5 t) (iblk m c 6 t) (iblk m c 7 t)) k r b R hR).trans (dv_eq (ins m c t k) H r b j hj)

theorem tail_eq (c : Dev nD) (R : Fin 8192) (k : Fin 3072) (j : Fin 2048) (hj : k.val = 1024 + j.val) :
    val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 R k) = val_main_v173 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 0 R j) := by
  pointwise [val_main_v182, val_main_v181]
  unfold val_main_v180
  generalize val_main_v173 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = w
  generalize m ((c : Thread nD τ).loc main_arg1) = x1
  pointwise
  refine (dif_neg (by omega)).trans (congrArg w ?_)
  exact congrArg (ix3 0 R) (Fin.ext (by show k.val - 1024 = j.val; omega))

theorem head_eq (c : Dev nD) (R : Fin 8192) (k : Fin 3072) (j : Fin 1024) (hj : k.val = j.val) :
    val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 R k) = m ((c : Thread nD τ).loc main_arg1) (ix3 0 R j) := by
  pointwise [val_main_v182, val_main_v181]
  unfold val_main_v180
  generalize val_main_v173 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = w
  generalize m ((c : Thread nD τ).loc main_arg1) = x1
  pointwise
  exact (dif_pos (by have := j.isLt; omega)).trans (congrArg x1 (congrArg (ix3 0 R) (Fin.ext hj)))

theorem entry_eq (c : Dev nD) (R : Fin 8192) (k : Fin 3072) (j : Fin 1024) (hj : k.val = j.val) :
    V m c main_v17_0 (ix2 R k) = m ((c : Thread nD τ).loc main_arg1) (ix3 0 R j) := by
  rw [V_s]
  generalize m ((c : Thread nD τ).loc main_arg1) = x1
  pointwise
  exact (dif_pos (by have := j.isLt; omega)).trans (congrArg x1 (congrArg (ix3 0 R) (Fin.ext hj)))

/-- The gradient of the projection's output: the columns of the state space model as they were given, the others written. -/
theorem final_9 (c : Dev nD) (H : Cert.SguBwdRefIdeal.Grad.Finite (m ((c : Thread nD τ).loc main_arg0)) (m ((c : Thread nD τ).loc main_arg2)) (m ((c : Thread nD τ).loc main_arg3)) (m ((c : Thread nD τ).loc main_arg5)) (m ((c : Thread nD τ).loc main_arg7))) : (dats m 0 c).arrAt 9 (cfgs 0).N = val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : (dats m 0 c).arrAt 9 cfg0.N = fun i => if 1 ≤ (i 1 : ℕ) / 1024 then val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i else V m c main_v17_0 i := by
    refine (dats m 0 c).arrAt_eq_of_coversWhere 9 _ (fun β => 1 ≤ β (1 : Fin 2)) (by decide +kernel) (fun t hf y => ?_) (fun j => Iff.rfl)
    blk_simp
    rw [after0_9]
    obtain ⟨R, b, rfl⟩ : ∃ (R : Fin 512) (b : Fin 1024), y = ix2 R b := ⟨y 0, y 1, by funext a; fin_cases a <;> rfl⟩
    have hN : cfg0.N = 32 := N_0
    have ht : t.val < cfg0.N := t.isLt
    have hR := R.isLt
    have hb := b.isLt
    have he : ∀ (i : Fin 8192) (j : Fin 3072), i.val = t.val / 2 * 512 + R.val → j.val = (1 + t.val % 2) * 1024 + b.val →
        (ix2 i j : S8192x3072.Idx) = ((cfg0.win 9).blk t).view.emb (ix2 R b) := fun i j h0 h1 => by
      funext a; apply Fin.ext
      fin_cases a
      · refine Eq.trans h0 ?_; blk_simp [idx t]; rfl
      · refine Eq.trans h1 ?_; blk_simp [idx t]; rfl
    by_cases h1 : t.val % 2 = 0
    · refine (du_block m c H t h1 ⟨R.val / 128, by omega⟩ ⟨R.val % 128, by omega⟩ b R (by show R.val = 128 * (R.val / 128) + R.val % 128; omega) ⟨b.val, by omega⟩ rfl).trans ?_
      refine (tail_eq m c _ ⟨1024 + b.val, by omega⟩ ⟨b.val, by omega⟩ rfl).symm.trans (congrArg _ (he _ _ ?_ ?_))
      · show (4 * (t.val / 2) + R.val / 128) * 128 + R.val % 128 = _
        omega
      · show 1024 + b.val = _
        omega
    · have hp : t.val - 1 < cfg0.N := by omega
      rw [outsAt0_B m c t (by omega) h1 (by omega)]
      dsimp only
      rw [Run.out9_B]
      refine (dv_block m c H ⟨t.val - 1, hp⟩ (by show (t.val - 1) % 2 = 0; omega) ⟨R.val / 128, by omega⟩ ⟨R.val % 128, by omega⟩ b R (by show R.val = 128 * (R.val / 128) + R.val % 128; omega) ⟨1024 + b.val, by omega⟩ rfl).trans ?_
      refine (tail_eq m c _ ⟨2048 + b.val, by omega⟩ ⟨1024 + b.val, by omega⟩ (by show 2048 + b.val = 1024 + (1024 + b.val); omega)).symm.trans (congrArg _ (he _ _ ?_ ?_))
      · show (4 * ((t.val - 1) / 2) + R.val / 128) * 128 + R.val % 128 = _
        omega
      · show 2048 + b.val = _
        omega
  refine e.trans (funext fun i => ?_)
  obtain ⟨R, k, rfl⟩ : ∃ (R : Fin 8192) (k : Fin 3072), i = ix2 R k := ⟨i 0, i 1, by funext a; fin_cases a <;> rfl⟩
  show (if 1 ≤ k.val / 1024 then _ else _) = _
  split_ifs with h
  · rfl
  · exact (entry_eq m c R k ⟨k.val, by omega⟩ rfl).trans (head_eq m c R k ⟨k.val, by omega⟩ rfl).symm

end Cert.SguBwdIdeal.Value
-- ==== Proof.SguBwdPre.lean ====
module

public import proofs.«01_k».proof.Defs
public import proofs.«01_k».proof.Proof.Gen.Pre_sgu_bwd_finite
public import proofs.«01_k».proof.Proof.SguBwdValue

@[expose] public section

set_option maxRecDepth 16384

noncomputable section

open Idealize.ShloMosaic Idealize.SL.Sem

namespace Cert.SguBwdIdeal.Claims
open Cert.Fin'

/-- The printed predicate, decoded: where it is all ones, the gate's inputs, the cotangent of its output, the two norms' gains and the
mixing weights are real numbers. -/
theorem finite_of_pre (m : (ℓ : Loc nD τ sig) → Buf (Elt Ideal) ℓ) (h : Cert.Pre_SguBwdIdeal_sgu_bwd_finite (hPre_sgu_bwd_finite := Cert.Pre_sgu_bwd_finite.Gen.facts) m) (c : Dev nD) :
    Cert.SguBwdRefIdeal.Grad.Finite (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) := by
  obtain ⟨h0, h1, h2, h3, h4⟩ := h c
  constructor
  · intro p k
    have e := congrFun h0 (ix3 0 p k)
    refine isReal_of_lt ?_
    pointwise [Cert.SguBwdRefIdeal.Read.val_main_v6]
    revert e
    unfold Cert.Pre_sgu_bwd_finite.fn
    pointwise []
    exact fun e => e
  · intro p k
    have e := congrFun h1 (ix3 0 p k)
    refine isReal_of_lt ?_
    pointwise [Cert.SguBwdRefIdeal.Read.val_main_v89]
    revert e
    unfold Cert.Pre_sgu_bwd_finite.fn
    pointwise []
    exact fun e => e
  · intro k
    have e := congrFun h2 (ix2 0 k)
    refine isReal_of_lt ?_
    revert e
    unfold Cert.Pre_sgu_bwd_finite.fn
    pointwise []
    exact fun e => e
  · intro a t s
    have e := congrFun h3 (ix4 0 a t s)
    refine isReal_of_lt ?_
    revert e
    unfold Cert.Pre_sgu_bwd_finite.fn
    pointwise []
    exact fun e => e
  · intro k
    have e := congrFun h4 (ix2 0 k)
    refine isReal_of_lt ?_
    revert e
    unfold Cert.Pre_sgu_bwd_finite.fn
    pointwise []
    exact fun e => e

end Cert.SguBwdIdeal.Claims

end
-- ==== Proof.SguBwdClaim.lean ====
module

public import proofs.«01_k».proof.Defs
public import proofs.«01_k».proof.Proof.Gen.SguBwd.Frame
public import proofs.«01_k».proof.Proof.SguBwdValue
public import proofs.«01_k».proof.Proof.SguBwdPre

@[expose] public section

set_option maxRecDepth 16384

noncomputable section

open Idealize.ShloMosaic Idealize.SL.Sem

namespace Cert.SguBwdIdeal.Claims

/-- The printed program runs to its end, leaves its arguments alone and its counters at zero. -/
theorem frame_float : Cert.quiescent_SguBwd (hSguBwd := Cert.SguBwd.Gen.facts) := fun m g _ =>
  Cert.SguBwd.Gen.frame m g

/-- So does its idealization. -/
theorem frame_ideal : Cert.quiescent_SguBwdIdeal (hSguBwdIdeal := Cert.SguBwdIdeal.Gen.facts) := fun m g _ =>
  Cert.SguBwdIdeal.Gen.frame m g

/-- So does the reference, a straight line of host operations without a counter. -/
theorem frame_reference : Cert.quiescent_SguBwdRefIdeal (hSguBwdRefIdeal := Cert.SguBwdRefIdeal.Gen.facts) := fun m g _ =>
  (θ_run Cert.SguBwdRefIdeal.defs _ _).mono (fun r h => ⟨fun c => (h c).2.2.2.2.2.2, sem_eq_zero_of_no_sems (by decide) r.2⟩)
    (Cert.SguBwdRefIdeal.Value.run m g)

/-- The idealized program's frame again, where the precondition of the equality is asked for. -/
theorem frame_ideal_pre : Cert.quiescent_SguBwdIdeal_pre_sgu_bwd_finite (hSguBwdIdeal := Cert.SguBwdIdeal.Gen.facts) (hPre_sgu_bwd_finite := Cert.Pre_sgu_bwd_finite.Gen.facts) := fun m g _ => frame_ideal m g trivial

/-- And the reference's. -/
theorem frame_reference_pre : Cert.quiescent_SguBwdRefIdeal_pre_sgu_bwd_finite (hSguBwdRefIdeal := Cert.SguBwdRefIdeal.Gen.facts) (hPre_sgu_bwd_finite := Cert.Pre_sgu_bwd_finite.Gen.facts) := fun m g _ => frame_reference m g trivial

/-- Over the reals the kernel's results are the reference's. -/
theorem algebraic : Cert.algebraic_SguBwdIdeal_SguBwdRefIdeal_pre_sgu_bwd_finite (hSguBwdIdeal := Cert.SguBwdIdeal.Gen.facts) (hSguBwdRefIdeal := Cert.SguBwdRefIdeal.Gen.facts) (hPre_sgu_bwd_finite := Cert.Pre_sgu_bwd_finite.Gen.facts) := by
  intro m g m' g' hpre hagree
  refine ⟨fun c => Cert.SguBwdRefIdeal.Read.val_main_v182 (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)),
    fun c => Cert.SguBwdRefIdeal.Read.val_main_v122 (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)),
    fun c => Cert.SguBwdRefIdeal.Read.val_main_v179 (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)),
    fun c => Cert.SguBwdRefIdeal.Read.val_main_v176 (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)),
    fun c => Cert.SguBwdRefIdeal.Read.val_main_v175 (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)),
    fun c => Cert.SguBwdRefIdeal.Read.val_main_v111 (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)), ?_, ?_⟩
  · exact (θ_run Cert.SguBwdIdeal.defs _ _).mono
      (fun _ h c => ⟨(h c).1.trans (Cert.SguBwdIdeal.Value.final_9 m c (finite_of_pre m hpre c)),
        (h c).2.1.trans (Cert.SguBwdIdeal.Value.final_10 m c),
        (h c).2.2.1.trans (Cert.SguBwdIdeal.Value.final_11 m c),
        (h c).2.2.2.1.trans (Cert.SguBwdIdeal.Value.final_12 m c),
        (h c).2.2.2.2.1.trans (Cert.SguBwdIdeal.Value.final_13 m c),
        (h c).2.2.2.2.2.1.trans (Cert.SguBwdIdeal.Value.final_14 m c), (h c).2.2.2.2.2.2⟩)
      (Cert.SguBwdIdeal.Value.run_blocks m g)
  · exact (θ_run Cert.SguBwdRefIdeal.defs _ _).mono
      (fun _ h c => ⟨(h c).1.trans ((Cert.SguBwdRefIdeal.Read.val_main_v182_eq _).trans (by show Cert.SguBwdRefIdeal.Read.val_main_v182 (F := Ideal) (m' ((c.tc : Thread Cert.SguBwdRefIdeal.nD Cert.SguBwdRefIdeal.τ).loc Cert.SguBwdRefIdeal.main_arg0)) (m' ((c.tc : Thread Cert.SguBwdRefIdeal.nD Cert.SguBwdRefIdeal.τ).loc Cert.SguBwdRefIdeal.main_arg1)) (m' ((c.tc : Thread Cert.SguBwdRefIdeal.nD Cert.SguBwdRefIdeal.τ).loc Cert.SguBwdRefIdeal.main_arg2)) (m' ((c.tc : Thread Cert.SguBwdRefIdeal.nD Cert.SguBwdRefIdeal.τ).loc Cert.SguBwdRefIdeal.main_arg3)) (m' ((c.tc : Thread Cert.SguBwdRefIdeal.nD Cert.SguBwdRefIdeal.τ).loc Cert.SguBwdRefIdeal.main_arg4)) (m' ((c.tc : Thread Cert.SguBwdRefIdeal.nD Cert.SguBwdRefIdeal.τ).loc Cert.SguBwdRefIdeal.main_arg5)) (m' ((c.tc : Thread Cert.SguBwdRefIdeal.nD Cert.SguBwdRefIdeal.τ).loc Cert.SguBwdRefIdeal.main_arg6)) (m' ((c.tc : Thread Cert.SguBwdRefIdeal.nD Cert.SguBwdRefIdeal.τ).loc Cert.SguBwdRefIdeal.main_arg7)) = _; rw [(hagree c).1, (hagree c).2.1, (hagree c).2.2.1, (hagree c).2.2.2.1, (hagree c).2.2.2.2.1, (hagree c).2.2.2.2.2.1, (hagree c).2.2.2.2.2.2.1, (hagree c).2.2.2.2.2.2.2])),
        (h c).2.1.trans ((Cert.SguBwdRefIdeal.Read.val_main_v122_eq _).trans (by show Cert.SguBwdRefIdeal.Read.val_main_v122 (F := Ideal) (m' ((c.tc : Thread Cert.SguBwdRefIdeal.nD Cert.SguBwdRefIdeal.τ).loc Cert.SguBwdRefIdeal.main_arg0)) (m' ((c.tc : Thread Cert.SguBwdRefIdeal.nD Cert.SguBwdRefIdeal.τ).loc Cert.SguBwdRefIdeal.main_arg2)) (m' ((c.tc : Thread Cert.SguBwdRefIdeal.nD Cert.SguBwdRefIdeal.τ).loc Cert.SguBwdRefIdeal.main_arg3)) (m' ((c.tc : Thread Cert.SguBwdRefIdeal.nD Cert.SguBwdRefIdeal.τ).loc Cert.SguBwdRefIdeal.main_arg4)) (m' ((c.tc : Thread Cert.SguBwdRefIdeal.nD Cert.SguBwdRefIdeal.τ).loc Cert.SguBwdRefIdeal.main_arg5)) (m' ((c.tc : Thread Cert.SguBwdRefIdeal.nD Cert.SguBwdRefIdeal.τ).loc Cert.SguBwdRefIdeal.main_arg6)) (m' ((c.tc : Thread Cert.SguBwdRefIdeal.nD Cert.SguBwdRefIdeal.τ).loc Cert.SguBwdRefIdeal.main_arg7)) = _; rw [(hagree c).1, (hagree c).2.2.1, (hagree c).2.2.2.1, (hagree c).2.2.2.2.1, (hagree c).2.2.2.2.2.1, (hagree c).2.2.2.2.2.2.1, (hagree c).2.2.2.2.2.2.2])),
        (h c).2.2.1.trans ((Cert.SguBwdRefIdeal.Read.val_main_v179_eq _).trans (by show Cert.SguBwdRefIdeal.Read.val_main_v179 (F := Ideal) (m' ((c.tc : Thread Cert.SguBwdRefIdeal.nD Cert.SguBwdRefIdeal.τ).loc Cert.SguBwdRefIdeal.main_arg0)) (m' ((c.tc : Thread Cert.SguBwdRefIdeal.nD Cert.SguBwdRefIdeal.τ).loc Cert.SguBwdRefIdeal.main_arg2)) (m' ((c.tc : Thread Cert.SguBwdRefIdeal.nD Cert.SguBwdRefIdeal.τ).loc Cert.SguBwdRefIdeal.main_arg3)) (m' ((c.tc : Thread Cert.SguBwdRefIdeal.nD Cert.SguBwdRefIdeal.τ).loc Cert.SguBwdRefIdeal.main_arg4)) (m' ((c.tc : Thread Cert.SguBwdRefIdeal.nD Cert.SguBwdRefIdeal.τ).loc Cert.SguBwdRefIdeal.main_arg5)) (m' ((c.tc : Thread Cert.SguBwdRefIdeal.nD Cert.SguBwdRefIdeal.τ).loc Cert.SguBwdRefIdeal.main_arg6)) (m' ((c.tc : Thread Cert.SguBwdRefIdeal.nD Cert.SguBwdRefIdeal.τ).loc Cert.SguBwdRefIdeal.main_arg7)) = _; rw [(hagree c).1, (hagree c).2.2.1, (hagree c).2.2.2.1, (hagree c).2.2.2.2.1, (hagree c).2.2.2.2.2.1, (hagree c).2.2.2.2.2.2.1, (hagree c).2.2.2.2.2.2.2])),
        (h c).2.2.2.1.trans ((Cert.SguBwdRefIdeal.Read.val_main_v176_eq _).trans (by show Cert.SguBwdRefIdeal.Read.val_main_v176 (F := Ideal) (m' ((c.tc : Thread Cert.SguBwdRefIdeal.nD Cert.SguBwdRefIdeal.τ).loc Cert.SguBwdRefIdeal.main_arg0)) (m' ((c.tc : Thread Cert.SguBwdRefIdeal.nD Cert.SguBwdRefIdeal.τ).loc Cert.SguBwdRefIdeal.main_arg2)) (m' ((c.tc : Thread Cert.SguBwdRefIdeal.nD Cert.SguBwdRefIdeal.τ).loc Cert.SguBwdRefIdeal.main_arg3)) (m' ((c.tc : Thread Cert.SguBwdRefIdeal.nD Cert.SguBwdRefIdeal.τ).loc Cert.SguBwdRefIdeal.main_arg4)) (m' ((c.tc : Thread Cert.SguBwdRefIdeal.nD Cert.SguBwdRefIdeal.τ).loc Cert.SguBwdRefIdeal.main_arg5)) (m' ((c.tc : Thread Cert.SguBwdRefIdeal.nD Cert.SguBwdRefIdeal.τ).loc Cert.SguBwdRefIdeal.main_arg6)) (m' ((c.tc : Thread Cert.SguBwdRefIdeal.nD Cert.SguBwdRefIdeal.τ).loc Cert.SguBwdRefIdeal.main_arg7)) = _; rw [(hagree c).1, (hagree c).2.2.1, (hagree c).2.2.2.1, (hagree c).2.2.2.2.1, (hagree c).2.2.2.2.2.1, (hagree c).2.2.2.2.2.2.1, (hagree c).2.2.2.2.2.2.2])),
        (h c).2.2.2.2.1.trans ((Cert.SguBwdRefIdeal.Read.val_main_v175_eq _).trans (by show Cert.SguBwdRefIdeal.Read.val_main_v175 (F := Ideal) (m' ((c.tc : Thread Cert.SguBwdRefIdeal.nD Cert.SguBwdRefIdeal.τ).loc Cert.SguBwdRefIdeal.main_arg0)) (m' ((c.tc : Thread Cert.SguBwdRefIdeal.nD Cert.SguBwdRefIdeal.τ).loc Cert.SguBwdRefIdeal.main_arg2)) (m' ((c.tc : Thread Cert.SguBwdRefIdeal.nD Cert.SguBwdRefIdeal.τ).loc Cert.SguBwdRefIdeal.main_arg3)) (m' ((c.tc : Thread Cert.SguBwdRefIdeal.nD Cert.SguBwdRefIdeal.τ).loc Cert.SguBwdRefIdeal.main_arg4)) (m' ((c.tc : Thread Cert.SguBwdRefIdeal.nD Cert.SguBwdRefIdeal.τ).loc Cert.SguBwdRefIdeal.main_arg5)) (m' ((c.tc : Thread Cert.SguBwdRefIdeal.nD Cert.SguBwdRefIdeal.τ).loc Cert.SguBwdRefIdeal.main_arg6)) (m' ((c.tc : Thread Cert.SguBwdRefIdeal.nD Cert.SguBwdRefIdeal.τ).loc Cert.SguBwdRefIdeal.main_arg7)) = _; rw [(hagree c).1, (hagree c).2.2.1, (hagree c).2.2.2.1, (hagree c).2.2.2.2.1, (hagree c).2.2.2.2.2.1, (hagree c).2.2.2.2.2.2.1, (hagree c).2.2.2.2.2.2.2])),
        (h c).2.2.2.2.2.1.trans ((Cert.SguBwdRefIdeal.Read.val_main_v111_eq _).trans (by show Cert.SguBwdRefIdeal.Read.val_main_v111 (F := Ideal) (m' ((c.tc : Thread Cert.SguBwdRefIdeal.nD Cert.SguBwdRefIdeal.τ).loc Cert.SguBwdRefIdeal.main_arg0)) (m' ((c.tc : Thread Cert.SguBwdRefIdeal.nD Cert.SguBwdRefIdeal.τ).loc Cert.SguBwdRefIdeal.main_arg2)) (m' ((c.tc : Thread Cert.SguBwdRefIdeal.nD Cert.SguBwdRefIdeal.τ).loc Cert.SguBwdRefIdeal.main_arg3)) (m' ((c.tc : Thread Cert.SguBwdRefIdeal.nD Cert.SguBwdRefIdeal.τ).loc Cert.SguBwdRefIdeal.main_arg4)) (m' ((c.tc : Thread Cert.SguBwdRefIdeal.nD Cert.SguBwdRefIdeal.τ).loc Cert.SguBwdRefIdeal.main_arg5)) (m' ((c.tc : Thread Cert.SguBwdRefIdeal.nD Cert.SguBwdRefIdeal.τ).loc Cert.SguBwdRefIdeal.main_arg6)) = _; rw [(hagree c).1, (hagree c).2.2.1, (hagree c).2.2.2.1, (hagree c).2.2.2.2.1, (hagree c).2.2.2.2.2.1, (hagree c).2.2.2.2.2.2.1])), (h c).2.2.2.2.2.2⟩)
      (Cert.SguBwdRefIdeal.Value.run m' g')

end Cert.SguBwdIdeal.Claims

end
-- ==== Proof.InProjAValue.lean ====
module

public import proofs.«01_k».proof.Proof.Gen.InProjAIdeal.Value
public import proofs.«01_k».proof.Proof.Gen.InProjARefIdeal.Run
public import proofs.«01_k».proof.Proof.Gen.InProjARefIdeal.Read
public import proofs.«01_k».proof.Proof.RmsGrad
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjAIdeal.Value

open Cert.InProjAIdeal Cert.InProjAIdeal.Gen
open Cert.InProjARefIdeal.Read

variable (m : (ℓ : Loc nD τ sig) → Buf (Elt Ideal) ℓ)

/-- The block index of every window at every grid point. -/
theorem idx : ∀ t : Fin cfg0.N, win0_0.index t = ![t.val / 4, t.val % 4]
    ∧ win0_1.index t = ![t.val % 4, 0, 0]
    ∧ win0_2.index t = ![t.val / 4, 0]
    ∧ win0_3.index t = ![t.val / 4, 0]
    ∧ win0_4.index t = ![0, 0]
    ∧ win0_5.index t = ![t.val / 4, 0]
    ∧ win0_6.index t = ![0, 0] :=
  (by decide +kernel : ∀ t : Fin grid0.N, _)

/-- The last grid point. -/
def final : Fin cfg0.N := ⟨31, by decide +kernel⟩

section
open Cert.InProjARefIdeal
variable (x0 : FVec Ideal S1x8192x3072 .f32) (x1 : FVec Ideal S1x2048x3072 .f32) (x2 x3 : FVec Ideal S1x8192x2048 .f32) (x4 : FVec Ideal S1x2048 .f32)

/-- The reference sums the mean's share over an axis of one row. -/
theorem row_share (i : S4096.Idx) : val_main_v38 (F := Ideal) x0 x1 x2 x4 i = val_main_v37 (F := Ideal) x0 x1 x2 x4 (ix3 0 (i 0) 0) := by
  unfold val_main_v38
  generalize val_main_v37 (F := Ideal) x0 x1 x2 x4 = y
  simp only [Host.reduceAdd]
  refine (Cert.Rms.hostReduceAdd_unit Cert.InProjARefIdeal.Gen.reducesTo_S1x4096x1_S4096_d0_2 y _ i (ix3 0 (i 0) 0) ?_ ?_).trans ?_
  · intro b
    have hb : b = 0 := Fin.fin_one_eq_zero b
    subst hb
    rfl
  · intro i' h
    have h1 : (i' 1).val = (i 0).val := h 0
    have h0 : (i' 0).val < 1 := (i' 0).isLt
    have h2 : (i' 2).val < 1 := (i' 2).isLt
    intro a
    fin_cases a
    · show (i' 0).val = 0
      omega
    · exact h1
    · show (i' 2).val = 0
      omega
  · pointwise [val_main_cst_7]

/-- The reference sums the gain's gradient over an axis of one row. -/
theorem gain_share (i : S2048.Idx) : val_main_v28 (F := Ideal) x0 x1 x2 i = val_main_v25 (F := Ideal) x0 x1 x2 (ix3 0 0 (i 0)) := by
  unfold val_main_v28
  generalize val_main_v25 (F := Ideal) x0 x1 x2 = y
  simp only [Host.reduceAdd]
  refine (Cert.Rms.hostReduceAdd_unit Cert.InProjARefIdeal.Gen.reducesTo_S1x1x2048_S2048_d0_1 y _ i (ix3 0 0 (i 0)) ?_ ?_).trans ?_
  · intro b
    have hb : b = 0 := Fin.fin_one_eq_zero b
    subst hb
    rfl
  · intro i' h
    have h2 : (i' 2).val = (i 0).val := h 0
    have h0 : (i' 0).val < 1 := (i' 0).isLt
    have h1 : (i' 1).val < 1 := (i' 1).isLt
    intro a
    fin_cases a
    · show (i' 0).val = 0
      omega
    · show (i' 1).val = 0
      omega
    · exact h2
  · pointwise [val_main_cst_4]

end

/-- The zero fill. -/
theorem hzero (j : S512x2048.Idx) : k0_pay1 (F := Ideal) j = 0 := by
  pointwise! [k0_pay1]
theorem hzero_gain (j : S1x2048.Idx) : k0_pay2 (F := Ideal) j = 0 := by
  pointwise! [k0_pay2]

/-- One point adds the product of the cotangent's block with the weights' block. -/
theorem hpay (v8 : Vec Ideal S512x2048 .f32) (v9 : Vec Ideal S512x768 .bf16) (v11 : Vec Ideal S1x2048x768 .bf16) (j : S512x2048.Idx) :
    k0_pay3 v8 v9 v11 j = v8 j + ∑ k : Fin 768, v9 (ix2 (j 0) k) * v11 (ix3 0 (j 1) k) := by
  pointwise [k0_pay3]

/-- The accumulator at the last point of a run: the whole product. -/
theorem acc_block (c : Dev nD) (t : Fin cfg0.N) (ht : t.val % 4 = 3) (r : Fin 512) (k : Fin 2048) (p : Fin 4096) (h0 : p.val = t.val / 4 * 512 + r.val) :
    (outsAt0 m c t.val t.isLt).2.2 (ix2 r k) = val_main_v22 (F := Ideal) (m ((c : Thread nD τ).loc main_arg0)) (m ((c : Thread nD τ).loc main_arg1)) (ix3 0 p k) := by
  rw [Pipeline.eq_sum_fin_of_reset_step_apply_of_flush (fun n h => (outsAt0 m c n h).2.2) 4 (fun _ => 0) _
    (fun t h j => by
      have h' : ¬ t.val % 4 = 3 := by omega
      by_cases h2 : t.val % 32 = 0
      · rw [outsAt0_A m c t h h2 h']; frame_out; rw [hpay, hzero]
      · rw [outsAt0_D m c t h h2 h']; frame_out; rw [hpay, hzero])
    (fun t h j => by
      have h2 : ¬ t.val % 32 = 0 := by omega
      by_cases h' : t.val % 4 = 3
      · rw [outsAt0_C m c t h h2 h']; frame_out; rw [hpay]; simp only [read_unread_whole]
      · rw [outsAt0_B m c t h h2 h']; frame_out; rw [hpay]; simp only [read_unread_whole])
    t ht _, zero_add]
  pointwise [val_main_v22, val_main_v21, val_main_v18]
  refine Fin.sum_mul_add_congr fun s k hl => ?_
  blk_point [iblk, V, idx ⟨_, Pipeline.run_point_lt_of_flush t ht s⟩]

/-- What the last point of a run sees of the accumulator. -/
theorem acc_now (c : Dev nD) (t : Fin cfg0.N) (h : ¬ t.val % 4 = 0) (h2 : ¬ t.val % 32 = 0) (h' : t.val % 4 = 3) :
    k0_pay3 (outsAt0 m c (t.val - 1) (Nat.lt_of_le_of_lt (Nat.sub_le _ _) t.isLt)).2.2 (iblk m c 0 t) (iblk m c 1 t) = (outsAt0 m c t.val t.isLt).2.2 := by
  rw [outsAt0_C m c t h h2 h']; dsimp only; frame_out
  simp only [read_unread_whole]

/-- The block of the input at a row of the call. -/
theorem x_block (c : Dev nD) (t : Fin cfg0.N) (r : Fin 512) (k : Fin 2048) (p : Fin 4096) (h0 : p.val = t.val / 4 * 512 + r.val) :
    (iblk m c 2 t : Vec Ideal S512x2048 .f32) (ix2 r k) = val_main_v0 (F := Ideal) (m ((c : Thread nD τ).loc main_arg2)) (ix3 0 p k) := by
  pointwise [val_main_v0]
  blk_point [iblk, V, idx t]

/-- What the body stores in the input gradient's block is the reference's at the row. -/
theorem point (c : Dev nD) (t : Fin cfg0.N) (z : Vec Ideal S512x2048 .f32)
    (hz : ∀ (r : Fin 512) (k : Fin 2048) (p : Fin 4096), p.val = t.val / 4 * 512 + r.val → z (ix2 r k) = val_main_v22 (F := Ideal) (m ((c : Thread nD τ).loc main_arg0)) (m ((c : Thread nD τ).loc main_arg1)) (ix3 0 p k))
    (y : S512x2048.Idx) (p : Fin 4096) (h0 : p.val = t.val / 4 * 512 + (y 0).val) :
    k0_pay6 (iblk m c 2 t) z (iblk m c 4 t) (iblk m c 3 t) y = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 p (y 1)) := by
  have hr : ∀ k : Fin 2048, z (ix2 (y 0) k) = val_main_v22 (F := Ideal) (m ((c : Thread nD τ).loc main_arg0)) (m ((c : Thread nD τ).loc main_arg1)) (ix3 0 p k) := fun k => hz (y 0) k p h0
  have hy : z y = val_main_v22 (F := Ideal) (m ((c : Thread nD τ).loc main_arg0)) (m ((c : Thread nD τ).loc main_arg1)) (ix3 0 p (y 1)) := (congrArg z (by funext a; fin_cases a <;> rfl)).trans (hr (y 1))
  pointwise [k0_pay6, k0_pay5, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v23, val_main_v24, val_main_v26, val_main_v27, val_main_v29, val_main_v30, val_main_v31, val_main_v32, val_main_v33, val_main_v34, val_main_v35, val_main_v36, val_main_v37, val_main_v39, val_main_v40, val_main_v41, val_main_v42, val_main_v43, val_main_v44, val_main_v45, val_main_cst, val_main_cst_0, val_main_cst_1, val_main_cst_2, val_main_cst_3, val_main_cst_4, val_main_cst_5, val_main_cst_6, val_main_cst_7]
  simp only [row_share]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v23, val_main_v24, val_main_v26, val_main_v27, val_main_v29, val_main_v30, val_main_v31, val_main_v32, val_main_v33, val_main_v34, val_main_v35, val_main_v36, val_main_v37, val_main_v39, val_main_v40, val_main_v41, val_main_v42, val_main_v43, val_main_v44, val_main_v45, val_main_cst, val_main_cst_0, val_main_cst_1, val_main_cst_2, val_main_cst_3, val_main_cst_4, val_main_cst_5, val_main_cst_6, val_main_cst_7]
  refine (Cert.Rms.input_grad (Cert.Rms.norm_pos _) _ _ _ _).trans ?_
  simp only [hr, hy]
  blk_point [iblk, V, idx t]

/-- The gain's share of one point. -/
theorem hpay_gain (x z : Vec Ideal S512x2048 .f32) (l : Vec Ideal S1x2048 .f32) (j : S1x2048.Idx) :
    k0_pay7 x z l j = l j + ∑ r : Fin 512, z (ix2 r (j 1)) * x (ix2 r (j 1)) * k0_pay5 x (ix2 r 0) := by
  unfold k0_pay7
  generalize k0_pay5 x = q
  pointwise [k0_pay4]

/-- What the last point of a run adds to the gain's gradient. -/
def gainPart (c : Dev nD) (t : Fin cfg0.N) (j : S1x2048.Idx) : EReal :=
  ∑ r : Fin 512, (outsAt0 m c t.val t.isLt).2.2 (ix2 r (j 1)) * (iblk m c 2 t : Vec Ideal S512x2048 .f32) (ix2 r (j 1)) * k0_pay5 (iblk m c 2 t) (ix2 r 0)

/-- A sum over the grid that only the last points of the runs contribute to. -/
theorem sum_runs (g : Fin cfg0.N → EReal) :
    ∑ t : Fin cfg0.N, (if t.val % 4 = 3 then g t else 0) = ∑ i : Fin 8, g ⟨4 * i.val + 3, by have := i.isLt; have hN : cfg0.N = 32 := N_0; omega⟩ := by
  refine Eq.symm ?_
  refine Fintype.sum_of_injective (fun i : Fin 8 => (⟨4 * i.val + 3, by have := i.isLt; have hN : cfg0.N = 32 := N_0; omega⟩ : Fin cfg0.N)) ?_ _ _ ?_ ?_
  · intro a b hab
    have := Fin.val_eq_of_eq hab
    simp only at this
    exact Fin.ext (by omega)
  · intro t ht
    refine if_neg fun h => ht ⟨⟨t.val / 4, by have := t.isLt; have hN : cfg0.N = 32 := N_0; omega⟩, Fin.ext ?_⟩
    simp only
    omega
  · intro i
    have h : (4 * i.val + 3) % 4 = 3 := by omega
    simp only [if_pos h]

/-- The gain's gradient over the rows of the call. -/
theorem final_6 (c : Dev nD) : (dats m 0 c).arrAt 6 (cfgs 0).N = val_main_v45 (F := Ideal) (m ((c : Thread nD τ).loc main_arg0)) (m ((c : Thread nD τ).loc main_arg1)) (m ((c : Thread nD τ).loc main_arg2)) := by
  refine (dats m 0 c).arrAt_eq_of_after_last 6 final (by decide +kernel) _ fun j => ?_
  blk_simp
  rw [after0_6, Pipeline.eq_sum_fin_of_reset_step_apply_last (fun n h => (outsAt0 m c n h).2.1) 32 (fun _ => 0)
    (fun t j => if t.val % 4 = 3 then gainPart m c t j else 0)
    (fun t h2 j => by
      have h : t.val % 4 = 0 := by omega
      have h' : ¬ t.val % 4 = 3 := by omega
      rw [outsAt0_A m c t h h2 h']; frame_out; rw [if_neg h', add_zero, hzero_gain])
    (fun t h2 j => by
      by_cases h' : t.val % 4 = 3
      · have h : ¬ t.val % 4 = 0 := by omega
        have e := acc_now m c t h h2 h'
        rw [if_pos h']
        unfold gainPart
        rw [← e]
        rw [outsAt0_C m c t h h2 h']; frame_out
        simp only [read_unread_whole]
        rw [hpay_gain]
      · by_cases h : t.val % 4 = 0
        · rw [outsAt0_D m c t h h2 h']; frame_out; rw [if_neg h', add_zero]; rfl
        · rw [outsAt0_B m c t h h2 h']; frame_out; rw [if_neg h', add_zero]; rfl)
    (le_of_eq N_0) final rfl j, zero_add]
  rw [sum_runs]
  pointwise [val_main_v45]
  simp only [gain_share]
  pointwise [val_main_v2, val_main_v3, val_main_v4, val_main_v5, val_main_v6, val_main_v7, val_main_v8, val_main_v9, val_main_v13, val_main_v14, val_main_v23, val_main_v24, val_main_v25, val_main_cst, val_main_cst_0, val_main_cst_1, val_main_cst_2, val_main_cst_3, val_main_cst_4, val_main_cst_5, val_main_cst_6, val_main_cst_7]
  unfold gainPart
  refine Fin.sum_mul_add_congr fun s k hl => ?_
  have hs : (4 * s.val + 3) % 4 = 3 := by omega
  have hd : (4 * s.val + 3) / 4 = s.val := by omega
  have hlt : 4 * s.val + 3 < cfg0.N := by have := s.isLt; have hN : cfg0.N = 32 := N_0; omega
  rw [show (outsAt0 m c (4 * s.val + 3) hlt).2.2 (ix2 k (j 1)) = _ from acc_block m c ⟨4 * s.val + 3, hlt⟩ hs k (j 1) ⟨s.val * 512 + k.val, hl⟩ (by rw [hd])]
  pointwise [k0_pay5, k0_pay4]
  rw [mul_assoc, mul_comm]
  simp only [x_block m c ⟨4 * s.val + 3, hlt⟩ k _ ⟨s.val * 512 + k.val, hl⟩ (by rw [hd])]
  exact congrArg (fun z => z * _ * _) (x_block m c ⟨4 * s.val + 3, hlt⟩ k (j 1) ⟨s.val * 512 + k.val, hl⟩ (by rw [hd]))

/-- The reference's rows of the call. -/
theorem rows_eq (c : Dev nD) (p : Fin 4096) (R : Fin 8192) (k : Fin 2048) (hR : R.val = p.val + 0) :
    val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R k) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 p k) := by
  have hk := k.isLt
  have hp := p.isLt
  unfold val_main_v49 val_main_v46
  generalize val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = w

  pointwise [val_main_v48]
  refine (dif_pos (by omega)).trans (congrArg w ?_)
  exact congrArg (fun z => ix3 0 z k) (Fin.ext (by exact hR))

/-- The input's gradient on the rows of the call; the other rows are as the call found them. -/
theorem final_5 (c : Dev nD) : (dats m 0 c).arrAt 5 (cfgs 0).N = fun i => if (i 0 : ℕ) / 512 < 8 then val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i else V m c (Pipeline.arrRef spec0 5) i := by
  refine (dats m 0 c).arrAt_eq_of_coversWhere 5 _ (fun β => β (0 : Fin 2) < 8) (by decide +kernel) (fun t hf y => ?_) (fun j => Iff.rfl)
  have h' : t.val % 4 = 3 := (flush0_5 t).mp hf
  have h : ¬ t.val % 4 = 0 := by omega
  have h2 : ¬ t.val % 32 = 0 := by omega
  have ht : t.val < 32 := lt_of_lt_of_eq t.isLt N_0
  blk_simp; rw [after0_5]
  rw [outsAt0_C m c t h h2 h']; dsimp only; frame_out
  simp only [read_unread_whole]
  rw [acc_now m c t h h2 h']
  refine (point m c t _ (fun r k p h0 => acc_block m c t h' r k p h0) y ⟨t.val / 4 * 512 + (y 0).val, by have := (y 0).isLt; have e : (y 0).val < 512 := this; omega⟩ rfl).trans ?_
  refine (rows_eq m c _ ⟨(t.val / 4 ) * 512 + (y 0).val, by have := (y 0).isLt; have e : (y 0).val < 512 := this; omega⟩ (y 1) (by show (t.val / 4 ) * 512 + (y 0).val = t.val / 4 * 512 + (y 0).val + 0; omega)).symm.trans (congrArg _ ?_)
  funext a; apply Fin.ext
  fin_cases a
  · refine Eq.symm ?_; blk_simp [idx t]; rfl
  · refine Eq.symm ?_; blk_simp [idx t]; rfl

end Cert.InProjAIdeal.Value

end
-- ==== Proof.InProjAClaim.lean ====
module

public import proofs.«01_k».proof.Defs
public import proofs.«01_k».proof.Proof.Gen.InProjA.Frame
public import proofs.«01_k».proof.Proof.Gen.On_first_half
public import proofs.«01_k».proof.Proof.InProjAValue

@[expose] public section

set_option maxRecDepth 16384

noncomputable section

open Idealize.ShloMosaic Idealize.SL.Sem

namespace Cert.InProjAIdeal.Claims

/-- The printed program runs to its end, leaves its arguments alone and its counters at zero. -/
theorem frame_float : Cert.quiescent_InProjA (hInProjA := Cert.InProjA.Gen.facts) := fun m g _ =>
  Cert.InProjA.Gen.frame m g

/-- So does its idealization. -/
theorem frame_ideal : Cert.quiescent_InProjAIdeal (hInProjAIdeal := Cert.InProjAIdeal.Gen.facts) := fun m g _ =>
  Cert.InProjAIdeal.Gen.frame m g

/-- So does the reference, a straight line of host operations without a counter. -/
theorem frame_reference : Cert.quiescent_InProjARefIdeal (hInProjARefIdeal := Cert.InProjARefIdeal.Gen.facts) := fun m g _ =>
  (θ_run Cert.InProjARefIdeal.defs _ _).mono (fun r h => ⟨fun c => (h c).2.2, sem_eq_zero_of_no_sems (by decide) r.2⟩)
    (Cert.InProjARefIdeal.Value.run m g)

/-- The mask asks for the rows of the first half. -/
theorem mask_row [Cert.On_first_half.Facts] (x0 : FVec Ideal Cert.On_first_half.S1x8192x3072 .f32) (x1 : FVec Ideal Cert.On_first_half.S1x2048x3072 .f32) (x2 x3 : FVec Ideal Cert.On_first_half.S1x8192x2048 .f32) (x4 : FVec Ideal Cert.On_first_half.S1x2048 .f32)
    (i : Cert.On_first_half.S8192x2048.Idx) (h : (Cert.On_first_half.fn (F := Ideal) x0 x1 x2 x3 x4).1 i = 1#1) : (i 0 : ℕ) / 512 < 8 := by
  have hi : (i 0).val < 8192 := (i 0).isLt
  have h' : BitVec.ofBool ((BitVec.ofNat 32 (i 0).val).slt 4096#32) = 1#1 := h
  by_contra hc
  have hs : (BitVec.ofNat 32 (i 0).val).slt 4096#32 = false := by
    rw [BitVec.slt_eq_decide, decide_eq_false_iff_not, BitVec.toInt_eq_toNat_of_lt, BitVec.toInt_eq_toNat_of_lt]
    · simp only [BitVec.toNat_ofNat]
      omega
    · decide
    · simp only [BitVec.toNat_ofNat]
      omega
  rw [hs] at h'
  exact absurd h' (by decide)

/-- Over the reals the kernel's results are the reference's, on the rows the call writes. -/
theorem algebraic : Cert.algebraic_InProjAIdeal_InProjARefIdeal_on_first_half (hInProjAIdeal := Cert.InProjAIdeal.Gen.facts) (hInProjARefIdeal := Cert.InProjARefIdeal.Gen.facts) (hOn_first_half := Cert.On_first_half.Gen.facts) := by
  intro m g m' g' hpre hagree
  refine ⟨fun c => Cert.InProjARefIdeal.Read.val_main_v49 (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2)) (m ((c.tc : Thread Cert.InProjAIdeal.nD Cert.InProjAIdeal.τ).loc Cert.InProjAIdeal.main_arg3)) (m ((c.tc : Thread Cert.InProjAIdeal.nD Cert.InProjAIdeal.τ).loc Cert.InProjAIdeal.main_arg4)),
    fun c => Cert.InProjARefIdeal.Read.val_main_v45 (F := Ideal) (m ((c.tc : Thread Cert.InProjAIdeal.nD Cert.InProjAIdeal.τ).loc Cert.InProjAIdeal.main_arg0)) (m ((c.tc : Thread Cert.InProjAIdeal.nD Cert.InProjAIdeal.τ).loc Cert.InProjAIdeal.main_arg1)) (m ((c.tc : Thread Cert.InProjAIdeal.nD Cert.InProjAIdeal.τ).loc Cert.InProjAIdeal.main_arg2)), ?_, ?_⟩
  · exact (θ_run Cert.InProjAIdeal.defs _ _).mono
      (fun _ h c => ⟨fun i hi => (congrFun ((h c).1.trans (Cert.InProjAIdeal.Value.final_5 m c)) i).trans (if_pos (mask_row _ _ _ _ _ i hi)),
        fun i _ => congrFun ((h c).2.1.trans (Cert.InProjAIdeal.Value.final_6 m c)) i, (h c).2.2⟩)
      (Cert.InProjAIdeal.Value.run_blocks m g)
  · exact (θ_run Cert.InProjARefIdeal.defs _ _).mono
      (fun _ h c => ⟨fun i _ => congrFun ((h c).1.trans ((Cert.InProjARefIdeal.Read.val_main_v49_eq m' c).trans (by rw [(hagree c).1, (hagree c).2.1, (hagree c).2.2.1, (hagree c).2.2.2.1, (hagree c).2.2.2.2]))) i,
        fun i _ => congrFun ((h c).2.1.trans ((Cert.InProjARefIdeal.Read.val_main_v45_eq _ _ _).trans (by rw [(hagree c).1, (hagree c).2.1, (hagree c).2.2.1]))) i, (h c).2.2⟩)
      (Cert.InProjARefIdeal.Value.run m' g')

end Cert.InProjAIdeal.Claims

end
-- ==== Proof.InProjBValue.lean ====
module

public import proofs.«01_k».proof.Proof.Gen.InProjBIdeal.Value
public import proofs.«01_k».proof.Proof.Gen.InProjBRefIdeal.Run
public import proofs.«01_k».proof.Proof.Gen.InProjBRefIdeal.Read
public import proofs.«01_k».proof.Proof.RmsGrad
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjBIdeal.Value

open Cert.InProjBIdeal Cert.InProjBIdeal.Gen
open Cert.InProjBRefIdeal.Read

variable (m : (ℓ : Loc nD τ sig) → Buf (Elt Ideal) ℓ)

/-- The block index of every window at every grid point. -/
theorem idx : ∀ t : Fin cfg0.N, win0_0.index t = ![t.val / 4+ 8, t.val % 4]
    ∧ win0_1.index t = ![t.val % 4, 0, 0]
    ∧ win0_2.index t = ![t.val / 4+ 8, 0]
    ∧ win0_3.index t = ![t.val / 4+ 8, 0]
    ∧ win0_4.index t = ![0, 0]
    ∧ win0_5.index t = ![t.val / 4+ 8, 0]
    ∧ win0_6.index t = ![0, 0] :=
  (by decide +kernel : ∀ t : Fin grid0.N, _)

/-- The last grid point. -/
def final : Fin cfg0.N := ⟨31, by decide +kernel⟩

section
open Cert.InProjBRefIdeal
variable (x0 : FVec Ideal S1x8192x3072 .f32) (x1 : FVec Ideal S1x2048x3072 .f32) (x2 x3 : FVec Ideal S1x8192x2048 .f32) (x4 : FVec Ideal S1x2048 .f32)

/-- The reference sums the mean's share over an axis of one row. -/
theorem row_share (i : S4096.Idx) : val_main_v38 (F := Ideal) x0 x1 x2 x4 i = val_main_v37 (F := Ideal) x0 x1 x2 x4 (ix3 0 (i 0) 0) := by
  unfold val_main_v38
  generalize val_main_v37 (F := Ideal) x0 x1 x2 x4 = y
  simp only [Host.reduceAdd]
  refine (Cert.Rms.hostReduceAdd_unit Cert.InProjBRefIdeal.Gen.reducesTo_S1x4096x1_S4096_d0_2 y _ i (ix3 0 (i 0) 0) ?_ ?_).trans ?_
  · intro b
    have hb : b = 0 := Fin.fin_one_eq_zero b
    subst hb
    rfl
  · intro i' h
    have h1 : (i' 1).val = (i 0).val := h 0
    have h0 : (i' 0).val < 1 := (i' 0).isLt
    have h2 : (i' 2).val < 1 := (i' 2).isLt
    intro a
    fin_cases a
    · show (i' 0).val = 0
      omega
    · exact h1
    · show (i' 2).val = 0
      omega
  · pointwise [val_main_cst_7]

/-- The reference sums the gain's gradient over an axis of one row. -/
theorem gain_share (i : S2048.Idx) : val_main_v28 (F := Ideal) x0 x1 x2 i = val_main_v25 (F := Ideal) x0 x1 x2 (ix3 0 0 (i 0)) := by
  unfold val_main_v28
  generalize val_main_v25 (F := Ideal) x0 x1 x2 = y
  simp only [Host.reduceAdd]
  refine (Cert.Rms.hostReduceAdd_unit Cert.InProjBRefIdeal.Gen.reducesTo_S1x1x2048_S2048_d0_1 y _ i (ix3 0 0 (i 0)) ?_ ?_).trans ?_
  · intro b
    have hb : b = 0 := Fin.fin_one_eq_zero b
    subst hb
    rfl
  · intro i' h
    have h2 : (i' 2).val = (i 0).val := h 0
    have h0 : (i' 0).val < 1 := (i' 0).isLt
    have h1 : (i' 1).val < 1 := (i' 1).isLt
    intro a
    fin_cases a
    · show (i' 0).val = 0
      omega
    · show (i' 1).val = 0
      omega
    · exact h2
  · pointwise [val_main_cst_4]

end

/-- The zero fill. -/
theorem hzero (j : S512x2048.Idx) : k0_pay1 (F := Ideal) j = 0 := by
  pointwise! [k0_pay1]
theorem hzero_gain (j : S1x2048.Idx) : k0_pay2 (F := Ideal) j = 0 := by
  pointwise! [k0_pay2]

/-- One point adds the product of the cotangent's block with the weights' block. -/
theorem hpay (v8 : Vec Ideal S512x2048 .f32) (v9 : Vec Ideal S512x768 .bf16) (v11 : Vec Ideal S1x2048x768 .bf16) (j : S512x2048.Idx) :
    k0_pay3 v8 v9 v11 j = v8 j + ∑ k : Fin 768, v9 (ix2 (j 0) k) * v11 (ix3 0 (j 1) k) := by
  pointwise [k0_pay3]

/-- The accumulator at the last point of a run: the whole product. -/
theorem acc_block (c : Dev nD) (t : Fin cfg0.N) (ht : t.val % 4 = 3) (r : Fin 512) (k : Fin 2048) (p : Fin 4096) (h0 : p.val = t.val / 4 * 512 + r.val) :
    (outsAt0 m c t.val t.isLt).2.2 (ix2 r k) = val_main_v22 (F := Ideal) (m ((c : Thread nD τ).loc main_arg0)) (m ((c : Thread nD τ).loc main_arg1)) (ix3 0 p k) := by
  rw [Pipeline.eq_sum_fin_of_reset_step_apply_of_flush (fun n h => (outsAt0 m c n h).2.2) 4 (fun _ => 0) _
    (fun t h j => by
      have h' : ¬ t.val % 4 = 3 := by omega
      by_cases h2 : t.val % 32 = 0
      · rw [outsAt0_A m c t h h2 h']; frame_out; rw [hpay, hzero]
      · rw [outsAt0_D m c t h h2 h']; frame_out; rw [hpay, hzero])
    (fun t h j => by
      have h2 : ¬ t.val % 32 = 0 := by omega
      by_cases h' : t.val % 4 = 3
      · rw [outsAt0_C m c t h h2 h']; frame_out; rw [hpay]; simp only [read_unread_whole]
      · rw [outsAt0_B m c t h h2 h']; frame_out; rw [hpay]; simp only [read_unread_whole])
    t ht _, zero_add]
  pointwise [val_main_v22, val_main_v21, val_main_v18]
  refine Fin.sum_mul_add_congr fun s k hl => ?_
  blk_point [iblk, V, idx ⟨_, Pipeline.run_point_lt_of_flush t ht s⟩]

/-- What the last point of a run sees of the accumulator. -/
theorem acc_now (c : Dev nD) (t : Fin cfg0.N) (h : ¬ t.val % 4 = 0) (h2 : ¬ t.val % 32 = 0) (h' : t.val % 4 = 3) :
    k0_pay3 (outsAt0 m c (t.val - 1) (Nat.lt_of_le_of_lt (Nat.sub_le _ _) t.isLt)).2.2 (iblk m c 0 t) (iblk m c 1 t) = (outsAt0 m c t.val t.isLt).2.2 := by
  rw [outsAt0_C m c t h h2 h']; dsimp only; frame_out
  simp only [read_unread_whole]

/-- The block of the input at a row of the call. -/
theorem x_block (c : Dev nD) (t : Fin cfg0.N) (r : Fin 512) (k : Fin 2048) (p : Fin 4096) (h0 : p.val = t.val / 4 * 512 + r.val) :
    (iblk m c 2 t : Vec Ideal S512x2048 .f32) (ix2 r k) = val_main_v0 (F := Ideal) (m ((c : Thread nD τ).loc main_arg2)) (ix3 0 p k) := by
  pointwise [val_main_v0]
  blk_point [iblk, V, idx t]

/-- What the body stores in the input gradient's block is the reference's at the row. -/
theorem point (c : Dev nD) (t : Fin cfg0.N) (z : Vec Ideal S512x2048 .f32)
    (hz : ∀ (r : Fin 512) (k : Fin 2048) (p : Fin 4096), p.val = t.val / 4 * 512 + r.val → z (ix2 r k) = val_main_v22 (F := Ideal) (m ((c : Thread nD τ).loc main_arg0)) (m ((c : Thread nD τ).loc main_arg1)) (ix3 0 p k))
    (y : S512x2048.Idx) (p : Fin 4096) (h0 : p.val = t.val / 4 * 512 + (y 0).val) :
    k0_pay6 (iblk m c 2 t) z (iblk m c 4 t) (iblk m c 3 t) y = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 p (y 1)) := by
  have hr : ∀ k : Fin 2048, z (ix2 (y 0) k) = val_main_v22 (F := Ideal) (m ((c : Thread nD τ).loc main_arg0)) (m ((c : Thread nD τ).loc main_arg1)) (ix3 0 p k) := fun k => hz (y 0) k p h0
  have hy : z y = val_main_v22 (F := Ideal) (m ((c : Thread nD τ).loc main_arg0)) (m ((c : Thread nD τ).loc main_arg1)) (ix3 0 p (y 1)) := (congrArg z (by funext a; fin_cases a <;> rfl)).trans (hr (y 1))
  pointwise [k0_pay6, k0_pay5, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v23, val_main_v24, val_main_v26, val_main_v27, val_main_v29, val_main_v30, val_main_v31, val_main_v32, val_main_v33, val_main_v34, val_main_v35, val_main_v36, val_main_v37, val_main_v39, val_main_v40, val_main_v41, val_main_v42, val_main_v43, val_main_v44, val_main_v45, val_main_cst, val_main_cst_0, val_main_cst_1, val_main_cst_2, val_main_cst_3, val_main_cst_4, val_main_cst_5, val_main_cst_6, val_main_cst_7]
  simp only [row_share]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v23, val_main_v24, val_main_v26, val_main_v27, val_main_v29, val_main_v30, val_main_v31, val_main_v32, val_main_v33, val_main_v34, val_main_v35, val_main_v36, val_main_v37, val_main_v39, val_main_v40, val_main_v41, val_main_v42, val_main_v43, val_main_v44, val_main_v45, val_main_cst, val_main_cst_0, val_main_cst_1, val_main_cst_2, val_main_cst_3, val_main_cst_4, val_main_cst_5, val_main_cst_6, val_main_cst_7]
  refine (Cert.Rms.input_grad (Cert.Rms.norm_pos _) _ _ _ _).trans ?_
  simp only [hr, hy]
  blk_point [iblk, V, idx t]

/-- The gain's share of one point. -/
theorem hpay_gain (x z : Vec Ideal S512x2048 .f32) (l : Vec Ideal S1x2048 .f32) (j : S1x2048.Idx) :
    k0_pay7 x z l j = l j + ∑ r : Fin 512, z (ix2 r (j 1)) * x (ix2 r (j 1)) * k0_pay5 x (ix2 r 0) := by
  unfold k0_pay7
  generalize k0_pay5 x = q
  pointwise [k0_pay4]

/-- What the last point of a run adds to the gain's gradient. -/
def gainPart (c : Dev nD) (t : Fin cfg0.N) (j : S1x2048.Idx) : EReal :=
  ∑ r : Fin 512, (outsAt0 m c t.val t.isLt).2.2 (ix2 r (j 1)) * (iblk m c 2 t : Vec Ideal S512x2048 .f32) (ix2 r (j 1)) * k0_pay5 (iblk m c 2 t) (ix2 r 0)

/-- A sum over the grid that only the last points of the runs contribute to. -/
theorem sum_runs (g : Fin cfg0.N → EReal) :
    ∑ t : Fin cfg0.N, (if t.val % 4 = 3 then g t else 0) = ∑ i : Fin 8, g ⟨4 * i.val + 3, by have := i.isLt; have hN : cfg0.N = 32 := N_0; omega⟩ := by
  refine Eq.symm ?_
  refine Fintype.sum_of_injective (fun i : Fin 8 => (⟨4 * i.val + 3, by have := i.isLt; have hN : cfg0.N = 32 := N_0; omega⟩ : Fin cfg0.N)) ?_ _ _ ?_ ?_
  · intro a b hab
    have := Fin.val_eq_of_eq hab
    simp only at this
    exact Fin.ext (by omega)
  · intro t ht
    refine if_neg fun h => ht ⟨⟨t.val / 4, by have := t.isLt; have hN : cfg0.N = 32 := N_0; omega⟩, Fin.ext ?_⟩
    simp only
    omega
  · intro i
    have h : (4 * i.val + 3) % 4 = 3 := by omega
    simp only [if_pos h]

/-- The gain's gradient over the rows of the call. -/
theorem final_6 (c : Dev nD) : (dats m 0 c).arrAt 6 (cfgs 0).N = val_main_v45 (F := Ideal) (m ((c : Thread nD τ).loc main_arg0)) (m ((c : Thread nD τ).loc main_arg1)) (m ((c : Thread nD τ).loc main_arg2)) := by
  refine (dats m 0 c).arrAt_eq_of_after_last 6 final (by decide +kernel) _ fun j => ?_
  blk_simp
  rw [after0_6, Pipeline.eq_sum_fin_of_reset_step_apply_last (fun n h => (outsAt0 m c n h).2.1) 32 (fun _ => 0)
    (fun t j => if t.val % 4 = 3 then gainPart m c t j else 0)
    (fun t h2 j => by
      have h : t.val % 4 = 0 := by omega
      have h' : ¬ t.val % 4 = 3 := by omega
      rw [outsAt0_A m c t h h2 h']; frame_out; rw [if_neg h', add_zero, hzero_gain])
    (fun t h2 j => by
      by_cases h' : t.val % 4 = 3
      · have h : ¬ t.val % 4 = 0 := by omega
        have e := acc_now m c t h h2 h'
        rw [if_pos h']
        unfold gainPart
        rw [← e]
        rw [outsAt0_C m c t h h2 h']; frame_out
        simp only [read_unread_whole]
        rw [hpay_gain]
      · by_cases h : t.val % 4 = 0
        · rw [outsAt0_D m c t h h2 h']; frame_out; rw [if_neg h', add_zero]; rfl
        · rw [outsAt0_B m c t h h2 h']; frame_out; rw [if_neg h', add_zero]; rfl)
    (le_of_eq N_0) final rfl j, zero_add]
  rw [sum_runs]
  pointwise [val_main_v45]
  simp only [gain_share]
  pointwise [val_main_v2, val_main_v3, val_main_v4, val_main_v5, val_main_v6, val_main_v7, val_main_v8, val_main_v9, val_main_v13, val_main_v14, val_main_v23, val_main_v24, val_main_v25, val_main_cst, val_main_cst_0, val_main_cst_1, val_main_cst_2, val_main_cst_3, val_main_cst_4, val_main_cst_5, val_main_cst_6, val_main_cst_7]
  unfold gainPart
  refine Fin.sum_mul_add_congr fun s k hl => ?_
  have hs : (4 * s.val + 3) % 4 = 3 := by omega
  have hd : (4 * s.val + 3) / 4 = s.val := by omega
  have hlt : 4 * s.val + 3 < cfg0.N := by have := s.isLt; have hN : cfg0.N = 32 := N_0; omega
  rw [show (outsAt0 m c (4 * s.val + 3) hlt).2.2 (ix2 k (j 1)) = _ from acc_block m c ⟨4 * s.val + 3, hlt⟩ hs k (j 1) ⟨s.val * 512 + k.val, hl⟩ (by rw [hd])]
  pointwise [k0_pay5, k0_pay4]
  rw [mul_assoc, mul_comm]
  simp only [x_block m c ⟨4 * s.val + 3, hlt⟩ k _ ⟨s.val * 512 + k.val, hl⟩ (by rw [hd])]
  exact congrArg (fun z => z * _ * _) (x_block m c ⟨4 * s.val + 3, hlt⟩ k (j 1) ⟨s.val * 512 + k.val, hl⟩ (by rw [hd]))

/-- The reference's rows of the call. -/
theorem rows_eq (c : Dev nD) (p : Fin 4096) (R : Fin 8192) (k : Fin 2048) (hR : R.val = p.val + 4096) :
    val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 p k) := by
  have hk := k.isLt
  have hp := p.isLt
  unfold val_main_v49 val_main_v48
  generalize val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = w
  generalize val_main_v47 (F := Ideal) (m ((c : Thread nD τ).loc main_arg5)) = u
  pointwise
  refine (dif_neg (by omega)).trans (congrArg w ?_)
  exact congrArg (fun z => ix3 0 z k) (Fin.ext (by show R.val - 4096 = p.val; omega))

/-- The input's gradient on the rows of the call; the other rows are as the call found them. -/
theorem written_5 (c : Dev nD) : (dats m 0 c).arrAt 5 (cfgs 0).N = fun i => if 8 ≤ (i 0 : ℕ) / 512 then val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else V m c (Pipeline.arrRef spec0 5) i := by
  refine (dats m 0 c).arrAt_eq_of_coversWhere 5 _ (fun β => 8 ≤ β (0 : Fin 2)) (by decide +kernel) (fun t hf y => ?_) (fun j => Iff.rfl)
  have h' : t.val % 4 = 3 := (flush0_5 t).mp hf
  have h : ¬ t.val % 4 = 0 := by omega
  have h2 : ¬ t.val % 32 = 0 := by omega
  have ht : t.val < 32 := lt_of_lt_of_eq t.isLt N_0
  blk_simp; rw [after0_5]
  rw [outsAt0_C m c t h h2 h']; dsimp only; frame_out
  simp only [read_unread_whole]
  rw [acc_now m c t h h2 h']
  refine (point m c t _ (fun r k p h0 => acc_block m c t h' r k p h0) y ⟨t.val / 4 * 512 + (y 0).val, by have := (y 0).isLt; have e : (y 0).val < 512 := this; omega⟩ rfl).trans ?_
  refine (rows_eq m c _ ⟨(t.val / 4 + 8) * 512 + (y 0).val, by have := (y 0).isLt; have e : (y 0).val < 512 := this; omega⟩ (y 1) (by show (t.val / 4 + 8) * 512 + (y 0).val = t.val / 4 * 512 + (y 0).val + 4096; omega)).symm.trans (congrArg _ ?_)
  funext a; apply Fin.ext
  fin_cases a
  · refine Eq.symm ?_; blk_simp [idx t]; rfl
  · refine Eq.symm ?_; blk_simp [idx t]; rfl

/-- The reference's rows of the first call. -/
theorem rows_first (c : Dev nD) (R : Fin 8192) (k : Fin 2048) (hR : R.val < 4096) :
    val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) = m ((c : Thread nD τ).loc main_arg5) (ix3 0 R k) := by
  unfold val_main_v49
  generalize val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = w
  generalize m ((c : Thread nD τ).loc main_arg5) = x5
  pointwise [val_main_v47, val_main_v46]
  refine (dif_pos hR).trans (congrArg x5 ?_)
  rfl

/-- The array handed on, as the call finds it. -/
theorem entry_first (c : Dev nD) (R : Fin 8192) (k : Fin 2048) :
    V m c (Pipeline.arrRef spec0 5) (ix2 R k) = m ((c : Thread nD τ).loc main_arg5) (ix3 0 R k) := by
  show V m c main_v9_0 (ix2 R k) = _
  entry_read
  pointwise

/-- The input's gradient, whole: the second call's rows beside the first call's. -/
theorem final_5 (c : Dev nD) : (dats m 0 c).arrAt 5 (cfgs 0).N = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (written_5 m c).trans (funext fun i => ?_)
  obtain ⟨R, k, rfl⟩ : ∃ (R : Fin 8192) (k : Fin 2048), i = ix2 R k := ⟨i 0, i 1, by funext a; fin_cases a <;> rfl⟩
  show (if 8 ≤ R.val / 512 then _ else _) = _
  split_ifs with h
  · rfl
  · exact (entry_first m c R k).trans (rows_first m c R k (by omega)).symm

end Cert.InProjBIdeal.Value

end
-- ==== Proof.InProjBClaim.lean ====
module

public import proofs.«01_k».proof.Defs
public import proofs.«01_k».proof.Proof.Gen.InProjB.Frame
public import proofs.«01_k».proof.Proof.InProjBValue

@[expose] public section

set_option maxRecDepth 16384

noncomputable section

open Idealize.ShloMosaic Idealize.SL.Sem

namespace Cert.InProjBIdeal.Claims

/-- The printed program runs to its end, leaves its arguments alone and its counters at zero. -/
theorem frame_float : Cert.quiescent_InProjB (hInProjB := Cert.InProjB.Gen.facts) := fun m g _ =>
  Cert.InProjB.Gen.frame m g

/-- So does its idealization. -/
theorem frame_ideal : Cert.quiescent_InProjBIdeal (hInProjBIdeal := Cert.InProjBIdeal.Gen.facts) := fun m g _ =>
  Cert.InProjBIdeal.Gen.frame m g

/-- So does the reference, a straight line of host operations without a counter. -/
theorem frame_reference : Cert.quiescent_InProjBRefIdeal (hInProjBRefIdeal := Cert.InProjBRefIdeal.Gen.facts) := fun m g _ =>
  (θ_run Cert.InProjBRefIdeal.defs _ _).mono (fun r h => ⟨fun c => (h c).2.2, sem_eq_zero_of_no_sems (by decide) r.2⟩)
    (Cert.InProjBRefIdeal.Value.run m g)

/-- Over the reals the kernel's results are the reference's. -/
theorem algebraic : Cert.algebraic_InProjBIdeal_InProjBRefIdeal (hInProjBIdeal := Cert.InProjBIdeal.Gen.facts) (hInProjBRefIdeal := Cert.InProjBRefIdeal.Gen.facts) := by
  intro m g m' g' hpre hagree
  refine ⟨fun c => Cert.InProjBRefIdeal.Read.val_main_v49 (F := Ideal) (m ((c.tc : Thread Cert.InProjBIdeal.nD Cert.InProjBIdeal.τ).loc Cert.InProjBIdeal.main_arg0)) (m ((c.tc : Thread Cert.InProjBIdeal.nD Cert.InProjBIdeal.τ).loc Cert.InProjBIdeal.main_arg1)) (m ((c.tc : Thread Cert.InProjBIdeal.nD Cert.InProjBIdeal.τ).loc Cert.InProjBIdeal.main_arg2)) (m ((c.tc : Thread Cert.InProjBIdeal.nD Cert.InProjBIdeal.τ).loc Cert.InProjBIdeal.main_arg3)) (m ((c.tc : Thread Cert.InProjBIdeal.nD Cert.InProjBIdeal.τ).loc Cert.InProjBIdeal.main_arg4)) (m ((c.tc : Thread Cert.InProjBIdeal.nD Cert.InProjBIdeal.τ).loc Cert.InProjBIdeal.main_arg5)),
    fun c => Cert.InProjBRefIdeal.Read.val_main_v45 (F := Ideal) (m ((c.tc : Thread Cert.InProjBIdeal.nD Cert.InProjBIdeal.τ).loc Cert.InProjBIdeal.main_arg0)) (m ((c.tc : Thread Cert.InProjBIdeal.nD Cert.InProjBIdeal.τ).loc Cert.InProjBIdeal.main_arg1)) (m ((c.tc : Thread Cert.InProjBIdeal.nD Cert.InProjBIdeal.τ).loc Cert.InProjBIdeal.main_arg2)), ?_, ?_⟩
  · exact (θ_run Cert.InProjBIdeal.defs _ _).mono
      (fun _ h c => ⟨(h c).1.trans (Cert.InProjBIdeal.Value.final_5 m c),
        (h c).2.1.trans (Cert.InProjBIdeal.Value.final_6 m c), (h c).2.2⟩)
      (Cert.InProjBIdeal.Value.run_blocks m g)
  · exact (θ_run Cert.InProjBRefIdeal.defs _ _).mono
      (fun _ h c => ⟨(h c).1.trans ((Cert.InProjBRefIdeal.Read.val_main_v49_eq m' c).trans (by rw [(hagree c).1, (hagree c).2.1, (hagree c).2.2.1, (hagree c).2.2.2.1, (hagree c).2.2.2.2.1, (hagree c).2.2.2.2.2])),
        (h c).2.1.trans ((Cert.InProjBRefIdeal.Read.val_main_v45_eq _ _ _).trans (by rw [(hagree c).1, (hagree c).2.1, (hagree c).2.2.1])), (h c).2.2⟩)
      (Cert.InProjBRefIdeal.Value.run m' g')

end Cert.InProjBIdeal.Claims

end
-- ==== Proof.OutProjValue.lean ====
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.OutProjIdeal.Value

open Cert.OutProjIdeal Cert.OutProjIdeal.Gen
open Cert.OutProjRefIdeal.Read

variable (m : (ℓ : Loc nD τ sig) → Buf (Elt Ideal) ℓ)

/-- The block index of every window at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- The sum of the residual and the product, at a row of the block. -/
theorem sum_block (c : Dev nD) (t : Fin cfg0.N) (y : S512x2048.Idx) (p : Fin 8192) (k : Fin 2048) (h0 : p.val = t.val * 512 + (y 0).val) (h1 : k.val = (y 1).val) :
    k0_pay1 (iblk m c 0 t) (iblk m c 1 t) (iblk m c 2 t) y = val_main_v2 (F := Ideal) (m ((c : Thread nD τ).loc main_arg0)) (m ((c : Thread nD τ).loc main_arg1)) (m ((c : Thread nD τ).loc main_arg2)) (ix3 0 p k) := by
  pointwise [k0_pay1, val_main_v2, val_main_v1, val_main_v0]
  blk_point [iblk, V, idx t]

/-- The normed rows of the block. -/
theorem norm_block (c : Dev nD) (t : Fin cfg0.N) (y : S512x2048.Idx) (p : Fin 8192) (k : Fin 2048) (h0 : p.val = t.val * 512 + (y 0).val) (h1 : k.val = (y 1).val) :
    k0_pay2 (iblk m c 0 t) (iblk m c 1 t) (iblk m c 2 t) (iblk m c 3 t) y = val_main_v17 (F := Ideal) (m ((c : Thread nD τ).loc main_arg0)) (m ((c : Thread nD τ).loc main_arg1)) (m ((c : Thread nD τ).loc main_arg2)) (m ((c : Thread nD τ).loc main_arg3)) (ix3 0 p k) := by
  have hs : ∀ j : Fin 2048, k0_pay1 (iblk m c 0 t) (iblk m c 1 t) (iblk m c 2 t) (ix2 (y 0) j) = val_main_v2 (F := Ideal) (m ((c : Thread nD τ).loc main_arg0)) (m ((c : Thread nD τ).loc main_arg1)) (m ((c : Thread nD τ).loc main_arg2)) (ix3 0 p j) :=
    fun j => sum_block m c t (ix2 (y 0) j) p j h0 rfl
  have hy := sum_block m c t y p k h0 h1
  unfold k0_pay2
  generalize k0_pay1 (iblk m c 0 t) (iblk m c 1 t) (iblk m c 2 t) = z at hs hy ⊢
  pointwise [val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  simp only [hs, hy]
  blk_point [iblk, V, idx t]

theorem final_4 (c : Dev nD) : (dats m 0 c).arrAt 4 (cfgs 0).N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 16 := lt_of_lt_of_eq t.isLt N_0
  blk_simp; rw [after0_4]
  frame_out
  have hy : (y 0).val < 512 := (y 0).isLt
  refine (sum_block m c t y ⟨t.val * 512 + (y 0).val, by omega⟩ (y 1) rfl rfl).trans ?_
  pointwise [val_main_v3]
  blk_point [idx t]

theorem final_5 (c : Dev nD) : (dats m 0 c).arrAt 5 (cfgs 0).N = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 16 := lt_of_lt_of_eq t.isLt N_0
  blk_simp; rw [after0_5]
  frame_out
  have hy : (y 0).val < 512 := (y 0).isLt
  refine (norm_block m c t y ⟨t.val * 512 + (y 0).val, by omega⟩ (y 1) rfl rfl).trans ?_
  pointwise [val_main_v19, val_main_v18]
  blk_point [idx t]

end Cert.OutProjIdeal.Value

end
-- ==== Proof.OutProjClaim.lean ====
module

public import proofs.«01_k».proof.Defs
public import proofs.«01_k».proof.Proof.Gen.OutProj.Frame
public import proofs.«01_k».proof.Proof.OutProjValue

@[expose] public section

set_option maxRecDepth 16384

noncomputable section

open Idealize.ShloMosaic Idealize.SL.Sem

namespace Cert.OutProjIdeal.Claims

/-- The printed program runs to its end, leaves its arguments alone and its counters at zero. -/
theorem frame_float : Cert.quiescent_OutProj (hOutProj := Cert.OutProj.Gen.facts) := fun m g _ =>
  Cert.OutProj.Gen.frame m g

/-- So does its idealization. -/
theorem frame_ideal : Cert.quiescent_OutProjIdeal (hOutProjIdeal := Cert.OutProjIdeal.Gen.facts) := fun m g _ =>
  Cert.OutProjIdeal.Gen.frame m g

/-- So does the reference, a straight line of host operations without a counter. -/
theorem frame_reference : Cert.quiescent_OutProjRefIdeal (hOutProjRefIdeal := Cert.OutProjRefIdeal.Gen.facts) := fun m g _ =>
  (θ_run Cert.OutProjRefIdeal.defs _ _).mono (fun r h => ⟨fun c => (h c).2.2, sem_eq_zero_of_no_sems (by decide) r.2⟩)
    (Cert.OutProjRefIdeal.Value.run m g)

/-- Over the reals the kernel's results are the reference's. -/
theorem algebraic : Cert.algebraic_OutProjIdeal_OutProjRefIdeal (hOutProjIdeal := Cert.OutProjIdeal.Gen.facts) (hOutProjRefIdeal := Cert.OutProjRefIdeal.Gen.facts) := by
  intro m g m' g' hpre hagree
  refine ⟨fun c => Cert.OutProjRefIdeal.Read.val_main_v3 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)),
    fun c => Cert.OutProjRefIdeal.Read.val_main_v19 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)), ?_, ?_⟩
  · exact (θ_run Cert.OutProjIdeal.defs _ _).mono
      (fun _ h c => ⟨(h c).1.trans (Cert.OutProjIdeal.Value.final_4 m c),
        (h c).2.1.trans (Cert.OutProjIdeal.Value.final_5 m c), (h c).2.2⟩)
      (Cert.OutProjIdeal.Value.run_blocks m g)
  · exact (θ_run Cert.OutProjRefIdeal.defs _ _).mono
      (fun _ h c => ⟨(h c).1.trans ((Cert.OutProjRefIdeal.Read.val_main_v3_eq _ _ _).trans (by rw [(hagree c).1, (hagree c).2.1, (hagree c).2.2.1])),
        (h c).2.1.trans ((Cert.OutProjRefIdeal.Read.val_main_v19_eq _ _ _ _).trans (by rw [(hagree c).1, (hagree c).2.1, (hagree c).2.2.1, (hagree c).2.2.2])), (h c).2.2⟩)
      (Cert.OutProjRefIdeal.Value.run m' g')

end Cert.OutProjIdeal.Claims

end
-- ==== Proof.InProjValue.lean ====
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InProjIdeal.Value

open Cert.InProjIdeal Cert.InProjIdeal.Gen
open Cert.InProjRefIdeal.Read

variable (m : (ℓ : Loc nD τ sig) → Buf (Elt Ideal) ℓ)

/-- The block index of every window at every grid point. -/
theorem idx : ∀ t : Fin cfg0.N, win0_0.index t = ![t.val / 4, 0]
    ∧ win0_1.index t = ![0, 0]
    ∧ win0_2.index t = ![t.val % 4, 0, 0]
    ∧ win0_3.index t = ![t.val / 4, t.val % 4]
    ∧ win0_4.index t = ![t.val / 4, 0] :=
  (by decide +kernel : ∀ t : Fin grid0.N, _)

/-- The normed rows of the block. -/
theorem norm_block (c : Dev nD) (t : Fin cfg0.N) (y : S1024x2048.Idx) (p : Fin 8192) (k : Fin 2048) (h0 : p.val = t.val / 4 * 1024 + (y 0).val) (h1 : k.val = (y 1).val) :
    k0_pay1 (iblk m c 0 t) (iblk m c 1 t) y = val_main_v13 (F := Ideal) (m ((c : Thread nD τ).loc main_arg0)) (m ((c : Thread nD τ).loc main_arg1)) (ix3 0 p k) := by
  pointwise [k0_pay1, val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  blk_point [iblk, V, idx t]

theorem hsame (v : Vec Ideal S1024x2048 .bf16) (j : S1024x2048.Idx) : k0_pay2 v j = v j := by
  pointwise [k0_pay2]

/-- What the output window of the normed rows holds after every point of a run: they are made at the first and kept. -/
theorem kept (c : Dev nD) : ∀ (n : ℕ) (hn : n < cfg0.N) (y : S1024x2048.Idx) (p : Fin 8192) (k : Fin 2048), p.val = n / 4 * 1024 + (y 0).val → k.val = (y 1).val →
    (outsAt0 m c n hn).2 y = val_main_v13 (F := Ideal) (m ((c : Thread nD τ).loc main_arg0)) (m ((c : Thread nD τ).loc main_arg1)) (ix3 0 p k) := by
  intro n
  induction n with
  | zero =>
    intro hn y p k h0 h1
    rw [show (outsAt0 m c 0 hn) = _ from outsAt0_A m c ⟨0, hn⟩ (by show 0 % 4 = 0; omega) (by show ¬ 1 ≤ 0 % 4; omega)]
    dsimp only; frame_out
    exact norm_block m c ⟨0, hn⟩ y p k h0 h1
  | succ n ih =>
    intro hn y p k h0 h1
    by_cases h : (n + 1) % 4 = 0
    · rw [show (outsAt0 m c (n + 1) hn) = _ from outsAt0_A m c ⟨n + 1, hn⟩ h (by show ¬ 1 ≤ (n + 1) % 4; omega)]
      dsimp only; frame_out
      exact norm_block m c ⟨n + 1, hn⟩ y p k h0 h1
    · rw [show (outsAt0 m c (n + 1) hn) = _ from outsAt0_B m c ⟨n + 1, hn⟩ h (by show 1 ≤ (n + 1) % 4; omega)]
      dsimp only; frame_out
      rw [hsame]
      exact ih (Nat.lt_of_succ_lt hn) y p k (by omega) h1

/-- The product of the normed rows with the weights' block. -/
theorem prod_block (c : Dev nD) (t : Fin cfg0.N) (z : Vec Ideal S1024x2048 .bf16) (y : S1024x768.Idx) (p : Fin 8192) (k : Fin 3072)
    (hz : ∀ j : Fin 2048, z (ix2 (y 0) j) = val_main_v13 (F := Ideal) (m ((c : Thread nD τ).loc main_arg0)) (m ((c : Thread nD τ).loc main_arg1)) (ix3 0 p j)) (h1 : k.val = t.val % 4 * 768 + (y 1).val) :
    k0_pay3 z (iblk m c 2 t) y = val_main_v15 (F := Ideal) (m ((c : Thread nD τ).loc main_arg0)) (m ((c : Thread nD τ).loc main_arg1)) (m ((c : Thread nD τ).loc main_arg2)) (ix3 0 p k) := by
  pointwise [k0_pay3, val_main_v15, val_main_v14]
  simp only [hz]
  blk_point [iblk, V, idx t]

theorem final_4 (c : Dev nD) : (dats m 0 c).arrAt 4 (cfgs 0).N = val_main_v18 (F := Ideal) (m ((c : Thread nD τ).loc main_arg0)) (m ((c : Thread nD τ).loc main_arg1)) := by
  refine (dats m 0 c).arrAt_eq_of_covers 4 _ (by decide +kernel) fun t hf y => ?_
  have ht : t.val < 32 := lt_of_lt_of_eq t.isLt N_0
  have hy : (y 0).val < 1024 := (y 0).isLt
  blk_simp; rw [after0_4]
  refine (kept m c t.val t.isLt y ⟨t.val / 4 * 1024 + (y 0).val, by omega⟩ (y 1) rfl rfl).trans ?_
  pointwise [val_main_v18, val_main_v17]
  blk_point [idx t]

theorem final_3 (c : Dev nD) : (dats m 0 c).arrAt 3 (cfgs 0).N = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 32 := lt_of_lt_of_eq t.isLt N_0
  have hy : (y 0).val < 1024 := (y 0).isLt
  have hy1 : (y 1).val < 768 := (y 1).isLt
  have key : ∀ z : Vec Ideal S1024x2048 .bf16, (∀ j : Fin 2048, z (ix2 (y 0) j) = val_main_v13 (F := Ideal) (m ((c : Thread nD τ).loc main_arg0)) (m ((c : Thread nD τ).loc main_arg1)) (ix3 0 ⟨t.val / 4 * 1024 + (y 0).val, by omega⟩ j)) →
      k0_pay3 z (iblk m c 2 t) y = val_main_v16 (F := Ideal) (m ((c : Thread nD τ).loc main_arg0)) (m ((c : Thread nD τ).loc main_arg1)) (m ((c : Thread nD τ).loc main_arg2)) (((cfg0.win 3).blk t).view.emb y) := fun z hz => by
    refine (prod_block m c t z y _ ⟨t.val % 4 * 768 + (y 1).val, by omega⟩ hz rfl).trans ?_
    pointwise [val_main_v16]
    blk_point [idx t]
  blk_simp; rw [after0_3]
  by_cases h : t.val % 4 = 0
  · rw [outsAt0_A m c t h (by omega)]; dsimp only; frame_out
    exact key _ fun j => norm_block m c t (ix2 (y 0) j) _ j rfl rfl
  · rw [outsAt0_B m c t h (by omega)]; dsimp only; frame_out
    refine key _ fun j => ?_
    rw [hsame]
    exact kept m c (t.val - 1) _ (ix2 (y 0) j) _ j (by show t.val / 4 * 1024 + (y 0).val = (t.val - 1) / 4 * 1024 + (y 0).val; omega) rfl

end Cert.InProjIdeal.Value

end
-- ==== Proof.InProjClaim.lean ====
module

public import proofs.«01_k».proof.Defs
public import proofs.«01_k».proof.Proof.Gen.InProj.Frame
public import proofs.«01_k».proof.Proof.InProjValue

@[expose] public section

set_option maxRecDepth 16384

noncomputable section

open Idealize.ShloMosaic Idealize.SL.Sem

namespace Cert.InProjIdeal.Claims

/-- The printed program runs to its end, leaves its arguments alone and its counters at zero. -/
theorem frame_float : Cert.quiescent_InProj (hInProj := Cert.InProj.Gen.facts) := fun m g _ =>
  Cert.InProj.Gen.frame m g

/-- So does its idealization. -/
theorem frame_ideal : Cert.quiescent_InProjIdeal (hInProjIdeal := Cert.InProjIdeal.Gen.facts) := fun m g _ =>
  Cert.InProjIdeal.Gen.frame m g

/-- So does the reference, a straight line of host operations without a counter. -/
theorem frame_reference : Cert.quiescent_InProjRefIdeal (hInProjRefIdeal := Cert.InProjRefIdeal.Gen.facts) := fun m g _ =>
  (θ_run Cert.InProjRefIdeal.defs _ _).mono (fun r h => ⟨fun c => (h c).2.2, sem_eq_zero_of_no_sems (by decide) r.2⟩)
    (Cert.InProjRefIdeal.Value.run m g)

/-- Over the reals the kernel's results are the reference's. -/
theorem algebraic : Cert.algebraic_InProjIdeal_InProjRefIdeal (hInProjIdeal := Cert.InProjIdeal.Gen.facts) (hInProjRefIdeal := Cert.InProjRefIdeal.Gen.facts) := by
  intro m g m' g' hpre hagree
  refine ⟨fun c => Cert.InProjRefIdeal.Read.val_main_v16 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v18 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)), ?_, ?_⟩
  · exact (θ_run Cert.InProjIdeal.defs _ _).mono
      (fun _ h c => ⟨(h c).1.trans (Cert.InProjIdeal.Value.final_3 m c),
        (h c).2.1.trans (Cert.InProjIdeal.Value.final_4 m c), (h c).2.2⟩)
      (Cert.InProjIdeal.Value.run_blocks m g)
  · exact (θ_run Cert.InProjRefIdeal.defs _ _).mono
      (fun _ h c => ⟨(h c).1.trans ((Cert.InProjRefIdeal.Read.val_main_v16_eq _ _ _).trans (by rw [(hagree c).1, (hagree c).2.1, (hagree c).2.2])),
        (h c).2.1.trans ((Cert.InProjRefIdeal.Read.val_main_v18_eq _ _).trans (by rw [(hagree c).1, (hagree c).2.1])), (h c).2.2⟩)
      (Cert.InProjRefIdeal.Value.run m' g')

end Cert.InProjIdeal.Claims

end
-- ==== Proof.SguFwdValue.lean ====
module

public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.SguVal
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.SguFwdIdeal.Value

open Cert.SguFwdIdeal Cert.SguFwdIdeal.Gen
open Cert.SguFwdRefIdeal.Read
open Cert.SguBwdIdeal.Chunk

variable (m : (ℓ : Loc nD τ sig) → Buf (Elt Ideal) ℓ)

/-! ## The operands of a grid point -/

theorem idx : ∀ t : Fin cfg0.N, win0_0.index t = ![t.val, 1] ∧ win0_1.index t = ![t.val, 2] ∧ win0_2.index t = ![0, 0] ∧ win0_3.index t = ![0, 0] ∧ win0_4.index t = ![0, 0, 0] ∧ win0_5.index t = ![0, 0, 0] ∧ win0_6.index t = ![0, 0] ∧ win0_7.index t = ![t.val, 1] :=
  (by decide +kernel : ∀ t : Fin grid0.N, _)

theorem V_eq (c : Dev nD) (b : Ref sig .tc) : V m c b = StableHlo.after (hostOps0 ++ (hostOps0_1 ++ (hostOps0_2 ++ (hostOps0_3 ++ hostOps0_4)))) (fun b => m (c, b)) (Proc.devRef .tc b) := by
  unfold V
  rw [List.flatten_cons, List.flatten_cons, List.flatten_cons, List.flatten_cons, List.flatten_cons, List.flatten_nil, List.append_nil]

theorem V_z (c : Dev nD) : V m c main_v8 = shapeCast _ (m ((c : Thread nD τ).loc main_arg0)) shapeCasts_S1x8192x3072_S8192x3072 := by
  rw [V_eq]; after_reads_simp; rfl

theorem V_w (c : Dev nD) : V m c main_v11 = Cert.SguBwdRefIdeal.Read.val_main_v5 (F := Ideal) (m ((c : Thread nD τ).loc main_arg4)) := by
  rw [V_eq]; after_reads_simp; rfl

theorem V_b (c : Dev nD) : V m c main_v7 = broadcastInDim S8x128x128 ![0, 1, 2] bcast_S8x128x1_S8x128x128_0_1_2 (broadcastInDim S8x128x1 ![0, 1] bcast_S8x128_S8x128x1_0_1 (shapeCast S8x128 (m ((c : Thread nD τ).loc main_arg5)) shapeCasts_S1x8x128_S8x128)) := by
  rw [V_eq]; after_reads_simp; rfl

/-- The array the call writes into, as it finds it. -/
theorem V_s (c : Dev nD) : V m c main_v12 = (truncf .bf16 (shapeCast S8192x2048 (m ((c : Thread nD τ).loc main_arg1)) shapeCasts_S1x8192x2048_S8192x2048) bitsLt_bf16_f32 : FVec Ideal S8192x2048 .bf16) := by
  rw [V_eq]; after_reads_simp; rfl

theorem z_at (x : FVec Ideal S1x8192x3072 .f32) (i : Fin 8192) (j : Fin 3072) : shapeCast S8192x3072 x shapeCasts_S1x8192x3072_S8192x3072 (ix2 i j) = x (ix3 0 i j) := by
  pointwise

theorem s_at (x : FVec Ideal S1x8192x2048 .f32) (i : Fin 8192) (j : Fin 2048) :
    (truncf .bf16 (shapeCast S8192x2048 x shapeCasts_S1x8192x2048_S8192x2048) bitsLt_bf16_f32 : FVec Ideal S8192x2048 .bf16) (ix2 i j) = x (ix3 0 i j) := by
  pointwise

theorem b_at (x : FVec Ideal S1x8x128 .f32) (h : Fin 8) (p q : Fin 128) :
    broadcastInDim S8x128x128 ![0, 1, 2] bcast_S8x128x1_S8x128x128_0_1_2 (broadcastInDim S8x128x1 ![0, 1] bcast_S8x128_S8x128x1_0_1 (shapeCast S8x128 x shapeCasts_S1x8x128_S8x128)) (ix3 h p q) = x (ix3 0 h p) := by
  pointwise

theorem z_block0 (c : Dev nD) (t : Fin cfg0.N) (y : S512x1024.Idx) (i : Fin 8192) (j : Fin 3072) (h0 : i.val = t.val * 512 + (y 0).val) (h1 : j.val = 1024 + (y 1).val) :
    iblk m c 0 t y = m ((c : Thread nD τ).loc main_arg0) (ix3 0 i j) := by
  have e : (((cfg0.win 0).blk t).view.emb y : S8192x3072.Idx) = ix2 i j := by
    funext a; apply Fin.ext
    fin_cases a
    · refine Eq.trans ?_ h0.symm; blk_simp [idx t]; rfl
    · refine Eq.trans ?_ h1.symm; blk_simp [idx t]; rfl
  exact (congrFun (V_z m c) _).trans ((congrArg _ e).trans (z_at _ _ _))

theorem z_block1 (c : Dev nD) (t : Fin cfg0.N) (y : S512x1024.Idx) (i : Fin 8192) (j : Fin 3072) (h0 : i.val = t.val * 512 + (y 0).val) (h1 : j.val = 2048 + (y 1).val) :
    iblk m c 1 t y = m ((c : Thread nD τ).loc main_arg0) (ix3 0 i j) := by
  have e : (((cfg0.win 1).blk t).view.emb y : S8192x3072.Idx) = ix2 i j := by
    funext a; apply Fin.ext
    fin_cases a
    · refine Eq.trans ?_ h0.symm; blk_simp [idx t]; rfl
    · refine Eq.trans ?_ h1.symm; blk_simp [idx t]; rfl
  exact (congrFun (V_z m c) _).trans ((congrArg _ e).trans (z_at _ _ _))

theorem w_block (c : Dev nD) (t : Fin cfg0.N) (h : Fin 8) (p q : Fin 128) :
    iblk m c 4 t (ix3 h p q) = Cert.SguBwdRefIdeal.Read.val_main_v5 (F := Ideal) (m ((c : Thread nD τ).loc main_arg4)) (ix3 h p q) := by
  show V m c main_v11 (((cfg0.win 4).blk t).view.emb (ix3 h p q)) = _
  rw [V_w]; blk_ext! [idx t]

theorem b_block (c : Dev nD) (t : Fin cfg0.N) (h : Fin 8) (p q : Fin 128) :
    iblk m c 5 t (ix3 h p q) = m ((c : Thread nD τ).loc main_arg5) (ix3 0 h p) := by
  have e : (((cfg0.win 5).blk t).view.emb (ix3 h p q) : S8x128x128.Idx) = ix3 h p q := by
    funext a; apply Fin.ext
    fin_cases a <;> blk_simp [idx t] <;> omega
  exact (congrFun (V_b m c) _).trans ((congrArg _ e).trans (b_at _ _ _ _))

/-- The chunk of 128 rows a grid point works on as its `k`-th. -/
def chunk (t : Fin cfg0.N) (k : Fin 4) : Fin 64 := ⟨4 * t.val + k.val, by
  have h := t.isLt; have hN : cfg0.N = 16 := N_0; have := k.isLt; omega⟩

/-- The operands of a chunk, as the backward call's chunks have them; what only a gradient needs is left at zero. -/
theorem ins (c : Dev nD) (t : Fin cfg0.N) (k : Fin 4) :
    Ins (m ((c : Thread nD τ).loc main_arg0)) (fun _ => (0 : EReal)) (m ((c : Thread nD τ).loc main_arg2)) (m ((c : Thread nD τ).loc main_arg3)) (m ((c : Thread nD τ).loc main_arg4)) (m ((c : Thread nD τ).loc main_arg5)) (m ((c : Thread nD τ).loc main_arg6)) (chunk t k)
      (part (iblk m c 0 t) k) (part (iblk m c 1 t) k) (fun _ => (0 : EReal)) (iblk m c 2 t) (iblk m c 3 t) (iblk m c 6 t) (iblk m c 4 t)
      (fun i => Cert.SguBwdRefIdeal.Read.val_main_v5 (F := Ideal) (m ((c : Thread nD τ).loc main_arg4)) (ix3 (i 0) (i 2) (i 1))) (iblk m c 5 t) := by
  have hk := k.isLt
  have hR : ∀ r : Fin 128, (row (chunk t k) r).val = t.val * 512 + (128 * k.val + r.val) := fun r => by
    show (4 * t.val + k.val) * 128 + r.val = _
    omega
  have hlt : ∀ r : Fin 128, 128 * k.val + r.val < 512 := fun r => by have := r.isLt; omega
  refine ⟨fun r b => ?_, fun r b => ?_, fun r b => rfl, fun b => ?_, fun b => ?_, fun b => ?_, w_block m c t, fun _ _ _ => rfl, b_block m c t⟩
  · rw [part_apply _ k r b ⟨_, hlt r⟩ rfl]; exact z_block0 m c t _ _ _ (hR r) rfl
  · rw [part_apply _ k r b ⟨_, hlt r⟩ rfl]; exact z_block1 m c t _ _ _ (hR r) rfl
  · show V m c main_arg2 (((cfg0.win 2).blk t).view.emb (ix2 0 b)) = _
    rw [V_main_arg2]; blk_ext! [idx t]
  · show V m c main_arg3 (((cfg0.win 3).blk t).view.emb (ix2 0 b)) = _
    rw [V_main_arg3]; blk_ext! [idx t]
  · show V m c main_arg6 (((cfg0.win 6).blk t).view.emb (ix2 0 b)) = _
    rw [V_main_arg6]; blk_ext! [idx t]

/-! ## What a grid point writes -/

/-- The normed rows of one chunk. -/
def rowsOut (zu zv : Rows) (lng lnb go : Row) (wt : FVec Ideal Cert.SguBwdIdeal.S8x128x128 .bf16) (bias : FVec Ideal Cert.SguBwdIdeal.S8x128x128 .f32) : FVec Ideal Cert.SguBwdIdeal.S128x1024 .bf16 :=
  truncf .bf16 (mulf (mulf (Cert.SguBwdIdeal.Chunk.y zu zv lng lnb wt bias) (across (inv (Cert.SguBwdIdeal.Chunk.y zu zv lng lnb wt bias)))) (down go)) bitsLt_bf16_f32

theorem out_eq (c : Dev nD) (i : grid0.Coords) (arg1 : Memref sig .tc .vmem S512x1024 .f32) (harg1 : arg1.IsWhole) (arg2 : Memref sig .tc .vmem S512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S8x128x128 .f32) (harg7 : arg7.IsWhole) (arg8 : Memref sig .tc .vmem S1x1024 .f32) (harg8 : arg8.IsWhole) (arg9 : Memref sig .tc .vmem S512x1024 .bf16) (harg9 : arg9.IsWhole)
    (x0 : Vec Ideal S512x1024 .f32) (x1 : Vec Ideal S512x1024 .f32) (x2 : Vec Ideal S1x1024 .f32) (x3 : Vec Ideal S1x1024 .f32) (x4 : Vec Ideal S8x128x128 .bf16) (x5 : Vec Ideal S8x128x128 .f32) (x6 : Vec Ideal S1x1024 .f32) (j : S512x1024.Idx) :
    out0_A_7 c i arg1 harg1 arg2 harg2 arg4 harg4 arg5 harg5 arg6 harg6 arg7 harg7 arg8 harg8 arg9 harg9 x0 x1 x2 x3 x4 x5 x6 j =
      (fun g : Fin 4 → FVec Ideal Cert.SguBwdIdeal.S128x1024 .bf16 => View.canon (Val := Elt Ideal) (s := S512x1024) (e := .bf16) [⟨rows 3, g 3⟩, ⟨rows 2, g 2⟩, ⟨rows 1, g 1⟩, ⟨rows 0, g 0⟩] j)
      (fun k => rowsOut (part x0 k) (part x1 k) x2 x3 x6 x4 x5) := by
  frame_out
  conv_lhs => simp only [cat8_eq, Memref.IsWhole.read_unread, ld_row]
  sl_kernel_rfl

/-! ## The reference's values are those the backward reference computes on its way -/

theorem w_same (x4 : FVec Ideal S1x8x128x128 .f32) : val_main_v8 (F := Ideal) x4 = Cert.SguBwdRefIdeal.Read.val_main_v5 (F := Ideal) x4 := rfl
theorem gelu_same (x0 : FVec Ideal S1x8192x3072 .f32) : val_main_v22 (F := Ideal) x0 = Cert.SguBwdRefIdeal.Read.val_main_v30 (F := Ideal) x0 := rfl
theorem y_same (x0 : FVec Ideal S1x8192x3072 .f32) (x2 x3 : FVec Ideal S1x1024 .f32) (x4 : FVec Ideal S1x8x128x128 .f32) (x5 : FVec Ideal S1x8x128 .f32) :
    val_main_v58 (F := Ideal) x0 x2 x3 x4 x5 = Cert.SguBwdRefIdeal.Read.val_main_v71 (F := Ideal) x0 x2 x3 x4 x5 := rfl
theorem inv_same (x0 : FVec Ideal S1x8192x3072 .f32) (x2 x3 : FVec Ideal S1x1024 .f32) (x4 : FVec Ideal S1x8x128x128 .f32) (x5 : FVec Ideal S1x8x128 .f32) :
    val_main_v68 (F := Ideal) x0 x2 x3 x4 x5 = Cert.SguBwdRefIdeal.Read.val_main_v80 (F := Ideal) x0 x2 x3 x4 x5 := rfl

theorem rowsOut_eq (c : Dev nD) (t : Fin cfg0.N) (k : Fin 4) (r : Fin 128) (b : Fin 1024) :
    rowsOut (part (iblk m c 0 t) k) (part (iblk m c 1 t) k) (iblk m c 2 t) (iblk m c 3 t) (iblk m c 6 t) (iblk m c 4 t) (iblk m c 5 t) (ix2 r b) =
      val_main_v73 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix3 0 (row (chunk t k) r) b) := by
  have I := ins m c t k
  have hy := y_eq I r b
  have hi := inv_y I r
  have hg := I.hgo b
  rw [← y_same] at hy
  rw [← inv_same] at hi
  pointwise [rowsOut]
  rw [across_apply, down_apply, hy, hi, hg]
  pointwise [val_main_v73, val_main_v72, val_main_v71, val_main_v70, val_main_v69, val_main_v60]

theorem tail_eq (c : Dev nD) (R : Fin 8192) (k : Fin 2048) (j : Fin 1024) (hj : k.val = 1024 + j.val) :
    val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R k) = val_main_v73 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (ix3 0 R j) := by
  pointwise [val_main_v76, val_main_v75]
  unfold val_main_v74
  generalize val_main_v73 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) = w
  generalize val_main_v59 (F := Ideal) (m ((c : Thread nD τ).loc main_arg1)) = x
  pointwise
  refine (dif_neg (by omega)).trans (congrArg w ?_)
  exact congrArg (ix3 0 R) (Fin.ext (by show k.val - 1024 = j.val; omega))

theorem head_eq (c : Dev nD) (R : Fin 8192) (k : Fin 2048) (hk : k.val < 1024) :
    val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R k) = m ((c : Thread nD τ).loc main_arg1) (ix3 0 R k) := by
  have e : val_main_v59 (F := Ideal) (m ((c : Thread nD τ).loc main_arg1)) (ix3 0 R ⟨k.val, hk⟩) = m ((c : Thread nD τ).loc main_arg1) (ix3 0 R k) := by
    pointwise [val_main_v59]
  rw [← e]
  pointwise [val_main_v76, val_main_v75]
  unfold val_main_v74
  generalize val_main_v73 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) = w
  generalize val_main_v59 (F := Ideal) (m ((c : Thread nD τ).loc main_arg1)) = x
  pointwise
  exact dif_pos hk

theorem entry_eq (c : Dev nD) (R : Fin 8192) (k : Fin 2048) :
    V m c main_v12 (ix2 R k) = m ((c : Thread nD τ).loc main_arg1) (ix3 0 R k) :=
  (congrFun (V_s m c) _).trans (s_at _ _ _)

/-- The mixed rows: the state space model's columns as they were given, the others written. -/
theorem final_7 (c : Dev nD) : (dats m 0 c).arrAt 7 (cfgs 0).N = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : (dats m 0 c).arrAt 7 cfg0.N = fun i => if (i 1 : ℕ) / 1024 = 1 then val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i else V m c main_v12 i := by
    refine (dats m 0 c).arrAt_eq_of_coversWhere 7 _ (fun β => β (1 : Fin 2) = 1) (by decide +kernel) (fun t hf y => ?_) (fun j => Iff.rfl)
    blk_simp
    rw [after0_7]
    obtain ⟨R, b, rfl⟩ : ∃ (R : Fin 512) (b : Fin 1024), y = ix2 R b := ⟨y 0, y 1, by funext a; fin_cases a <;> rfl⟩
    have ht : t.val < 16 := lt_of_lt_of_eq t.isLt N_0
    have hR := R.isLt
    have hb := b.isLt
    have he : ∀ (i : Fin 8192) (j : Fin 2048), i.val = t.val * 512 + R.val → j.val = 1024 + b.val →
        (ix2 i j : S8192x2048.Idx) = ((cfg0.win 7).blk t).view.emb (ix2 R b) := fun i j h0 h1 => by
      funext a; apply Fin.ext
      fin_cases a
      · refine Eq.trans h0 ?_; blk_simp [idx t]; rfl
      · refine Eq.trans h1 ?_; blk_simp [idx t]; rfl
    unfold outsAt0
    rw [out_eq]
    refine (block_apply (fun k => rowsOut (part (iblk m c 0 t) k) (part (iblk m c 1 t) k) (iblk m c 2 t) (iblk m c 3 t) (iblk m c 6 t) (iblk m c 4 t) (iblk m c 5 t)) ⟨R.val / 128, by omega⟩ ⟨R.val % 128, by omega⟩ b R (by show R.val = 128 * (R.val / 128) + R.val % 128; omega)).trans ?_
    refine (rowsOut_eq m c t _ _ _).trans ((tail_eq m c _ ⟨1024 + b.val, by omega⟩ b rfl).symm.trans (congrArg _ (he _ _ ?_ rfl)))
    show (4 * t.val + R.val / 128) * 128 + R.val % 128 = _
    omega
  refine e.trans (funext fun i => ?_)
  obtain ⟨R, k, rfl⟩ : ∃ (R : Fin 8192) (k : Fin 2048), i = ix2 R k := ⟨i 0, i 1, by funext a; fin_cases a <;> rfl⟩
  show (if k.val / 1024 = 1 then _ else _) = _
  have hk := k.isLt
  split_ifs with h
  · rfl
  · exact (entry_eq m c R k).trans (head_eq m c R k (by omega)).symm

end Cert.SguFwdIdeal.Value

end
-- ==== Proof.SguFwdClaim.lean ====
module

public import proofs.«01_k».proof.Defs
public import proofs.«01_k».proof.Proof.Gen.SguFwd.Frame
public import proofs.«01_k».proof.Proof.SguFwdValue

@[expose] public section

set_option maxRecDepth 16384

noncomputable section

open Idealize.ShloMosaic Idealize.SL.Sem

namespace Cert.SguFwdIdeal.Claims

/-- The printed program runs to its end, leaves its arguments alone and its counters at zero. -/
theorem frame_float : Cert.quiescent_SguFwd (hSguFwd := Cert.SguFwd.Gen.facts) := fun m g _ =>
  Cert.SguFwd.Gen.frame m g

/-- So does its idealization. -/
theorem frame_ideal : Cert.quiescent_SguFwdIdeal (hSguFwdIdeal := Cert.SguFwdIdeal.Gen.facts) := fun m g _ =>
  Cert.SguFwdIdeal.Gen.frame m g

/-- So does the reference, a straight line of host operations without a counter. -/
theorem frame_reference : Cert.quiescent_SguFwdRefIdeal (hSguFwdRefIdeal := Cert.SguFwdRefIdeal.Gen.facts) := fun m g _ =>
  (θ_run Cert.SguFwdRefIdeal.defs _ _).mono (fun r h => ⟨fun c => (h c).2, sem_eq_zero_of_no_sems (by decide) r.2⟩)
    (Cert.SguFwdRefIdeal.Value.run m g)

/-- Over the reals the kernel's results are the reference's. -/
theorem algebraic : Cert.algebraic_SguFwdIdeal_SguFwdRefIdeal (hSguFwdIdeal := Cert.SguFwdIdeal.Gen.facts) (hSguFwdRefIdeal := Cert.SguFwdRefIdeal.Gen.facts) := by
  intro m g m' g' hpre hagree
  refine ⟨fun c => Cert.SguFwdRefIdeal.Read.val_main_v76 (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)), ?_, ?_⟩
  · exact (θ_run Cert.SguFwdIdeal.defs _ _).mono
      (fun _ h c => ⟨(h c).1.trans (Cert.SguFwdIdeal.Value.final_7 m c), (h c).2⟩)
      (Cert.SguFwdIdeal.Value.run_blocks m g)
  · exact (θ_run Cert.SguFwdRefIdeal.defs _ _).mono
      (fun _ h c => ⟨(h c).1.trans ((Cert.SguFwdRefIdeal.Read.val_main_v76_eq m' c).trans (by rw [(hagree c).1, (hagree c).2.1, (hagree c).2.2.1, (hagree c).2.2.2.1, (hagree c).2.2.2.2.1, (hagree c).2.2.2.2.2.1, (hagree c).2.2.2.2.2.2])), (h c).2⟩)
      (Cert.SguFwdRefIdeal.Value.run m' g')

end Cert.SguFwdIdeal.Claims

end
-- ==== Proof.GluFwdValue.lean ====
module

public import proofs.«01_k».proof.Proof.Gen.GluFwdIdeal.Value
public import proofs.«01_k».proof.Proof.Gen.GluFwdRefIdeal.Run
public import proofs.«01_k».proof.Proof.Gen.GluFwdRefIdeal.Read
public import Idealize.ShloMosaic.Lib.Pipeline.ValueKit
public import Idealize.ShloMosaic.Lib.Pipeline.ReadBack
public import proofs.«01_k».proof.Proof.Finite
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GluFwdIdeal.Value

open Cert.GluFwdIdeal Cert.GluFwdIdeal.Gen
open Cert.GluFwdRefIdeal.Read

variable (m : (ℓ : Loc nD τ sig) → Buf (Elt Ideal) ℓ)

/-- The block index of every window at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- The product of the GELU's two constants, which the idealization names. -/
theorem lit_kc : (Named.named κ "gelu_kc" 1024598649#32 : Ideal .f32) = ((80338380498831 / 2251799813685248 : ℝ) : EReal) :=
  IdealRules.named_const.ideal_named_scalar _ _ _ _ rfl

/-- The activation as the body writes it. -/
def act (z : Vec Ideal S512x1024 .f32) : FVec Ideal S512x1024 .f32 := fun y =>
  Ideal.ofBits .f32 1056964608#32 * z y * (1 + Ideal.tanh (z y * (Ideal.ofBits .f32 1061962282#32 + ((80338380498831 / 2251799813685248 : ℝ) : EReal) * (z y * z y))))

/-- The activation's block is the reference's at the row. -/
theorem gelu_block (c : Dev nD) (t : Fin cfg0.N) (y : S512x1024.Idx) (p : Fin 8192) (k : Fin 1024) (h0 : p.val = t.val * 512 + (y 0).val) (h1 : k.val = (y 1).val) :
    act (iblk m c 0 t) y = val_main_v12 (F := Ideal) (m ((c : Thread nD τ).loc main_arg0)) (ix3 0 p k) := by
  have e : iblk m c 0 t y = m ((c : Thread nD τ).loc main_arg0) (ix3 0 p k) := by
    blk_point [iblk, V, idx t]
  unfold act
  pointwise [val_main_v0, val_main_v1, val_main_v2, val_main_v3, val_main_v4, val_main_v5, val_main_v6, val_main_v7, val_main_v8, val_main_v9, val_main_v10, val_main_v11, val_main_v12, val_main_cst, val_main_cst_0, val_main_cst_1, val_main_cst_2, val_main_cst_3, val_main_cst_4, val_main_cst_5, val_main_cst_6, val_main_cst_7]
  rw [Cert.Fin'.gelu_angle, e]
  ac_rfl

/-- The gated activation, from the activation. -/
theorem gated_block (c : Dev nD) (t : Fin cfg0.N) (y : S512x1024.Idx) (p : Fin 8192) (k : Fin 1024) (h0 : p.val = t.val * 512 + (y 0).val) (h1 : k.val = (y 1).val) :
    act (iblk m c 0 t) y * Ideal.div 1 (1 + Ideal.exp (-(∑ j : Fin 1024, act (iblk m c 0 t) (ix2 (y 0) j) * (iblk m c 1 t : Vec Ideal S1024x1024 .bf16) (ix2 j (y 1)) + (iblk m c 2 t : Vec Ideal S1x1024 .f32) (ix2 0 (y 1)))))
      = val_main_v25 (F := Ideal) (m ((c : Thread nD τ).loc main_arg0)) (m ((c : Thread nD τ).loc main_arg1)) (m ((c : Thread nD τ).loc main_arg2)) (ix3 0 p k) := by
  have hz : ∀ j : Fin 1024, act (iblk m c 0 t) (ix2 (y 0) j) = val_main_v12 (F := Ideal) (m ((c : Thread nD τ).loc main_arg0)) (ix3 0 p j) := fun j => gelu_block m c t (ix2 (y 0) j) p j h0 rfl
  rw [gelu_block m c t y p k h0 h1]
  simp only [hz]
  pointwise [val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, val_main_cst_3, val_main_cst_4, val_main_cst_5, val_main_cst_6, val_main_cst_7]
  blk_point [iblk, V, idx t]

/-- The normed rows. -/
theorem norm_block (c : Dev nD) (t : Fin cfg0.N) (y : S512x1024.Idx) (p : Fin 8192) (k : Fin 1024) (h0 : p.val = t.val * 512 + (y 0).val) (h1 : k.val = (y 1).val) :
    k0_pay2 (iblk m c 0 t) (iblk m c 1 t) (iblk m c 2 t) y = val_main_v36 (F := Ideal) (m ((c : Thread nD τ).loc main_arg0)) (m ((c : Thread nD τ).loc main_arg1)) (m ((c : Thread nD τ).loc main_arg2)) (ix3 0 p k) := by
  have hz : ∀ j : Fin 1024, act (iblk m c 0 t) (ix2 (y 0) j) * Ideal.div 1 (1 + Ideal.exp (-(∑ i : Fin 1024, act (iblk m c 0 t) (ix2 (y 0) i) * (iblk m c 1 t : Vec Ideal S1024x1024 .bf16) (ix2 i j) + (iblk m c 2 t : Vec Ideal S1x1024 .f32) (ix2 0 j)))) = val_main_v25 (F := Ideal) (m ((c : Thread nD τ).loc main_arg0)) (m ((c : Thread nD τ).loc main_arg1)) (m ((c : Thread nD τ).loc main_arg2)) (ix3 0 p j) := fun j => gated_block m c t (ix2 (y 0) j) p j h0 rfl
  have hy := gated_block m c t y p k h0 h1
  pointwise [k0_pay2, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6, val_main_cst_7]
  rw [lit_kc]
  unfold act at hz hy
  simp only [sub_eq_add_neg, zero_add, hz, hy]

theorem first_cols (c : Dev nD) (p : Fin 8192) (k : Fin 1024) (R : Fin 2048) (hR : R.val = k.val) :
    val_main_v43 (F := Ideal) (m ((c : Thread nD τ).loc main_arg0)) (m ((c : Thread nD τ).loc main_arg1)) (m ((c : Thread nD τ).loc main_arg2)) (m ((c : Thread nD τ).loc main_arg3)) (ix2 p R) = val_main_v39 (F := Ideal) (m ((c : Thread nD τ).loc main_arg0)) (m ((c : Thread nD τ).loc main_arg1)) (m ((c : Thread nD τ).loc main_arg2)) (m ((c : Thread nD τ).loc main_arg3)) (ix3 0 p k) := by
  have hk := k.isLt
  unfold val_main_v43 val_main_v41 val_main_v40
  generalize val_main_v39 (F := Ideal) (m ((c : Thread nD τ).loc main_arg0)) (m ((c : Thread nD τ).loc main_arg1)) (m ((c : Thread nD τ).loc main_arg2)) (m ((c : Thread nD τ).loc main_arg3)) = w
  pointwise [val_main_v42]
  refine (dif_pos (by omega)).trans (congrArg w ?_)
  exact congrArg (fun z => ix3 0 p z) (Fin.ext (by exact hR))

theorem final_4 (c : Dev nD) : (dats m 0 c).arrAt 4 (cfgs 0).N = fun i => if (i 1 : ℕ) / 1024 < 1 then val_main_v43 (F := Ideal) (m ((c : Thread nD τ).loc main_arg0)) (m ((c : Thread nD τ).loc main_arg1)) (m ((c : Thread nD τ).loc main_arg2)) (m ((c : Thread nD τ).loc main_arg3)) i else V m c (Pipeline.arrRef spec0 4) i := by
  refine (dats m 0 c).arrAt_eq_of_coversWhere 4 _ (fun β => β (1 : Fin 2) < 1) (by decide +kernel) (fun t hf y => ?_) (fun j => Iff.rfl)
  have ht : t.val < 16 := lt_of_lt_of_eq t.isLt N_0
  blk_simp; rw [after0_4]
  frame_out
  have hy : (y 0).val < 512 := (y 0).isLt
  have hy1 : (y 1).val < 1024 := (y 1).isLt
  have e := norm_block m c t y ⟨t.val * 512 + (y 0).val, by omega⟩ (y 1) rfl rfl
  refine Eq.trans ?_ ((first_cols m c ⟨t.val * 512 + (y 0).val, by omega⟩ (y 1) ⟨(y 1).val, by omega⟩ rfl).symm.trans (congrArg _ ?_))
  · unfold k0_pay1
    generalize k0_pay2 (iblk m c 0 t) (iblk m c 1 t) (iblk m c 2 t) = z at e ⊢
    pointwise [val_main_v37, val_main_v38, val_main_v39, val_main_v26]
    rw [e]
    blk_point [iblk, V, idx t]
  · funext a; apply Fin.ext
    fin_cases a
    · refine Eq.symm ?_; blk_simp [idx t]; rfl
    · refine Eq.symm ?_; blk_simp [idx t]; rfl

end Cert.GluFwdIdeal.Value

end
-- ==== Proof.GluFwdClaim.lean ====
module

public import proofs.«01_k».proof.Defs
public import proofs.«01_k».proof.Proof.Gen.GluFwd.Frame
public import proofs.«01_k».proof.Proof.Gen.On_first_columns
public import proofs.«01_k».proof.Proof.GluFwdValue

@[expose] public section

set_option maxRecDepth 16384

noncomputable section

open Idealize.ShloMosaic Idealize.SL.Sem

namespace Cert.GluFwdIdeal.Claims

/-- The printed program runs to its end, leaves its arguments alone and its counters at zero. -/
theorem frame_float : Cert.quiescent_GluFwd (hGluFwd := Cert.GluFwd.Gen.facts) := fun m g _ =>
  Cert.GluFwd.Gen.frame m g

/-- So does its idealization. -/
theorem frame_ideal : Cert.quiescent_GluFwdIdeal (hGluFwdIdeal := Cert.GluFwdIdeal.Gen.facts) := fun m g _ =>
  Cert.GluFwdIdeal.Gen.frame m g

/-- So does the reference, a straight line of host operations without a counter. -/
theorem frame_reference : Cert.quiescent_GluFwdRefIdeal (hGluFwdRefIdeal := Cert.GluFwdRefIdeal.Gen.facts) := fun m g _ =>
  (θ_run Cert.GluFwdRefIdeal.defs _ _).mono (fun r h => ⟨fun c => (h c).2, sem_eq_zero_of_no_sems (by decide) r.2⟩)
    (Cert.GluFwdRefIdeal.Value.run m g)

/-- The mask asks for the columns of the first half. -/
theorem mask_column [Cert.On_first_columns.Facts] (x0 : FVec Ideal Cert.On_first_columns.S1x8192x1024 .f32) (x1 : FVec Ideal Cert.On_first_columns.S1x1024x1024 .f32) (x2 x3 : FVec Ideal Cert.On_first_columns.S1x1024 .f32)
    (i : Cert.On_first_columns.S8192x2048.Idx) (h : Cert.On_first_columns.fn (F := Ideal) x0 x1 x2 x3 i = 1#1) : (i 1 : ℕ) / 1024 < 1 := by
  have hi : (i 1).val < 2048 := (i 1).isLt
  have h' : BitVec.ofBool ((BitVec.ofNat 32 (i 1).val).slt 1024#32) = 1#1 := h
  by_contra hc
  have hs : (BitVec.ofNat 32 (i 1).val).slt 1024#32 = false := by
    rw [BitVec.slt_eq_decide, decide_eq_false_iff_not, BitVec.toInt_eq_toNat_of_lt, BitVec.toInt_eq_toNat_of_lt]
    · simp only [BitVec.toNat_ofNat]
      omega
    · decide
    · simp only [BitVec.toNat_ofNat]
      omega
  rw [hs] at h'
  exact absurd h' (by decide)

/-- Over the reals the kernel's results are the reference's, on the columns the call writes. -/
theorem algebraic : Cert.algebraic_GluFwdIdeal_GluFwdRefIdeal_on_first_columns (hGluFwdIdeal := Cert.GluFwdIdeal.Gen.facts) (hGluFwdRefIdeal := Cert.GluFwdRefIdeal.Gen.facts) (hOn_first_columns := Cert.On_first_columns.Gen.facts) := by
  intro m g m' g' hpre hagree
  refine ⟨fun c => Cert.GluFwdRefIdeal.Read.val_main_v43 (F := Ideal) (m ((c.tc : Thread Cert.GluFwdIdeal.nD Cert.GluFwdIdeal.τ).loc Cert.GluFwdIdeal.main_arg0)) (m ((c.tc : Thread Cert.GluFwdIdeal.nD Cert.GluFwdIdeal.τ).loc Cert.GluFwdIdeal.main_arg1)) (m ((c.tc : Thread Cert.GluFwdIdeal.nD Cert.GluFwdIdeal.τ).loc Cert.GluFwdIdeal.main_arg2)) (m ((c.tc : Thread Cert.GluFwdIdeal.nD Cert.GluFwdIdeal.τ).loc Cert.GluFwdIdeal.main_arg3)), ?_, ?_⟩
  · exact (θ_run Cert.GluFwdIdeal.defs _ _).mono
      (fun _ h c => ⟨fun i hi => (congrFun ((h c).1.trans (Cert.GluFwdIdeal.Value.final_4 m c)) i).trans (if_pos (mask_column _ _ _ _ i hi)), (h c).2⟩)
      (Cert.GluFwdIdeal.Value.run_blocks m g)
  · exact (θ_run Cert.GluFwdRefIdeal.defs _ _).mono
      (fun _ h c => ⟨fun i _ => congrFun ((h c).1.trans ((Cert.GluFwdRefIdeal.Read.val_main_v43_eq m' c).trans (by rw [(hagree c).1, (hagree c).2.1, (hagree c).2.2.1, (hagree c).2.2.2]))) i, (h c).2⟩)
      (Cert.GluFwdRefIdeal.Value.run m' g')

end Cert.GluFwdIdeal.Claims

end
-- ==== Proof.MlpUpValue.lean ====
module

public import proofs.«01_k».proof.Proof.Gen.MlpUpIdeal.Value
public import proofs.«01_k».proof.Proof.Gen.MlpUpRefIdeal.Run
public import proofs.«01_k».proof.Proof.Gen.MlpUpRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MlpUpIdeal.Value

open Cert.MlpUpIdeal Cert.MlpUpIdeal.Gen
open Cert.MlpUpRefIdeal.Read

variable (m : (ℓ : Loc nD τ sig) → Buf (Elt Ideal) ℓ)

/-- The block index of every window at every grid point. -/
theorem idx : ∀ t : Fin cfg0.N, win0_0.index t = ![t.val / 4, 0]
    ∧ win0_1.index t = ![t.val % 4, 0, 0]
    ∧ win0_2.index t = ![t.val / 4, t.val % 4] :=
  (by decide +kernel : ∀ t : Fin grid0.N, _)

theorem final_2 (c : Dev nD) : (dats m 0 c).arrAt 2 (cfgs 0).N = val_main_v3 (F := Ideal) (m ((c : Thread nD τ).loc main_arg0)) (m ((c : Thread nD τ).loc main_arg1)) := by
  refine (dats m 0 c).arrAt_eq_of_covers 2 _ (by decide +kernel) fun t hf y => ?_
  have ht : t.val < 32 := lt_of_lt_of_eq t.isLt N_0
  blk_simp; rw [after0_2]
  frame_out
  pointwise [k0_pay1, val_main_v3, val_main_v2, val_main_v1, val_main_v0]
  blk_point [iblk, V, idx t]

end Cert.MlpUpIdeal.Value

end
-- ==== Proof.MlpUpClaim.lean ====
module

public import proofs.«01_k».proof.Defs
public import proofs.«01_k».proof.Proof.Gen.MlpUp.Frame
public import proofs.«01_k».proof.Proof.MlpUpValue

@[expose] public section

set_option maxRecDepth 16384

noncomputable section

open Idealize.ShloMosaic Idealize.SL.Sem

namespace Cert.MlpUpIdeal.Claims

/-- The printed program runs to its end, leaves its arguments alone and its counters at zero. -/
theorem frame_float : Cert.quiescent_MlpUp (hMlpUp := Cert.MlpUp.Gen.facts) := fun m g _ =>
  Cert.MlpUp.Gen.frame m g

/-- So does its idealization. -/
theorem frame_ideal : Cert.quiescent_MlpUpIdeal (hMlpUpIdeal := Cert.MlpUpIdeal.Gen.facts) := fun m g _ =>
  Cert.MlpUpIdeal.Gen.frame m g

/-- So does the reference, a straight line of host operations without a counter. -/
theorem frame_reference : Cert.quiescent_MlpUpRefIdeal (hMlpUpRefIdeal := Cert.MlpUpRefIdeal.Gen.facts) := fun m g _ =>
  (θ_run Cert.MlpUpRefIdeal.defs _ _).mono (fun r h => ⟨fun c => (h c).2, sem_eq_zero_of_no_sems (by decide) r.2⟩)
    (Cert.MlpUpRefIdeal.Value.run m g)

/-- Over the reals the kernel's results are the reference's. -/
theorem algebraic : Cert.algebraic_MlpUpIdeal_MlpUpRefIdeal (hMlpUpIdeal := Cert.MlpUpIdeal.Gen.facts) (hMlpUpRefIdeal := Cert.MlpUpRefIdeal.Gen.facts) := by
  intro m g m' g' hpre hagree
  refine ⟨fun c => Cert.MlpUpRefIdeal.Read.val_main_v3 (F := Ideal) (m ((c.tc : Thread Cert.MlpUpIdeal.nD Cert.MlpUpIdeal.τ).loc Cert.MlpUpIdeal.main_arg0)) (m ((c.tc : Thread Cert.MlpUpIdeal.nD Cert.MlpUpIdeal.τ).loc Cert.MlpUpIdeal.main_arg1)), ?_, ?_⟩
  · exact (θ_run Cert.MlpUpIdeal.defs _ _).mono
      (fun _ h c => ⟨(h c).1.trans (Cert.MlpUpIdeal.Value.final_2 m c), (h c).2⟩)
      (Cert.MlpUpIdeal.Value.run_blocks m g)
  · exact (θ_run Cert.MlpUpRefIdeal.defs _ _).mono
      (fun _ h c => ⟨(h c).1.trans ((Cert.MlpUpRefIdeal.Read.val_main_v3_eq _ _).trans (by rw [(hagree c).1, (hagree c).2])), (h c).2⟩)
      (Cert.MlpUpRefIdeal.Value.run m' g')

end Cert.MlpUpIdeal.Claims

end
-- ==== Proof.GradWValue.lean ====
module

public import proofs.«01_k».proof.Proof.Gen.GradWIdeal.Value
public import proofs.«01_k».proof.Proof.Gen.GradWRefIdeal.Run
public import proofs.«01_k».proof.Proof.Gen.GradWRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GradWIdeal.Value

open Cert.GradWIdeal Cert.GradWIdeal.Gen
open Cert.GradWRefIdeal.Read

variable (m : (ℓ : Loc nD τ sig) → Buf (Elt Ideal) ℓ)

/-- The block index of every window at every grid point. -/
theorem idx : ∀ t : Fin cfg0.N, win0_0.index t = ![t.val % 4, t.val / 4]
    ∧ win0_1.index t = ![t.val % 4, 0]
    ∧ win0_2.index t = ![t.val / 4 / 2, t.val / 4 % 2, 0, 0] :=
  (by decide +kernel : ∀ t : Fin grid0.N, _)

/-- The zero fill. -/
theorem hzero (j : S1024x2048.Idx) : k0_pay1 (F := Ideal) j = 0 := by
  pointwise! [k0_pay1]

/-- One point adds the product of the activation's block with the cotangent's block. -/
theorem hpay (u : Vec Ideal S2048x1024 .bf16) (z : Vec Ideal S1024x2048 .f32) (d : Vec Ideal S2048x2048 .bf16) (j : S1024x2048.Idx) :
    k0_pay2 u z d j = z j + ∑ k : Fin 2048, max (u (ix2 k (j 0))) 0 * max (u (ix2 k (j 0))) 0 * d (ix2 k (j 1)) := by
  pointwise [k0_pay2]

/-- The accumulator at the last point of a run: the product over all rows. -/
theorem acc_block (c : Dev nD) (t : Fin cfg0.N) (ht : t.val % 4 = 3) (j : S1024x2048.Idx) (p : Fin 8192) (k : Fin 2048) (h0 : p.val = t.val / 4 * 1024 + (j 0).val) (h1 : k.val = (j 1).val) :
    (outsAt0 m c t.val t.isLt).2 j = val_main_v5 (F := Ideal) (m ((c : Thread nD τ).loc main_arg0)) (m ((c : Thread nD τ).loc main_arg1)) (ix2 p k) := by
  rw [Pipeline.eq_sum_fin_of_reset_step_apply_of_flush (fun n h => (outsAt0 m c n h).2) 4 (fun _ => 0) _
    (fun t h j => by
      have h' : ¬ t.val % 4 = 3 := by omega
      rw [outsAt0_A m c t h h']; frame_out; rw [hpay, hzero])
    (fun t h j => by
      by_cases h' : t.val % 4 = 3
      · rw [outsAt0_C m c t h h']; frame_out; rw [hpay]; simp only [read_unread_whole]
      · rw [outsAt0_B m c t h h']; frame_out; rw [hpay]; simp only [read_unread_whole])
    t ht _, zero_add]
  pointwise [val_main_v5, val_main_v4, val_main_v2, val_main_v1, val_main_call0_v0, val_main_call0_cst]
  rw [Fin.sum_univ_one]
  refine Fin.sum_mul_add_congr fun s q hl => ?_
  rw [mul_comm]
  blk_point [iblk, V, idx ⟨_, Pipeline.run_point_lt_of_flush t ht s⟩]

/-- What the last point of a run sees of the accumulator. -/
theorem acc_now (c : Dev nD) (t : Fin cfg0.N) (h : ¬ t.val % 4 = 0) (h' : t.val % 4 = 3) :
    k0_pay2 (iblk m c 0 t) (outsAt0 m c (t.val - 1) (Nat.lt_of_le_of_lt (Nat.sub_le _ _) t.isLt)).2 (iblk m c 1 t) = (outsAt0 m c t.val t.isLt).2 := by
  rw [outsAt0_C m c t h h']; dsimp only; frame_out
  simp only [read_unread_whole]

theorem final_2 (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  have h' : t.val % 4 = 3 := (flush0_2 t).mp hf
  have h : ¬ t.val % 4 = 0 := by omega
  have ht : t.val < 32 := lt_of_lt_of_eq t.isLt N_0
  blk_simp; rw [after0_2]
  rw [outsAt0_C m c t h h']; dsimp only; frame_out
  simp only [read_unread_whole]
  rw [acc_now m c t h h']
  have hy : (y 2).val < 1024 := (y 2).isLt
  pointwise [k0_pay3]
  refine (acc_block m c t h' _ ⟨t.val / 4 * 1024 + (y 2).val, by omega⟩ (y 3) rfl rfl).trans ?_
  pointwise [val_main_v7, val_main_v6]
  blk_point [idx t]

end Cert.GradWIdeal.Value

end
-- ==== Proof.GradWClaim.lean ====
module

public import proofs.«01_k».proof.Defs
public import proofs.«01_k».proof.Proof.Gen.GradW.Frame
public import proofs.«01_k».proof.Proof.GradWValue

@[expose] public section

set_option maxRecDepth 16384

noncomputable section

open Idealize.ShloMosaic Idealize.SL.Sem

namespace Cert.GradWIdeal.Claims

/-- The printed program runs to its end, leaves its arguments alone and its counters at zero. -/
theorem frame_float : Cert.quiescent_GradW (hGradW := Cert.GradW.Gen.facts) := fun m g _ =>
  Cert.GradW.Gen.frame m g

/-- So does its idealization. -/
theorem frame_ideal : Cert.quiescent_GradWIdeal (hGradWIdeal := Cert.GradWIdeal.Gen.facts) := fun m g _ =>
  Cert.GradWIdeal.Gen.frame m g

/-- So does the reference, a straight line of host operations without a counter. -/
theorem frame_reference : Cert.quiescent_GradWRefIdeal (hGradWRefIdeal := Cert.GradWRefIdeal.Gen.facts) := fun m g _ =>
  (θ_run Cert.GradWRefIdeal.defs _ _).mono (fun r h => ⟨fun c => (h c).2, sem_eq_zero_of_no_sems (by decide) r.2⟩)
    (Cert.GradWRefIdeal.Value.run m g)

/-- Over the reals the kernel's results are the reference's. -/
theorem algebraic : Cert.algebraic_GradWIdeal_GradWRefIdeal (hGradWIdeal := Cert.GradWIdeal.Gen.facts) (hGradWRefIdeal := Cert.GradWRefIdeal.Gen.facts) := by
  intro m g m' g' hpre hagree
  refine ⟨fun c => Cert.GradWRefIdeal.Read.val_main_v7 (F := Ideal) (m ((c.tc : Thread Cert.GradWIdeal.nD Cert.GradWIdeal.τ).loc Cert.GradWIdeal.main_arg0)) (m ((c.tc : Thread Cert.GradWIdeal.nD Cert.GradWIdeal.τ).loc Cert.GradWIdeal.main_arg1)), ?_, ?_⟩
  · exact (θ_run Cert.GradWIdeal.defs _ _).mono
      (fun _ h c => ⟨(h c).1.trans (Cert.GradWIdeal.Value.final_2 m c), (h c).2⟩)
      (Cert.GradWIdeal.Value.run_blocks m g)
  · exact (θ_run Cert.GradWRefIdeal.defs _ _).mono
      (fun _ h c => ⟨(h c).1.trans ((Cert.GradWRefIdeal.Read.val_main_v7_eq _ _).trans (by rw [(hagree c).1, (hagree c).2])), (h c).2⟩)
      (Cert.GradWRefIdeal.Value.run m' g')

end Cert.GradWIdeal.Claims

end
-- ==== Proof.AdamwValue.lean ====
module

public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamwIdeal.Value

open Cert.AdamwIdeal Cert.AdamwIdeal.Gen
open Cert.AdamwRefIdeal.Read

variable (m : (ℓ : Loc nD τ sig) → Buf (Elt Ideal) ℓ)

/-- The block index of every window at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem final_4 (c : Dev nD) : (dats m 0 c).arrAt 4 (cfgs 0).N = val_main_v24 (F := Ideal) (m ((c : Thread nD τ).loc main_arg1)) := by
  refine (dats m 0 c).arrAt_eq_of_covers 4 _ (by decide +kernel) fun t hf y => ?_
  have ht : t.val < 16 := lt_of_lt_of_eq t.isLt N_0
  blk_simp; rw [after0_4]
  frame_out
  have hy : (y 0).val < 128 := (y 0).isLt
  pointwise [k0_pay2, val_main_v24]
  blk_point [iblk, V, idx t]

theorem final_5 (c : Dev nD) : (dats m 0 c).arrAt 5 (cfgs 0).N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 16 := lt_of_lt_of_eq t.isLt N_0
  blk_simp; rw [after0_5]
  frame_out
  have hy : (y 0).val < 128 := (y 0).isLt
  pointwise [k0_pay1, k0_pay5, k0_pay4, k0_pay3, k0_pay2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v25, val_main_cst, val_main_cst_0, val_main_cst_1, val_main_cst_2, val_main_cst_3, val_main_cst_4, val_main_cst_5, val_main_cst_6, val_main_cst_7]
  blk_point [iblk, V, idx t]

theorem final_6 (c : Dev nD) : (dats m 0 c).arrAt 6 (cfgs 0).N = val_main_v26 (F := Ideal) (m ((c : Thread nD τ).loc main_arg1)) (m ((c : Thread nD τ).loc main_arg2)) := by
  refine (dats m 0 c).arrAt_eq_of_covers 6 _ (by decide +kernel) fun t hf y => ?_
  have ht : t.val < 16 := lt_of_lt_of_eq t.isLt N_0
  blk_simp; rw [after0_6]
  frame_out
  have hy : (y 0).val < 128 := (y 0).isLt
  pointwise [k0_pay3, k0_pay2, val_main_v26, val_main_v0, val_main_v1, val_main_v2, val_main_v3, val_main_v4, val_main_cst, val_main_cst_0]
  blk_point [iblk, V, idx t]

theorem final_7 (c : Dev nD) : (dats m 0 c).arrAt 7 (cfgs 0).N = val_main_v27 (F := Ideal) (m ((c : Thread nD τ).loc main_arg1)) (m ((c : Thread nD τ).loc main_arg3)) := by
  refine (dats m 0 c).arrAt_eq_of_covers 7 _ (by decide +kernel) fun t hf y => ?_
  have ht : t.val < 16 := lt_of_lt_of_eq t.isLt N_0
  blk_simp; rw [after0_7]
  frame_out
  have hy : (y 0).val < 128 := (y 0).isLt
  pointwise [k0_pay4, k0_pay2, val_main_v27, val_main_v5, val_main_v6, val_main_v7, val_main_v8, val_main_v9, val_main_v10, val_main_cst_1, val_main_cst_2]
  blk_point [iblk, V, idx t]

end Cert.AdamwIdeal.Value

end
-- ==== Proof.AdamwClaim.lean ====
module

public import proofs.«01_k».proof.Defs
public import proofs.«01_k».proof.Proof.Gen.Adamw.Frame
public import proofs.«01_k».proof.Proof.AdamwValue

@[expose] public section

set_option maxRecDepth 16384

noncomputable section

open Idealize.ShloMosaic Idealize.SL.Sem

namespace Cert.AdamwIdeal.Claims

/-- The printed program runs to its end, leaves its arguments alone and its counters at zero. -/
theorem frame_float : Cert.quiescent_Adamw (hAdamw := Cert.Adamw.Gen.facts) := fun m g _ =>
  Cert.Adamw.Gen.frame m g

/-- So does its idealization. -/
theorem frame_ideal : Cert.quiescent_AdamwIdeal (hAdamwIdeal := Cert.AdamwIdeal.Gen.facts) := fun m g _ =>
  Cert.AdamwIdeal.Gen.frame m g

/-- So does the reference, a straight line of host operations without a counter. -/
theorem frame_reference : Cert.quiescent_AdamwRefIdeal (hAdamwRefIdeal := Cert.AdamwRefIdeal.Gen.facts) := fun m g _ =>
  (θ_run Cert.AdamwRefIdeal.defs _ _).mono (fun r h => ⟨fun c => (h c).2.2.2.2, sem_eq_zero_of_no_sems (by decide) r.2⟩)
    (Cert.AdamwRefIdeal.Value.run m g)

/-- Over the reals the kernel's results are the reference's. -/
theorem algebraic : Cert.algebraic_AdamwIdeal_AdamwRefIdeal (hAdamwIdeal := Cert.AdamwIdeal.Gen.facts) (hAdamwRefIdeal := Cert.AdamwRefIdeal.Gen.facts) := by
  intro m g m' g' hpre hagree
  refine ⟨fun c => Cert.AdamwRefIdeal.Read.val_main_v24 (F := Ideal) (m ((c.tc : Thread Cert.AdamwIdeal.nD Cert.AdamwIdeal.τ).loc Cert.AdamwIdeal.main_arg1)),
    fun c => Cert.AdamwRefIdeal.Read.val_main_v25 (F := Ideal) (m ((c.tc : Thread Cert.AdamwIdeal.nD Cert.AdamwIdeal.τ).loc Cert.AdamwIdeal.main_arg0)) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg3)),
    fun c => Cert.AdamwRefIdeal.Read.val_main_v26 (F := Ideal) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2)),
    fun c => Cert.AdamwRefIdeal.Read.val_main_v27 (F := Ideal) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg3)), ?_, ?_⟩
  · exact (θ_run Cert.AdamwIdeal.defs _ _).mono
      (fun _ h c => ⟨(h c).1.trans (Cert.AdamwIdeal.Value.final_4 m c),
        (h c).2.1.trans (Cert.AdamwIdeal.Value.final_5 m c),
        (h c).2.2.1.trans (Cert.AdamwIdeal.Value.final_6 m c),
        (h c).2.2.2.1.trans (Cert.AdamwIdeal.Value.final_7 m c), (h c).2.2.2.2⟩)
      (Cert.AdamwIdeal.Value.run_blocks m g)
  · exact (θ_run Cert.AdamwRefIdeal.defs _ _).mono
      (fun _ h c => ⟨(h c).1.trans ((Cert.AdamwRefIdeal.Read.val_main_v24_eq _).trans (by rw [(hagree c).2.1])),
        (h c).2.1.trans ((Cert.AdamwRefIdeal.Read.val_main_v25_eq _ _ _ _).trans (by rw [(hagree c).1, (hagree c).2.1, (hagree c).2.2.1, (hagree c).2.2.2])),
        (h c).2.2.1.trans ((Cert.AdamwRefIdeal.Read.val_main_v26_eq _ _).trans (by rw [(hagree c).2.1, (hagree c).2.2.1])),
        (h c).2.2.2.1.trans ((Cert.AdamwRefIdeal.Read.val_main_v27_eq _ _).trans (by rw [(hagree c).2.1, (hagree c).2.2.2])), (h c).2.2.2.2⟩)
      (Cert.AdamwRefIdeal.Value.run m' g')

end Cert.AdamwIdeal.Claims

end
-- ==== Proof.SsmStateIdealRun.lean ====
module

public import proofs.«01_k».proof.Proof.Gen.SsmStateIdeal.Frame
public import proofs.«01_k».proof.Proof.Gen.SsmStateIdeal.Skeleton
public import proofs.«01_k».proof.Proof.Gen.SsmStateIdeal.Loops
public import Idealize.ShloMosaic.Lib.Pipeline.FrameBody
public import Idealize.ShloMosaic.Lib.Tactic

@[expose] public section

set_option maxRecDepth 16384

noncomputable section

namespace Cert.SsmStateIdeal.Run

open Cert.SsmStateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- One run of the body: it leaves its inputs as they were, and the outputs and the scratch at contents that are not named. -/
theorem body_run (c : Dev nD) (i : grid0.Coords) (arg1 : Memref sig .tc .vmem S8192x128 .f32) (harg1 : arg1.IsWhole) (arg2 : Memref sig .tc .vmem S1x8x256x1024 .bf16) (harg2 : arg2.IsWhole) (arg3 : Memref sig .tc .vmem S1x2x512 .f32) (harg3 : arg3.IsWhole) (arg4 : Memref sig .tc .vmem S1x512x1024 .f32) (harg4 : arg4.IsWhole) (arg5 : Memref sig .tc .vmem S1x8x512x256 .bf16) (harg5 : arg5.IsWhole) (arg6 : Memref sig .tc .vmem S1x512x1024 .bf16) (harg6 : arg6.IsWhole) (arg7 : Memref sig .tc .vmem S1x2x512 .f32) (harg7 : arg7.IsWhole) (arg8 : Memref sig .tc .vmem S512x1024 .f32) (harg8 : arg8.IsWhole) (arg9 : Memref sig .tc .vmem S512x1024 .f32) (harg9 : arg9.IsWhole) (x0 : Vec F S8192x128 .f32) (x1 : Vec F S1x8x256x1024 .bf16) (x2 : Vec F S1x2x512 .f32) (x3 : Vec F S1x512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_ssm_bwd_state i arg1 harg1 arg2 harg2 arg3 harg3 arg4 harg4 arg5 harg5 arg6 harg6 arg7 harg7 arg8 harg8 arg9 harg9) K := by
  simp only [cc0_ssm_bwd_state_eq_skeleton]; unfold cc0_ssm_bwd_state_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, HS0⟩, ⟨%d8, %f8, -, HS1⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [HS0]
  · iexists _, _; isplitr; swap; · iexact HS0
    ipureintro; rfl
  iexists _, _; isplitr; swap; · iexact HS1
  ipureintro; rfl

/-- The outputs are not named. -/
def forgets : Fin 7 → Bool := fun w => decide (4 ≤ w.val)

/-- What the pipeline holds at each point: the inputs' blocks, and outputs of which nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  before0_0_of m (dats m 0 c) (A_eq m c 0) (after_0 m c) t d

theorem before_1 (c : Dev nD) (t : Fin cfg0.N) (d) : (dats m 0 c).before 1 t d = iblk m c 1 t :=
  before0_1_of m (dats m 0 c) (A_eq m c 1) (after_1 m c) t d

theorem before_2 (c : Dev nD) (t : Fin cfg0.N) (d) : (dats m 0 c).before 2 t d = iblk m c 2 t :=
  before0_2_of m (dats m 0 c) (A_eq m c 2) (after_2 m c) t d

theorem before_3 (c : Dev nD) (t : Fin cfg0.N) (d) : (dats m 0 c).before 3 t d = iblk m c 3 t :=
  before0_3_of m (dats m 0 c) (A_eq m c 3) (after_3 m c) t d

/-- The scratch, at contents not named, and the generator's register. -/
theorem scratch_eq (c : Dev nD) : (Pipeline.ΦA spec0 c : sProp 𝕄) = iprop(iprop((∃ d, owns (c : Thread nD τ) (Memref.whole cc0_scratch0 : Memref sig .tc .vmem S512x1024 .f32) fullShare d) ∗ (∃ d, owns (c : Thread nD τ) (Memref.whole cc0_scratch1 : Memref sig .tc .vmem S512x1024 .f32) fullShare d)) ∗ (∃ r, prngReg c r)) := by
  unfold Pipeline.ΦA; rw [scopedRest0_eq]; simp only [owns_whole]; try rfl

/-- What the body finds at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))

/-- What it leaves there. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d))

set_option maxHeartbeats 800000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's form of it. -/
theorem obligation (c : Dev nD) : BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
/-- The whole program runs to its end, and its counters end at zero. -/
theorem run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Its arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c))⟩, h.2⟩) (run m ρ)

end Cert.SsmStateIdeal.Run

end
-- ==== Proof.SsmFwdIdealRun.lean ====
module

public import proofs.«01_k».proof.Proof.Gen.SsmFwdIdeal.Frame
public import proofs.«01_k».proof.Proof.Gen.SsmFwdIdeal.Skeleton
public import proofs.«01_k».proof.Proof.Gen.SsmFwdIdeal.Loops
public import Idealize.ShloMosaic.Lib.Pipeline.FrameBody
public import Idealize.ShloMosaic.Lib.Tactic

@[expose] public section

set_option maxRecDepth 16384

noncomputable section

namespace Cert.SsmFwdIdeal.Run

open Cert.SsmFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- One run of the body: it leaves its inputs as they were, and the outputs and the scratch at contents that are not named. -/
theorem body_run (c : Dev nD) (i : grid0.Coords) (arg1 : Memref sig .tc .vmem S8192x128 .f32) (harg1 : arg1.IsWhole) (arg2 : Memref sig .tc .vmem S1x8x256x256 .bf16) (harg2 : arg2.IsWhole) (arg3 : Memref sig .tc .vmem S1x8x256x1024 .bf16) (harg3 : arg3.IsWhole) (arg4 : Memref sig .tc .vmem S1x8x256x1024 .bf16) (harg4 : arg4.IsWhole) (arg5 : Memref sig .tc .vmem S1x2x512 .f32) (harg5 : arg5.IsWhole) (arg6 : Memref sig .tc .vmem S8192x128 .f32) (harg6 : arg6.IsWhole) (arg7 : Memref sig .tc .vmem S1x512x1024 .f32) (harg7 : arg7.IsWhole) (arg8 : Memref sig .tc .vmem S1x8x512x256 .bf16) (harg8 : arg8.IsWhole) (arg9 : Memref sig .tc .vmem S512x1024 .f32) (harg9 : arg9.IsWhole) (x0 : Vec F S8192x128 .f32) (x1 : Vec F S1x8x256x256 .bf16) (x2 : Vec F S1x8x256x1024 .bf16) (x3 : Vec F S1x8x256x1024 .bf16) (x4 : Vec F S1x2x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_ssm_fwd i arg1 harg1 arg2 harg2 arg3 harg3 arg4 harg4 arg5 harg5 arg6 harg6 arg7 harg7 arg8 harg8 arg9 harg9) K := by
  simp only [cc0_ssm_fwd_eq_skeleton]; unfold cc0_ssm_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, HS0⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact HS0
  ipureintro; rfl

/-- The outputs are not named. -/
def forgets : Fin 8 → Bool := fun w => decide (5 ≤ w.val)

/-- What the pipeline holds at each point: the inputs' blocks, and outputs of which nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d

theorem before_1 (c : Dev nD) (t : Fin cfg0.N) (d) : (dats m 0 c).before 1 t d = iblk m c 1 t :=
  before0_1_of m (dats m 0 c) (A_eq m c 1) (after_1 m c) t d

theorem before_2 (c : Dev nD) (t : Fin cfg0.N) (d) : (dats m 0 c).before 2 t d = iblk m c 2 t :=
  before0_2_of m (dats m 0 c) (A_eq m c 2) (after_2 m c) t d

theorem before_3 (c : Dev nD) (t : Fin cfg0.N) (d) : (dats m 0 c).before 3 t d = iblk m c 3 t :=
  before0_3_of m (dats m 0 c) (A_eq m c 3) (after_3 m c) t d

theorem before_4 (c : Dev nD) (t : Fin cfg0.N) (d) : (dats m 0 c).before 4 t d = iblk m c 4 t :=
  before0_4_of m (dats m 0 c) (A_eq m c 4) (after_4 m c) t d

/-- The scratch, at contents not named, and the generator's register. -/
theorem scratch_eq (c : Dev nD) : (Pipeline.ΦA spec0 c : sProp 𝕄) = iprop((∃ d, owns (c : Thread nD τ) (Memref.whole cc0_scratch0 : Memref sig .tc .vmem S512x1024 .f32) fullShare d) ∗ (∃ r, prngReg c r)) := by
  unfold Pipeline.ΦA; rw [scopedRest0_eq]; simp only [owns_whole]; try rfl

/-- What the body finds at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

/-- What it leaves there. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

set_option maxHeartbeats 800000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, scratch_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's form of it. -/
theorem obligation (c : Dev nD) : BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
/-- The whole program runs to its end, and its counters end at zero. -/
theorem run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Its arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c))⟩, h.2⟩) (run m ρ)

end Cert.SsmFwdIdeal.Run

end
-- ==== Proof.SsmMainIdealRun.lean ====
module

public import proofs.«01_k».proof.Proof.Gen.SsmMainIdeal.Frame
public import proofs.«01_k».proof.Proof.Gen.SsmMainIdeal.Skeleton
public import Idealize.ShloMosaic.Lib.Pipeline.FrameBody
public import Idealize.ShloMosaic.Lib.Tactic

@[expose] public section

set_option maxRecDepth 16384

noncomputable section

namespace Cert.SsmMainIdeal.Run

open Cert.SsmMainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's second coordinate is zero, as the body asks it. -/
abbrev cond0 (i : grid0.Coords) : Prop := (Scalar.cmpi .ne (Scalar.extui (Scalar.cmpi .eq (BitVec.ofNat 32 (i 1).val) 0#32)) 0#32) = 1#1

/-- The ten questions the body asks, answered at each value of that coordinate. -/
def Answers (i : grid0.Coords) : Prop :=
  (cond0 i ∧ k0_cond2 i = 1#1 ∧ k0_cond3 i = 1#1 ∧ k0_cond4 i = 1#1 ∧ k0_cond5 i = 1#1 ∧ k0_cond6 i = 1#1 ∧ k0_cond7 i = 1#1 ∧ k0_cond8 i = 1#1 ∧ k0_cond9 i = 1#1 ∧ ¬ k0_cond10 i = 1#1)
    ∨ (¬ cond0 i ∧ k0_cond2 i = 1#1 ∧ k0_cond3 i = 1#1 ∧ k0_cond4 i = 1#1 ∧ k0_cond5 i = 1#1 ∧ k0_cond6 i = 1#1 ∧ k0_cond7 i = 1#1 ∧ k0_cond8 i = 1#1 ∧ ¬ k0_cond9 i = 1#1 ∧ ¬ k0_cond10 i = 1#1)
    ∨ (¬ cond0 i ∧ k0_cond2 i = 1#1 ∧ k0_cond3 i = 1#1 ∧ k0_cond4 i = 1#1 ∧ k0_cond5 i = 1#1 ∧ k0_cond6 i = 1#1 ∧ k0_cond7 i = 1#1 ∧ ¬ k0_cond8 i = 1#1 ∧ ¬ k0_cond9 i = 1#1 ∧ ¬ k0_cond10 i = 1#1)
    ∨ (¬ cond0 i ∧ k0_cond2 i = 1#1 ∧ k0_cond3 i = 1#1 ∧ k0_cond4 i = 1#1 ∧ k0_cond5 i = 1#1 ∧ k0_cond6 i = 1#1 ∧ ¬ k0_cond7 i = 1#1 ∧ ¬ k0_cond8 i = 1#1 ∧ ¬ k0_cond9 i = 1#1 ∧ ¬ k0_cond10 i = 1#1)
    ∨ (¬ cond0 i ∧ k0_cond2 i = 1#1 ∧ k0_cond3 i = 1#1 ∧ k0_cond4 i = 1#1 ∧ k0_cond5 i = 1#1 ∧ ¬ k0_cond6 i = 1#1 ∧ ¬ k0_cond7 i = 1#1 ∧ ¬ k0_cond8 i = 1#1 ∧ ¬ k0_cond9 i = 1#1 ∧ ¬ k0_cond10 i = 1#1)
    ∨ (¬ cond0 i ∧ k0_cond2 i = 1#1 ∧ k0_cond3 i = 1#1 ∧ k0_cond4 i = 1#1 ∧ ¬ k0_cond5 i = 1#1 ∧ ¬ k0_cond6 i = 1#1 ∧ ¬ k0_cond7 i = 1#1 ∧ ¬ k0_cond8 i = 1#1 ∧ ¬ k0_cond9 i = 1#1 ∧ ¬ k0_cond10 i = 1#1)
    ∨ (¬ cond0 i ∧ k0_cond2 i = 1#1 ∧ k0_cond3 i = 1#1 ∧ ¬ k0_cond4 i = 1#1 ∧ ¬ k0_cond5 i = 1#1 ∧ ¬ k0_cond6 i = 1#1 ∧ ¬ k0_cond7 i = 1#1 ∧ ¬ k0_cond8 i = 1#1 ∧ ¬ k0_cond9 i = 1#1 ∧ ¬ k0_cond10 i = 1#1)
    ∨ (¬ cond0 i ∧ k0_cond2 i = 1#1 ∧ ¬ k0_cond3 i = 1#1 ∧ ¬ k0_cond4 i = 1#1 ∧ ¬ k0_cond5 i = 1#1 ∧ ¬ k0_cond6 i = 1#1 ∧ ¬ k0_cond7 i = 1#1 ∧ ¬ k0_cond8 i = 1#1 ∧ ¬ k0_cond9 i = 1#1 ∧ k0_cond10 i = 1#1)

set_option synthInstance.maxHeartbeats 0 in
set_option synthInstance.maxSize 4096 in
theorem answers : ∀ t : Fin grid0.N, Answers (grid0.coords t) := by unfold Answers cond0; decide +kernel

set_option maxHeartbeats 1600000 in
/-- One run of the body: it leaves its inputs as they were, and the outputs and the scratch at contents that are not named. -/
theorem body_run (c : Dev nD) (i : grid0.Coords) (arg2 : Memref sig .tc .vmem S1x8x512x256 .bf16) (harg2 : arg2.IsWhole) (arg3 : Memref sig .tc .vmem S1x8x512x256 .bf16) (harg3 : arg3.IsWhole) (arg4 : Memref sig .tc .vmem S1x8x256x256 .bf16) (harg4 : arg4.IsWhole) (arg5 : Memref sig .tc .vmem S1x1x256x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S128x256 .bf16) (harg8 : arg8.IsWhole) (arg9 : Memref sig .tc .vmem S256x256 .bf16) (harg9 : arg9.IsWhole) (arg10 : Memref sig .tc .vmem S128x1024 .bf16) (harg10 : arg10.IsWhole) (arg11 : Memref sig .tc .vmem S256x1024 .bf16) (harg11 : arg11.IsWhole) (arg12 : Memref sig .tc .vmem S8192x128 .bf16) (harg12 : arg12.IsWhole) (arg13 : Memref sig .tc .vmem S8x8x2x16x128 .f32) (harg13 : arg13.IsWhole) (arg14 : Memref sig .tc .vmem S8x1x2x16x128 .f32) (harg14 : arg14.IsWhole) (arg15 : Memref sig .tc .vmem S8x1x2x16x128 .f32) (harg15 : arg15.IsWhole) (arg16 : Memref sig .tc .vmem S512x256 .f32) (harg16 : arg16.IsWhole) (arg17 : Memref sig .tc .vmem S8x512x256 .f32) (harg17 : arg17.IsWhole) (arg18 : Memref sig .tc .vmem S8192x128 .f32) (harg18 : arg18.IsWhole) (arg19 : Memref sig .tc .vmem S8x256x256 .f32) (harg19 : arg19.IsWhole) (hc : Answers i) (x0 : Vec F S1x8x512x256 .bf16) (x1 : Vec F S1x8x512x256 .bf16) (x2 : Vec F S1x8x256x256 .bf16) (x3 : Vec F S1x1x256x1024 .bf16) (x4 : Vec F S1x512x1024 .f32) (x5 : Vec F S1x512x1024 .bf16) (x6 : Vec F S128x256 .bf16) (x7 : Vec F S256x256 .bf16) (x8 : Vec F S128x1024 .bf16) (x9 : Vec F S256x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_ssm_bwd_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ssm_bwd_main_eq_skeleton]; unfold cc0_ssm_bwd_main_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, HS0⟩, ⟨%d15, %f15, -, HS1⟩, ⟨%d16, %f16, -, HS2⟩, ⟨%d17, %f17, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  rcases hc with ⟨h0, h1, h2, h3, h4, h5, h6, h7, h8, h9⟩ | ⟨h0, h1, h2, h3, h4, h5, h6, h7, h8, h9⟩ | ⟨h0, h1, h2, h3, h4, h5, h6, h7, h8, h9⟩ | ⟨h0, h1, h2, h3, h4, h5, h6, h7, h8, h9⟩ | ⟨h0, h1, h2, h3, h4, h5, h6, h7, h8, h9⟩ | ⟨h0, h1, h2, h3, h4, h5, h6, h7, h8, h9⟩ | ⟨h0, h1, h2, h3, h4, h5, h6, h7, h8, h9⟩ | ⟨h0, h1, h2, h3, h4, h5, h6, h7, h8, h9⟩
  all_goals
  · sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- The outputs are not named. -/
def forgets : Fin 14 → Bool := fun w => decide (10 ≤ w.val)

/-- What the pipeline holds at each point: the inputs' blocks, and outputs of which nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

theorem after_4 (c : Dev nD) (t : Fin cfg0.N) : (dats m 0 c).after 4 t = iblk m c 4 t := by dsimp only [dats]

theorem after_5 (c : Dev nD) (t : Fin cfg0.N) : (dats m 0 c).after 5 t = iblk m c 5 t := by dsimp only [dats]

theorem after_6 (c : Dev nD) (t : Fin cfg0.N) : (dats m 0 c).after 6 t = iblk m c 6 t := by dsimp only [dats]

theorem after_7 (c : Dev nD) (t : Fin cfg0.N) : (dats m 0 c).after 7 t = iblk m c 7 t := by dsimp only [dats]

theorem after_8 (c : Dev nD) (t : Fin cfg0.N) : (dats m 0 c).after 8 t = iblk m c 8 t := by dsimp only [dats]

theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  before0_0_of m (dats m 0 c) (A_eq m c 0) (after_0 m c) t d

theorem before_1 (c : Dev nD) (t : Fin cfg0.N) (d) : (dats m 0 c).before 1 t d = iblk m c 1 t :=
  before0_1_of m (dats m 0 c) (A_eq m c 1) (after_1 m c) t d

theorem before_2 (c : Dev nD) (t : Fin cfg0.N) (d) : (dats m 0 c).before 2 t d = iblk m c 2 t :=
  before0_2_of m (dats m 0 c) (A_eq m c 2) (after_2 m c) t d

theorem before_3 (c : Dev nD) (t : Fin cfg0.N) (d) : (dats m 0 c).before 3 t d = iblk m c 3 t :=
  before0_3_of m (dats m 0 c) (A_eq m c 3) (after_3 m c) t d

theorem before_4 (c : Dev nD) (t : Fin cfg0.N) (d) : (dats m 0 c).before 4 t d = iblk m c 4 t :=
  before0_4_of m (dats m 0 c) (A_eq m c 4) (after_4 m c) t d

theorem before_5 (c : Dev nD) (t : Fin cfg0.N) (d) : (dats m 0 c).before 5 t d = iblk m c 5 t :=
  before0_5_of m (dats m 0 c) (A_eq m c 5) (after_5 m c) t d

theorem before_6 (c : Dev nD) (t : Fin cfg0.N) (d) : (dats m 0 c).before 6 t d = iblk m c 6 t :=
  before0_6_of m (dats m 0 c) (A_eq m c 6) (after_6 m c) t d

theorem before_7 (c : Dev nD) (t : Fin cfg0.N) (d) : (dats m 0 c).before 7 t d = iblk m c 7 t :=
  before0_7_of m (dats m 0 c) (A_eq m c 7) (after_7 m c) t d

theorem before_8 (c : Dev nD) (t : Fin cfg0.N) (d) : (dats m 0 c).before 8 t d = iblk m c 8 t :=
  before0_8_of m (dats m 0 c) (A_eq m c 8) (after_8 m c) t d

theorem before_9 (c : Dev nD) (t : Fin cfg0.N) (d) : (dats m 0 c).before 9 t d = iblk m c 9 t :=
  before0_9_of m (dats m 0 c) (A_eq m c 9) (after_9 m c) t d

/-- The scratch, at contents not named, and the generator's register. -/
theorem scratch_eq (c : Dev nD) : (Pipeline.ΦA spec0 c : sProp 𝕄) = iprop(iprop((∃ d, owns (c : Thread nD τ) (Memref.whole cc0_scratch0 : Memref sig .tc .vmem S512x256 .f32) fullShare d) ∗ (∃ d, owns (c : Thread nD τ) (Memref.whole cc0_scratch1 : Memref sig .tc .vmem S8x512x256 .f32) fullShare d) ∗ (∃ d, owns (c : Thread nD τ) (Memref.whole cc0_scratch2 : Memref sig .tc .vmem S8192x128 .f32) fullShare d) ∗ (∃ d, owns (c : Thread nD τ) (Memref.whole cc0_scratch3 : Memref sig .tc .vmem S8x256x256 .f32) fullShare d)) ∗ (∃ r, prngReg c r)) := by
  unfold Pipeline.ΦA; rw [scopedRest0_eq]; simp only [owns_whole]; try rfl

/-- What the body finds at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

/-- What it leaves there. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

set_option maxHeartbeats 800000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) _ _ _ _ _ _ _ _ _ _ _ _ _ _ _ _ _ _ _ _ _ _ _ _ _ _ _ _ _ _ _ _ _ _ _ _ (answers t) (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's form of it. -/
theorem obligation (c : Dev nD) : BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
/-- The whole program runs to its end, and its counters end at zero. -/
theorem run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Its arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run m ρ)

end Cert.SsmMainIdeal.Run

end
-- ==== Proof.lean ====
module

public import proofs.«01_k».proof.Defs
public import proofs.«01_k».proof.Proof.Gen.On_first_columns
public import proofs.«01_k».proof.Proof.Gen.On_first_half
public import proofs.«01_k».proof.Proof.Gen.Pre_sgu_bwd_finite
public import proofs.«01_k».proof.Proof.Gen.Pre_glu_bwd_finite
public import proofs.«01_k».proof.Proof.Gen.MlpBwd
public import proofs.«01_k».proof.Proof.Gen.MlpBwd.Frame
public import proofs.«01_k».proof.Proof.Gen.MlpBwdIdeal
public import proofs.«01_k».proof.Proof.Gen.MlpBwdIdeal.Frame
public import proofs.«01_k».proof.Proof.Gen.MlpBwdIdeal.Value
public import proofs.«01_k».proof.Proof.Gen.MlpBwdRefIdeal
public import proofs.«01_k».proof.Proof.Gen.MlpBwdRefIdeal.Run
public import proofs.«01_k».proof.Proof.Gen.MlpBwdRefIdeal.Read
public import proofs.«01_k».proof.Proof.MlpBwdClaim
public import proofs.«01_k».proof.Proof.Gen.NormOut
public import proofs.«01_k».proof.Proof.Gen.NormOut.Frame
public import proofs.«01_k».proof.Proof.Gen.NormOutIdeal
public import proofs.«01_k».proof.Proof.Gen.NormOutIdeal.Frame
public import proofs.«01_k».proof.Proof.Gen.NormOutIdeal.Value
public import proofs.«01_k».proof.Proof.Gen.NormOutRefIdeal
public import proofs.«01_k».proof.Proof.Gen.NormOutRefIdeal.Run
public import proofs.«01_k».proof.Proof.Gen.NormOutRefIdeal.Read
public import proofs.«01_k».proof.Proof.NormOutClaim
public import proofs.«01_k».proof.Proof.Gen.GluBwd
public import proofs.«01_k».proof.Proof.Gen.GluBwd.Frame
public import proofs.«01_k».proof.Proof.Gen.GluBwdIdeal
public import proofs.«01_k».proof.Proof.Gen.GluBwdIdeal.Frame
public import proofs.«01_k».proof.Proof.Gen.GluBwdIdeal.Value
public import proofs.«01_k».proof.Proof.Gen.GluBwdRefIdeal
public import proofs.«01_k».proof.Proof.Gen.GluBwdRefIdeal.Run
public import proofs.«01_k».proof.Proof.Gen.GluBwdRefIdeal.Read
public import proofs.«01_k».proof.Proof.GluBwdClaim
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.LossClaim
public import proofs.«01_k».proof.Proof.Gen.SguBwd
public import proofs.«01_k».proof.Proof.Gen.SguBwd.Frame
public import proofs.«01_k».proof.Proof.Gen.SguBwdIdeal
public import proofs.«01_k».proof.Proof.Gen.SguBwdIdeal.Frame
public import proofs.«01_k».proof.Proof.Gen.SguBwdIdeal.Value
public import proofs.«01_k».proof.Proof.Gen.SguBwdRefIdeal
public import proofs.«01_k».proof.Proof.Gen.SguBwdRefIdeal.Run
public import proofs.«01_k».proof.Proof.Gen.SguBwdRefIdeal.Read
public import proofs.«01_k».proof.Proof.SguBwdClaim
public import proofs.«01_k».proof.Proof.Gen.InProjA
public import proofs.«01_k».proof.Proof.Gen.InProjA.Frame
public import proofs.«01_k».proof.Proof.Gen.InProjAIdeal
public import proofs.«01_k».proof.Proof.Gen.InProjAIdeal.Frame
public import proofs.«01_k».proof.Proof.Gen.InProjAIdeal.Value
public import proofs.«01_k».proof.Proof.Gen.InProjARefIdeal
public import proofs.«01_k».proof.Proof.Gen.InProjARefIdeal.Run
public import proofs.«01_k».proof.Proof.Gen.InProjARefIdeal.Read
public import proofs.«01_k».proof.Proof.InProjAClaim
public import proofs.«01_k».proof.Proof.Gen.InProjB
public import proofs.«01_k».proof.Proof.Gen.InProjB.Frame
public import proofs.«01_k».proof.Proof.Gen.InProjBIdeal
public import proofs.«01_k».proof.Proof.Gen.InProjBIdeal.Frame
public import proofs.«01_k».proof.Proof.Gen.InProjBIdeal.Value
public import proofs.«01_k».proof.Proof.Gen.InProjBRefIdeal
public import proofs.«01_k».proof.Proof.Gen.InProjBRefIdeal.Run
public import proofs.«01_k».proof.Proof.Gen.InProjBRefIdeal.Read
public import proofs.«01_k».proof.Proof.InProjBClaim
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjClaim
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.InProjClaim
public import proofs.«01_k».proof.Proof.Gen.SguFwd
public import proofs.«01_k».proof.Proof.Gen.SguFwd.Frame
public import proofs.«01_k».proof.Proof.Gen.SguFwdIdeal
public import proofs.«01_k».proof.Proof.Gen.SguFwdIdeal.Frame
public import proofs.«01_k».proof.Proof.Gen.SguFwdIdeal.Value
public import proofs.«01_k».proof.Proof.Gen.SguFwdRefIdeal
public import proofs.«01_k».proof.Proof.Gen.SguFwdRefIdeal.Run
public import proofs.«01_k».proof.Proof.Gen.SguFwdRefIdeal.Read
public import proofs.«01_k».proof.Proof.SguFwdClaim
public import proofs.«01_k».proof.Proof.Gen.GluFwd
public import proofs.«01_k».proof.Proof.Gen.GluFwd.Frame
public import proofs.«01_k».proof.Proof.Gen.GluFwdIdeal
public import proofs.«01_k».proof.Proof.Gen.GluFwdIdeal.Frame
public import proofs.«01_k».proof.Proof.Gen.GluFwdIdeal.Value
public import proofs.«01_k».proof.Proof.Gen.GluFwdRefIdeal
public import proofs.«01_k».proof.Proof.Gen.GluFwdRefIdeal.Run
public import proofs.«01_k».proof.Proof.Gen.GluFwdRefIdeal.Read
public import proofs.«01_k».proof.Proof.GluFwdClaim
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.MlpUpClaim
public import proofs.«01_k».proof.Proof.Gen.GradW
public import proofs.«01_k».proof.Proof.Gen.GradW.Frame
public import proofs.«01_k».proof.Proof.Gen.GradWIdeal
public import proofs.«01_k».proof.Proof.Gen.GradWIdeal.Frame
public import proofs.«01_k».proof.Proof.Gen.GradWIdeal.Value
public import proofs.«01_k».proof.Proof.Gen.GradWRefIdeal
public import proofs.«01_k».proof.Proof.Gen.GradWRefIdeal.Run
public import proofs.«01_k».proof.Proof.Gen.GradWRefIdeal.Read
public import proofs.«01_k».proof.Proof.GradWClaim
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.AdamwClaim
public import proofs.«01_k».proof.Proof.Gen.SsmState
public import proofs.«01_k».proof.Proof.Gen.SsmStateIdeal
public import proofs.«01_k».proof.Proof.SsmStateRun
public import proofs.«01_k».proof.Proof.SsmStateIdealRun
public import proofs.«01_k».proof.Proof.Gen.SsmFwd
public import proofs.«01_k».proof.Proof.Gen.SsmFwdIdeal
public import proofs.«01_k».proof.Proof.SsmFwdRun
public import proofs.«01_k».proof.Proof.SsmFwdIdealRun
public import proofs.«01_k».proof.Proof.Gen.SsmMain
public import proofs.«01_k».proof.Proof.Gen.SsmMainIdeal
public import proofs.«01_k».proof.Proof.SsmMainRun
public import proofs.«01_k».proof.Proof.SsmMainIdealRun
public import Idealize.ShloMosaic.Adequacy
public import Idealize.ShloMosaic.Init

@[expose] public section

noncomputable section

namespace Cert.Proof

/-- Every claim of the statement: the frames, the idealizations and the equalities over the reals. -/
theorem claim : Cert.Claim :=
  ⟨Cert.MlpBwd.Gen.facts, Cert.MlpBwdIdeal.Gen.facts, Cert.MlpBwdRefIdeal.Gen.facts, Cert.NormOut.Gen.facts, Cert.NormOutIdeal.Gen.facts, Cert.NormOutRefIdeal.Gen.facts, Cert.GluBwd.Gen.facts, Cert.GluBwdIdeal.Gen.facts, Cert.GluBwdRefIdeal.Gen.facts, Cert.Loss.Gen.facts, Cert.LossIdeal.Gen.facts, Cert.LossRefIdeal.Gen.facts, Cert.SguBwd.Gen.facts, Cert.SguBwdIdeal.Gen.facts, Cert.SguBwdRefIdeal.Gen.facts, Cert.InProjA.Gen.facts, Cert.InProjAIdeal.Gen.facts, Cert.InProjARefIdeal.Gen.facts, Cert.InProjB.Gen.facts, Cert.InProjBIdeal.Gen.facts, Cert.InProjBRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.SguFwd.Gen.facts, Cert.SguFwdIdeal.Gen.facts, Cert.SguFwdRefIdeal.Gen.facts, Cert.GluFwd.Gen.facts, Cert.GluFwdIdeal.Gen.facts, Cert.GluFwdRefIdeal.Gen.facts, Cert.MlpUp.Gen.facts, Cert.MlpUpIdeal.Gen.facts, Cert.MlpUpRefIdeal.Gen.facts, Cert.GradW.Gen.facts, Cert.GradWIdeal.Gen.facts, Cert.GradWRefIdeal.Gen.facts, Cert.Adamw.Gen.facts, Cert.AdamwIdeal.Gen.facts, Cert.AdamwRefIdeal.Gen.facts, Cert.SsmState.Gen.facts, Cert.SsmStateIdeal.Gen.facts, Cert.SsmFwd.Gen.facts, Cert.SsmFwdIdeal.Gen.facts, Cert.SsmMain.Gen.facts, Cert.SsmMainIdeal.Gen.facts, Cert.Pre_glu_bwd_finite.Gen.facts, Cert.Pre_sgu_bwd_finite.Gen.facts, Cert.On_first_half.Gen.facts, Cert.On_first_columns.Gen.facts,
    Cert.MlpBwdIdeal.Claims.frame_float,
    Cert.MlpBwdIdeal.Claims.frame_ideal,
    Cert.MlpBwdIdeal.Claims.frame_reference,
    Cert.NormOutIdeal.Claims.frame_float,
    Cert.NormOutIdeal.Claims.frame_ideal,
    Cert.NormOutIdeal.Claims.frame_reference,
    Cert.GluBwdIdeal.Claims.frame_float,
    Cert.GluBwdIdeal.Claims.frame_ideal,
    Cert.GluBwdIdeal.Claims.frame_ideal_pre,
    Cert.GluBwdIdeal.Claims.frame_reference,
    Cert.GluBwdIdeal.Claims.frame_reference_pre,
    Cert.LossIdeal.Claims.frame_float,
    Cert.LossIdeal.Claims.frame_ideal,
    Cert.LossIdeal.Claims.frame_reference,
    Cert.SguBwdIdeal.Claims.frame_float,
    Cert.SguBwdIdeal.Claims.frame_ideal,
    Cert.SguBwdIdeal.Claims.frame_ideal_pre,
    Cert.SguBwdIdeal.Claims.frame_reference,
    Cert.SguBwdIdeal.Claims.frame_reference_pre,
    Cert.InProjAIdeal.Claims.frame_float,
    Cert.InProjAIdeal.Claims.frame_ideal,
    Cert.InProjAIdeal.Claims.frame_reference,
    Cert.InProjBIdeal.Claims.frame_float,
    Cert.InProjBIdeal.Claims.frame_ideal,
    Cert.InProjBIdeal.Claims.frame_reference,
    Cert.OutProjIdeal.Claims.frame_float,
    Cert.OutProjIdeal.Claims.frame_ideal,
    Cert.OutProjIdeal.Claims.frame_reference,
    Cert.InProjIdeal.Claims.frame_float,
    Cert.InProjIdeal.Claims.frame_ideal,
    Cert.InProjIdeal.Claims.frame_reference,
    Cert.SguFwdIdeal.Claims.frame_float,
    Cert.SguFwdIdeal.Claims.frame_ideal,
    Cert.SguFwdIdeal.Claims.frame_reference,
    Cert.GluFwdIdeal.Claims.frame_float,
    Cert.GluFwdIdeal.Claims.frame_ideal,
    Cert.GluFwdIdeal.Claims.frame_reference,
    Cert.MlpUpIdeal.Claims.frame_float,
    Cert.MlpUpIdeal.Claims.frame_ideal,
    Cert.MlpUpIdeal.Claims.frame_reference,
    Cert.GradWIdeal.Claims.frame_float,
    Cert.GradWIdeal.Claims.frame_ideal,
    Cert.GradWIdeal.Claims.frame_reference,
    Cert.AdamwIdeal.Claims.frame_float,
    Cert.AdamwIdeal.Claims.frame_ideal,
    Cert.AdamwIdeal.Claims.frame_reference,
    fun m g _ => Cert.SsmState.Run.frame m g,
    fun m g _ => Cert.SsmStateIdeal.Run.frame m g,
    fun m g _ => Cert.SsmFwd.Run.frame m g,
    fun m g _ => Cert.SsmFwdIdeal.Run.frame m g,
    fun m g _ => Cert.SsmMain.Run.frame m g,
    fun m g _ => Cert.SsmMainIdeal.Run.frame m g,
    trivial,
    Cert.MlpBwdIdeal.Claims.algebraic,
    trivial,
    Cert.NormOutIdeal.Claims.algebraic,
    ⟨Idealize.ShloMosaic.IdealRules.named_const.statement Cert.GluBwdIdeal.κ "gelu_kc" .f32 0x3D122279#32 ((80338380498831 / 2251799813685248 : ℝ) : EReal) rfl, Idealize.ShloMosaic.IdealRules.named_const.statement Cert.GluBwdIdeal.κ "gelu_3kc" .f32 0x3DDB33B6#32 ((241015141496493 / 2251799813685248 : ℝ) : EReal) rfl⟩,
    Cert.GluBwdIdeal.Claims.algebraic,
    trivial,
    Cert.LossIdeal.Claims.algebraic,
    ⟨Idealize.ShloMosaic.IdealRules.named_const.statement Cert.SguBwdIdeal.κ "gelu_kc" .f32 0x3D122279#32 ((80338380498831 / 2251799813685248 : ℝ) : EReal) rfl, Idealize.ShloMosaic.IdealRules.named_const.statement Cert.SguBwdIdeal.κ "gelu_3kc" .f32 0x3DDB33B6#32 ((241015141496493 / 2251799813685248 : ℝ) : EReal) rfl⟩,
    Cert.SguBwdIdeal.Claims.algebraic,
    trivial,
    Cert.InProjAIdeal.Claims.algebraic,
    trivial,
    Cert.InProjBIdeal.Claims.algebraic,
    trivial,
    Cert.OutProjIdeal.Claims.algebraic,
    trivial,
    Cert.InProjIdeal.Claims.algebraic,
    Idealize.ShloMosaic.IdealRules.named_const.statement Cert.SguFwdIdeal.κ "gelu_kc" .f32 0x3D122279#32 ((80338380498831 / 2251799813685248 : ℝ) : EReal) rfl,
    Cert.SguFwdIdeal.Claims.algebraic,
    Idealize.ShloMosaic.IdealRules.named_const.statement Cert.GluFwdIdeal.κ "gelu_kc" .f32 0x3D122279#32 ((80338380498831 / 2251799813685248 : ℝ) : EReal) rfl,
    Cert.GluFwdIdeal.Claims.algebraic,
    trivial,
    Cert.MlpUpIdeal.Claims.algebraic,
    trivial,
    Cert.GradWIdeal.Claims.algebraic,
    trivial,
    Cert.AdamwIdeal.Claims.algebraic,
    trivial,
    trivial,
    trivial⟩

end Cert.Proof

end
